-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_indices_in_range [hPre_indices_in_range : Cert.Pre_indices_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_indices_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_indices_in_range [hPre_indices_in_range : Cert.Pre_indices_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_indices_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_indices_in_range [hKernelIdeal : Cert.KernelIdeal.Facts] [hPre_indices_in_range : Cert.Pre_indices_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_indices_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_indices_in_range [hReferenceIdeal : Cert.ReferenceIdeal.Facts] [hPre_indices_in_range : Cert.Pre_indices_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_indices_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  IdealRules.named_const.Statement Cert.KernelIdeal.κ "inv_720" .f32 0xBAB60B61#32 ((-1 / 720 : ℝ) : EReal)
  ∧ IdealRules.named_const.Statement Cert.KernelIdeal.κ "inv_24" .f32 0x3D2AAAAB#32 ((1 / 24 : ℝ) : EReal)

def algebraic_KernelIdeal_ReferenceIdeal_pre_indices_in_range [hKernelIdeal : Cert.KernelIdeal.Facts] [hReferenceIdeal : Cert.ReferenceIdeal.Facts] [hPre_indices_in_range : Cert.Pre_indices_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_indices_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_v95) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_indices_in_range : Cert.Pre_indices_in_range.Facts),
    quiescent_Kernel (hKernel := hKernel)
    ∧ quiescent_KernelIdeal (hKernelIdeal := hKernelIdeal)
    ∧ quiescent_KernelIdeal_pre_indices_in_range (hKernelIdeal := hKernelIdeal) (hPre_indices_in_range := hPre_indices_in_range)
    ∧ quiescent_ReferenceIdeal (hReferenceIdeal := hReferenceIdeal)
    ∧ quiescent_ReferenceIdeal_pre_indices_in_range (hReferenceIdeal := hReferenceIdeal) (hPre_indices_in_range := hPre_indices_in_range)
    ∧ preserves_Kernel_KernelIdeal
    ∧ algebraic_KernelIdeal_ReferenceIdeal_pre_indices_in_range (hKernelIdeal := hKernelIdeal) (hReferenceIdeal := hReferenceIdeal) (hPre_indices_in_range := hPre_indices_in_range)
-- ==== Pre_indices_in_range.lean ====
abbrev S10000x16x128 : Shape := ⟨3, ![10000, 16, 128]⟩
abbrev S10000x16 : Shape := ⟨2, ![10000, 16]⟩
abbrev S10000x16x1 : Shape := ⟨3, ![10000, 16, 1]⟩
abbrev S128 : Shape := ⟨1, ![128]⟩
abbrev S256x128 : Shape := ⟨2, ![256, 128]⟩
abbrev S128x128 : Shape := ⟨2, ![128, 128]⟩
abbrev S_ : Shape := ⟨0, ![]⟩

class Facts : Prop where
  bcast_S_S10000x16x1 : S_.BroadcastsInDim S10000x16x1 (![] : Fin 0 → Fin S10000x16x1.rank)

variable [Facts]

def fn {F : FTy → Type} [FloatOps F] (main_arg0 : FVec F S10000x16x128 .f32) (main_arg1 : FVec F S10000x16x128 .f32) (main_arg2 : FVec F S10000x16 .f32) (main_arg3 : IVec S10000x16x1 32) (main_arg4 : IVec S10000x16x1 32) (main_arg5 : FVec F S128 .f32) (main_arg6 : FVec F S128 .f32) (main_arg7 : FVec F S256x128 .f32) (main_arg8 : FVec F S128 .f32) (main_arg9 : FVec F S128x128 .f32) (main_arg10 : FVec F S128 .f32) (main_arg11 : FVec F S128x128 .f32) (main_arg12 : FVec F S128 .f32) : IVec S10000x16x1 1 :=
  let main_c : IVec S_ 32 := constantI S_ 32 0#32
  let main_v0 : IVec S10000x16x1 32 := broadcastInDim S10000x16x1 ![] bcast_S_S10000x16x1 main_c
  let main_v1 : IVec S10000x16x1 1 := cmpi .sge main_arg3 main_v0
  let main_c_0 : IVec S_ 32 := constantI S_ 32 16#32
  let main_v2 : IVec S10000x16x1 32 := broadcastInDim S10000x16x1 ![] bcast_S_S10000x16x1 main_c_0
  let main_v3 : IVec S10000x16x1 1 := cmpi .slt main_arg3 main_v2
  let main_v4 : IVec S10000x16x1 1 := andi main_v1 main_v3
  let main_c_1 : IVec S_ 32 := constantI S_ 32 0#32
  let main_v5 : IVec S10000x16x1 32 := broadcastInDim S10000x16x1 ![] bcast_S_S10000x16x1 main_c_1
  let main_v6 : IVec S10000x16x1 1 := cmpi .sge main_arg4 main_v5
  let main_v7 : IVec S10000x16x1 1 := andi main_v4 main_v6
  let main_c_2 : IVec S_ 32 := constantI S_ 32 16#32
  let main_v8 : IVec S10000x16x1 32 := broadcastInDim S10000x16x1 ![] bcast_S_S10000x16x1 main_c_2
  let main_v9 : IVec S10000x16x1 1 := cmpi .slt main_arg4 main_v8
  let main_v10 : IVec S10000x16x1 1 := andi main_v7 main_v9
  main_v10
-- ==== Kernel.lean ====
abbrev S10000x16x128 : Shape := ⟨3, ![10000, 16, 128]⟩
abbrev S10000x16 : Shape := ⟨2, ![10000, 16]⟩
abbrev S10000x16x1 : Shape := ⟨3, ![10000, 16, 1]⟩
abbrev S128 : Shape := ⟨1, ![128]⟩
abbrev S256x128 : Shape := ⟨2, ![256, 128]⟩
abbrev S128x128 : Shape := ⟨2, ![128, 128]⟩
abbrev S160000x128 : Shape := ⟨2, ![160000, 128]⟩
abbrev S1280x80 : Shape := ⟨2, ![1280, 80]⟩
abbrev S128x256 : Shape := ⟨2, ![128, 256]⟩
abbrev S1x128 : Shape := ⟨2, ![1, 128]⟩
abbrev S1280x128 : Shape := ⟨2, ![1280, 128]⟩
abbrev S80x16 : Shape := ⟨2, ![80, 16]⟩
abbrev S1280x16 : Shape := ⟨2, ![1280, 16]⟩
abbrev S16x128 : Shape := ⟨2, ![16, 128]⟩
abbrev S80x1 : Shape := ⟨2, ![80, 1]⟩
abbrev S1280x256 : Shape := ⟨2, ![1280, 256]⟩

abbrev nBuf : Space → Nat
  | .hbm => 27
  | .vmem => 22
  | .smem => 0
  | _ => 0

abbrev bufTy : (tb : Table) → Fin (tcTables nBuf tb) → BufTy
  | .hbm, ⟨0, _⟩ => ⟨S10000x16x128, .f32⟩
  | .hbm, ⟨1, _⟩ => ⟨S10000x16x128, .f32⟩
  | .hbm, ⟨2, _⟩ => ⟨S10000x16, .f32⟩
  | .hbm, ⟨3, _⟩ => ⟨S10000x16x1, .i32⟩
  | .hbm, ⟨4, _⟩ => ⟨S10000x16x1, .i32⟩
  | .hbm, ⟨5, _⟩ => ⟨S128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S160000x128, .f32⟩
  | .hbm, ⟨14, _⟩ => ⟨S160000x128, .f32⟩
  | .hbm, ⟨15, _⟩ => ⟨S10000x16, .i32⟩
  | .hbm, ⟨16, _⟩ => ⟨S10000x16, .i32⟩
  | .hbm, ⟨17, _⟩ => ⟨S1280x80, .f32⟩
  | .hbm, ⟨18, _⟩ => ⟨S1280x80, .bf16⟩
  | .hbm, ⟨19, _⟩ => ⟨S128x256, .f32⟩
  | .hbm, ⟨20, _⟩ => ⟨S128, .f32⟩
  | .hbm, ⟨21, _⟩ => ⟨S1x128, .f32⟩
  | .hbm, ⟨22, _⟩ => ⟨S1x128, .f32⟩
  | .hbm, ⟨23, _⟩ => ⟨S1x128, .f32⟩
  | .hbm, ⟨24, _⟩ => ⟨S1x128, .f32⟩
  | .hbm, ⟨25, _⟩ => ⟨S160000x128, .f32⟩
  | .hbm, ⟨26, _⟩ => ⟨S160000x128, .f32⟩
  | .local _ .vmem, ⟨0, _⟩ => ⟨S1280x128, .f32⟩
  | .local _ .vmem, ⟨1, _⟩ => ⟨S1280x128, .f32⟩
  | .local _ .vmem, ⟨2, _⟩ => ⟨S1280x128, .f32⟩
  | .local _ .vmem, ⟨3, _⟩ => ⟨S1280x128, .f32⟩
  | .local _ .vmem, ⟨4, _⟩ => ⟨S80x16, .f32⟩
  | .local _ .vmem, ⟨5, _⟩ => ⟨S80x16, .f32⟩
  | .local _ .vmem, ⟨6, _⟩ => ⟨S80x16, .i32⟩
  | .local _ .vmem, ⟨7, _⟩ => ⟨S80x16, .i32⟩
  | .local _ .vmem, ⟨8, _⟩ => ⟨S80x16, .i32⟩
  | .local _ .vmem, ⟨9, _⟩ => ⟨S80x16, .i32⟩
  | .local _ .vmem, ⟨10, _⟩ => ⟨S1280x80, .f32⟩
  | .local _ .vmem, ⟨11, _⟩ => ⟨S1280x80, .bf16⟩
  | .local _ .vmem, ⟨12, _⟩ => ⟨S1x128, .f32⟩
  | .local _ .vmem, ⟨13, _⟩ => ⟨S1x128, .f32⟩
  | .local _ .vmem, ⟨14, _⟩ => ⟨S256x128, .f32⟩
  | .local _ .vmem, ⟨15, _⟩ => ⟨S1x128, .f32⟩
  | .local _ .vmem, ⟨16, _⟩ => ⟨S128x256, .f32⟩
  | .local _ .vmem, ⟨17, _⟩ => ⟨S1x128, .f32⟩
  | .local _ .vmem, ⟨18, _⟩ => ⟨S1280x128, .f32⟩
  | .local _ .vmem, ⟨19, _⟩ => ⟨S1280x128, .f32⟩
  | .local _ .vmem, ⟨20, _⟩ => ⟨S1280x128, .f32⟩
  | .local _ .vmem, ⟨21, _⟩ => ⟨S1280x128, .f32⟩
  | _, _ => ⟨S10000x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_call0_cst : Ref sig .tc := ⟨.hbm, 17, rfl⟩
abbrev main_call0_cst_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_v4_0 : Ref sig .tc := ⟨.hbm, 25, rfl⟩
abbrev main_v4_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1280x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1280x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S80x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S80x16 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S80x16 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1280x80 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1280x80 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1280x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1280x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== KernelIdeal.lean ====
variable {F : FTy → Type} [FloatOps F] [Named F]
def κ : String → Option EReal := fun
  | "inv_24" => some ((1 / 24 : ℝ) : EReal)
  | "inv_720" => some ((-1 / 720 : ℝ) : EReal)
  | _ => none
-- ==== ReferenceIdeal.lean ====
abbrev S10000x16x128 : Shape := ⟨3, ![10000, 16, 128]⟩
abbrev S10000x16 : Shape := ⟨2, ![10000, 16]⟩
abbrev S10000x16x1 : Shape := ⟨3, ![10000, 16, 1]⟩
abbrev S128 : Shape := ⟨1, ![128]⟩
abbrev S256x128 : Shape := ⟨2, ![256, 128]⟩
abbrev S128x128 : Shape := ⟨2, ![128, 128]⟩
abbrev S1x1x128 : Shape := ⟨3, ![1, 1, 128]⟩
abbrev S_ : Shape := ⟨0, ![]⟩
abbrev S10000x16x256 : Shape := ⟨3, ![10000, 16, 256]⟩
abbrev S10000x16x128x1 : Shape := ⟨4, ![10000, 16, 128, 1]⟩
abbrev S1 : Shape := ⟨1, ![1]⟩
abbrev S1x1x1x1 : Shape := ⟨4, ![1, 1, 1, 1]⟩
abbrev S160000x128 : Shape := ⟨2, ![160000, 128]⟩

abbrev nBuf : Space → Nat
  | .hbm => 169
  | .vmem => 0
  | .smem => 0
  | _ => 0

abbrev hbmTy0_0 (i : Nat) : BufTy := match i % 128 with
  | 0 => ⟨S10000x16x128, .f32⟩
  | 1 => ⟨S10000x16x128, .f32⟩
  | 2 => ⟨S10000x16, .f32⟩
  | 3 => ⟨S10000x16x1, .i32⟩
  | 4 => ⟨S10000x16x1, .i32⟩
  | 5 => ⟨S128, .f32⟩
  | 6 => ⟨S128, .f32⟩
  | 7 => ⟨S256x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S10000x16x1, .f32⟩
  | 14 => ⟨S1x1x128, .f32⟩
  | 15 => ⟨S10000x16x128, .f32⟩
  | 16 => ⟨S10000x16x128, .f32⟩
  | 17 => ⟨S10000x16x128, .f32⟩
  | 18 => ⟨S1x1x128, .f32⟩
  | 19 => ⟨S10000x16x128, .f32⟩
  | 20 => ⟨S10000x16x128, .f32⟩
  | 21 => ⟨S10000x16x128, .f32⟩
  | 22 => ⟨S_, .f32⟩
  | 23 => ⟨S10000x16x128, .f32⟩
  | 24 => ⟨S10000x16x128, .f32⟩
  | 25 => ⟨S_, .f32⟩
  | 26 => ⟨S10000x16x128, .f32⟩
  | 27 => ⟨S10000x16x128, .f32⟩
  | 28 => ⟨S10000x16x128, .f32⟩
  | 29 => ⟨S10000x16x128, .f32⟩
  | 30 => ⟨S_, .f32⟩
  | 31 => ⟨S10000x16x128, .f32⟩
  | 32 => ⟨S10000x16x128, .f32⟩
  | 33 => ⟨S10000x16x128, .f32⟩
  | 34 => ⟨S10000x16x128, .f32⟩
  | 35 => ⟨S10000x16x128, .f32⟩
  | 36 => ⟨S10000x16x128, .f32⟩
  | 37 => ⟨S_, .f32⟩
  | 38 => ⟨S10000x16x128, .f32⟩
  | 39 => ⟨S10000x16x128, .f32⟩
  | 40 => ⟨S10000x16x128, .f32⟩
  | 41 => ⟨S10000x16x256, .f32⟩
  | 42 => ⟨S10000x16x128, .f32⟩
  | 43 => ⟨S1x1x128, .f32⟩
  | 44 => ⟨S10000x16x128, .f32⟩
  | 45 => ⟨S10000x16x128, .f32⟩
  | 46 => ⟨S_, .f32⟩
  | 47 => ⟨S10000x16x128, .f32⟩
  | 48 => ⟨S10000x16x128, .f32⟩
  | 49 => ⟨S10000x16x1, .f32⟩
  | 50 => ⟨S1x1x128, .f32⟩
  | 51 => ⟨S10000x16x128, .f32⟩
  | 52 => ⟨S10000x16x128, .f32⟩
  | 53 => ⟨S10000x16x128, .f32⟩
  | 54 => ⟨S1x1x128, .f32⟩
  | 55 => ⟨S10000x16x128, .f32⟩
  | 56 => ⟨S10000x16x128, .f32⟩
  | 57 => ⟨S10000x16x128, .f32⟩
  | 58 => ⟨S_, .f32⟩
  | 59 => ⟨S10000x16x128, .f32⟩
  | 60 => ⟨S10000x16x128, .f32⟩
  | 61 => ⟨S_, .f32⟩
  | 62 => ⟨S10000x16x128, .f32⟩
  | 63 => ⟨S10000x16x128, .f32⟩
  | 64 => ⟨S10000x16x128, .f32⟩
  | 65 => ⟨S10000x16x128, .f32⟩
  | 66 => ⟨S_, .f32⟩
  | 67 => ⟨S10000x16x128, .f32⟩
  | 68 => ⟨S10000x16x128, .f32⟩
  | 69 => ⟨S10000x16x128, .f32⟩
  | 70 => ⟨S10000x16x128, .f32⟩
  | 71 => ⟨S10000x16x128, .f32⟩
  | 72 => ⟨S10000x16x128, .f32⟩
  | 73 => ⟨S_, .f32⟩
  | 74 => ⟨S10000x16x128, .f32⟩
  | 75 => ⟨S10000x16x128, .f32⟩
  | 76 => ⟨S10000x16x128, .f32⟩
  | 77 => ⟨S10000x16x256, .f32⟩
  | 78 => ⟨S10000x16x128, .f32⟩
  | 79 => ⟨S1x1x128, .f32⟩
  | 80 => ⟨S10000x16x128, .f32⟩
  | 81 => ⟨S10000x16x128, .f32⟩
  | 82 => ⟨S_, .f32⟩
  | 83 => ⟨S10000x16x128, .f32⟩
  | 84 => ⟨S10000x16x128, .f32⟩
  | 85 => ⟨S_, .i32⟩
  | 86 => ⟨S10000x16x1, .i32⟩
  | 87 => ⟨S10000x16x1, .i32⟩
  | 88 => ⟨S10000x16x1, .f32⟩
  | 89 => ⟨S_, .f32⟩
  | 90 => ⟨S_, .f32⟩
  | 91 => ⟨S10000x16x128, .f32⟩
  | 92 => ⟨S10000x16x128, .f32⟩
  | 93 => ⟨S10000x16x128, .f32⟩
  | 94 => ⟨S10000x16x128, .i32⟩
  | 95 => ⟨S_, .i32⟩
  | 96 => ⟨S10000x16x128, .i32⟩
  | 97 => ⟨S10000x16x128, .i1⟩
  | 98 => ⟨S_, .i32⟩
  | 99 => ⟨S10000x16x128, .i32⟩
  | 100 => ⟨S10000x16x128, .i32⟩
  | 101 => ⟨S10000x16x128, .i32⟩
  | 102 => ⟨S10000x16x128x1, .i32⟩
  | 103 => ⟨S1, .i32⟩
  | 104 => ⟨S_, .i32⟩
  | 105 => ⟨S10000x16x128x1, .i32⟩
  | 106 => ⟨S10000x16x128x1, .i1⟩
  | 107 => ⟨S1x1x1x1, .i32⟩
  | 108 => ⟨S10000x16x128x1, .i32⟩
  | 109 => ⟨S10000x16x128x1, .i1⟩
  | 110 => ⟨S10000x16x128x1, .i1⟩
  | 111 => ⟨S_, .i1⟩
  | 112 => ⟨S10000x16x128, .i1⟩
  | 113 => ⟨S10000x16x128, .f32⟩
  | 114 => ⟨S_, .f32⟩
  | 115 => ⟨S10000x16x128, .f32⟩
  | 116 => ⟨S10000x16x128, .f32⟩
  | 117 => ⟨S10000x16x128, .f32⟩
  | 118 => ⟨S1x1x128, .f32⟩
  | 119 => ⟨S10000x16x128, .f32⟩
  | 120 => ⟨S10000x16x128, .f32⟩
  | 121 => ⟨S10000x16x128, .f32⟩
  | 122 => ⟨S1x1x128, .f32⟩
  | 123 => ⟨S10000x16x128, .f32⟩
  | 124 => ⟨S10000x16x128, .f32⟩
  | 125 => ⟨S10000x16x128, .f32⟩
  | 126 => ⟨S_, .i32⟩
  | 127 => ⟨S10000x16x1, .i32⟩
  | _ => ⟨S10000x16x128, .f32⟩

abbrev hbmTy0_1 (i : Nat) : BufTy := match i % 128 with
  | 0 => ⟨S10000x16x1, .i32⟩
  | 1 => ⟨S10000x16x1, .f32⟩
  | 2 => ⟨S_, .f32⟩
  | 3 => ⟨S_, .f32⟩
  | 4 => ⟨S10000x16x128, .f32⟩
  | 5 => ⟨S10000x16x128, .f32⟩
  | 6 => ⟨S10000x16x128, .f32⟩
  | 7 => ⟨S10000x16x128, .i32⟩
  | 8 => ⟨S_, .i32⟩
  | 9 => ⟨S10000x16x128, .i32⟩
  | 10 => ⟨S10000x16x128, .i1⟩
  | 11 => ⟨S_, .i32⟩
  | 12 => ⟨S10000x16x128, .i32⟩
  | 13 => ⟨S10000x16x128, .i32⟩
  | 14 => ⟨S10000x16x128, .i32⟩
  | 15 => ⟨S10000x16x128x1, .i32⟩
  | 16 => ⟨S1, .i32⟩
  | 17 => ⟨S_, .i32⟩
  | 18 => ⟨S10000x16x128x1, .i32⟩
  | 19 => ⟨S10000x16x128x1, .i1⟩
  | 20 => ⟨S1x1x1x1, .i32⟩
  | 21 => ⟨S10000x16x128x1, .i32⟩
  | 22 => ⟨S10000x16x128x1, .i1⟩
  | 23 => ⟨S10000x16x128x1, .i1⟩
  | 24 => ⟨S_, .i1⟩
  | 25 => ⟨S10000x16x128, .i1⟩
  | 26 => ⟨S10000x16x128, .f32⟩
  | 27 => ⟨S_, .f32⟩
  | 28 => ⟨S10000x16x128, .f32⟩
  | 29 => ⟨S10000x16x128, .f32⟩
  | 30 => ⟨S10000x16x128, .f32⟩
  | 31 => ⟨S1x1x128, .f32⟩
  | 32 => ⟨S10000x16x128, .f32⟩
  | 33 => ⟨S10000x16x128, .f32⟩
  | 34 => ⟨S10000x16x128, .f32⟩
  | 35 => ⟨S1x1x128, .f32⟩
  | 36 => ⟨S10000x16x128, .f32⟩
  | 37 => ⟨S10000x16x128, .f32⟩
  | 38 => ⟨S10000x16x128, .f32⟩
  | 39 => ⟨S160000x128, .f32⟩
  | 40 => ⟨S160000x128, .f32⟩
  | _ => ⟨S10000x16x128, .f32⟩

abbrev hbmTy (i : Nat) : BufTy := match i / 128 with
  | 0 => hbmTy0_0 i
  | 1 => hbmTy0_1 i
  | _ => ⟨S10000x16x128, .f32⟩

abbrev bufTy : (tb : Table) → Fin (tcTables nBuf tb) → BufTy
  | .hbm, ⟨i, _⟩ => hbmTy i
  | _, _ => ⟨S10000x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst : Ref sig .tc := ⟨.hbm, 22, rfl⟩
abbrev main_v9 : Ref sig .tc := ⟨.hbm, 23, rfl⟩
abbrev main_v10 : Ref sig .tc := ⟨.hbm, 24, rfl⟩
abbrev main_cst_0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call0_cst : Ref sig .tc := ⟨.hbm, 46, rfl⟩
abbrev main_call0_v0 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_3 : Ref sig .tc := ⟨.hbm, 58, rfl⟩
abbrev main_v39 : Ref sig .tc := ⟨.hbm, 59, rfl⟩
abbrev main_v40 : Ref sig .tc := ⟨.hbm, 60, rfl⟩
abbrev main_cst_4 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_5 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_6 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_call1_cst : Ref sig .tc := ⟨.hbm, 82, rfl⟩
abbrev main_call1_v0 : Ref sig .tc := ⟨.hbm, 83, rfl⟩
abbrev main_v59 : Ref sig .tc := ⟨.hbm, 84, rfl⟩
abbrev main_c : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_call2_call0_cst : Ref sig .tc := ⟨.hbm, 89, rfl⟩
abbrev main_call2_call0_v0 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_call3_c : Ref sig .tc := ⟨.hbm, 95, rfl⟩
abbrev main_call3_v0 : Ref sig .tc := ⟨.hbm, 96, rfl⟩
abbrev main_call3_v1 : Ref sig .tc := ⟨.hbm, 97, rfl⟩
abbrev main_call3_c_0 : Ref sig .tc := ⟨.hbm, 98, rfl⟩
abbrev main_call3_v2 : Ref sig .tc := ⟨.hbm, 99, rfl⟩
abbrev main_call3_v3 : Ref sig .tc := ⟨.hbm, 100, rfl⟩
abbrev main_call3_v4 : Ref sig .tc := ⟨.hbm, 101, rfl⟩
abbrev main_call3_v5 : Ref sig .tc := ⟨.hbm, 102, rfl⟩
abbrev main_call3_c_1 : Ref sig .tc := ⟨.hbm, 103, rfl⟩
abbrev main_call3_c_2 : Ref sig .tc := ⟨.hbm, 104, rfl⟩
abbrev main_call3_v6 : Ref sig .tc := ⟨.hbm, 105, rfl⟩
abbrev main_call3_v7 : Ref sig .tc := ⟨.hbm, 106, rfl⟩
abbrev main_call3_v8 : Ref sig .tc := ⟨.hbm, 107, rfl⟩
abbrev main_call3_v9 : Ref sig .tc := ⟨.hbm, 108, rfl⟩
abbrev main_call3_v10 : Ref sig .tc := ⟨.hbm, 109, rfl⟩
abbrev main_call3_v11 : Ref sig .tc := ⟨.hbm, 110, rfl⟩
abbrev main_call3_c_3 : Ref sig .tc := ⟨.hbm, 111, rfl⟩
abbrev main_call3_v12 : Ref sig .tc := ⟨.hbm, 112, rfl⟩
abbrev main_call3_v13 : Ref sig .tc := ⟨.hbm, 113, rfl⟩
abbrev main_call3_cst : Ref sig .tc := ⟨.hbm, 114, rfl⟩
abbrev main_call3_v14 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_c_7 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_call4_call0_cst : Ref sig .tc := ⟨.hbm, 130, rfl⟩
abbrev main_call4_call0_v0 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_call5_c : Ref sig .tc := ⟨.hbm, 136, rfl⟩
abbrev main_call5_v0 : Ref sig .tc := ⟨.hbm, 137, rfl⟩
abbrev main_call5_v1 : Ref sig .tc := ⟨.hbm, 138, rfl⟩
abbrev main_call5_c_0 : Ref sig .tc := ⟨.hbm, 139, rfl⟩
abbrev main_call5_v2 : Ref sig .tc := ⟨.hbm, 140, rfl⟩
abbrev main_call5_v3 : Ref sig .tc := ⟨.hbm, 141, rfl⟩
abbrev main_call5_v4 : Ref sig .tc := ⟨.hbm, 142, rfl⟩
abbrev main_call5_v5 : Ref sig .tc := ⟨.hbm, 143, rfl⟩
abbrev main_call5_c_1 : Ref sig .tc := ⟨.hbm, 144, rfl⟩
abbrev main_call5_c_2 : Ref sig .tc := ⟨.hbm, 145, rfl⟩
abbrev main_call5_v6 : Ref sig .tc := ⟨.hbm, 146, rfl⟩
abbrev main_call5_v7 : Ref sig .tc := ⟨.hbm, 147, rfl⟩
abbrev main_call5_v8 : Ref sig .tc := ⟨.hbm, 148, rfl⟩
abbrev main_call5_v9 : Ref sig .tc := ⟨.hbm, 149, rfl⟩
abbrev main_call5_v10 : Ref sig .tc := ⟨.hbm, 150, rfl⟩
abbrev main_call5_v11 : Ref sig .tc := ⟨.hbm, 151, rfl⟩
abbrev main_call5_c_3 : Ref sig .tc := ⟨.hbm, 152, rfl⟩
abbrev main_call5_v12 : Ref sig .tc := ⟨.hbm, 153, rfl⟩
abbrev main_call5_v13 : Ref sig .tc := ⟨.hbm, 154, rfl⟩
abbrev main_call5_cst : Ref sig .tc := ⟨.hbm, 155, rfl⟩
abbrev main_call5_v14 : Ref sig .tc := ⟨.hbm, 156, rfl⟩
abbrev main_v84 : Ref sig .tc := ⟨.hbm, 157, rfl⟩
abbrev main_v85 : Ref sig .tc := ⟨.hbm, 158, rfl⟩
abbrev main_v86 : Ref sig .tc := ⟨.hbm, 159, rfl⟩
abbrev main_v87 : Ref sig .tc := ⟨.hbm, 160, rfl⟩
abbrev main_v88 : Ref sig .tc := ⟨.hbm, 161, rfl⟩
abbrev main_v89 : Ref sig .tc := ⟨.hbm, 162, rfl⟩
abbrev main_v90 : Ref sig .tc := ⟨.hbm, 163, rfl⟩
abbrev main_v91 : Ref sig .tc := ⟨.hbm, 164, rfl⟩
abbrev main_v92 : Ref sig .tc := ⟨.hbm, 165, rfl⟩
abbrev main_v93 : Ref sig .tc := ⟨.hbm, 166, rfl⟩
abbrev main_v94 : Ref sig .tc := ⟨.hbm, 167, rfl⟩
abbrev main_v95 : Ref sig .tc := ⟨.hbm, 168, rfl⟩

abbrev nD : Nat := 1
abbrev τ : Topo := Topo.v7x

variable {F : FTy → Type} [FloatOps F]
-- ==== Proof.Algebra.lean ====
/- The scalar mathematics of the certificate over the extended reals: the values both programs compute, row by row
   (`cosT`, `enc`, `conv`), and the facts that join their two ways of computing them. -/
module

public import Idealize.ShloMosaic.PureOps.Ideal.Laws
public import Idealize.ShloMosaic.Lib.IdealHost
public import Mathlib.Tactic.Ring
public import Mathlib.Tactic.NormNum

@[expose] public section

noncomputable section

namespace Cert.Conv

open Idealize.ShloMosaic
open scoped BigOperators

/-! ## The values -/

/-- The cosine's Taylor polynomial of degree six, as the reference writes it. -/
def cosT (x : EReal) : EReal :=
  1 - Ideal.div (x * x) ((2 : ℝ) : EReal) + Ideal.div ((x * x) * (x * x)) ((24 : ℝ) : EReal)
    - Ideal.div ((x * x) * ((x * x) * (x * x))) ((720 : ℝ) : EReal)

/-- One feature of one row's encoding: the rectified affine image of the row's features beside the time encoding. -/
def enc (u : Fin 128 → EReal) (t : EReal) (w ph : Fin 128 → EReal) (W1 : Fin 256 → Fin 128 → EReal) (b1 : Fin 128 → EReal)
    (d : Fin 128) : EReal :=
  max (((∑ k : Fin 128, u k * W1 ⟨k.val, by omega⟩ d)
    + ∑ k : Fin 128, cosT (t * w k + ph k) * W1 ⟨128 + k.val, by omega⟩ d) + b1 d) 0

/-- One entry of the convolution's result: the row's own encoding through `ws`, and the running mean of the other side's
    encodings in its bucket through `wn` — the sum of the first `i + 1` rows over `n`. -/
def conv (hs : Fin 128 → EReal) (hn : Fin 16 → Fin 128 → EReal) (i : ℕ) (n : ℝ) (ws : Fin 128 → Fin 128 → EReal)
    (bs : Fin 128 → EReal) (wn : Fin 128 → Fin 128 → EReal) (bn : Fin 128 → EReal) (o : Fin 128) : EReal :=
  ((∑ d, hs d * ws d o) + bs o)
    + ((∑ d, Ideal.div (∑ j : Fin 16, if j.val ≤ i then hn j d else 0) (n : EReal) * wn d o) + bn o)

/-! ## The polynomial -/

/-- Division by a positive real is multiplication by its inverse. -/
theorem div_pos_real (x : EReal) {r : ℝ} (hr : 0 < r) : Ideal.div x (r : EReal) = x * ((r⁻¹ : ℝ) : EReal) := by
  unfold Ideal.div
  rw [if_neg (by exact_mod_cast hr.ne'), EReal.coe_inv]

theorem sq_top_or_real (x : EReal) : x * x = ⊤ ∨ ∃ r : ℝ, x * x = (r : EReal) := by
  induction x with
  | bot => left; rfl
  | top => left; rfl
  | coe r => right; exact ⟨r * r, by rw [EReal.coe_mul]⟩

/-- Horner's form of the polynomial, as the kernel evaluates it, is the polynomial. At an infinite argument both are `⊥`. -/
theorem horner_eq (x : EReal) :
    (((x * x) * ((-1 / 720 : ℝ) : EReal) + ((1 / 24 : ℝ) : EReal)) * (x * x) - ((1 / 2 : ℝ) : EReal)) * (x * x) + 1
      = cosT x := by
  unfold cosT
  rw [div_pos_real _ (by norm_num), div_pos_real _ (by norm_num), div_pos_real _ (by norm_num)]
  rcases sq_top_or_real x with h | ⟨r, h⟩ <;> rw [h]
  · have h1 : (⊤ : EReal) * ((-1 / 720 : ℝ) : EReal) = ⊥ := EReal.top_mul_coe_of_neg (by norm_num)
    have h2 : (⊤ : EReal) * ((2⁻¹ : ℝ) : EReal) = ⊤ := EReal.top_mul_coe_of_pos (by norm_num)
    have h3 : (⊤ : EReal) * ((24⁻¹ : ℝ) : EReal) = ⊤ := EReal.top_mul_coe_of_pos (by norm_num)
    have h4 : (⊤ : EReal) * ((720⁻¹ : ℝ) : EReal) = ⊤ := EReal.top_mul_coe_of_pos (by norm_num)
    rw [h1, h2, EReal.top_mul_top, EReal.top_mul_top, h3, h4, EReal.bot_add, EReal.bot_mul_top, EReal.bot_sub,
      EReal.bot_mul_top, EReal.bot_add]
    have h5 : (1 : EReal) - ⊤ = ⊥ := EReal.sub_top 1
    rw [h5, EReal.bot_add, EReal.bot_sub]
  · have h1 : (1 : EReal) = ((1 : ℝ) : EReal) := rfl
    rw [h1]
    simp only [← EReal.coe_mul, ← EReal.coe_add, ← EReal.coe_sub]
    congr 1
    ring

/-! ## Selection by zeros and ones -/

/-- A row of zeros and one `1` selects one term of a sum of products. -/
theorem sum_pick {n : ℕ} (A f : Fin n → EReal) (b : Fin n) (hA : ∀ c, A c = if c = b then 1 else 0) :
    ∑ c, A c * f c = f b := by
  rw [Finset.sum_eq_single b]
  · rw [hA, if_pos rfl, one_mul]
  · intro c _ hc
    rw [hA, if_neg hc, zero_mul]
  · intro h
    exact absurd (Finset.mem_univ b) h

/-- The kernel's broadcast of one entry of a table along a row: select the table's row by one product, its column by a
    mask and a second product. -/
theorem sum_pick2 {n k : ℕ} (A : Fin n → EReal) (p : Fin n → Fin k → EReal) (L w : Fin k → EReal) (b : Fin n) (q : Fin k)
    (hA : ∀ c, A c = if c = b then 1 else 0) (hL : ∀ c, L c = if c = q then 1 else 0) :
    ∑ c, ((∑ a, A a * p a c) * L c) * w c = p b q * w q := by
  rw [Finset.sum_eq_single q]
  · rw [hL, if_pos rfl, mul_one, sum_pick A (fun a => p a q) b hA]
  · intro c _ hc
    rw [hL, if_neg hc, mul_zero, zero_mul]
  · intro h
    exact absurd (Finset.mem_univ q) h

/-! ## The mean, before and after the product with the weights -/

/-- A nonnegative real factor goes inside a sum. -/
theorem mul_sum_real {ι : Type*} (s : Finset ι) (f : ι → EReal) {q : ℝ} (hq : 0 ≤ q) :
    (q : EReal) * ∑ i ∈ s, f i = ∑ i ∈ s, (q : EReal) * f i := by
  classical
  induction s using Finset.induction_on with
  | empty => simp
  | insert a s ha ih =>
    rw [Finset.sum_insert ha, Finset.sum_insert ha,
      EReal.left_distrib_of_nonneg_of_ne_top (by exact_mod_cast hq) (EReal.coe_ne_top q), ih]

/-- A sum of nonnegative terms is multiplied term by term. -/
theorem sum_mul_nonneg {ι : Type*} (s : Finset ι) (f : ι → EReal) (hf : ∀ i ∈ s, 0 ≤ f i) (w : EReal) :
    (∑ i ∈ s, f i) * w = ∑ i ∈ s, f i * w := by
  classical
  induction s using Finset.induction_on with
  | empty => simp
  | insert a s ha ih =>
    have hs : ∀ i ∈ s, 0 ≤ f i := fun i hi => hf i (Finset.mem_insert_of_mem hi)
    rw [Finset.sum_insert ha, Finset.sum_insert ha,
      EReal.right_distrib_of_nonneg (hf a (Finset.mem_insert_self a s)) (Finset.sum_nonneg hs), ih hs]

/-- The kernel's order of work and the reference's: a masked, weighted sum of the products of the rows with `w` is the
    product with `w` of the mean of the rows. The rows are nonnegative, the divisor a positive real. -/
theorem mean_mul {n : ℕ} (h : Fin 16 → Fin n → EReal) (hh : ∀ j d, 0 ≤ h j d) (w : Fin n → EReal) (i : ℕ) {r : ℝ} (hr : 0 < r) :
    ∑ j : Fin 16, (if j.val ≤ i then ((r⁻¹ : ℝ) : EReal) else 0) * ∑ d, h j d * w d
      = ∑ d, Ideal.div (∑ j : Fin 16, if j.val ≤ i then h j d else 0) (r : EReal) * w d := by
  have hq : 0 ≤ r⁻¹ := (inv_pos.mpr hr).le
  have e1 : ∀ j : Fin 16, (if j.val ≤ i then ((r⁻¹ : ℝ) : EReal) else 0) * ∑ d, h j d * w d
      = ∑ d, (r⁻¹ : ℝ) * ((if j.val ≤ i then h j d else 0) * w d) := by
    intro j
    split
    · exact mul_sum_real _ _ hq
    · rw [zero_mul]
      symm
      apply Finset.sum_eq_zero
      intro d _
      rw [zero_mul, mul_zero]
  rw [Finset.sum_congr rfl fun j _ => e1 j, Finset.sum_comm]
  refine Finset.sum_congr rfl fun d _ => ?_
  rw [← mul_sum_real _ _ hq, div_pos_real _ hr, ← sum_mul_nonneg _ _ (fun j _ => by split; exacts [hh j d, le_rfl]),
    mul_comm _ ((r⁻¹ : ℝ) : EReal), mul_assoc]

/-- The sum over the 128 rows of a group of eight buckets, masked to the rows of one bucket up to the `i`-th, is the sum over
    that bucket's sixteen rows. -/
theorem sum_group (p : Fin 8) (i : ℕ) (q : EReal) (f : Fin 128 → EReal) :
    ∑ c : Fin 128, (if 16 * p.val ≤ c.val ∧ c.val ≤ 16 * p.val + i ∧ c.val < 16 * p.val + 16 then q else 0) * f c
      = ∑ j : Fin 16, (if j.val ≤ i then q else 0) * f ⟨16 * p.val + j.val, by omega⟩ := by
  have hinj : Function.Injective (fun j : Fin 16 => (⟨16 * p.val + j.val, by omega⟩ : Fin 128)) := by
    intro a b hab
    have := congrArg Fin.val hab
    dsimp only at this
    exact Fin.ext (by omega)
  rw [← Finset.sum_subset (Finset.subset_univ (Finset.univ.map ⟨_, hinj⟩)), Finset.sum_map]
  · refine Finset.sum_congr rfl fun j _ => ?_
    dsimp only [Function.Embedding.coeFn_mk]
    congr 1
    by_cases hj : j.val ≤ i
    · rw [if_pos hj, if_pos ⟨by omega, by omega, by omega⟩]
    · rw [if_neg hj, if_neg (by omega)]
  · intro c _ hc
    rw [if_neg, zero_mul]
    rintro ⟨h1, h2, h3⟩
    apply hc
    rw [Finset.mem_map]
    exact ⟨⟨c.val - 16 * p.val, by omega⟩, Finset.mem_univ _, Fin.ext (by dsimp only [Function.Embedding.coeFn_mk]; omega)⟩

/-- An encoding is rectified. -/
theorem enc_nonneg (u : Fin 128 → EReal) (t : EReal) (w ph : Fin 128 → EReal) (W1 : Fin 256 → Fin 128 → EReal)
    (b1 : Fin 128 → EReal) (d : Fin 128) : 0 ≤ enc u t w ph W1 b1 d := le_max_right _ _

/-! ## Constants -/

theorem ofBits_half : Ideal.ofBits .f32 0x3F000000#32 = ((1 / 2 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_24 : Ideal.ofBits .f32 0x41C00000#32 = ((24 : ℝ) : EReal) := by
  simp [Ideal.ofBits, Ideal.ieee, -EReal.coe_mul]; norm_num

theorem ofBits_720 : Ideal.ofBits .f32 0x44340000#32 = ((720 : ℝ) : EReal) := by
  simp [Ideal.ofBits, Ideal.ieee, -EReal.coe_mul]; norm_num

end Cert.Conv

end
-- ==== Proof.Spec.lean ====
/- The result of the convolution as a function of the thirteen arguments, entry by entry. -/
module

public import proofs.«01_k».proof.Proof.Algebra
public import Idealize.ShloMosaic.Lib.ValueIdx

@[expose] public section

noncomputable section

namespace Cert.Conv

open Idealize.ShloMosaic Idealize.ShloMosaic.ValueIdx
open scoped BigOperators

/-- The encoding of the `j`-th row of the bucket `p`, of the features `x` at the times `ts`. -/
def row (x : (⟨3, ![10000, 16, 128]⟩ : Shape).Idx → EReal) (ts : (⟨2, ![10000, 16]⟩ : Shape).Idx → EReal)
    (bf ph : (⟨1, ![128]⟩ : Shape).Idx → EReal) (W1 : (⟨2, ![256, 128]⟩ : Shape).Idx → EReal)
    (b1 : (⟨1, ![128]⟩ : Shape).Idx → EReal) (p : Fin 10000) (j : Fin 16) (d : Fin 128) : EReal :=
  enc (fun k => x (ix3 p j k)) (ts (ix2 p j)) (fun k => bf (ix1 k)) (fun k => ph (ix1 k)) (fun k d => W1 (ix2 k d))
    (fun k => b1 (ix1 k)) d

/-- The position the index array names for the `j`-th row of the bucket `p`. -/
def pos (idx : (⟨3, ![10000, 16, 1]⟩ : Shape).Idx → BitVec 32) (p : Fin 10000) (j : Fin 16) : Fin 16 :=
  ⟨min (idx (ix3 p j (0 : Fin 1))).toNat 15, by omega⟩

/-- The divisor at a position: one more than the index word there. -/
def divisor (idx : (⟨3, ![10000, 16, 1]⟩ : Shape).Idx → BitVec 32) (p : Fin 10000) (j : Fin 16) : ℝ :=
  ((idx (ix3 p j (0 : Fin 1))).toNat : ℝ) + 1

/-- One side's result: `u` the side's own features, `v` the other side's. -/
def result (u v : (⟨3, ![10000, 16, 128]⟩ : Shape).Idx → EReal) (ts : (⟨2, ![10000, 16]⟩ : Shape).Idx → EReal)
    (idx : (⟨3, ![10000, 16, 1]⟩ : Shape).Idx → BitVec 32) (bf ph : (⟨1, ![128]⟩ : Shape).Idx → EReal)
    (W1 : (⟨2, ![256, 128]⟩ : Shape).Idx → EReal) (b1 : (⟨1, ![128]⟩ : Shape).Idx → EReal)
    (Ws : (⟨2, ![128, 128]⟩ : Shape).Idx → EReal) (bs : (⟨1, ![128]⟩ : Shape).Idx → EReal)
    (Wn : (⟨2, ![128, 128]⟩ : Shape).Idx → EReal) (bn : (⟨1, ![128]⟩ : Shape).Idx → EReal)
    (p : Fin 10000) (j : Fin 16) (o : Fin 128) : EReal :=
  conv (row u ts bf ph W1 b1 p j) (row v ts bf ph W1 b1 p) (pos idx p j).val (divisor idx p (pos idx p j))
    (fun d o => Ws (ix2 d o)) (fun o => bs (ix1 o)) (fun d o => Wn (ix2 d o)) (fun o => bn (ix1 o)) o

/-- Every index word lies in `0 … 15`. -/
def InRange (idx : (⟨3, ![10000, 16, 1]⟩ : Shape).Idx → BitVec 32) : Prop := ∀ i, (idx i).toNat < 16

theorem divisor_pos (idx : (⟨3, ![10000, 16, 1]⟩ : Shape).Idx → BitVec 32) (p : Fin 10000) (j : Fin 16) : 0 < divisor idx p j := by
  unfold divisor; positivity

theorem word_toInt {w : BitVec 32} (h : w.toNat < 16) : w.toInt = w.toNat := by
  rw [BitVec.toInt_eq_toNat_of_lt (by omega)]

theorem word_succ_toInt {w : BitVec 32} (h : w.toNat < 16) : (w + 1#32).toInt = w.toNat + 1 := by
  have e : (w + 1#32).toNat = w.toNat + 1 := by
    rw [BitVec.toNat_add]
    show (w.toNat + 1) % 2 ^ 32 = _
    omega
  rw [BitVec.toInt_eq_toNat_of_lt (by omega), e]
  norm_cast

end Cert.Conv

end
-- ==== Proof.Block.lean ====
/- The values the kernel's body computes from its blocks, read at an index: the selectors, the time encoding, the index
   words and the reciprocals spread over the rows. -/
module

public import proofs.«01_k».proof.Proof.Spec
public import proofs.«01_k».proof.Proof.Gen.KernelIdeal.Skeleton
public import Idealize.ShloMosaic.Lib.Pointwise
public import Idealize.ShloMosaic.Lib.IdealHost
public import Idealize.ShloMosaic.Lib.MatmulPlain

@[expose] public section

set_option maxRecDepth 16384

noncomputable section

namespace Cert.Conv

open Idealize.ShloMosaic Idealize.ShloMosaic.Pointwise
open Cert.KernelIdeal Cert.KernelIdeal.Gen
open scoped BigOperators

/-- The low four bits of a row number. -/
theorem low_bits (r : ℕ) (hr : r < 1280) : BitVec.ofNat 32 r &&& 15#32 = BitVec.ofNat 32 (r % 16) := by
  apply BitVec.eq_of_toNat_eq
  rw [BitVec.toNat_and, BitVec.toNat_ofNat, BitVec.toNat_ofNat, BitVec.toNat_ofNat,
    Nat.mod_eq_of_lt (by omega : r < 2 ^ 32), Nat.mod_eq_of_lt (by omega : r % 16 < 2 ^ 32)]
  exact Nat.and_two_pow_sub_one_eq_mod r 4

/-- The selector of a row's position in its bucket. -/
theorem pay2_apply (r : Fin 1280) (q : Fin 16) :
    k0_pay2 (F := Ideal) (ix2 r q) = if q = (⟨r.val % 16, Nat.mod_lt _ (by decide)⟩ : Fin 16) then 1 else 0 := by
  pointwise [k0_pay2]
  show Scalar.select (IntOp.cmpi CmpIPredicate.eq (BitVec.ofNat 32 r.val &&& 15#32) (BitVec.ofNat 32 q.val)) (1 : EReal) 0 = _
  rw [low_bits r.val r.isLt]
  by_cases h : q = (⟨r.val % 16, Nat.mod_lt _ (by decide)⟩ : Fin 16)
  · have hv : q.val = r.val % 16 := congrArg Fin.val h
    rw [if_pos h, hv]
    simp [IntOp.cmpi, Scalar.select]
  · rw [if_neg h]
    have hne : BitVec.ofNat 32 (r.val % 16) ≠ BitVec.ofNat 32 q.val := fun e => h (Fin.ext (by
      have := congrArg BitVec.toNat e
      rw [BitVec.toNat_ofNat, BitVec.toNat_ofNat] at this
      have := q.isLt
      show q.val = r.val % 16
      omega))
    simp [IntOp.cmpi, Scalar.select, beq_false_of_ne hne]

/-- The bucket a row lies in. -/
def bucket (r : Fin 1280) : Fin 80 := ⟨r.val / 16, by omega⟩

/-- The position of a row in its bucket. -/
def place (r : Fin 1280) : Fin 16 := ⟨r.val % 16, Nat.mod_lt _ (by decide)⟩

/-- A block that selects the bucket of each row. -/
def Selects {φ : FTy} (A : FVec Ideal S1280x80 φ) : Prop := ∀ r c, A (ix2 r c) = if c = bucket r then (1 : EReal) else 0

theorem inv_720_eq : Named.named (F := Ideal) (φ := .f32) κ "inv_720" 0xBAB60B61#32 = ((-1 / 720 : ℝ) : EReal) :=
  (IdealRules.named_const.ideal_named_scalar _ _ _ _ rfl).trans (by norm_num)

theorem inv_24_eq : Named.named (F := Ideal) (φ := .f32) κ "inv_24" 0x3D2AAAAB#32 = ((1 / 24 : ℝ) : EReal) :=
  (IdealRules.named_const.ideal_named_scalar _ _ _ _ rfl).trans (by norm_num)

/-- The time encoding of a row. -/
theorem pay5_apply (v0 : FVec Ideal S1280x80 .f32) (hA : Selects v0) (v12 : FVec Ideal S1x128 .f32) (v16 : FVec Ideal S80x16 .f32)
    (v20 : FVec Ideal S1x128 .f32) (r : Fin 1280) (k : Fin 128) :
    k0_pay5 (F := Ideal) v0 v12 v16 v20 (ix2 r k)
      = cosT (v16 (ix2 (bucket r) (place r)) * v12 (ix2 (0 : Fin 1) k) + v20 (ix2 (0 : Fin 1) k)) := by
  have e : ∑ x : Fin 16, (∑ y : Fin 80, v0 (ix2 r y) * v16 (ix2 y x)) * k0_pay2 (F := Ideal) (ix2 r x) * v12 (ix2 (0 : Fin 1) k)
      = v16 (ix2 (bucket r) (place r)) * v12 (ix2 (0 : Fin 1) k) :=
    sum_pick2 (fun c => v0 (ix2 r c)) (fun a c => v16 (ix2 a c)) (fun c => k0_pay2 (F := Ideal) (ix2 r c)) (fun _ => v12 (ix2 (0 : Fin 1) k))
      (bucket r) (place r) (hA r) (pay2_apply r)
  pointwise [k0_pay5]
  rw [e]
  generalize v16 (ix2 (bucket r) (place r)) * v12 (ix2 (0 : Fin 1) k) + v20 (ix2 (0 : Fin 1) k) = y
  rw [← horner_eq y, ← ofBits_half, ← inv_720_eq, ← inv_24_eq]

/-- The index word of a row, spread over the lanes. -/
theorem pay11_apply (v1 : FVec Ideal S1280x80 .bf16) (hA : Selects v1) (v37 : IVec S80x16 32) (r : Fin 1280) (k : Fin 128) :
    k0_pay11 (k0_pay10 (F := Ideal) v1 k0_pay3 k0_pay4 v37) (ix2 r k) = (((v37 (ix2 (bucket r) (place r))).toInt : ℝ) : EReal) := by
  pointwise [k0_pay10, k0_pay11, k0_pay4, k0_pay3]
  have e := sum_pick2 (fun c => v1 (ix2 r c)) (fun a c => (((v37 (ix2 a c)).toInt : ℝ) : EReal)) (fun c => k0_pay2 (F := Ideal) (ix2 r c))
    (fun _ => 1) (bucket r) (place r) (hA r) (pay2_apply r)
  simp only [mul_one] at e
  exact e

/-- The reciprocal a row is scaled by, spread over the lanes. -/
theorem pay12_apply (v1 : FVec Ideal S1280x80 .bf16) (hA : Selects v1) (v37 : IVec S80x16 32) (r : Fin 1280) (k : Fin 128) :
    k0_pay12 (F := Ideal) v1 k0_pay3 k0_pay4 v37 (ix2 r k)
      = Ideal.div 1 ((((v37 (ix2 (bucket r) (place r))).toInt : ℝ) : EReal) + 1) := by
  pointwise [k0_pay12, k0_pay4, k0_pay3]
  have e := sum_pick2 (fun c => v1 (ix2 r c)) (fun a c => Ideal.div 1 ((((v37 (ix2 a c)).toInt : ℝ) : EReal) + 1))
    (fun c => k0_pay2 (F := Ideal) (ix2 r c)) (fun _ => 1) (bucket r) (place r) (hA r) (pay2_apply r)
  simp only [mul_one] at e
  exact e

/-- The index word of a row of the second side. -/
theorem pay19_apply (v1 : FVec Ideal S1280x80 .bf16) (hA : Selects v1) (v37 : IVec S80x16 32) (r : Fin 1280) (k : Fin 128) :
    k0_pay19 (F := Ideal) v1 k0_pay3 k0_pay4 v37 (ix2 r k) = (((v37 (ix2 (bucket r) (place r))).toInt : ℝ) : EReal) := by
  pointwise [k0_pay19, k0_pay4, k0_pay3]
  have e := sum_pick2 (fun c => v1 (ix2 r c)) (fun a c => (((v37 (ix2 a c)).toInt : ℝ) : EReal)) (fun c => k0_pay2 (F := Ideal) (ix2 r c))
    (fun _ => 1) (bucket r) (place r) (hA r) (pay2_apply r)
  simp only [mul_one] at e
  exact e

/-- The words below sixteen. -/
theorem word_cases {w : BitVec 32} (h : w.toNat < 16) :
    w = 0#32 ∨ w = 1#32 ∨ w = 2#32 ∨ w = 3#32 ∨ w = 4#32 ∨ w = 5#32 ∨ w = 6#32 ∨ w = 7#32 ∨ w = 8#32 ∨ w = 9#32
      ∨ w = 10#32 ∨ w = 11#32 ∨ w = 12#32 ∨ w = 13#32 ∨ w = 14#32 ∨ w = 15#32 := by
  have e : w = BitVec.ofNat 32 w.toNat := BitVec.eq_of_toNat_eq (by rw [BitVec.toNat_ofNat]; omega)
  generalize w.toNat = n at e h
  subst e
  interval_cases n <;> decide

/-- The word the index word of a row points to, in the row's bucket. -/
def pointed (v : IVec S80x16 32) (b : Fin 80) (q : Fin 16) : BitVec 32 := v (ix2 b ⟨min (v (ix2 b q)).toNat 15, by omega⟩)

/-- The chain of selections, one per position, picks the word at the position the word names. -/
theorem chain_eq (f : Fin 16 → BitVec 32) (w : BitVec 32) (h : w.toNat < 16) :
    Scalar.select (IntOp.cmpi CmpIPredicate.eq w 15#32) (f 15) (Scalar.select (IntOp.cmpi CmpIPredicate.eq w 14#32) (f 14) (Scalar.select (IntOp.cmpi CmpIPredicate.eq w 13#32) (f 13) (Scalar.select (IntOp.cmpi CmpIPredicate.eq w 12#32) (f 12) (Scalar.select (IntOp.cmpi CmpIPredicate.eq w 11#32) (f 11) (Scalar.select (IntOp.cmpi CmpIPredicate.eq w 10#32) (f 10) (Scalar.select (IntOp.cmpi CmpIPredicate.eq w 9#32) (f 9) (Scalar.select (IntOp.cmpi CmpIPredicate.eq w 8#32) (f 8) (Scalar.select (IntOp.cmpi CmpIPredicate.eq w 7#32) (f 7) (Scalar.select (IntOp.cmpi CmpIPredicate.eq w 6#32) (f 6) (Scalar.select (IntOp.cmpi CmpIPredicate.eq w 5#32) (f 5) (Scalar.select (IntOp.cmpi CmpIPredicate.eq w 4#32) (f 4) (Scalar.select (IntOp.cmpi CmpIPredicate.eq w 3#32) (f 3) (Scalar.select (IntOp.cmpi CmpIPredicate.eq w 2#32) (f 2) (Scalar.select (IntOp.cmpi CmpIPredicate.eq w 1#32) (f 1) (Scalar.select (IntOp.cmpi CmpIPredicate.eq w 0#32) (f 0) w)))))))))))))))
      = f ⟨min w.toNat 15, by omega⟩ := by
  rcases word_cases h with e | e | e | e | e | e | e | e | e | e | e | e | e | e | e | e <;> subst e <;> rfl

theorem pay9_apply (v : IVec S80x16 32) (b : Fin 80) (q : Fin 16) (h : (v (ix2 b q)).toNat < 16) :
    k0_pay9 (k0_pay6 (F := Ideal) v) (k0_pay7 (F := Ideal) v) (k0_pay8 (F := Ideal) v) (ix2 b q) = pointed v b q := by
  pointwise [k0_pay9, k0_pay8, k0_pay7, k0_pay6]
  exact chain_eq (fun k => v (ix2 b k)) (v (ix2 b q)) h

/-- A doubly selected sum with no weight. -/
theorem sum_pick2_one {n k : ℕ} (A : Fin n → EReal) (p : Fin n → Fin k → EReal) (L : Fin k → EReal) (b : Fin n) (q : Fin k)
    (hA : ∀ c, A c = if c = b then 1 else 0) (hL : ∀ c, L c = if c = q then 1 else 0) :
    ∑ c, (∑ a, A a * p a c) * L c = p b q := by
  have e := sum_pick2 A p L (fun _ => 1) b q hA hL
  simpa only [mul_one] using e

/-- The reciprocal of the second side. -/
theorem pay20_apply (v1 : FVec Ideal S1280x80 .bf16) (hA : Selects v1) (v : IVec S80x16 32) (h : ∀ b q, (v (ix2 b q)).toNat < 16)
    (r : Fin 1280) (k : Fin 128) :
    k0_pay20 (F := Ideal) v1 k0_pay3 k0_pay4 (k0_pay13 (F := Ideal) v)
        (k0_pay17 (k0_pay13 (F := Ideal) v) (k0_pay14 (F := Ideal) v) (k0_pay15 (F := Ideal) v) (k0_pay16 (F := Ideal) v)) k0_pay18 (ix2 r k)
      = Ideal.div 1 ((((pointed v (bucket r) (place r)).toInt : ℝ) : EReal) + 1) := by
  pointwise [k0_pay20, k0_pay17, k0_pay18, k0_pay16, k0_pay15, k0_pay14, k0_pay13, k0_pay4, k0_pay3]
  refine (sum_pick2_one _ _ _ (bucket r) (place r) (hA r) (pay2_apply r)).trans ?_
  rw [chain_eq (fun k => v (ix2 (bucket r) k)) _ (h _ _)]
  rfl

/-- The encoding of a row as the body computes it. -/
def brow (x : FVec Ideal S1280x128 .f32) (ts : FVec Ideal S80x16 .f32) (bf ph : FVec Ideal S1x128 .f32) (w1 : FVec Ideal S256x128 .f32)
    (b1 : FVec Ideal S1x128 .f32) (r : Fin 1280) (d : Fin 128) : EReal :=
  enc (fun k => x (ix2 r k)) (ts (ix2 (bucket r) (place r))) (fun k => bf (ix2 (0 : Fin 1) k)) (fun k => ph (ix2 (0 : Fin 1) k))
    (fun k d => w1 (ix2 k d)) (fun k => b1 (ix2 (0 : Fin 1) k)) d

section
variable (v0 : FVec Ideal S1280x80 .f32) (hA : Selects v0) (bf ph : FVec Ideal S1x128 .f32) (ts : FVec Ideal S80x16 .f32)
  (w1 : FVec Ideal S256x128 .f32) (b1 : FVec Ideal S1x128 .f32) (wc : FVec Ideal S128x256 .f32) (x : FVec Ideal S1280x128 .f32)
include hA

/-- The encoding of a row times the joined weights. -/
theorem pay30_apply (r : Fin 1280) (o : Fin 256) :
    k0_pay30 (F := Ideal) (k0_pay5 v0 bf ts ph) (k0_pay25 w1) (k0_pay26 w1) (k0_pay27 b1) (k0_pay28 wc) x (ix2 r o)
      = ∑ d, brow x ts bf ph w1 b1 r d * wc (ix2 d o) := by
  pointwise [k0_pay30, k0_pay25, k0_pay24, k0_pay26, k0_pay27, k0_pay28]
  refine Finset.sum_congr rfl fun d _ => ?_
  simp only [pay5_apply v0 hA]
  rfl

theorem pay31_apply (r : Fin 1280) (o : Fin 256) :
    k0_pay31 (F := Ideal) (k0_pay5 v0 bf ts ph) (k0_pay25 w1) (k0_pay26 w1) (k0_pay27 b1) (k0_pay28 wc) x (ix2 r o)
      = ∑ d, brow x ts bf ph w1 b1 r d * wc (ix2 d o) := pay30_apply v0 hA bf ph ts w1 b1 wc x r o

end

/-! ## The mask of a group of eight buckets -/

theorem high_bits : ∀ r : Fin 128, IntOp.andi (BitVec.ofNat 32 r.val) 4294967280#32 = BitVec.ofNat 32 (16 * (r.val / 16)) := by decide

/-- How far a column lies from the start of a row's bucket. -/
theorem offset_toInt (r c : Fin 128) :
    (IntOp.subi (BitVec.ofNat 32 c.val) (IntOp.andi (BitVec.ofNat 32 r.val) 4294967280#32)).toInt
      = (c.val : ℤ) - (16 * (r.val / 16) : ℕ) := by
  rw [high_bits]
  show (BitVec.ofNat 32 c.val - BitVec.ofNat 32 (16 * (r.val / 16))).toInt = _
  have hc := c.isLt
  have hr := r.isLt
  rw [BitVec.toInt_sub, BitVec.toInt_eq_toNat_of_lt (by rw [BitVec.toNat_ofNat]; omega), BitVec.toNat_ofNat,
    BitVec.toInt_eq_toNat_of_lt (by rw [BitVec.toNat_ofNat]; omega), BitVec.toNat_ofNat, Int.bmod_def]
  split <;> omega

theorem select_mask (r c : Fin 128) (i : ℕ) (hi : i < 16) (a : EReal) :
    Scalar.select (IntOp.andi (k0_pay23 (ix2 r c)) (BitVec.ofBool (decide (k0_pay22 (F := Ideal) (ix2 r c) ≤ ((i : ℝ) : EReal))))) a 0
      = if 16 * (r.val / 16) ≤ c.val ∧ c.val ≤ 16 * (r.val / 16) + i ∧ c.val < 16 * (r.val / 16) + 16 then a else 0 := by
  have e1 : k0_pay23 (ix2 r c) = BitVec.ofBool (decide (16 * (r.val / 16) ≤ c.val)) := by
    pointwise [k0_pay23, k0_pay21]
    show BitVec.ofBool (BitVec.sle _ _) = _
    congr 1
    rw [BitVec.sle, offset_toInt]
    refine decide_eq_decide.mpr ?_
    show (0 : ℤ) ≤ _ ↔ _
    omega
  have e2 : k0_pay22 (F := Ideal) (ix2 r c) = ((((c.val : ℤ) - (16 * (r.val / 16) : ℕ) : ℤ) : ℝ) : EReal) := by
    pointwise [k0_pay22, k0_pay21]
    show (((BitVec.toInt _ : ℤ) : ℝ) : EReal) = _
    rw [offset_toInt]
  have e3 : (((((c.val : ℤ) - (16 * (r.val / 16) : ℕ) : ℤ) : ℝ) : EReal) ≤ ((i : ℝ) : EReal)) ↔ c.val ≤ 16 * (r.val / 16) + i := by
    rw [EReal.coe_le_coe_iff, ← Int.cast_natCast (R := ℝ) i, Int.cast_le]
    omega
  have e0 : ∀ b : Bool, IntOp.andi (BitVec.ofBool false) (BitVec.ofBool b) = 0#1 := by intro b; cases b <;> rfl
  rw [e1, e2]
  by_cases h1 : 16 * (r.val / 16) ≤ c.val <;> by_cases h2 : c.val ≤ 16 * (r.val / 16) + i
  · rw [if_pos ⟨h1, h2, by omega⟩, decide_eq_true h1, decide_eq_true (e3.mpr h2)]; rfl
  · rw [if_neg (fun h => h2 h.2.1), decide_eq_false (fun h => h2 (e3.mp h))]
    cases decide (16 * (r.val / 16) ≤ c.val) <;> rfl
  · rw [if_neg (fun h => h1 h.1), decide_eq_false h1, e0]; rfl
  · rw [if_neg (fun h => h1 h.1), decide_eq_false h1, e0]; rfl

/-- The masked sum of a row over its group of 128 rows is the sum over its bucket. -/
theorem group_sum (off ρ : ℕ) (hρ : ρ < 128) (h8 : off % 16 = 0) (r : Fin 1280) (hr : r.val = off + ρ) (hoff : off ≤ 1152)
    (I Q G : FVec Ideal S1280x128 .f32) (i : ℕ) (hi : i < 16) (q : EReal) (hI : ∀ k, I (ix2 r k) = ((i : ℝ) : EReal))
    (hQ : ∀ k, Q (ix2 r k) = q) (o : Fin 128) :
    ∑ c : Fin 128, Scalar.select (IntOp.andi (k0_pay23 (ix2 (⟨ρ, hρ⟩ : Fin 128) c))
        (BitVec.ofBool (decide (k0_pay22 (F := Ideal) (ix2 (⟨ρ, hρ⟩ : Fin 128) c) ≤ I (ix2 (⟨off + ρ, by omega⟩ : Fin 1280) c)))))
        (Q (ix2 (⟨off + ρ, by omega⟩ : Fin 1280) c) * G (ix2 (⟨off + c.val, by omega⟩ : Fin 1280) o)) 0
      = ∑ j : Fin 16, (if j.val ≤ i then q else 0) * G (ix2 (⟨16 * (r.val / 16) + j.val, by omega⟩ : Fin 1280) o) := by
  have er : (⟨off + ρ, by omega⟩ : Fin 1280) = r := Fin.ext hr.symm
  rw [er]
  refine Eq.trans (Finset.sum_congr rfl fun c _ => ?_)
    ((sum_group ⟨ρ / 16, by omega⟩ i q fun c => G (ix2 (⟨off + c.val, by omega⟩ : Fin 1280) o)).trans ?_)
  · rw [hI, hQ, select_mask ⟨ρ, hρ⟩ c i hi, ite_mul, zero_mul]
  · refine Finset.sum_congr rfl fun j _ => ?_
    have ej : (⟨off + (16 * (ρ / 16) + j.val), by omega⟩ : Fin 1280) = ⟨16 * (r.val / 16) + j.val, by omega⟩ := Fin.ext (by
      show off + (16 * (ρ / 16) + j.val) = 16 * (r.val / 16) + j.val
      omega)
    exact congrArg (fun y => (if j.val ≤ i then q else 0) * G (ix2 y o)) ej

end Cert.Conv

end
-- ==== Proof.BlockOut.lean ====
/- The two stored blocks, read at an index. -/
module

public import proofs.«01_k».proof.Proof.Block
public import proofs.«01_k».proof.Proof.Gen.KernelIdeal.Frame

@[expose] public section

set_option maxRecDepth 16384

noncomputable section

namespace Cert.Conv

open Idealize.ShloMosaic Idealize.ShloMosaic.Pointwise
open Cert.KernelIdeal Cert.KernelIdeal.Gen
open scoped BigOperators

/-- Ten groups of 128 rows, one below the other: every entry is in one of them. -/
theorem groups_eq (T0 T1 T2 T3 T4 T5 T6 T7 T8 T9 : FVec Ideal S128x128 .f32)
    (h : Shape.Concatenates (([⟨S128x128, T0⟩, ⟨S128x128, T1⟩, ⟨S128x128, T2⟩, ⟨S128x128, T3⟩, ⟨S128x128, T4⟩, ⟨S128x128, T5⟩, ⟨S128x128, T6⟩, ⟨S128x128, T7⟩, ⟨S128x128, T8⟩, ⟨S128x128, T9⟩] : List ((s : Shape) × FVec Ideal s .f32)).map (·.1)) S1280x128 0)
    (r : Fin 1280) (o : Fin 128) (y : EReal)
    (h0 : ∀ (ρ : ℕ) (hρ : ρ < 128), r.val = 0 + ρ → T0 (ix2 (⟨ρ, hρ⟩ : Fin 128) o) = y)
    (h1 : ∀ (ρ : ℕ) (hρ : ρ < 128), r.val = 128 + ρ → T1 (ix2 (⟨ρ, hρ⟩ : Fin 128) o) = y)
    (h2 : ∀ (ρ : ℕ) (hρ : ρ < 128), r.val = 256 + ρ → T2 (ix2 (⟨ρ, hρ⟩ : Fin 128) o) = y)
    (h3 : ∀ (ρ : ℕ) (hρ : ρ < 128), r.val = 384 + ρ → T3 (ix2 (⟨ρ, hρ⟩ : Fin 128) o) = y)
    (h4 : ∀ (ρ : ℕ) (hρ : ρ < 128), r.val = 512 + ρ → T4 (ix2 (⟨ρ, hρ⟩ : Fin 128) o) = y)
    (h5 : ∀ (ρ : ℕ) (hρ : ρ < 128), r.val = 640 + ρ → T5 (ix2 (⟨ρ, hρ⟩ : Fin 128) o) = y)
    (h6 : ∀ (ρ : ℕ) (hρ : ρ < 128), r.val = 768 + ρ → T6 (ix2 (⟨ρ, hρ⟩ : Fin 128) o) = y)
    (h7 : ∀ (ρ : ℕ) (hρ : ρ < 128), r.val = 896 + ρ → T7 (ix2 (⟨ρ, hρ⟩ : Fin 128) o) = y)
    (h8 : ∀ (ρ : ℕ) (hρ : ρ < 128), r.val = 1024 + ρ → T8 (ix2 (⟨ρ, hρ⟩ : Fin 128) o) = y)
    (h9 : ∀ (ρ : ℕ) (hρ : ρ < 128), r.val = 1152 + ρ → T9 (ix2 (⟨ρ, hρ⟩ : Fin 128) o) = y) :
    concatenate S1280x128 0 [⟨S128x128, T0⟩, ⟨S128x128, T1⟩, ⟨S128x128, T2⟩, ⟨S128x128, T3⟩, ⟨S128x128, T4⟩, ⟨S128x128, T5⟩, ⟨S128x128, T6⟩, ⟨S128x128, T7⟩, ⟨S128x128, T8⟩, ⟨S128x128, T9⟩] h (ix2 r o) = y := by
  pointwise
  split
  · exact h0 _ _ (by omega)
  split
  · exact h1 _ _ (by omega)
  split
  · exact h2 _ _ (by omega)
  split
  · exact h3 _ _ (by omega)
  split
  · exact h4 _ _ (by omega)
  split
  · exact h5 _ _ (by omega)
  split
  · exact h6 _ _ (by omega)
  split
  · exact h7 _ _ (by omega)
  split
  · exact h8 _ _ (by omega)
  exact h9 _ _ (by omega)

section
variable (I Q : FVec Ideal S1280x128 .bf16) (U : FVec Ideal S1280x128 .f32) (r : Fin 1280) (i : ℕ) (hi : i < 16) (q : EReal)
  (hI : ∀ k, I (ix2 r k) = ((i : ℝ) : EReal)) (hQ : ∀ k, Q (ix2 r k) = q) (o : Fin 128)
include hi hI hQ

set_option maxHeartbeats 1000000 in
/-- The first block: a row's own term plus the masked sum over its bucket. -/
theorem pay45_apply (t : FVec Ideal S1280x128 .bf16) (wa wb : FVec Ideal S128x128 .bf16) (b : FVec Ideal S1x128 .f32)
    (wc : FVec Ideal S128x256 .bf16) (x : FVec Ideal S1280x128 .f32) :
    k0_pay45 I Q k0_pay22 k0_pay23 U (k0_pay33 t wa wb b wc x) (k0_pay34 t I Q k0_pay22 k0_pay23 wa wb b wc x)
        (k0_pay38 k0_pay23 (k0_pay35 t wa wb b wc x) (k0_pay36 Q) (k0_pay37 I k0_pay22))
        (k0_pay39 I Q k0_pay22 k0_pay23 (k0_pay33 t wa wb b wc x)) (k0_pay40 I Q k0_pay22 k0_pay23 (k0_pay33 t wa wb b wc x))
        (k0_pay41 I Q k0_pay22 k0_pay23 (k0_pay33 t wa wb b wc x)) (k0_pay42 I Q k0_pay22 k0_pay23 (k0_pay33 t wa wb b wc x))
        (k0_pay43 (k0_pay33 t wa wb b wc x)) (k0_pay44 I Q k0_pay22 k0_pay23) (constant (F := Ideal) S128x128 .f32 0x00000000#32) (ix2 r o)
      = U (ix2 r o) + ∑ j : Fin 16, (if j.val ≤ i then q else 0)
          * k0_pay33 t wa wb b wc x (ix2 (⟨16 * (r.val / 16) + j.val, by omega⟩ : Fin 1280) o) := by
  unfold k0_pay45
  refine congrArg (U (ix2 r o) + ·) (groups_eq _ _ _ _ _ _ _ _ _ _ _ r o _ ?_ ?_ ?_ ?_ ?_ ?_ ?_ ?_ ?_ ?_)
  · intro ρ hρ hr
    unfold k0_pay34
    generalize k0_pay33 t wa wb b wc x = D
    have e := group_sum 0 ρ hρ (by decide) r hr (by decide) I Q D i hi q hI hQ o
    simp only [zero_add] at e hr
    refine Eq.trans ?_ e
    pointwise
  · intro ρ hρ hr
    unfold k0_pay38 k0_pay35
    generalize k0_pay33 t wa wb b wc x = D
    have e := group_sum 128 ρ hρ (by decide) r hr (by decide) I Q D i hi q hI hQ o
    refine Eq.trans ?_ e
    pointwise [k0_pay38, k0_pay36, k0_pay37]
  · intro ρ hρ hr
    generalize k0_pay33 t wa wb b wc x = D
    have e := group_sum 256 ρ hρ (by decide) r hr (by decide) I Q D i hi q hI hQ o
    refine Eq.trans ?_ e
    pointwise [k0_pay39]
  · intro ρ hρ hr
    generalize k0_pay33 t wa wb b wc x = D
    have e := group_sum 384 ρ hρ (by decide) r hr (by decide) I Q D i hi q hI hQ o
    refine Eq.trans ?_ e
    pointwise [k0_pay40]
  · intro ρ hρ hr
    generalize k0_pay33 t wa wb b wc x = D
    have e := group_sum 512 ρ hρ (by decide) r hr (by decide) I Q D i hi q hI hQ o
    refine Eq.trans ?_ e
    pointwise [k0_pay41]
  · intro ρ hρ hr
    generalize k0_pay33 t wa wb b wc x = D
    have e := group_sum 640 ρ hρ (by decide) r hr (by decide) I Q D i hi q hI hQ o
    refine Eq.trans ?_ e
    pointwise [k0_pay42]
  · intro ρ hρ hr
    generalize k0_pay33 t wa wb b wc x = D
    have e := group_sum 768 ρ hρ (by decide) r hr (by decide) I Q D i hi q hI hQ o
    refine Eq.trans ?_ e
    pointwise [k0_pay43, k0_pay44]
  · intro ρ hρ hr
    generalize k0_pay33 t wa wb b wc x = D
    have e := group_sum 896 ρ hρ (by decide) r hr (by decide) I Q D i hi q hI hQ o
    refine Eq.trans ?_ e
    pointwise
  · intro ρ hρ hr
    generalize k0_pay33 t wa wb b wc x = D
    have e := group_sum 1024 ρ hρ (by decide) r hr (by decide) I Q D i hi q hI hQ o
    refine Eq.trans ?_ e
    pointwise
  · intro ρ hρ hr
    generalize k0_pay33 t wa wb b wc x = D
    have e := group_sum 1152 ρ hρ (by decide) r hr (by decide) I Q D i hi q hI hQ o
    refine Eq.trans ?_ e
    pointwise

set_option maxHeartbeats 1000000 in
/-- The second block, likewise. -/
theorem pay1_apply (g : FVec Ideal S1280x256 .f32) :
    k0_pay1 I Q k0_pay22 k0_pay23 U (k0_pay47 g) (k0_pay48 I Q k0_pay22 k0_pay23 g)
        (k0_pay52 k0_pay23 (k0_pay49 g) (k0_pay50 Q) (k0_pay51 I k0_pay22))
        (k0_pay53 I Q k0_pay22 k0_pay23 (k0_pay47 g)) (k0_pay54 I Q k0_pay22 k0_pay23 (k0_pay47 g))
        (k0_pay55 I Q k0_pay22 k0_pay23 (k0_pay47 g)) (k0_pay56 I Q k0_pay22 k0_pay23 (k0_pay47 g))
        (k0_pay57 (k0_pay47 g)) (k0_pay58 I Q k0_pay22 k0_pay23) (constant (F := Ideal) S128x128 .f32 0x00000000#32) (ix2 r o)
      = U (ix2 r o) + ∑ j : Fin 16, (if j.val ≤ i then q else 0)
          * k0_pay47 g (ix2 (⟨16 * (r.val / 16) + j.val, by omega⟩ : Fin 1280) o) := by
  unfold k0_pay1
  refine congrArg (U (ix2 r o) + ·) (groups_eq _ _ _ _ _ _ _ _ _ _ _ r o _ ?_ ?_ ?_ ?_ ?_ ?_ ?_ ?_ ?_ ?_)
  · intro ρ hρ hr
    unfold k0_pay48
    generalize k0_pay47 g = D
    have e := group_sum 0 ρ hρ (by decide) r hr (by decide) I Q D i hi q hI hQ o
    simp only [zero_add] at e hr
    refine Eq.trans ?_ e
    pointwise
  · intro ρ hρ hr
    unfold k0_pay52 k0_pay49
    generalize k0_pay47 g = D
    have e := group_sum 128 ρ hρ (by decide) r hr (by decide) I Q D i hi q hI hQ o
    refine Eq.trans ?_ e
    pointwise [k0_pay52, k0_pay50, k0_pay51]
  · intro ρ hρ hr
    generalize k0_pay47 g = D
    have e := group_sum 256 ρ hρ (by decide) r hr (by decide) I Q D i hi q hI hQ o
    refine Eq.trans ?_ e
    pointwise [k0_pay53]
  · intro ρ hρ hr
    generalize k0_pay47 g = D
    have e := group_sum 384 ρ hρ (by decide) r hr (by decide) I Q D i hi q hI hQ o
    refine Eq.trans ?_ e
    pointwise [k0_pay54]
  · intro ρ hρ hr
    generalize k0_pay47 g = D
    have e := group_sum 512 ρ hρ (by decide) r hr (by decide) I Q D i hi q hI hQ o
    refine Eq.trans ?_ e
    pointwise [k0_pay55]
  · intro ρ hρ hr
    generalize k0_pay47 g = D
    have e := group_sum 640 ρ hρ (by decide) r hr (by decide) I Q D i hi q hI hQ o
    refine Eq.trans ?_ e
    pointwise [k0_pay56]
  · intro ρ hρ hr
    generalize k0_pay47 g = D
    have e := group_sum 768 ρ hρ (by decide) r hr (by decide) I Q D i hi q hI hQ o
    refine Eq.trans ?_ e
    pointwise [k0_pay57, k0_pay58]
  · intro ρ hρ hr
    generalize k0_pay47 g = D
    have e := group_sum 896 ρ hρ (by decide) r hr (by decide) I Q D i hi q hI hQ o
    refine Eq.trans ?_ e
    pointwise
  · intro ρ hρ hr
    generalize k0_pay47 g = D
    have e := group_sum 1024 ρ hρ (by decide) r hr (by decide) I Q D i hi q hI hQ o
    refine Eq.trans ?_ e
    pointwise
  · intro ρ hρ hr
    generalize k0_pay47 g = D
    have e := group_sum 1152 ρ hρ (by decide) r hr (by decide) I Q D i hi q hI hQ o
    refine Eq.trans ?_ e
    pointwise

end

end Cert.Conv

end
-- ==== Proof.BlockResult.lean ====
/- The two stored blocks as functions of the blocks loaded. -/
module

public import proofs.«01_k».proof.Proof.BlockOut

@[expose] public section

set_option maxRecDepth 16384

noncomputable section

namespace Cert.Conv

open Idealize.ShloMosaic Idealize.ShloMosaic.Pointwise
open Cert.KernelIdeal Cert.KernelIdeal.Gen
open scoped BigOperators

theorem zero_off : (![0, 0] : Fin 2 → Nat) = fun _ => 0 := funext fun a => by fin_cases a <;> rfl

theorem word_real {w : BitVec 32} (h : w.toNat < 16) : ((w.toInt : ℝ) : EReal) = ((w.toNat : ℝ) : EReal) := by
  rw [word_toInt h]; norm_cast

/-- A row's own term plus the scaled, masked sum over its bucket. -/
def bout (x y : FVec Ideal S1280x128 .f32) (ts : FVec Ideal S80x16 .f32) (idx : IVec S80x16 32) (bf ph : FVec Ideal S1x128 .f32)
    (w1 : FVec Ideal S256x128 .f32) (b1 : FVec Ideal S1x128 .f32) (wc : FVec Ideal S128x256 .f32) (bo : FVec Ideal S1x128 .f32)
    (r : Fin 1280) (o : Fin 128) : EReal :=
  ((∑ d, brow x ts bf ph w1 b1 r d * wc (ix2 d (⟨o.val, by omega⟩ : Fin 256))) + bo (ix2 (0 : Fin 1) o))
    + ∑ j : Fin 16, (if j.val ≤ (idx (ix2 (bucket r) (place r))).toNat
          then Ideal.div 1 ((((pointed idx (bucket r) (place r)).toInt : ℝ) : EReal) + 1) else 0)
        * ∑ d, brow y ts bf ph w1 b1 (⟨16 * (r.val / 16) + j.val, by omega⟩ : Fin 1280) d * wc (ix2 d (⟨128 + o.val, by omega⟩ : Fin 256))

section
variable (x0 x1 : FVec Ideal S1280x128 .f32) (x2 : FVec Ideal S80x16 .f32) (x3 x4 : IVec S80x16 32) (x5 : FVec Ideal S1280x80 .f32)
  (x6 : FVec Ideal S1280x80 .bf16) (x7 x8 : FVec Ideal S1x128 .f32) (x9 : FVec Ideal S256x128 .f32) (x10 : FVec Ideal S1x128 .f32)
  (x11 : FVec Ideal S128x256 .f32) (x12 : FVec Ideal S1x128 .f32) (h5 : Selects x5) (h6 : Selects x6) (r : Fin 1280) (o : Fin 128)
include h5 h6

set_option maxHeartbeats 1000000 in
theorem out13_apply (h3 : ∀ b q, (x3 (ix2 b q)).toNat < 16) :
    out0_13 (F := Ideal) x0 x1 x2 x3 x4 x5 x6 x7 x8 x9 x10 x11 x12 (ix2 r o) = bout x0 x1 x2 x3 x7 x8 x9 x10 x11 x12 r o := by
  unfold_out out0_13
  rw [View.canon_unit_zero zero_off]
  simp only [View.ld_unit_zero (S := S1280x128) zero_off, View.ld_unit_zero (S := S80x16) zero_off, View.ld_unit_zero (S := S1280x80) zero_off,
    View.ld_unit_zero (S := S1x128) zero_off, View.ld_unit_zero (S := S256x128) zero_off, View.ld_unit_zero (S := S128x256) zero_off]
  rw [pay45_apply _ _ _ r (x3 (ix2 (bucket r) (place r))).toNat (h3 _ _) (Ideal.div 1 ((((pointed x3 (bucket r) (place r)).toInt : ℝ) : EReal) + 1))
    (fun k => (pay11_apply x6 h6 _ r k).trans ?_) (fun k => (pay12_apply x6 h6 _ r k).trans ?_) o]
  · unfold bout
    refine congrArg₂ (· + ·) ?_ (Finset.sum_congr rfl fun j _ => congrArg (HMul.hMul _) ?_)
    · rw [← pay30_apply x5 h5]
      pointwise [k0_pay32, k0_pay29]
    · rw [← pay31_apply x5 h5]
      pointwise [k0_pay33]
  · pointwise [k0_pay6]
    exact word_real (h3 _ _)
  · rw [pay9_apply x3 _ _ (h3 _ _)]

set_option maxHeartbeats 1000000 in
theorem out14_apply (h4 : ∀ b q, (x4 (ix2 b q)).toNat < 16) :
    out0_14 (F := Ideal) x0 x1 x2 x3 x4 x5 x6 x7 x8 x9 x10 x11 x12 (ix2 r o) = bout x1 x0 x2 x4 x7 x8 x9 x10 x11 x12 r o := by
  unfold_out out0_14
  rw [View.canon_unit_zero zero_off]
  simp only [View.ld_unit_zero (S := S1280x128) zero_off, View.ld_unit_zero (S := S80x16) zero_off, View.ld_unit_zero (S := S1280x80) zero_off,
    View.ld_unit_zero (S := S1x128) zero_off, View.ld_unit_zero (S := S256x128) zero_off, View.ld_unit_zero (S := S128x256) zero_off]
  rw [pay1_apply _ _ _ r (x4 (ix2 (bucket r) (place r))).toNat (h4 _ _) (Ideal.div 1 ((((pointed x4 (bucket r) (place r)).toInt : ℝ) : EReal) + 1))
    (fun k => (pay19_apply x6 h6 _ r k).trans ?_) (fun k => pay20_apply x6 h6 x4 h4 r k) o]
  · unfold bout
    refine congrArg₂ (· + ·) ?_ (Finset.sum_congr rfl fun j _ => congrArg (HMul.hMul _) ?_)
    · rw [← pay31_apply x5 h5]
      pointwise [k0_pay46, k0_pay29]
    · rw [← pay30_apply x5 h5]
      pointwise [k0_pay47]
  · pointwise [k0_pay13]
    exact word_real (h4 _ _)

end

end Cert.Conv

end
-- ==== Proof.TableDigits.lean ====
/- A printed table is a tree of matches on the digits of the entry's number. A match whose arms are the values of one function,
   in order, is that function; and the values this certificate's two tables hold. -/
module

public import proofs.«01_k».proof.KernelIdeal

@[expose] public section

noncomputable section

namespace Cert.Conv

open Idealize.ShloMosaic
open Cert.KernelIdeal

set_option maxRecDepth 100000 in
/-- A match on a digit with 128 arms. -/
theorem digits128 {α : Type} (c : Nat → α) (d : α) (n : Nat) : n < 128 →
    (match n with
      | 0 => c 0
      | 1 => c 1
      | 2 => c 2
      | 3 => c 3
      | 4 => c 4
      | 5 => c 5
      | 6 => c 6
      | 7 => c 7
      | 8 => c 8
      | 9 => c 9
      | 10 => c 10
      | 11 => c 11
      | 12 => c 12
      | 13 => c 13
      | 14 => c 14
      | 15 => c 15
      | 16 => c 16
      | 17 => c 17
      | 18 => c 18
      | 19 => c 19
      | 20 => c 20
      | 21 => c 21
      | 22 => c 22
      | 23 => c 23
      | 24 => c 24
      | 25 => c 25
      | 26 => c 26
      | 27 => c 27
      | 28 => c 28
      | 29 => c 29
      | 30 => c 30
      | 31 => c 31
      | 32 => c 32
      | 33 => c 33
      | 34 => c 34
      | 35 => c 35
      | 36 => c 36
      | 37 => c 37
      | 38 => c 38
      | 39 => c 39
      | 40 => c 40
      | 41 => c 41
      | 42 => c 42
      | 43 => c 43
      | 44 => c 44
      | 45 => c 45
      | 46 => c 46
      | 47 => c 47
      | 48 => c 48
      | 49 => c 49
      | 50 => c 50
      | 51 => c 51
      | 52 => c 52
      | 53 => c 53
      | 54 => c 54
      | 55 => c 55
      | 56 => c 56
      | 57 => c 57
      | 58 => c 58
      | 59 => c 59
      | 60 => c 60
      | 61 => c 61
      | 62 => c 62
      | 63 => c 63
      | 64 => c 64
      | 65 => c 65
      | 66 => c 66
      | 67 => c 67
      | 68 => c 68
      | 69 => c 69
      | 70 => c 70
      | 71 => c 71
      | 72 => c 72
      | 73 => c 73
      | 74 => c 74
      | 75 => c 75
      | 76 => c 76
      | 77 => c 77
      | 78 => c 78
      | 79 => c 79
      | 80 => c 80
      | 81 => c 81
      | 82 => c 82
      | 83 => c 83
      | 84 => c 84
      | 85 => c 85
      | 86 => c 86
      | 87 => c 87
      | 88 => c 88
      | 89 => c 89
      | 90 => c 90
      | 91 => c 91
      | 92 => c 92
      | 93 => c 93
      | 94 => c 94
      | 95 => c 95
      | 96 => c 96
      | 97 => c 97
      | 98 => c 98
      | 99 => c 99
      | 100 => c 100
      | 101 => c 101
      | 102 => c 102
      | 103 => c 103
      | 104 => c 104
      | 105 => c 105
      | 106 => c 106
      | 107 => c 107
      | 108 => c 108
      | 109 => c 109
      | 110 => c 110
      | 111 => c 111
      | 112 => c 112
      | 113 => c 113
      | 114 => c 114
      | 115 => c 115
      | 116 => c 116
      | 117 => c 117
      | 118 => c 118
      | 119 => c 119
      | 120 => c 120
      | 121 => c 121
      | 122 => c 122
      | 123 => c 123
      | 124 => c 124
      | 125 => c 125
      | 126 => c 126
      | 127 => c 127
      | _ => d) = c n := fun hn =>
  match n, hn with
  | 0, _ => rfl
  | 1, _ => rfl
  | 2, _ => rfl
  | 3, _ => rfl
  | 4, _ => rfl
  | 5, _ => rfl
  | 6, _ => rfl
  | 7, _ => rfl
  | 8, _ => rfl
  | 9, _ => rfl
  | 10, _ => rfl
  | 11, _ => rfl
  | 12, _ => rfl
  | 13, _ => rfl
  | 14, _ => rfl
  | 15, _ => rfl
  | 16, _ => rfl
  | 17, _ => rfl
  | 18, _ => rfl
  | 19, _ => rfl
  | 20, _ => rfl
  | 21, _ => rfl
  | 22, _ => rfl
  | 23, _ => rfl
  | 24, _ => rfl
  | 25, _ => rfl
  | 26, _ => rfl
  | 27, _ => rfl
  | 28, _ => rfl
  | 29, _ => rfl
  | 30, _ => rfl
  | 31, _ => rfl
  | 32, _ => rfl
  | 33, _ => rfl
  | 34, _ => rfl
  | 35, _ => rfl
  | 36, _ => rfl
  | 37, _ => rfl
  | 38, _ => rfl
  | 39, _ => rfl
  | 40, _ => rfl
  | 41, _ => rfl
  | 42, _ => rfl
  | 43, _ => rfl
  | 44, _ => rfl
  | 45, _ => rfl
  | 46, _ => rfl
  | 47, _ => rfl
  | 48, _ => rfl
  | 49, _ => rfl
  | 50, _ => rfl
  | 51, _ => rfl
  | 52, _ => rfl
  | 53, _ => rfl
  | 54, _ => rfl
  | 55, _ => rfl
  | 56, _ => rfl
  | 57, _ => rfl
  | 58, _ => rfl
  | 59, _ => rfl
  | 60, _ => rfl
  | 61, _ => rfl
  | 62, _ => rfl
  | 63, _ => rfl
  | 64, _ => rfl
  | 65, _ => rfl
  | 66, _ => rfl
  | 67, _ => rfl
  | 68, _ => rfl
  | 69, _ => rfl
  | 70, _ => rfl
  | 71, _ => rfl
  | 72, _ => rfl
  | 73, _ => rfl
  | 74, _ => rfl
  | 75, _ => rfl
  | 76, _ => rfl
  | 77, _ => rfl
  | 78, _ => rfl
  | 79, _ => rfl
  | 80, _ => rfl
  | 81, _ => rfl
  | 82, _ => rfl
  | 83, _ => rfl
  | 84, _ => rfl
  | 85, _ => rfl
  | 86, _ => rfl
  | 87, _ => rfl
  | 88, _ => rfl
  | 89, _ => rfl
  | 90, _ => rfl
  | 91, _ => rfl
  | 92, _ => rfl
  | 93, _ => rfl
  | 94, _ => rfl
  | 95, _ => rfl
  | 96, _ => rfl
  | 97, _ => rfl
  | 98, _ => rfl
  | 99, _ => rfl
  | 100, _ => rfl
  | 101, _ => rfl
  | 102, _ => rfl
  | 103, _ => rfl
  | 104, _ => rfl
  | 105, _ => rfl
  | 106, _ => rfl
  | 107, _ => rfl
  | 108, _ => rfl
  | 109, _ => rfl
  | 110, _ => rfl
  | 111, _ => rfl
  | 112, _ => rfl
  | 113, _ => rfl
  | 114, _ => rfl
  | 115, _ => rfl
  | 116, _ => rfl
  | 117, _ => rfl
  | 118, _ => rfl
  | 119, _ => rfl
  | 120, _ => rfl
  | 121, _ => rfl
  | 122, _ => rfl
  | 123, _ => rfl
  | 124, _ => rfl
  | 125, _ => rfl
  | 126, _ => rfl
  | 127, _ => rfl
  | _ + 128, hn => absurd hn (by omega)

set_option maxRecDepth 100000 in
/-- A match on a digit with 32 arms. -/
theorem digits32 {α : Type} (c : Nat → α) (d : α) (n : Nat) : n < 32 →
    (match n with
      | 0 => c 0
      | 1 => c 1
      | 2 => c 2
      | 3 => c 3
      | 4 => c 4
      | 5 => c 5
      | 6 => c 6
      | 7 => c 7
      | 8 => c 8
      | 9 => c 9
      | 10 => c 10
      | 11 => c 11
      | 12 => c 12
      | 13 => c 13
      | 14 => c 14
      | 15 => c 15
      | 16 => c 16
      | 17 => c 17
      | 18 => c 18
      | 19 => c 19
      | 20 => c 20
      | 21 => c 21
      | 22 => c 22
      | 23 => c 23
      | 24 => c 24
      | 25 => c 25
      | 26 => c 26
      | 27 => c 27
      | 28 => c 28
      | 29 => c 29
      | 30 => c 30
      | 31 => c 31
      | _ => d) = c n := fun hn =>
  match n, hn with
  | 0, _ => rfl
  | 1, _ => rfl
  | 2, _ => rfl
  | 3, _ => rfl
  | 4, _ => rfl
  | 5, _ => rfl
  | 6, _ => rfl
  | 7, _ => rfl
  | 8, _ => rfl
  | 9, _ => rfl
  | 10, _ => rfl
  | 11, _ => rfl
  | 12, _ => rfl
  | 13, _ => rfl
  | 14, _ => rfl
  | 15, _ => rfl
  | 16, _ => rfl
  | 17, _ => rfl
  | 18, _ => rfl
  | 19, _ => rfl
  | 20, _ => rfl
  | 21, _ => rfl
  | 22, _ => rfl
  | 23, _ => rfl
  | 24, _ => rfl
  | 25, _ => rfl
  | 26, _ => rfl
  | 27, _ => rfl
  | 28, _ => rfl
  | 29, _ => rfl
  | 30, _ => rfl
  | 31, _ => rfl
  | _ + 32, hn => absurd hn (by omega)

/-- The single-precision selector's entry: one where the row's bucket is the column. -/
def sel32 (e : Nat) : BitVec 32 := cond (Nat.beq (e / 1280) (e % 80)) 0x3F800000#32 0x00000000#32

/-- The half-width selector's entry. -/
def sel16 (e : Nat) : BitVec 16 := cond (Nat.beq (e / 1280) (e % 80)) 0x3F80#16 0x0000#16

end Cert.Conv

end
-- ==== Proof.Table0A.lean ====
/- The leaves of the table `lit0`, entries 0 to 25599. -/
module

public import proofs.«01_k».proof.Proof.TableDigits

@[expose] public section

noncomputable section

namespace Cert.Conv

open Idealize.ShloMosaic
open Cert.KernelIdeal

set_option maxRecDepth 100000

theorem lit0_0 (i : Nat) : lit0t0_0 i = sel32 (128 * 0 + i % 128) :=
  digits128 (fun m => sel32 (128 * 0 + m)) _ (i % 128) (Nat.mod_lt _ (by decide))
theorem lit0_1 (i : Nat) : lit0t0_1 i = sel32 (128 * 1 + i % 128) :=
  digits128 (fun m => sel32 (128 * 1 + m)) _ (i % 128) (Nat.mod_lt _ (by decide))
theorem lit0_2 (i : Nat) : lit0t0_2 i = sel32 (128 * 2 + i % 128) :=
  digits128 (fun m => sel32 (128 * 2 + m)) _ (i % 128) (Nat.mod_lt _ (by decide))
theorem lit0_3 (i : Nat) : lit0t0_3 i = sel32 (128 * 3 + i % 128) :=
  digits128 (fun m => sel32 (128 * 3 + m)) _ (i % 128) (Nat.mod_lt _ (by decide))
theorem lit0_4 (i : Nat) : lit0t0_4 i = sel32 (128 * 4 + i % 128) :=
  digits128 (fun m => sel32 (128 * 4 + m)) _ (i % 128) (Nat.mod_lt _ (by decide))
theorem lit0_5 (i : Nat) : lit0t0_5 i = sel32 (128 * 5 + i % 128) :=
  digits128 (fun m => sel32 (128 * 5 + m)) _ (i % 128) (Nat.mod_lt _ (by decide))
theorem lit0_6 (i : Nat) : lit0t0_6 i = sel32 (128 * 6 + i % 128) :=
  digits128 (fun m => sel32 (128 * 6 + m)) _ (i % 128) (Nat.mod_lt _ (by decide))
theorem lit0_7 (i : Nat) : lit0t0_7 i = sel32 (128 * 7 + i % 128) :=
  digits128 (fun m => sel32 (128 * 7 + m)) _ (i % 128) (Nat.mod_lt _ (by decide))
theorem lit0_8 (i : Nat) : lit0t0_8 i = sel32 (128 * 8 + i % 128) :=
  digits128 (fun m => sel32 (128 * 8 + m)) _ (i % 128) (Nat.mod_lt _ (by decide))
theorem lit0_9 (i : Nat) : lit0t0_9 i = sel32 (128 * 9 + i % 128) :=
  digits128 (fun m => sel32 (128 * 9 + m)) _ (i % 128) (Nat.mod_lt _ (by decide))
theorem lit0_10 (i : Nat) : lit0t0_10 i = sel32 (128 * 10 + i % 128) :=
  digits128 (fun m => sel32 (128 * 10 + m)) _ (i % 128) (Nat.mod_lt _ (by decide))
theorem lit0_11 (i : Nat) : lit0t0_11 i = sel32 (128 * 11 + i % 128) :=
  digits128 (fun m => sel32 (128 * 11 + m)) _ (i % 128) (Nat.mod_lt _ (by decide))
theorem lit0_12 (i : Nat) : lit0t0_12 i = sel32 (128 * 12 + i % 128) :=
  digits128 (fun m => sel32 (128 * 12 + m)) _ (i % 128) (Nat.mod_lt _ (by decide))
theorem lit0_13 (i : Nat) : lit0t0_13 i = sel32 (128 * 13 + i % 128) :=
  digits128 (fun m => sel32 (128 * 13 + m)) _ (i % 128) (Nat.mod_lt _ (by decide))
theorem lit0_14 (i : Nat) : lit0t0_14 i = sel32 (128 * 14 + i % 128) :=
  digits128 (fun m => sel32 (128 * 14 + m)) _ (i % 128) (Nat.mod_lt _ (by decide))
theorem lit0_15 (i : Nat) : lit0t0_15 i = sel32 (128 * 15 + i % 128) :=
  digits128 (fun m => sel32 (128 * 15 + m)) _ (i % 128) (Nat.mod_lt _ (by decide))
theorem lit0_16 (i : Nat) : lit0t0_16 i = sel32 (128 * 16 + i % 128) :=
  digits128 (fun m => sel32 (128 * 16 + m)) _ (i % 128) (Nat.mod_lt _ (by decide))
theorem lit0_17 (i : Nat) : lit0t0_17 i = sel32 (128 * 17 + i % 128) :=
  digits128 (fun m => sel32 (128 * 17 + m)) _ (i % 128) (Nat.mod_lt _ (by decide))
theorem lit0_18 (i : Nat) : lit0t0_18 i = sel32 (128 * 18 + i % 128) :=
  digits128 (fun m => sel32 (128 * 18 + m)) _ (i % 128) (Nat.mod_lt _ (by decide))
theorem lit0_19 (i : Nat) : lit0t0_19 i = sel32 (128 * 19 + i % 128) :=
  digits128 (fun m => sel32 (128 * 19 + m)) _ (i % 128) (Nat.mod_lt _ (by decide))
theorem lit0_20 (i : Nat) : lit0t0_20 i = sel32 (128 * 20 + i % 128) :=
  digits128 (fun m => sel32 (128 * 20 + m)) _ (i % 128) (Nat.mod_lt _ (by decide))
theorem lit0_21 (i : Nat) : lit0t0_21 i = sel32 (128 * 21 + i % 128) :=
  digits128 (fun m => sel32 (128 * 21 + m)) _ (i % 128) (Nat.mod_lt _ (by decide))
theorem lit0_22 (i : Nat) : lit0t0_22 i = sel32 (128 * 22 + i % 128) :=
  digits128 (fun m => sel32 (128 * 22 + m)) _ (i % 128) (Nat.mod_lt _ (by decide))
theorem lit0_23 (i : Nat) : lit0t0_23 i = sel32 (128 * 23 + i % 128) :=
  digits128 (fun m => sel32 (128 * 23 + m)) _ (i % 128) (Nat.mod_lt _ (by decide))
theorem lit0_24 (i : Nat) : lit0t0_24 i = sel32 (128 * 24 + i % 128) :=
  digits128 (fun m => sel32 (128 * 24 + m)) _ (i % 128) (Nat.mod_lt _ (by decide))
theorem lit0_25 (i : Nat) : lit0t0_25 i = sel32 (128 * 25 + i % 128) :=
  digits128 (fun m => sel32 (128 * 25 + m)) _ (i % 128) (Nat.mod_lt _ (by decide))
theorem lit0_26 (i : Nat) : lit0t0_26 i = sel32 (128 * 26 + i % 128) :=
  digits128 (fun m => sel32 (128 * 26 + m)) _ (i % 128) (Nat.mod_lt _ (by decide))
theorem lit0_27 (i : Nat) : lit0t0_27 i = sel32 (128 * 27 + i % 128) :=
  digits128 (fun m => sel32 (128 * 27 + m)) _ (i % 128) (Nat.mod_lt _ (by decide))
theorem lit0_28 (i : Nat) : lit0t0_28 i = sel32 (128 * 28 + i % 128) :=
  digits128 (fun m => sel32 (128 * 28 + m)) _ (i % 128) (Nat.mod_lt _ (by decide))
theorem lit0_29 (i : Nat) : lit0t0_29 i = sel32 (128 * 29 + i % 128) :=
  digits128 (fun m => sel32 (128 * 29 + m)) _ (i % 128) (Nat.mod_lt _ (by decide))
theorem lit0_30 (i : Nat) : lit0t0_30 i = sel32 (128 * 30 + i % 128) :=
  digits128 (fun m => sel32 (128 * 30 + m)) _ (i % 128) (Nat.mod_lt _ (by decide))
theorem lit0_31 (i : Nat) : lit0t0_31 i = sel32 (128 * 31 + i % 128) :=
  digits128 (fun m => sel32 (128 * 31 + m)) _ (i % 128) (Nat.mod_lt _ (by decide))
theorem lit0_32 (i : Nat) : lit0t0_32 i = sel32 (128 * 32 + i % 128) :=
  digits128 (fun m => sel32 (128 * 32 + m)) _ (i % 128) (Nat.mod_lt _ (by decide))
theorem lit0_33 (i : Nat) : lit0t0_33 i = sel32 (128 * 33 + i % 128) :=
  digits128 (fun m => sel32 (128 * 33 + m)) _ (i % 128) (Nat.mod_lt _ (by decide))
theorem lit0_34 (i : Nat) : lit0t0_34 i = sel32 (128 * 34 + i % 128) :=
  digits128 (fun m => sel32 (128 * 34 + m)) _ (i % 128) (Nat.mod_lt _ (by decide))
theorem lit0_35 (i : Nat) : lit0t0_35 i = sel32 (128 * 35 + i % 128) :=
  digits128 (fun m => sel32 (128 * 35 + m)) _ (i % 128) (Nat.mod_lt _ (by decide))
theorem lit0_36 (i : Nat) : lit0t0_36 i = sel32 (128 * 36 + i % 128) :=
  digits128 (fun m => sel32 (128 * 36 + m)) _ (i % 128) (Nat.mod_lt _ (by decide))
theorem lit0_37 (i : Nat) : lit0t0_37 i = sel32 (128 * 37 + i % 128) :=
  digits128 (fun m => sel32 (128 * 37 + m)) _ (i % 128) (Nat.mod_lt _ (by decide))
theorem lit0_38 (i : Nat) : lit0t0_38 i = sel32 (128 * 38 + i % 128) :=
  digits128 (fun m => sel32 (128 * 38 + m)) _ (i % 128) (Nat.mod_lt _ (by decide))
theorem lit0_39 (i : Nat) : lit0t0_39 i = sel32 (128 * 39 + i % 128) :=
  digits128 (fun m => sel32 (128 * 39 + m)) _ (i % 128) (Nat.mod_lt _ (by decide))
theorem lit0_40 (i : Nat) : lit0t0_40 i = sel32 (128 * 40 + i % 128) :=
  digits128 (fun m => sel32 (128 * 40 + m)) _ (i % 128) (Nat.mod_lt _ (by decide))
theorem lit0_41 (i : Nat) : lit0t0_41 i = sel32 (128 * 41 + i % 128) :=
  digits128 (fun m => sel32 (128 * 41 + m)) _ (i % 128) (Nat.mod_lt _ (by decide))
theorem lit0_42 (i : Nat) : lit0t0_42 i = sel32 (128 * 42 + i % 128) :=
  digits128 (fun m => sel32 (128 * 42 + m)) _ (i % 128) (Nat.mod_lt _ (by decide))
theorem lit0_43 (i : Nat) : lit0t0_43 i = sel32 (128 * 43 + i % 128) :=
  digits128 (fun m => sel32 (128 * 43 + m)) _ (i % 128) (Nat.mod_lt _ (by decide))
theorem lit0_44 (i : Nat) : lit0t0_44 i = sel32 (128 * 44 + i % 128) :=
  digits128 (fun m => sel32 (128 * 44 + m)) _ (i % 128) (Nat.mod_lt _ (by decide))
theorem lit0_45 (i : Nat) : lit0t0_45 i = sel32 (128 * 45 + i % 128) :=
  digits128 (fun m => sel32 (128 * 45 + m)) _ (i % 128) (Nat.mod_lt _ (by decide))
theorem lit0_46 (i : Nat) : lit0t0_46 i = sel32 (128 * 46 + i % 128) :=
  digits128 (fun m => sel32 (128 * 46 + m)) _ (i % 128) (Nat.mod_lt _ (by decide))
theorem lit0_47 (i : Nat) : lit0t0_47 i = sel32 (128 * 47 + i % 128) :=
  digits128 (fun m => sel32 (128 * 47 + m)) _ (i % 128) (Nat.mod_lt _ (by decide))
theorem lit0_48 (i : Nat) : lit0t0_48 i = sel32 (128 * 48 + i % 128) :=
  digits128 (fun m => sel32 (128 * 48 + m)) _ (i % 128) (Nat.mod_lt _ (by decide))
theorem lit0_49 (i : Nat) : lit0t0_49 i = sel32 (128 * 49 + i % 128) :=
  digits128 (fun m => sel32 (128 * 49 + m)) _ (i % 128) (Nat.mod_lt _ (by decide))
theorem lit0_50 (i : Nat) : lit0t0_50 i = sel32 (128 * 50 + i % 128) :=
  digits128 (fun m => sel32 (128 * 50 + m)) _ (i % 128) (Nat.mod_lt _ (by decide))
theorem lit0_51 (i : Nat) : lit0t0_51 i = sel32 (128 * 51 + i % 128) :=
  digits128 (fun m => sel32 (128 * 51 + m)) _ (i % 128) (Nat.mod_lt _ (by decide))
theorem lit0_52 (i : Nat) : lit0t0_52 i = sel32 (128 * 52 + i % 128) :=
  digits128 (fun m => sel32 (128 * 52 + m)) _ (i % 128) (Nat.mod_lt _ (by decide))
theorem lit0_53 (i : Nat) : lit0t0_53 i = sel32 (128 * 53 + i % 128) :=
  digits128 (fun m => sel32 (128 * 53 + m)) _ (i % 128) (Nat.mod_lt _ (by decide))
theorem lit0_54 (i : Nat) : lit0t0_54 i = sel32 (128 * 54 + i % 128) :=
  digits128 (fun m => sel32 (128 * 54 + m)) _ (i % 128) (Nat.mod_lt _ (by decide))
theorem lit0_55 (i : Nat) : lit0t0_55 i = sel32 (128 * 55 + i % 128) :=
  digits128 (fun m => sel32 (128 * 55 + m)) _ (i % 128) (Nat.mod_lt _ (by decide))
theorem lit0_56 (i : Nat) : lit0t0_56 i = sel32 (128 * 56 + i % 128) :=
  digits128 (fun m => sel32 (128 * 56 + m)) _ (i % 128) (Nat.mod_lt _ (by decide))
theorem lit0_57 (i : Nat) : lit0t0_57 i = sel32 (128 * 57 + i % 128) :=
  digits128 (fun m => sel32 (128 * 57 + m)) _ (i % 128) (Nat.mod_lt _ (by decide))
theorem lit0_58 (i : Nat) : lit0t0_58 i = sel32 (128 * 58 + i % 128) :=
  digits128 (fun m => sel32 (128 * 58 + m)) _ (i % 128) (Nat.mod_lt _ (by decide))
theorem lit0_59 (i : Nat) : lit0t0_59 i = sel32 (128 * 59 + i % 128) :=
  digits128 (fun m => sel32 (128 * 59 + m)) _ (i % 128) (Nat.mod_lt _ (by decide))
theorem lit0_60 (i : Nat) : lit0t0_60 i = sel32 (128 * 60 + i % 128) :=
  digits128 (fun m => sel32 (128 * 60 + m)) _ (i % 128) (Nat.mod_lt _ (by decide))
theorem lit0_61 (i : Nat) : lit0t0_61 i = sel32 (128 * 61 + i % 128) :=
  digits128 (fun m => sel32 (128 * 61 + m)) _ (i % 128) (Nat.mod_lt _ (by decide))
theorem lit0_62 (i : Nat) : lit0t0_62 i = sel32 (128 * 62 + i % 128) :=
  digits128 (fun m => sel32 (128 * 62 + m)) _ (i % 128) (Nat.mod_lt _ (by decide))
theorem lit0_63 (i : Nat) : lit0t0_63 i = sel32 (128 * 63 + i % 128) :=
  digits128 (fun m => sel32 (128 * 63 + m)) _ (i % 128) (Nat.mod_lt _ (by decide))
theorem lit0_64 (i : Nat) : lit0t0_64 i = sel32 (128 * 64 + i % 128) :=
  digits128 (fun m => sel32 (128 * 64 + m)) _ (i % 128) (Nat.mod_lt _ (by decide))
theorem lit0_65 (i : Nat) : lit0t0_65 i = sel32 (128 * 65 + i % 128) :=
  digits128 (fun m => sel32 (128 * 65 + m)) _ (i % 128) (Nat.mod_lt _ (by decide))
theorem lit0_66 (i : Nat) : lit0t0_66 i = sel32 (128 * 66 + i % 128) :=
  digits128 (fun m => sel32 (128 * 66 + m)) _ (i % 128) (Nat.mod_lt _ (by decide))
theorem lit0_67 (i : Nat) : lit0t0_67 i = sel32 (128 * 67 + i % 128) :=
  digits128 (fun m => sel32 (128 * 67 + m)) _ (i % 128) (Nat.mod_lt _ (by decide))
theorem lit0_68 (i : Nat) : lit0t0_68 i = sel32 (128 * 68 + i % 128) :=
  digits128 (fun m => sel32 (128 * 68 + m)) _ (i % 128) (Nat.mod_lt _ (by decide))
theorem lit0_69 (i : Nat) : lit0t0_69 i = sel32 (128 * 69 + i % 128) :=
  digits128 (fun m => sel32 (128 * 69 + m)) _ (i % 128) (Nat.mod_lt _ (by decide))
theorem lit0_70 (i : Nat) : lit0t0_70 i = sel32 (128 * 70 + i % 128) :=
  digits128 (fun m => sel32 (128 * 70 + m)) _ (i % 128) (Nat.mod_lt _ (by decide))
theorem lit0_71 (i : Nat) : lit0t0_71 i = sel32 (128 * 71 + i % 128) :=
  digits128 (fun m => sel32 (128 * 71 + m)) _ (i % 128) (Nat.mod_lt _ (by decide))
theorem lit0_72 (i : Nat) : lit0t0_72 i = sel32 (128 * 72 + i % 128) :=
  digits128 (fun m => sel32 (128 * 72 + m)) _ (i % 128) (Nat.mod_lt _ (by decide))
theorem lit0_73 (i : Nat) : lit0t0_73 i = sel32 (128 * 73 + i % 128) :=
  digits128 (fun m => sel32 (128 * 73 + m)) _ (i % 128) (Nat.mod_lt _ (by decide))
theorem lit0_74 (i : Nat) : lit0t0_74 i = sel32 (128 * 74 + i % 128) :=
  digits128 (fun m => sel32 (128 * 74 + m)) _ (i % 128) (Nat.mod_lt _ (by decide))
theorem lit0_75 (i : Nat) : lit0t0_75 i = sel32 (128 * 75 + i % 128) :=
  digits128 (fun m => sel32 (128 * 75 + m)) _ (i % 128) (Nat.mod_lt _ (by decide))
theorem lit0_76 (i : Nat) : lit0t0_76 i = sel32 (128 * 76 + i % 128) :=
  digits128 (fun m => sel32 (128 * 76 + m)) _ (i % 128) (Nat.mod_lt _ (by decide))
theorem lit0_77 (i : Nat) : lit0t0_77 i = sel32 (128 * 77 + i % 128) :=
  digits128 (fun m => sel32 (128 * 77 + m)) _ (i % 128) (Nat.mod_lt _ (by decide))
theorem lit0_78 (i : Nat) : lit0t0_78 i = sel32 (128 * 78 + i % 128) :=
  digits128 (fun m => sel32 (128 * 78 + m)) _ (i % 128) (Nat.mod_lt _ (by decide))
theorem lit0_79 (i : Nat) : lit0t0_79 i = sel32 (128 * 79 + i % 128) :=
  digits128 (fun m => sel32 (128 * 79 + m)) _ (i % 128) (Nat.mod_lt _ (by decide))
theorem lit0_80 (i : Nat) : lit0t0_80 i = sel32 (128 * 80 + i % 128) :=
  digits128 (fun m => sel32 (128 * 80 + m)) _ (i % 128) (Nat.mod_lt _ (by decide))
theorem lit0_81 (i : Nat) : lit0t0_81 i = sel32 (128 * 81 + i % 128) :=
  digits128 (fun m => sel32 (128 * 81 + m)) _ (i % 128) (Nat.mod_lt _ (by decide))
theorem lit0_82 (i : Nat) : lit0t0_82 i = sel32 (128 * 82 + i % 128) :=
  digits128 (fun m => sel32 (128 * 82 + m)) _ (i % 128) (Nat.mod_lt _ (by decide))
theorem lit0_83 (i : Nat) : lit0t0_83 i = sel32 (128 * 83 + i % 128) :=
  digits128 (fun m => sel32 (128 * 83 + m)) _ (i % 128) (Nat.mod_lt _ (by decide))
theorem lit0_84 (i : Nat) : lit0t0_84 i = sel32 (128 * 84 + i % 128) :=
  digits128 (fun m => sel32 (128 * 84 + m)) _ (i % 128) (Nat.mod_lt _ (by decide))
theorem lit0_85 (i : Nat) : lit0t0_85 i = sel32 (128 * 85 + i % 128) :=
  digits128 (fun m => sel32 (128 * 85 + m)) _ (i % 128) (Nat.mod_lt _ (by decide))
theorem lit0_86 (i : Nat) : lit0t0_86 i = sel32 (128 * 86 + i % 128) :=
  digits128 (fun m => sel32 (128 * 86 + m)) _ (i % 128) (Nat.mod_lt _ (by decide))
theorem lit0_87 (i : Nat) : lit0t0_87 i = sel32 (128 * 87 + i % 128) :=
  digits128 (fun m => sel32 (128 * 87 + m)) _ (i % 128) (Nat.mod_lt _ (by decide))
theorem lit0_88 (i : Nat) : lit0t0_88 i = sel32 (128 * 88 + i % 128) :=
  digits128 (fun m => sel32 (128 * 88 + m)) _ (i % 128) (Nat.mod_lt _ (by decide))
theorem lit0_89 (i : Nat) : lit0t0_89 i = sel32 (128 * 89 + i % 128) :=
  digits128 (fun m => sel32 (128 * 89 + m)) _ (i % 128) (Nat.mod_lt _ (by decide))
theorem lit0_90 (i : Nat) : lit0t0_90 i = sel32 (128 * 90 + i % 128) :=
  digits128 (fun m => sel32 (128 * 90 + m)) _ (i % 128) (Nat.mod_lt _ (by decide))
theorem lit0_91 (i : Nat) : lit0t0_91 i = sel32 (128 * 91 + i % 128) :=
  digits128 (fun m => sel32 (128 * 91 + m)) _ (i % 128) (Nat.mod_lt _ (by decide))
theorem lit0_92 (i : Nat) : lit0t0_92 i = sel32 (128 * 92 + i % 128) :=
  digits128 (fun m => sel32 (128 * 92 + m)) _ (i % 128) (Nat.mod_lt _ (by decide))
theorem lit0_93 (i : Nat) : lit0t0_93 i = sel32 (128 * 93 + i % 128) :=
  digits128 (fun m => sel32 (128 * 93 + m)) _ (i % 128) (Nat.mod_lt _ (by decide))
theorem lit0_94 (i : Nat) : lit0t0_94 i = sel32 (128 * 94 + i % 128) :=
  digits128 (fun m => sel32 (128 * 94 + m)) _ (i % 128) (Nat.mod_lt _ (by decide))
theorem lit0_95 (i : Nat) : lit0t0_95 i = sel32 (128 * 95 + i % 128) :=
  digits128 (fun m => sel32 (128 * 95 + m)) _ (i % 128) (Nat.mod_lt _ (by decide))
theorem lit0_96 (i : Nat) : lit0t0_96 i = sel32 (128 * 96 + i % 128) :=
  digits128 (fun m => sel32 (128 * 96 + m)) _ (i % 128) (Nat.mod_lt _ (by decide))
theorem lit0_97 (i : Nat) : lit0t0_97 i = sel32 (128 * 97 + i % 128) :=
  digits128 (fun m => sel32 (128 * 97 + m)) _ (i % 128) (Nat.mod_lt _ (by decide))
theorem lit0_98 (i : Nat) : lit0t0_98 i = sel32 (128 * 98 + i % 128) :=
  digits128 (fun m => sel32 (128 * 98 + m)) _ (i % 128) (Nat.mod_lt _ (by decide))
theorem lit0_99 (i : Nat) : lit0t0_99 i = sel32 (128 * 99 + i % 128) :=
  digits128 (fun m => sel32 (128 * 99 + m)) _ (i % 128) (Nat.mod_lt _ (by decide))
theorem lit0_100 (i : Nat) : lit0t0_100 i = sel32 (128 * 100 + i % 128) :=
  digits128 (fun m => sel32 (128 * 100 + m)) _ (i % 128) (Nat.mod_lt _ (by decide))
theorem lit0_101 (i : Nat) : lit0t0_101 i = sel32 (128 * 101 + i % 128) :=
  digits128 (fun m => sel32 (128 * 101 + m)) _ (i % 128) (Nat.mod_lt _ (by decide))
theorem lit0_102 (i : Nat) : lit0t0_102 i = sel32 (128 * 102 + i % 128) :=
  digits128 (fun m => sel32 (128 * 102 + m)) _ (i % 128) (Nat.mod_lt _ (by decide))
theorem lit0_103 (i : Nat) : lit0t0_103 i = sel32 (128 * 103 + i % 128) :=
  digits128 (fun m => sel32 (128 * 103 + m)) _ (i % 128) (Nat.mod_lt _ (by decide))
theorem lit0_104 (i : Nat) : lit0t0_104 i = sel32 (128 * 104 + i % 128) :=
  digits128 (fun m => sel32 (128 * 104 + m)) _ (i % 128) (Nat.mod_lt _ (by decide))
theorem lit0_105 (i : Nat) : lit0t0_105 i = sel32 (128 * 105 + i % 128) :=
  digits128 (fun m => sel32 (128 * 105 + m)) _ (i % 128) (Nat.mod_lt _ (by decide))
theorem lit0_106 (i : Nat) : lit0t0_106 i = sel32 (128 * 106 + i % 128) :=
  digits128 (fun m => sel32 (128 * 106 + m)) _ (i % 128) (Nat.mod_lt _ (by decide))
theorem lit0_107 (i : Nat) : lit0t0_107 i = sel32 (128 * 107 + i % 128) :=
  digits128 (fun m => sel32 (128 * 107 + m)) _ (i % 128) (Nat.mod_lt _ (by decide))
theorem lit0_108 (i : Nat) : lit0t0_108 i = sel32 (128 * 108 + i % 128) :=
  digits128 (fun m => sel32 (128 * 108 + m)) _ (i % 128) (Nat.mod_lt _ (by decide))
theorem lit0_109 (i : Nat) : lit0t0_109 i = sel32 (128 * 109 + i % 128) :=
  digits128 (fun m => sel32 (128 * 109 + m)) _ (i % 128) (Nat.mod_lt _ (by decide))
theorem lit0_110 (i : Nat) : lit0t0_110 i = sel32 (128 * 110 + i % 128) :=
  digits128 (fun m => sel32 (128 * 110 + m)) _ (i % 128) (Nat.mod_lt _ (by decide))
theorem lit0_111 (i : Nat) : lit0t0_111 i = sel32 (128 * 111 + i % 128) :=
  digits128 (fun m => sel32 (128 * 111 + m)) _ (i % 128) (Nat.mod_lt _ (by decide))
theorem lit0_112 (i : Nat) : lit0t0_112 i = sel32 (128 * 112 + i % 128) :=
  digits128 (fun m => sel32 (128 * 112 + m)) _ (i % 128) (Nat.mod_lt _ (by decide))
theorem lit0_113 (i : Nat) : lit0t0_113 i = sel32 (128 * 113 + i % 128) :=
  digits128 (fun m => sel32 (128 * 113 + m)) _ (i % 128) (Nat.mod_lt _ (by decide))
theorem lit0_114 (i : Nat) : lit0t0_114 i = sel32 (128 * 114 + i % 128) :=
  digits128 (fun m => sel32 (128 * 114 + m)) _ (i % 128) (Nat.mod_lt _ (by decide))
theorem lit0_115 (i : Nat) : lit0t0_115 i = sel32 (128 * 115 + i % 128) :=
  digits128 (fun m => sel32 (128 * 115 + m)) _ (i % 128) (Nat.mod_lt _ (by decide))
theorem lit0_116 (i : Nat) : lit0t0_116 i = sel32 (128 * 116 + i % 128) :=
  digits128 (fun m => sel32 (128 * 116 + m)) _ (i % 128) (Nat.mod_lt _ (by decide))
theorem lit0_117 (i : Nat) : lit0t0_117 i = sel32 (128 * 117 + i % 128) :=
  digits128 (fun m => sel32 (128 * 117 + m)) _ (i % 128) (Nat.mod_lt _ (by decide))
theorem lit0_118 (i : Nat) : lit0t0_118 i = sel32 (128 * 118 + i % 128) :=
  digits128 (fun m => sel32 (128 * 118 + m)) _ (i % 128) (Nat.mod_lt _ (by decide))
theorem lit0_119 (i : Nat) : lit0t0_119 i = sel32 (128 * 119 + i % 128) :=
  digits128 (fun m => sel32 (128 * 119 + m)) _ (i % 128) (Nat.mod_lt _ (by decide))
theorem lit0_120 (i : Nat) : lit0t0_120 i = sel32 (128 * 120 + i % 128) :=
  digits128 (fun m => sel32 (128 * 120 + m)) _ (i % 128) (Nat.mod_lt _ (by decide))
theorem lit0_121 (i : Nat) : lit0t0_121 i = sel32 (128 * 121 + i % 128) :=
  digits128 (fun m => sel32 (128 * 121 + m)) _ (i % 128) (Nat.mod_lt _ (by decide))
theorem lit0_122 (i : Nat) : lit0t0_122 i = sel32 (128 * 122 + i % 128) :=
  digits128 (fun m => sel32 (128 * 122 + m)) _ (i % 128) (Nat.mod_lt _ (by decide))
theorem lit0_123 (i : Nat) : lit0t0_123 i = sel32 (128 * 123 + i % 128) :=
  digits128 (fun m => sel32 (128 * 123 + m)) _ (i % 128) (Nat.mod_lt _ (by decide))
theorem lit0_124 (i : Nat) : lit0t0_124 i = sel32 (128 * 124 + i % 128) :=
  digits128 (fun m => sel32 (128 * 124 + m)) _ (i % 128) (Nat.mod_lt _ (by decide))
theorem lit0_125 (i : Nat) : lit0t0_125 i = sel32 (128 * 125 + i % 128) :=
  digits128 (fun m => sel32 (128 * 125 + m)) _ (i % 128) (Nat.mod_lt _ (by decide))
theorem lit0_126 (i : Nat) : lit0t0_126 i = sel32 (128 * 126 + i % 128) :=
  digits128 (fun m => sel32 (128 * 126 + m)) _ (i % 128) (Nat.mod_lt _ (by decide))
theorem lit0_127 (i : Nat) : lit0t0_127 i = sel32 (128 * 127 + i % 128) :=
  digits128 (fun m => sel32 (128 * 127 + m)) _ (i % 128) (Nat.mod_lt _ (by decide))
theorem lit0_128 (i : Nat) : lit0t0_128 i = sel32 (128 * 128 + i % 128) :=
  digits128 (fun m => sel32 (128 * 128 + m)) _ (i % 128) (Nat.mod_lt _ (by decide))
theorem lit0_129 (i : Nat) : lit0t0_129 i = sel32 (128 * 129 + i % 128) :=
  digits128 (fun m => sel32 (128 * 129 + m)) _ (i % 128) (Nat.mod_lt _ (by decide))
theorem lit0_130 (i : Nat) : lit0t0_130 i = sel32 (128 * 130 + i % 128) :=
  digits128 (fun m => sel32 (128 * 130 + m)) _ (i % 128) (Nat.mod_lt _ (by decide))
theorem lit0_131 (i : Nat) : lit0t0_131 i = sel32 (128 * 131 + i % 128) :=
  digits128 (fun m => sel32 (128 * 131 + m)) _ (i % 128) (Nat.mod_lt _ (by decide))
theorem lit0_132 (i : Nat) : lit0t0_132 i = sel32 (128 * 132 + i % 128) :=
  digits128 (fun m => sel32 (128 * 132 + m)) _ (i % 128) (Nat.mod_lt _ (by decide))
theorem lit0_133 (i : Nat) : lit0t0_133 i = sel32 (128 * 133 + i % 128) :=
  digits128 (fun m => sel32 (128 * 133 + m)) _ (i % 128) (Nat.mod_lt _ (by decide))
theorem lit0_134 (i : Nat) : lit0t0_134 i = sel32 (128 * 134 + i % 128) :=
  digits128 (fun m => sel32 (128 * 134 + m)) _ (i % 128) (Nat.mod_lt _ (by decide))
theorem lit0_135 (i : Nat) : lit0t0_135 i = sel32 (128 * 135 + i % 128) :=
  digits128 (fun m => sel32 (128 * 135 + m)) _ (i % 128) (Nat.mod_lt _ (by decide))
theorem lit0_136 (i : Nat) : lit0t0_136 i = sel32 (128 * 136 + i % 128) :=
  digits128 (fun m => sel32 (128 * 136 + m)) _ (i % 128) (Nat.mod_lt _ (by decide))
theorem lit0_137 (i : Nat) : lit0t0_137 i = sel32 (128 * 137 + i % 128) :=
  digits128 (fun m => sel32 (128 * 137 + m)) _ (i % 128) (Nat.mod_lt _ (by decide))
theorem lit0_138 (i : Nat) : lit0t0_138 i = sel32 (128 * 138 + i % 128) :=
  digits128 (fun m => sel32 (128 * 138 + m)) _ (i % 128) (Nat.mod_lt _ (by decide))
theorem lit0_139 (i : Nat) : lit0t0_139 i = sel32 (128 * 139 + i % 128) :=
  digits128 (fun m => sel32 (128 * 139 + m)) _ (i % 128) (Nat.mod_lt _ (by decide))
theorem lit0_140 (i : Nat) : lit0t0_140 i = sel32 (128 * 140 + i % 128) :=
  digits128 (fun m => sel32 (128 * 140 + m)) _ (i % 128) (Nat.mod_lt _ (by decide))
theorem lit0_141 (i : Nat) : lit0t0_141 i = sel32 (128 * 141 + i % 128) :=
  digits128 (fun m => sel32 (128 * 141 + m)) _ (i % 128) (Nat.mod_lt _ (by decide))
theorem lit0_142 (i : Nat) : lit0t0_142 i = sel32 (128 * 142 + i % 128) :=
  digits128 (fun m => sel32 (128 * 142 + m)) _ (i % 128) (Nat.mod_lt _ (by decide))
theorem lit0_143 (i : Nat) : lit0t0_143 i = sel32 (128 * 143 + i % 128) :=
  digits128 (fun m => sel32 (128 * 143 + m)) _ (i % 128) (Nat.mod_lt _ (by decide))
theorem lit0_144 (i : Nat) : lit0t0_144 i = sel32 (128 * 144 + i % 128) :=
  digits128 (fun m => sel32 (128 * 144 + m)) _ (i % 128) (Nat.mod_lt _ (by decide))
theorem lit0_145 (i : Nat) : lit0t0_145 i = sel32 (128 * 145 + i % 128) :=
  digits128 (fun m => sel32 (128 * 145 + m)) _ (i % 128) (Nat.mod_lt _ (by decide))
theorem lit0_146 (i : Nat) : lit0t0_146 i = sel32 (128 * 146 + i % 128) :=
  digits128 (fun m => sel32 (128 * 146 + m)) _ (i % 128) (Nat.mod_lt _ (by decide))
theorem lit0_147 (i : Nat) : lit0t0_147 i = sel32 (128 * 147 + i % 128) :=
  digits128 (fun m => sel32 (128 * 147 + m)) _ (i % 128) (Nat.mod_lt _ (by decide))
theorem lit0_148 (i : Nat) : lit0t0_148 i = sel32 (128 * 148 + i % 128) :=
  digits128 (fun m => sel32 (128 * 148 + m)) _ (i % 128) (Nat.mod_lt _ (by decide))
theorem lit0_149 (i : Nat) : lit0t0_149 i = sel32 (128 * 149 + i % 128) :=
  digits128 (fun m => sel32 (128 * 149 + m)) _ (i % 128) (Nat.mod_lt _ (by decide))
theorem lit0_150 (i : Nat) : lit0t0_150 i = sel32 (128 * 150 + i % 128) :=
  digits128 (fun m => sel32 (128 * 150 + m)) _ (i % 128) (Nat.mod_lt _ (by decide))
theorem lit0_151 (i : Nat) : lit0t0_151 i = sel32 (128 * 151 + i % 128) :=
  digits128 (fun m => sel32 (128 * 151 + m)) _ (i % 128) (Nat.mod_lt _ (by decide))
theorem lit0_152 (i : Nat) : lit0t0_152 i = sel32 (128 * 152 + i % 128) :=
  digits128 (fun m => sel32 (128 * 152 + m)) _ (i % 128) (Nat.mod_lt _ (by decide))
theorem lit0_153 (i : Nat) : lit0t0_153 i = sel32 (128 * 153 + i % 128) :=
  digits128 (fun m => sel32 (128 * 153 + m)) _ (i % 128) (Nat.mod_lt _ (by decide))
theorem lit0_154 (i : Nat) : lit0t0_154 i = sel32 (128 * 154 + i % 128) :=
  digits128 (fun m => sel32 (128 * 154 + m)) _ (i % 128) (Nat.mod_lt _ (by decide))
theorem lit0_155 (i : Nat) : lit0t0_155 i = sel32 (128 * 155 + i % 128) :=
  digits128 (fun m => sel32 (128 * 155 + m)) _ (i % 128) (Nat.mod_lt _ (by decide))
theorem lit0_156 (i : Nat) : lit0t0_156 i = sel32 (128 * 156 + i % 128) :=
  digits128 (fun m => sel32 (128 * 156 + m)) _ (i % 128) (Nat.mod_lt _ (by decide))
theorem lit0_157 (i : Nat) : lit0t0_157 i = sel32 (128 * 157 + i % 128) :=
  digits128 (fun m => sel32 (128 * 157 + m)) _ (i % 128) (Nat.mod_lt _ (by decide))
theorem lit0_158 (i : Nat) : lit0t0_158 i = sel32 (128 * 158 + i % 128) :=
  digits128 (fun m => sel32 (128 * 158 + m)) _ (i % 128) (Nat.mod_lt _ (by decide))
theorem lit0_159 (i : Nat) : lit0t0_159 i = sel32 (128 * 159 + i % 128) :=
  digits128 (fun m => sel32 (128 * 159 + m)) _ (i % 128) (Nat.mod_lt _ (by decide))
theorem lit0_160 (i : Nat) : lit0t0_160 i = sel32 (128 * 160 + i % 128) :=
  digits128 (fun m => sel32 (128 * 160 + m)) _ (i % 128) (Nat.mod_lt _ (by decide))
theorem lit0_161 (i : Nat) : lit0t0_161 i = sel32 (128 * 161 + i % 128) :=
  digits128 (fun m => sel32 (128 * 161 + m)) _ (i % 128) (Nat.mod_lt _ (by decide))
theorem lit0_162 (i : Nat) : lit0t0_162 i = sel32 (128 * 162 + i % 128) :=
  digits128 (fun m => sel32 (128 * 162 + m)) _ (i % 128) (Nat.mod_lt _ (by decide))
theorem lit0_163 (i : Nat) : lit0t0_163 i = sel32 (128 * 163 + i % 128) :=
  digits128 (fun m => sel32 (128 * 163 + m)) _ (i % 128) (Nat.mod_lt _ (by decide))
theorem lit0_164 (i : Nat) : lit0t0_164 i = sel32 (128 * 164 + i % 128) :=
  digits128 (fun m => sel32 (128 * 164 + m)) _ (i % 128) (Nat.mod_lt _ (by decide))
theorem lit0_165 (i : Nat) : lit0t0_165 i = sel32 (128 * 165 + i % 128) :=
  digits128 (fun m => sel32 (128 * 165 + m)) _ (i % 128) (Nat.mod_lt _ (by decide))
theorem lit0_166 (i : Nat) : lit0t0_166 i = sel32 (128 * 166 + i % 128) :=
  digits128 (fun m => sel32 (128 * 166 + m)) _ (i % 128) (Nat.mod_lt _ (by decide))
theorem lit0_167 (i : Nat) : lit0t0_167 i = sel32 (128 * 167 + i % 128) :=
  digits128 (fun m => sel32 (128 * 167 + m)) _ (i % 128) (Nat.mod_lt _ (by decide))
theorem lit0_168 (i : Nat) : lit0t0_168 i = sel32 (128 * 168 + i % 128) :=
  digits128 (fun m => sel32 (128 * 168 + m)) _ (i % 128) (Nat.mod_lt _ (by decide))
theorem lit0_169 (i : Nat) : lit0t0_169 i = sel32 (128 * 169 + i % 128) :=
  digits128 (fun m => sel32 (128 * 169 + m)) _ (i % 128) (Nat.mod_lt _ (by decide))
theorem lit0_170 (i : Nat) : lit0t0_170 i = sel32 (128 * 170 + i % 128) :=
  digits128 (fun m => sel32 (128 * 170 + m)) _ (i % 128) (Nat.mod_lt _ (by decide))
theorem lit0_171 (i : Nat) : lit0t0_171 i = sel32 (128 * 171 + i % 128) :=
  digits128 (fun m => sel32 (128 * 171 + m)) _ (i % 128) (Nat.mod_lt _ (by decide))
theorem lit0_172 (i : Nat) : lit0t0_172 i = sel32 (128 * 172 + i % 128) :=
  digits128 (fun m => sel32 (128 * 172 + m)) _ (i % 128) (Nat.mod_lt _ (by decide))
theorem lit0_173 (i : Nat) : lit0t0_173 i = sel32 (128 * 173 + i % 128) :=
  digits128 (fun m => sel32 (128 * 173 + m)) _ (i % 128) (Nat.mod_lt _ (by decide))
theorem lit0_174 (i : Nat) : lit0t0_174 i = sel32 (128 * 174 + i % 128) :=
  digits128 (fun m => sel32 (128 * 174 + m)) _ (i % 128) (Nat.mod_lt _ (by decide))
theorem lit0_175 (i : Nat) : lit0t0_175 i = sel32 (128 * 175 + i % 128) :=
  digits128 (fun m => sel32 (128 * 175 + m)) _ (i % 128) (Nat.mod_lt _ (by decide))
theorem lit0_176 (i : Nat) : lit0t0_176 i = sel32 (128 * 176 + i % 128) :=
  digits128 (fun m => sel32 (128 * 176 + m)) _ (i % 128) (Nat.mod_lt _ (by decide))
theorem lit0_177 (i : Nat) : lit0t0_177 i = sel32 (128 * 177 + i % 128) :=
  digits128 (fun m => sel32 (128 * 177 + m)) _ (i % 128) (Nat.mod_lt _ (by decide))
theorem lit0_178 (i : Nat) : lit0t0_178 i = sel32 (128 * 178 + i % 128) :=
  digits128 (fun m => sel32 (128 * 178 + m)) _ (i % 128) (Nat.mod_lt _ (by decide))
theorem lit0_179 (i : Nat) : lit0t0_179 i = sel32 (128 * 179 + i % 128) :=
  digits128 (fun m => sel32 (128 * 179 + m)) _ (i % 128) (Nat.mod_lt _ (by decide))
theorem lit0_180 (i : Nat) : lit0t0_180 i = sel32 (128 * 180 + i % 128) :=
  digits128 (fun m => sel32 (128 * 180 + m)) _ (i % 128) (Nat.mod_lt _ (by decide))
theorem lit0_181 (i : Nat) : lit0t0_181 i = sel32 (128 * 181 + i % 128) :=
  digits128 (fun m => sel32 (128 * 181 + m)) _ (i % 128) (Nat.mod_lt _ (by decide))
theorem lit0_182 (i : Nat) : lit0t0_182 i = sel32 (128 * 182 + i % 128) :=
  digits128 (fun m => sel32 (128 * 182 + m)) _ (i % 128) (Nat.mod_lt _ (by decide))
theorem lit0_183 (i : Nat) : lit0t0_183 i = sel32 (128 * 183 + i % 128) :=
  digits128 (fun m => sel32 (128 * 183 + m)) _ (i % 128) (Nat.mod_lt _ (by decide))
theorem lit0_184 (i : Nat) : lit0t0_184 i = sel32 (128 * 184 + i % 128) :=
  digits128 (fun m => sel32 (128 * 184 + m)) _ (i % 128) (Nat.mod_lt _ (by decide))
theorem lit0_185 (i : Nat) : lit0t0_185 i = sel32 (128 * 185 + i % 128) :=
  digits128 (fun m => sel32 (128 * 185 + m)) _ (i % 128) (Nat.mod_lt _ (by decide))
theorem lit0_186 (i : Nat) : lit0t0_186 i = sel32 (128 * 186 + i % 128) :=
  digits128 (fun m => sel32 (128 * 186 + m)) _ (i % 128) (Nat.mod_lt _ (by decide))
theorem lit0_187 (i : Nat) : lit0t0_187 i = sel32 (128 * 187 + i % 128) :=
  digits128 (fun m => sel32 (128 * 187 + m)) _ (i % 128) (Nat.mod_lt _ (by decide))
theorem lit0_188 (i : Nat) : lit0t0_188 i = sel32 (128 * 188 + i % 128) :=
  digits128 (fun m => sel32 (128 * 188 + m)) _ (i % 128) (Nat.mod_lt _ (by decide))
theorem lit0_189 (i : Nat) : lit0t0_189 i = sel32 (128 * 189 + i % 128) :=
  digits128 (fun m => sel32 (128 * 189 + m)) _ (i % 128) (Nat.mod_lt _ (by decide))
theorem lit0_190 (i : Nat) : lit0t0_190 i = sel32 (128 * 190 + i % 128) :=
  digits128 (fun m => sel32 (128 * 190 + m)) _ (i % 128) (Nat.mod_lt _ (by decide))
theorem lit0_191 (i : Nat) : lit0t0_191 i = sel32 (128 * 191 + i % 128) :=
  digits128 (fun m => sel32 (128 * 191 + m)) _ (i % 128) (Nat.mod_lt _ (by decide))
theorem lit0_192 (i : Nat) : lit0t0_192 i = sel32 (128 * 192 + i % 128) :=
  digits128 (fun m => sel32 (128 * 192 + m)) _ (i % 128) (Nat.mod_lt _ (by decide))
theorem lit0_193 (i : Nat) : lit0t0_193 i = sel32 (128 * 193 + i % 128) :=
  digits128 (fun m => sel32 (128 * 193 + m)) _ (i % 128) (Nat.mod_lt _ (by decide))
theorem lit0_194 (i : Nat) : lit0t0_194 i = sel32 (128 * 194 + i % 128) :=
  digits128 (fun m => sel32 (128 * 194 + m)) _ (i % 128) (Nat.mod_lt _ (by decide))
theorem lit0_195 (i : Nat) : lit0t0_195 i = sel32 (128 * 195 + i % 128) :=
  digits128 (fun m => sel32 (128 * 195 + m)) _ (i % 128) (Nat.mod_lt _ (by decide))
theorem lit0_196 (i : Nat) : lit0t0_196 i = sel32 (128 * 196 + i % 128) :=
  digits128 (fun m => sel32 (128 * 196 + m)) _ (i % 128) (Nat.mod_lt _ (by decide))
theorem lit0_197 (i : Nat) : lit0t0_197 i = sel32 (128 * 197 + i % 128) :=
  digits128 (fun m => sel32 (128 * 197 + m)) _ (i % 128) (Nat.mod_lt _ (by decide))
theorem lit0_198 (i : Nat) : lit0t0_198 i = sel32 (128 * 198 + i % 128) :=
  digits128 (fun m => sel32 (128 * 198 + m)) _ (i % 128) (Nat.mod_lt _ (by decide))
theorem lit0_199 (i : Nat) : lit0t0_199 i = sel32 (128 * 199 + i % 128) :=
  digits128 (fun m => sel32 (128 * 199 + m)) _ (i % 128) (Nat.mod_lt _ (by decide))

end Cert.Conv

end
-- ==== Proof.Table0B.lean ====
/- The leaves of the table `lit0`, entries 25600 to 51199. -/
module

public import proofs.«01_k».proof.Proof.TableDigits

@[expose] public section

noncomputable section

namespace Cert.Conv

open Idealize.ShloMosaic
open Cert.KernelIdeal

set_option maxRecDepth 100000

theorem lit0_200 (i : Nat) : lit0t0_200 i = sel32 (128 * 200 + i % 128) :=
  digits128 (fun m => sel32 (128 * 200 + m)) _ (i % 128) (Nat.mod_lt _ (by decide))
theorem lit0_201 (i : Nat) : lit0t0_201 i = sel32 (128 * 201 + i % 128) :=
  digits128 (fun m => sel32 (128 * 201 + m)) _ (i % 128) (Nat.mod_lt _ (by decide))
theorem lit0_202 (i : Nat) : lit0t0_202 i = sel32 (128 * 202 + i % 128) :=
  digits128 (fun m => sel32 (128 * 202 + m)) _ (i % 128) (Nat.mod_lt _ (by decide))
theorem lit0_203 (i : Nat) : lit0t0_203 i = sel32 (128 * 203 + i % 128) :=
  digits128 (fun m => sel32 (128 * 203 + m)) _ (i % 128) (Nat.mod_lt _ (by decide))
theorem lit0_204 (i : Nat) : lit0t0_204 i = sel32 (128 * 204 + i % 128) :=
  digits128 (fun m => sel32 (128 * 204 + m)) _ (i % 128) (Nat.mod_lt _ (by decide))
theorem lit0_205 (i : Nat) : lit0t0_205 i = sel32 (128 * 205 + i % 128) :=
  digits128 (fun m => sel32 (128 * 205 + m)) _ (i % 128) (Nat.mod_lt _ (by decide))
theorem lit0_206 (i : Nat) : lit0t0_206 i = sel32 (128 * 206 + i % 128) :=
  digits128 (fun m => sel32 (128 * 206 + m)) _ (i % 128) (Nat.mod_lt _ (by decide))
theorem lit0_207 (i : Nat) : lit0t0_207 i = sel32 (128 * 207 + i % 128) :=
  digits128 (fun m => sel32 (128 * 207 + m)) _ (i % 128) (Nat.mod_lt _ (by decide))
theorem lit0_208 (i : Nat) : lit0t0_208 i = sel32 (128 * 208 + i % 128) :=
  digits128 (fun m => sel32 (128 * 208 + m)) _ (i % 128) (Nat.mod_lt _ (by decide))
theorem lit0_209 (i : Nat) : lit0t0_209 i = sel32 (128 * 209 + i % 128) :=
  digits128 (fun m => sel32 (128 * 209 + m)) _ (i % 128) (Nat.mod_lt _ (by decide))
theorem lit0_210 (i : Nat) : lit0t0_210 i = sel32 (128 * 210 + i % 128) :=
  digits128 (fun m => sel32 (128 * 210 + m)) _ (i % 128) (Nat.mod_lt _ (by decide))
theorem lit0_211 (i : Nat) : lit0t0_211 i = sel32 (128 * 211 + i % 128) :=
  digits128 (fun m => sel32 (128 * 211 + m)) _ (i % 128) (Nat.mod_lt _ (by decide))
theorem lit0_212 (i : Nat) : lit0t0_212 i = sel32 (128 * 212 + i % 128) :=
  digits128 (fun m => sel32 (128 * 212 + m)) _ (i % 128) (Nat.mod_lt _ (by decide))
theorem lit0_213 (i : Nat) : lit0t0_213 i = sel32 (128 * 213 + i % 128) :=
  digits128 (fun m => sel32 (128 * 213 + m)) _ (i % 128) (Nat.mod_lt _ (by decide))
theorem lit0_214 (i : Nat) : lit0t0_214 i = sel32 (128 * 214 + i % 128) :=
  digits128 (fun m => sel32 (128 * 214 + m)) _ (i % 128) (Nat.mod_lt _ (by decide))
theorem lit0_215 (i : Nat) : lit0t0_215 i = sel32 (128 * 215 + i % 128) :=
  digits128 (fun m => sel32 (128 * 215 + m)) _ (i % 128) (Nat.mod_lt _ (by decide))
theorem lit0_216 (i : Nat) : lit0t0_216 i = sel32 (128 * 216 + i % 128) :=
  digits128 (fun m => sel32 (128 * 216 + m)) _ (i % 128) (Nat.mod_lt _ (by decide))
theorem lit0_217 (i : Nat) : lit0t0_217 i = sel32 (128 * 217 + i % 128) :=
  digits128 (fun m => sel32 (128 * 217 + m)) _ (i % 128) (Nat.mod_lt _ (by decide))
theorem lit0_218 (i : Nat) : lit0t0_218 i = sel32 (128 * 218 + i % 128) :=
  digits128 (fun m => sel32 (128 * 218 + m)) _ (i % 128) (Nat.mod_lt _ (by decide))
theorem lit0_219 (i : Nat) : lit0t0_219 i = sel32 (128 * 219 + i % 128) :=
  digits128 (fun m => sel32 (128 * 219 + m)) _ (i % 128) (Nat.mod_lt _ (by decide))
theorem lit0_220 (i : Nat) : lit0t0_220 i = sel32 (128 * 220 + i % 128) :=
  digits128 (fun m => sel32 (128 * 220 + m)) _ (i % 128) (Nat.mod_lt _ (by decide))
theorem lit0_221 (i : Nat) : lit0t0_221 i = sel32 (128 * 221 + i % 128) :=
  digits128 (fun m => sel32 (128 * 221 + m)) _ (i % 128) (Nat.mod_lt _ (by decide))
theorem lit0_222 (i : Nat) : lit0t0_222 i = sel32 (128 * 222 + i % 128) :=
  digits128 (fun m => sel32 (128 * 222 + m)) _ (i % 128) (Nat.mod_lt _ (by decide))
theorem lit0_223 (i : Nat) : lit0t0_223 i = sel32 (128 * 223 + i % 128) :=
  digits128 (fun m => sel32 (128 * 223 + m)) _ (i % 128) (Nat.mod_lt _ (by decide))
theorem lit0_224 (i : Nat) : lit0t0_224 i = sel32 (128 * 224 + i % 128) :=
  digits128 (fun m => sel32 (128 * 224 + m)) _ (i % 128) (Nat.mod_lt _ (by decide))
theorem lit0_225 (i : Nat) : lit0t0_225 i = sel32 (128 * 225 + i % 128) :=
  digits128 (fun m => sel32 (128 * 225 + m)) _ (i % 128) (Nat.mod_lt _ (by decide))
theorem lit0_226 (i : Nat) : lit0t0_226 i = sel32 (128 * 226 + i % 128) :=
  digits128 (fun m => sel32 (128 * 226 + m)) _ (i % 128) (Nat.mod_lt _ (by decide))
theorem lit0_227 (i : Nat) : lit0t0_227 i = sel32 (128 * 227 + i % 128) :=
  digits128 (fun m => sel32 (128 * 227 + m)) _ (i % 128) (Nat.mod_lt _ (by decide))
theorem lit0_228 (i : Nat) : lit0t0_228 i = sel32 (128 * 228 + i % 128) :=
  digits128 (fun m => sel32 (128 * 228 + m)) _ (i % 128) (Nat.mod_lt _ (by decide))
theorem lit0_229 (i : Nat) : lit0t0_229 i = sel32 (128 * 229 + i % 128) :=
  digits128 (fun m => sel32 (128 * 229 + m)) _ (i % 128) (Nat.mod_lt _ (by decide))
theorem lit0_230 (i : Nat) : lit0t0_230 i = sel32 (128 * 230 + i % 128) :=
  digits128 (fun m => sel32 (128 * 230 + m)) _ (i % 128) (Nat.mod_lt _ (by decide))
theorem lit0_231 (i : Nat) : lit0t0_231 i = sel32 (128 * 231 + i % 128) :=
  digits128 (fun m => sel32 (128 * 231 + m)) _ (i % 128) (Nat.mod_lt _ (by decide))
theorem lit0_232 (i : Nat) : lit0t0_232 i = sel32 (128 * 232 + i % 128) :=
  digits128 (fun m => sel32 (128 * 232 + m)) _ (i % 128) (Nat.mod_lt _ (by decide))
theorem lit0_233 (i : Nat) : lit0t0_233 i = sel32 (128 * 233 + i % 128) :=
  digits128 (fun m => sel32 (128 * 233 + m)) _ (i % 128) (Nat.mod_lt _ (by decide))
theorem lit0_234 (i : Nat) : lit0t0_234 i = sel32 (128 * 234 + i % 128) :=
  digits128 (fun m => sel32 (128 * 234 + m)) _ (i % 128) (Nat.mod_lt _ (by decide))
theorem lit0_235 (i : Nat) : lit0t0_235 i = sel32 (128 * 235 + i % 128) :=
  digits128 (fun m => sel32 (128 * 235 + m)) _ (i % 128) (Nat.mod_lt _ (by decide))
theorem lit0_236 (i : Nat) : lit0t0_236 i = sel32 (128 * 236 + i % 128) :=
  digits128 (fun m => sel32 (128 * 236 + m)) _ (i % 128) (Nat.mod_lt _ (by decide))
theorem lit0_237 (i : Nat) : lit0t0_237 i = sel32 (128 * 237 + i % 128) :=
  digits128 (fun m => sel32 (128 * 237 + m)) _ (i % 128) (Nat.mod_lt _ (by decide))
theorem lit0_238 (i : Nat) : lit0t0_238 i = sel32 (128 * 238 + i % 128) :=
  digits128 (fun m => sel32 (128 * 238 + m)) _ (i % 128) (Nat.mod_lt _ (by decide))
theorem lit0_239 (i : Nat) : lit0t0_239 i = sel32 (128 * 239 + i % 128) :=
  digits128 (fun m => sel32 (128 * 239 + m)) _ (i % 128) (Nat.mod_lt _ (by decide))
theorem lit0_240 (i : Nat) : lit0t0_240 i = sel32 (128 * 240 + i % 128) :=
  digits128 (fun m => sel32 (128 * 240 + m)) _ (i % 128) (Nat.mod_lt _ (by decide))
theorem lit0_241 (i : Nat) : lit0t0_241 i = sel32 (128 * 241 + i % 128) :=
  digits128 (fun m => sel32 (128 * 241 + m)) _ (i % 128) (Nat.mod_lt _ (by decide))
theorem lit0_242 (i : Nat) : lit0t0_242 i = sel32 (128 * 242 + i % 128) :=
  digits128 (fun m => sel32 (128 * 242 + m)) _ (i % 128) (Nat.mod_lt _ (by decide))
theorem lit0_243 (i : Nat) : lit0t0_243 i = sel32 (128 * 243 + i % 128) :=
  digits128 (fun m => sel32 (128 * 243 + m)) _ (i % 128) (Nat.mod_lt _ (by decide))
theorem lit0_244 (i : Nat) : lit0t0_244 i = sel32 (128 * 244 + i % 128) :=
  digits128 (fun m => sel32 (128 * 244 + m)) _ (i % 128) (Nat.mod_lt _ (by decide))
theorem lit0_245 (i : Nat) : lit0t0_245 i = sel32 (128 * 245 + i % 128) :=
  digits128 (fun m => sel32 (128 * 245 + m)) _ (i % 128) (Nat.mod_lt _ (by decide))
theorem lit0_246 (i : Nat) : lit0t0_246 i = sel32 (128 * 246 + i % 128) :=
  digits128 (fun m => sel32 (128 * 246 + m)) _ (i % 128) (Nat.mod_lt _ (by decide))
theorem lit0_247 (i : Nat) : lit0t0_247 i = sel32 (128 * 247 + i % 128) :=
  digits128 (fun m => sel32 (128 * 247 + m)) _ (i % 128) (Nat.mod_lt _ (by decide))
theorem lit0_248 (i : Nat) : lit0t0_248 i = sel32 (128 * 248 + i % 128) :=
  digits128 (fun m => sel32 (128 * 248 + m)) _ (i % 128) (Nat.mod_lt _ (by decide))
theorem lit0_249 (i : Nat) : lit0t0_249 i = sel32 (128 * 249 + i % 128) :=
  digits128 (fun m => sel32 (128 * 249 + m)) _ (i % 128) (Nat.mod_lt _ (by decide))
theorem lit0_250 (i : Nat) : lit0t0_250 i = sel32 (128 * 250 + i % 128) :=
  digits128 (fun m => sel32 (128 * 250 + m)) _ (i % 128) (Nat.mod_lt _ (by decide))
theorem lit0_251 (i : Nat) : lit0t0_251 i = sel32 (128 * 251 + i % 128) :=
  digits128 (fun m => sel32 (128 * 251 + m)) _ (i % 128) (Nat.mod_lt _ (by decide))
theorem lit0_252 (i : Nat) : lit0t0_252 i = sel32 (128 * 252 + i % 128) :=
  digits128 (fun m => sel32 (128 * 252 + m)) _ (i % 128) (Nat.mod_lt _ (by decide))
theorem lit0_253 (i : Nat) : lit0t0_253 i = sel32 (128 * 253 + i % 128) :=
  digits128 (fun m => sel32 (128 * 253 + m)) _ (i % 128) (Nat.mod_lt _ (by decide))
theorem lit0_254 (i : Nat) : lit0t0_254 i = sel32 (128 * 254 + i % 128) :=
  digits128 (fun m => sel32 (128 * 254 + m)) _ (i % 128) (Nat.mod_lt _ (by decide))
theorem lit0_255 (i : Nat) : lit0t0_255 i = sel32 (128 * 255 + i % 128) :=
  digits128 (fun m => sel32 (128 * 255 + m)) _ (i % 128) (Nat.mod_lt _ (by decide))
theorem lit0_256 (i : Nat) : lit0t0_256 i = sel32 (128 * 256 + i % 128) :=
  digits128 (fun m => sel32 (128 * 256 + m)) _ (i % 128) (Nat.mod_lt _ (by decide))
theorem lit0_257 (i : Nat) : lit0t0_257 i = sel32 (128 * 257 + i % 128) :=
  digits128 (fun m => sel32 (128 * 257 + m)) _ (i % 128) (Nat.mod_lt _ (by decide))
theorem lit0_258 (i : Nat) : lit0t0_258 i = sel32 (128 * 258 + i % 128) :=
  digits128 (fun m => sel32 (128 * 258 + m)) _ (i % 128) (Nat.mod_lt _ (by decide))
theorem lit0_259 (i : Nat) : lit0t0_259 i = sel32 (128 * 259 + i % 128) :=
  digits128 (fun m => sel32 (128 * 259 + m)) _ (i % 128) (Nat.mod_lt _ (by decide))
theorem lit0_260 (i : Nat) : lit0t0_260 i = sel32 (128 * 260 + i % 128) :=
  digits128 (fun m => sel32 (128 * 260 + m)) _ (i % 128) (Nat.mod_lt _ (by decide))
theorem lit0_261 (i : Nat) : lit0t0_261 i = sel32 (128 * 261 + i % 128) :=
  digits128 (fun m => sel32 (128 * 261 + m)) _ (i % 128) (Nat.mod_lt _ (by decide))
theorem lit0_262 (i : Nat) : lit0t0_262 i = sel32 (128 * 262 + i % 128) :=
  digits128 (fun m => sel32 (128 * 262 + m)) _ (i % 128) (Nat.mod_lt _ (by decide))
theorem lit0_263 (i : Nat) : lit0t0_263 i = sel32 (128 * 263 + i % 128) :=
  digits128 (fun m => sel32 (128 * 263 + m)) _ (i % 128) (Nat.mod_lt _ (by decide))
theorem lit0_264 (i : Nat) : lit0t0_264 i = sel32 (128 * 264 + i % 128) :=
  digits128 (fun m => sel32 (128 * 264 + m)) _ (i % 128) (Nat.mod_lt _ (by decide))
theorem lit0_265 (i : Nat) : lit0t0_265 i = sel32 (128 * 265 + i % 128) :=
  digits128 (fun m => sel32 (128 * 265 + m)) _ (i % 128) (Nat.mod_lt _ (by decide))
theorem lit0_266 (i : Nat) : lit0t0_266 i = sel32 (128 * 266 + i % 128) :=
  digits128 (fun m => sel32 (128 * 266 + m)) _ (i % 128) (Nat.mod_lt _ (by decide))
theorem lit0_267 (i : Nat) : lit0t0_267 i = sel32 (128 * 267 + i % 128) :=
  digits128 (fun m => sel32 (128 * 267 + m)) _ (i % 128) (Nat.mod_lt _ (by decide))
theorem lit0_268 (i : Nat) : lit0t0_268 i = sel32 (128 * 268 + i % 128) :=
  digits128 (fun m => sel32 (128 * 268 + m)) _ (i % 128) (Nat.mod_lt _ (by decide))
theorem lit0_269 (i : Nat) : lit0t0_269 i = sel32 (128 * 269 + i % 128) :=
  digits128 (fun m => sel32 (128 * 269 + m)) _ (i % 128) (Nat.mod_lt _ (by decide))
theorem lit0_270 (i : Nat) : lit0t0_270 i = sel32 (128 * 270 + i % 128) :=
  digits128 (fun m => sel32 (128 * 270 + m)) _ (i % 128) (Nat.mod_lt _ (by decide))
theorem lit0_271 (i : Nat) : lit0t0_271 i = sel32 (128 * 271 + i % 128) :=
  digits128 (fun m => sel32 (128 * 271 + m)) _ (i % 128) (Nat.mod_lt _ (by decide))
theorem lit0_272 (i : Nat) : lit0t0_272 i = sel32 (128 * 272 + i % 128) :=
  digits128 (fun m => sel32 (128 * 272 + m)) _ (i % 128) (Nat.mod_lt _ (by decide))
theorem lit0_273 (i : Nat) : lit0t0_273 i = sel32 (128 * 273 + i % 128) :=
  digits128 (fun m => sel32 (128 * 273 + m)) _ (i % 128) (Nat.mod_lt _ (by decide))
theorem lit0_274 (i : Nat) : lit0t0_274 i = sel32 (128 * 274 + i % 128) :=
  digits128 (fun m => sel32 (128 * 274 + m)) _ (i % 128) (Nat.mod_lt _ (by decide))
theorem lit0_275 (i : Nat) : lit0t0_275 i = sel32 (128 * 275 + i % 128) :=
  digits128 (fun m => sel32 (128 * 275 + m)) _ (i % 128) (Nat.mod_lt _ (by decide))
theorem lit0_276 (i : Nat) : lit0t0_276 i = sel32 (128 * 276 + i % 128) :=
  digits128 (fun m => sel32 (128 * 276 + m)) _ (i % 128) (Nat.mod_lt _ (by decide))
theorem lit0_277 (i : Nat) : lit0t0_277 i = sel32 (128 * 277 + i % 128) :=
  digits128 (fun m => sel32 (128 * 277 + m)) _ (i % 128) (Nat.mod_lt _ (by decide))
theorem lit0_278 (i : Nat) : lit0t0_278 i = sel32 (128 * 278 + i % 128) :=
  digits128 (fun m => sel32 (128 * 278 + m)) _ (i % 128) (Nat.mod_lt _ (by decide))
theorem lit0_279 (i : Nat) : lit0t0_279 i = sel32 (128 * 279 + i % 128) :=
  digits128 (fun m => sel32 (128 * 279 + m)) _ (i % 128) (Nat.mod_lt _ (by decide))
theorem lit0_280 (i : Nat) : lit0t0_280 i = sel32 (128 * 280 + i % 128) :=
  digits128 (fun m => sel32 (128 * 280 + m)) _ (i % 128) (Nat.mod_lt _ (by decide))
theorem lit0_281 (i : Nat) : lit0t0_281 i = sel32 (128 * 281 + i % 128) :=
  digits128 (fun m => sel32 (128 * 281 + m)) _ (i % 128) (Nat.mod_lt _ (by decide))
theorem lit0_282 (i : Nat) : lit0t0_282 i = sel32 (128 * 282 + i % 128) :=
  digits128 (fun m => sel32 (128 * 282 + m)) _ (i % 128) (Nat.mod_lt _ (by decide))
theorem lit0_283 (i : Nat) : lit0t0_283 i = sel32 (128 * 283 + i % 128) :=
  digits128 (fun m => sel32 (128 * 283 + m)) _ (i % 128) (Nat.mod_lt _ (by decide))
theorem lit0_284 (i : Nat) : lit0t0_284 i = sel32 (128 * 284 + i % 128) :=
  digits128 (fun m => sel32 (128 * 284 + m)) _ (i % 128) (Nat.mod_lt _ (by decide))
theorem lit0_285 (i : Nat) : lit0t0_285 i = sel32 (128 * 285 + i % 128) :=
  digits128 (fun m => sel32 (128 * 285 + m)) _ (i % 128) (Nat.mod_lt _ (by decide))
theorem lit0_286 (i : Nat) : lit0t0_286 i = sel32 (128 * 286 + i % 128) :=
  digits128 (fun m => sel32 (128 * 286 + m)) _ (i % 128) (Nat.mod_lt _ (by decide))
theorem lit0_287 (i : Nat) : lit0t0_287 i = sel32 (128 * 287 + i % 128) :=
  digits128 (fun m => sel32 (128 * 287 + m)) _ (i % 128) (Nat.mod_lt _ (by decide))
theorem lit0_288 (i : Nat) : lit0t0_288 i = sel32 (128 * 288 + i % 128) :=
  digits128 (fun m => sel32 (128 * 288 + m)) _ (i % 128) (Nat.mod_lt _ (by decide))
theorem lit0_289 (i : Nat) : lit0t0_289 i = sel32 (128 * 289 + i % 128) :=
  digits128 (fun m => sel32 (128 * 289 + m)) _ (i % 128) (Nat.mod_lt _ (by decide))
theorem lit0_290 (i : Nat) : lit0t0_290 i = sel32 (128 * 290 + i % 128) :=
  digits128 (fun m => sel32 (128 * 290 + m)) _ (i % 128) (Nat.mod_lt _ (by decide))
theorem lit0_291 (i : Nat) : lit0t0_291 i = sel32 (128 * 291 + i % 128) :=
  digits128 (fun m => sel32 (128 * 291 + m)) _ (i % 128) (Nat.mod_lt _ (by decide))
theorem lit0_292 (i : Nat) : lit0t0_292 i = sel32 (128 * 292 + i % 128) :=
  digits128 (fun m => sel32 (128 * 292 + m)) _ (i % 128) (Nat.mod_lt _ (by decide))
theorem lit0_293 (i : Nat) : lit0t0_293 i = sel32 (128 * 293 + i % 128) :=
  digits128 (fun m => sel32 (128 * 293 + m)) _ (i % 128) (Nat.mod_lt _ (by decide))
theorem lit0_294 (i : Nat) : lit0t0_294 i = sel32 (128 * 294 + i % 128) :=
  digits128 (fun m => sel32 (128 * 294 + m)) _ (i % 128) (Nat.mod_lt _ (by decide))
theorem lit0_295 (i : Nat) : lit0t0_295 i = sel32 (128 * 295 + i % 128) :=
  digits128 (fun m => sel32 (128 * 295 + m)) _ (i % 128) (Nat.mod_lt _ (by decide))
theorem lit0_296 (i : Nat) : lit0t0_296 i = sel32 (128 * 296 + i % 128) :=
  digits128 (fun m => sel32 (128 * 296 + m)) _ (i % 128) (Nat.mod_lt _ (by decide))
theorem lit0_297 (i : Nat) : lit0t0_297 i = sel32 (128 * 297 + i % 128) :=
  digits128 (fun m => sel32 (128 * 297 + m)) _ (i % 128) (Nat.mod_lt _ (by decide))
theorem lit0_298 (i : Nat) : lit0t0_298 i = sel32 (128 * 298 + i % 128) :=
  digits128 (fun m => sel32 (128 * 298 + m)) _ (i % 128) (Nat.mod_lt _ (by decide))
theorem lit0_299 (i : Nat) : lit0t0_299 i = sel32 (128 * 299 + i % 128) :=
  digits128 (fun m => sel32 (128 * 299 + m)) _ (i % 128) (Nat.mod_lt _ (by decide))
theorem lit0_300 (i : Nat) : lit0t0_300 i = sel32 (128 * 300 + i % 128) :=
  digits128 (fun m => sel32 (128 * 300 + m)) _ (i % 128) (Nat.mod_lt _ (by decide))
theorem lit0_301 (i : Nat) : lit0t0_301 i = sel32 (128 * 301 + i % 128) :=
  digits128 (fun m => sel32 (128 * 301 + m)) _ (i % 128) (Nat.mod_lt _ (by decide))
theorem lit0_302 (i : Nat) : lit0t0_302 i = sel32 (128 * 302 + i % 128) :=
  digits128 (fun m => sel32 (128 * 302 + m)) _ (i % 128) (Nat.mod_lt _ (by decide))
theorem lit0_303 (i : Nat) : lit0t0_303 i = sel32 (128 * 303 + i % 128) :=
  digits128 (fun m => sel32 (128 * 303 + m)) _ (i % 128) (Nat.mod_lt _ (by decide))
theorem lit0_304 (i : Nat) : lit0t0_304 i = sel32 (128 * 304 + i % 128) :=
  digits128 (fun m => sel32 (128 * 304 + m)) _ (i % 128) (Nat.mod_lt _ (by decide))
theorem lit0_305 (i : Nat) : lit0t0_305 i = sel32 (128 * 305 + i % 128) :=
  digits128 (fun m => sel32 (128 * 305 + m)) _ (i % 128) (Nat.mod_lt _ (by decide))
theorem lit0_306 (i : Nat) : lit0t0_306 i = sel32 (128 * 306 + i % 128) :=
  digits128 (fun m => sel32 (128 * 306 + m)) _ (i % 128) (Nat.mod_lt _ (by decide))
theorem lit0_307 (i : Nat) : lit0t0_307 i = sel32 (128 * 307 + i % 128) :=
  digits128 (fun m => sel32 (128 * 307 + m)) _ (i % 128) (Nat.mod_lt _ (by decide))
theorem lit0_308 (i : Nat) : lit0t0_308 i = sel32 (128 * 308 + i % 128) :=
  digits128 (fun m => sel32 (128 * 308 + m)) _ (i % 128) (Nat.mod_lt _ (by decide))
theorem lit0_309 (i : Nat) : lit0t0_309 i = sel32 (128 * 309 + i % 128) :=
  digits128 (fun m => sel32 (128 * 309 + m)) _ (i % 128) (Nat.mod_lt _ (by decide))
theorem lit0_310 (i : Nat) : lit0t0_310 i = sel32 (128 * 310 + i % 128) :=
  digits128 (fun m => sel32 (128 * 310 + m)) _ (i % 128) (Nat.mod_lt _ (by decide))
theorem lit0_311 (i : Nat) : lit0t0_311 i = sel32 (128 * 311 + i % 128) :=
  digits128 (fun m => sel32 (128 * 311 + m)) _ (i % 128) (Nat.mod_lt _ (by decide))
theorem lit0_312 (i : Nat) : lit0t0_312 i = sel32 (128 * 312 + i % 128) :=
  digits128 (fun m => sel32 (128 * 312 + m)) _ (i % 128) (Nat.mod_lt _ (by decide))
theorem lit0_313 (i : Nat) : lit0t0_313 i = sel32 (128 * 313 + i % 128) :=
  digits128 (fun m => sel32 (128 * 313 + m)) _ (i % 128) (Nat.mod_lt _ (by decide))
theorem lit0_314 (i : Nat) : lit0t0_314 i = sel32 (128 * 314 + i % 128) :=
  digits128 (fun m => sel32 (128 * 314 + m)) _ (i % 128) (Nat.mod_lt _ (by decide))
theorem lit0_315 (i : Nat) : lit0t0_315 i = sel32 (128 * 315 + i % 128) :=
  digits128 (fun m => sel32 (128 * 315 + m)) _ (i % 128) (Nat.mod_lt _ (by decide))
theorem lit0_316 (i : Nat) : lit0t0_316 i = sel32 (128 * 316 + i % 128) :=
  digits128 (fun m => sel32 (128 * 316 + m)) _ (i % 128) (Nat.mod_lt _ (by decide))
theorem lit0_317 (i : Nat) : lit0t0_317 i = sel32 (128 * 317 + i % 128) :=
  digits128 (fun m => sel32 (128 * 317 + m)) _ (i % 128) (Nat.mod_lt _ (by decide))
theorem lit0_318 (i : Nat) : lit0t0_318 i = sel32 (128 * 318 + i % 128) :=
  digits128 (fun m => sel32 (128 * 318 + m)) _ (i % 128) (Nat.mod_lt _ (by decide))
theorem lit0_319 (i : Nat) : lit0t0_319 i = sel32 (128 * 319 + i % 128) :=
  digits128 (fun m => sel32 (128 * 319 + m)) _ (i % 128) (Nat.mod_lt _ (by decide))
theorem lit0_320 (i : Nat) : lit0t0_320 i = sel32 (128 * 320 + i % 128) :=
  digits128 (fun m => sel32 (128 * 320 + m)) _ (i % 128) (Nat.mod_lt _ (by decide))
theorem lit0_321 (i : Nat) : lit0t0_321 i = sel32 (128 * 321 + i % 128) :=
  digits128 (fun m => sel32 (128 * 321 + m)) _ (i % 128) (Nat.mod_lt _ (by decide))
theorem lit0_322 (i : Nat) : lit0t0_322 i = sel32 (128 * 322 + i % 128) :=
  digits128 (fun m => sel32 (128 * 322 + m)) _ (i % 128) (Nat.mod_lt _ (by decide))
theorem lit0_323 (i : Nat) : lit0t0_323 i = sel32 (128 * 323 + i % 128) :=
  digits128 (fun m => sel32 (128 * 323 + m)) _ (i % 128) (Nat.mod_lt _ (by decide))
theorem lit0_324 (i : Nat) : lit0t0_324 i = sel32 (128 * 324 + i % 128) :=
  digits128 (fun m => sel32 (128 * 324 + m)) _ (i % 128) (Nat.mod_lt _ (by decide))
theorem lit0_325 (i : Nat) : lit0t0_325 i = sel32 (128 * 325 + i % 128) :=
  digits128 (fun m => sel32 (128 * 325 + m)) _ (i % 128) (Nat.mod_lt _ (by decide))
theorem lit0_326 (i : Nat) : lit0t0_326 i = sel32 (128 * 326 + i % 128) :=
  digits128 (fun m => sel32 (128 * 326 + m)) _ (i % 128) (Nat.mod_lt _ (by decide))
theorem lit0_327 (i : Nat) : lit0t0_327 i = sel32 (128 * 327 + i % 128) :=
  digits128 (fun m => sel32 (128 * 327 + m)) _ (i % 128) (Nat.mod_lt _ (by decide))
theorem lit0_328 (i : Nat) : lit0t0_328 i = sel32 (128 * 328 + i % 128) :=
  digits128 (fun m => sel32 (128 * 328 + m)) _ (i % 128) (Nat.mod_lt _ (by decide))
theorem lit0_329 (i : Nat) : lit0t0_329 i = sel32 (128 * 329 + i % 128) :=
  digits128 (fun m => sel32 (128 * 329 + m)) _ (i % 128) (Nat.mod_lt _ (by decide))
theorem lit0_330 (i : Nat) : lit0t0_330 i = sel32 (128 * 330 + i % 128) :=
  digits128 (fun m => sel32 (128 * 330 + m)) _ (i % 128) (Nat.mod_lt _ (by decide))
theorem lit0_331 (i : Nat) : lit0t0_331 i = sel32 (128 * 331 + i % 128) :=
  digits128 (fun m => sel32 (128 * 331 + m)) _ (i % 128) (Nat.mod_lt _ (by decide))
theorem lit0_332 (i : Nat) : lit0t0_332 i = sel32 (128 * 332 + i % 128) :=
  digits128 (fun m => sel32 (128 * 332 + m)) _ (i % 128) (Nat.mod_lt _ (by decide))
theorem lit0_333 (i : Nat) : lit0t0_333 i = sel32 (128 * 333 + i % 128) :=
  digits128 (fun m => sel32 (128 * 333 + m)) _ (i % 128) (Nat.mod_lt _ (by decide))
theorem lit0_334 (i : Nat) : lit0t0_334 i = sel32 (128 * 334 + i % 128) :=
  digits128 (fun m => sel32 (128 * 334 + m)) _ (i % 128) (Nat.mod_lt _ (by decide))
theorem lit0_335 (i : Nat) : lit0t0_335 i = sel32 (128 * 335 + i % 128) :=
  digits128 (fun m => sel32 (128 * 335 + m)) _ (i % 128) (Nat.mod_lt _ (by decide))
theorem lit0_336 (i : Nat) : lit0t0_336 i = sel32 (128 * 336 + i % 128) :=
  digits128 (fun m => sel32 (128 * 336 + m)) _ (i % 128) (Nat.mod_lt _ (by decide))
theorem lit0_337 (i : Nat) : lit0t0_337 i = sel32 (128 * 337 + i % 128) :=
  digits128 (fun m => sel32 (128 * 337 + m)) _ (i % 128) (Nat.mod_lt _ (by decide))
theorem lit0_338 (i : Nat) : lit0t0_338 i = sel32 (128 * 338 + i % 128) :=
  digits128 (fun m => sel32 (128 * 338 + m)) _ (i % 128) (Nat.mod_lt _ (by decide))
theorem lit0_339 (i : Nat) : lit0t0_339 i = sel32 (128 * 339 + i % 128) :=
  digits128 (fun m => sel32 (128 * 339 + m)) _ (i % 128) (Nat.mod_lt _ (by decide))
theorem lit0_340 (i : Nat) : lit0t0_340 i = sel32 (128 * 340 + i % 128) :=
  digits128 (fun m => sel32 (128 * 340 + m)) _ (i % 128) (Nat.mod_lt _ (by decide))
theorem lit0_341 (i : Nat) : lit0t0_341 i = sel32 (128 * 341 + i % 128) :=
  digits128 (fun m => sel32 (128 * 341 + m)) _ (i % 128) (Nat.mod_lt _ (by decide))
theorem lit0_342 (i : Nat) : lit0t0_342 i = sel32 (128 * 342 + i % 128) :=
  digits128 (fun m => sel32 (128 * 342 + m)) _ (i % 128) (Nat.mod_lt _ (by decide))
theorem lit0_343 (i : Nat) : lit0t0_343 i = sel32 (128 * 343 + i % 128) :=
  digits128 (fun m => sel32 (128 * 343 + m)) _ (i % 128) (Nat.mod_lt _ (by decide))
theorem lit0_344 (i : Nat) : lit0t0_344 i = sel32 (128 * 344 + i % 128) :=
  digits128 (fun m => sel32 (128 * 344 + m)) _ (i % 128) (Nat.mod_lt _ (by decide))
theorem lit0_345 (i : Nat) : lit0t0_345 i = sel32 (128 * 345 + i % 128) :=
  digits128 (fun m => sel32 (128 * 345 + m)) _ (i % 128) (Nat.mod_lt _ (by decide))
theorem lit0_346 (i : Nat) : lit0t0_346 i = sel32 (128 * 346 + i % 128) :=
  digits128 (fun m => sel32 (128 * 346 + m)) _ (i % 128) (Nat.mod_lt _ (by decide))
theorem lit0_347 (i : Nat) : lit0t0_347 i = sel32 (128 * 347 + i % 128) :=
  digits128 (fun m => sel32 (128 * 347 + m)) _ (i % 128) (Nat.mod_lt _ (by decide))
theorem lit0_348 (i : Nat) : lit0t0_348 i = sel32 (128 * 348 + i % 128) :=
  digits128 (fun m => sel32 (128 * 348 + m)) _ (i % 128) (Nat.mod_lt _ (by decide))
theorem lit0_349 (i : Nat) : lit0t0_349 i = sel32 (128 * 349 + i % 128) :=
  digits128 (fun m => sel32 (128 * 349 + m)) _ (i % 128) (Nat.mod_lt _ (by decide))
theorem lit0_350 (i : Nat) : lit0t0_350 i = sel32 (128 * 350 + i % 128) :=
  digits128 (fun m => sel32 (128 * 350 + m)) _ (i % 128) (Nat.mod_lt _ (by decide))
theorem lit0_351 (i : Nat) : lit0t0_351 i = sel32 (128 * 351 + i % 128) :=
  digits128 (fun m => sel32 (128 * 351 + m)) _ (i % 128) (Nat.mod_lt _ (by decide))
theorem lit0_352 (i : Nat) : lit0t0_352 i = sel32 (128 * 352 + i % 128) :=
  digits128 (fun m => sel32 (128 * 352 + m)) _ (i % 128) (Nat.mod_lt _ (by decide))
theorem lit0_353 (i : Nat) : lit0t0_353 i = sel32 (128 * 353 + i % 128) :=
  digits128 (fun m => sel32 (128 * 353 + m)) _ (i % 128) (Nat.mod_lt _ (by decide))
theorem lit0_354 (i : Nat) : lit0t0_354 i = sel32 (128 * 354 + i % 128) :=
  digits128 (fun m => sel32 (128 * 354 + m)) _ (i % 128) (Nat.mod_lt _ (by decide))
theorem lit0_355 (i : Nat) : lit0t0_355 i = sel32 (128 * 355 + i % 128) :=
  digits128 (fun m => sel32 (128 * 355 + m)) _ (i % 128) (Nat.mod_lt _ (by decide))
theorem lit0_356 (i : Nat) : lit0t0_356 i = sel32 (128 * 356 + i % 128) :=
  digits128 (fun m => sel32 (128 * 356 + m)) _ (i % 128) (Nat.mod_lt _ (by decide))
theorem lit0_357 (i : Nat) : lit0t0_357 i = sel32 (128 * 357 + i % 128) :=
  digits128 (fun m => sel32 (128 * 357 + m)) _ (i % 128) (Nat.mod_lt _ (by decide))
theorem lit0_358 (i : Nat) : lit0t0_358 i = sel32 (128 * 358 + i % 128) :=
  digits128 (fun m => sel32 (128 * 358 + m)) _ (i % 128) (Nat.mod_lt _ (by decide))
theorem lit0_359 (i : Nat) : lit0t0_359 i = sel32 (128 * 359 + i % 128) :=
  digits128 (fun m => sel32 (128 * 359 + m)) _ (i % 128) (Nat.mod_lt _ (by decide))
theorem lit0_360 (i : Nat) : lit0t0_360 i = sel32 (128 * 360 + i % 128) :=
  digits128 (fun m => sel32 (128 * 360 + m)) _ (i % 128) (Nat.mod_lt _ (by decide))
theorem lit0_361 (i : Nat) : lit0t0_361 i = sel32 (128 * 361 + i % 128) :=
  digits128 (fun m => sel32 (128 * 361 + m)) _ (i % 128) (Nat.mod_lt _ (by decide))
theorem lit0_362 (i : Nat) : lit0t0_362 i = sel32 (128 * 362 + i % 128) :=
  digits128 (fun m => sel32 (128 * 362 + m)) _ (i % 128) (Nat.mod_lt _ (by decide))
theorem lit0_363 (i : Nat) : lit0t0_363 i = sel32 (128 * 363 + i % 128) :=
  digits128 (fun m => sel32 (128 * 363 + m)) _ (i % 128) (Nat.mod_lt _ (by decide))
theorem lit0_364 (i : Nat) : lit0t0_364 i = sel32 (128 * 364 + i % 128) :=
  digits128 (fun m => sel32 (128 * 364 + m)) _ (i % 128) (Nat.mod_lt _ (by decide))
theorem lit0_365 (i : Nat) : lit0t0_365 i = sel32 (128 * 365 + i % 128) :=
  digits128 (fun m => sel32 (128 * 365 + m)) _ (i % 128) (Nat.mod_lt _ (by decide))
theorem lit0_366 (i : Nat) : lit0t0_366 i = sel32 (128 * 366 + i % 128) :=
  digits128 (fun m => sel32 (128 * 366 + m)) _ (i % 128) (Nat.mod_lt _ (by decide))
theorem lit0_367 (i : Nat) : lit0t0_367 i = sel32 (128 * 367 + i % 128) :=
  digits128 (fun m => sel32 (128 * 367 + m)) _ (i % 128) (Nat.mod_lt _ (by decide))
theorem lit0_368 (i : Nat) : lit0t0_368 i = sel32 (128 * 368 + i % 128) :=
  digits128 (fun m => sel32 (128 * 368 + m)) _ (i % 128) (Nat.mod_lt _ (by decide))
theorem lit0_369 (i : Nat) : lit0t0_369 i = sel32 (128 * 369 + i % 128) :=
  digits128 (fun m => sel32 (128 * 369 + m)) _ (i % 128) (Nat.mod_lt _ (by decide))
theorem lit0_370 (i : Nat) : lit0t0_370 i = sel32 (128 * 370 + i % 128) :=
  digits128 (fun m => sel32 (128 * 370 + m)) _ (i % 128) (Nat.mod_lt _ (by decide))
theorem lit0_371 (i : Nat) : lit0t0_371 i = sel32 (128 * 371 + i % 128) :=
  digits128 (fun m => sel32 (128 * 371 + m)) _ (i % 128) (Nat.mod_lt _ (by decide))
theorem lit0_372 (i : Nat) : lit0t0_372 i = sel32 (128 * 372 + i % 128) :=
  digits128 (fun m => sel32 (128 * 372 + m)) _ (i % 128) (Nat.mod_lt _ (by decide))
theorem lit0_373 (i : Nat) : lit0t0_373 i = sel32 (128 * 373 + i % 128) :=
  digits128 (fun m => sel32 (128 * 373 + m)) _ (i % 128) (Nat.mod_lt _ (by decide))
theorem lit0_374 (i : Nat) : lit0t0_374 i = sel32 (128 * 374 + i % 128) :=
  digits128 (fun m => sel32 (128 * 374 + m)) _ (i % 128) (Nat.mod_lt _ (by decide))
theorem lit0_375 (i : Nat) : lit0t0_375 i = sel32 (128 * 375 + i % 128) :=
  digits128 (fun m => sel32 (128 * 375 + m)) _ (i % 128) (Nat.mod_lt _ (by decide))
theorem lit0_376 (i : Nat) : lit0t0_376 i = sel32 (128 * 376 + i % 128) :=
  digits128 (fun m => sel32 (128 * 376 + m)) _ (i % 128) (Nat.mod_lt _ (by decide))
theorem lit0_377 (i : Nat) : lit0t0_377 i = sel32 (128 * 377 + i % 128) :=
  digits128 (fun m => sel32 (128 * 377 + m)) _ (i % 128) (Nat.mod_lt _ (by decide))
theorem lit0_378 (i : Nat) : lit0t0_378 i = sel32 (128 * 378 + i % 128) :=
  digits128 (fun m => sel32 (128 * 378 + m)) _ (i % 128) (Nat.mod_lt _ (by decide))
theorem lit0_379 (i : Nat) : lit0t0_379 i = sel32 (128 * 379 + i % 128) :=
  digits128 (fun m => sel32 (128 * 379 + m)) _ (i % 128) (Nat.mod_lt _ (by decide))
theorem lit0_380 (i : Nat) : lit0t0_380 i = sel32 (128 * 380 + i % 128) :=
  digits128 (fun m => sel32 (128 * 380 + m)) _ (i % 128) (Nat.mod_lt _ (by decide))
theorem lit0_381 (i : Nat) : lit0t0_381 i = sel32 (128 * 381 + i % 128) :=
  digits128 (fun m => sel32 (128 * 381 + m)) _ (i % 128) (Nat.mod_lt _ (by decide))
theorem lit0_382 (i : Nat) : lit0t0_382 i = sel32 (128 * 382 + i % 128) :=
  digits128 (fun m => sel32 (128 * 382 + m)) _ (i % 128) (Nat.mod_lt _ (by decide))
theorem lit0_383 (i : Nat) : lit0t0_383 i = sel32 (128 * 383 + i % 128) :=
  digits128 (fun m => sel32 (128 * 383 + m)) _ (i % 128) (Nat.mod_lt _ (by decide))
theorem lit0_384 (i : Nat) : lit0t0_384 i = sel32 (128 * 384 + i % 128) :=
  digits128 (fun m => sel32 (128 * 384 + m)) _ (i % 128) (Nat.mod_lt _ (by decide))
theorem lit0_385 (i : Nat) : lit0t0_385 i = sel32 (128 * 385 + i % 128) :=
  digits128 (fun m => sel32 (128 * 385 + m)) _ (i % 128) (Nat.mod_lt _ (by decide))
theorem lit0_386 (i : Nat) : lit0t0_386 i = sel32 (128 * 386 + i % 128) :=
  digits128 (fun m => sel32 (128 * 386 + m)) _ (i % 128) (Nat.mod_lt _ (by decide))
theorem lit0_387 (i : Nat) : lit0t0_387 i = sel32 (128 * 387 + i % 128) :=
  digits128 (fun m => sel32 (128 * 387 + m)) _ (i % 128) (Nat.mod_lt _ (by decide))
theorem lit0_388 (i : Nat) : lit0t0_388 i = sel32 (128 * 388 + i % 128) :=
  digits128 (fun m => sel32 (128 * 388 + m)) _ (i % 128) (Nat.mod_lt _ (by decide))
theorem lit0_389 (i : Nat) : lit0t0_389 i = sel32 (128 * 389 + i % 128) :=
  digits128 (fun m => sel32 (128 * 389 + m)) _ (i % 128) (Nat.mod_lt _ (by decide))
theorem lit0_390 (i : Nat) : lit0t0_390 i = sel32 (128 * 390 + i % 128) :=
  digits128 (fun m => sel32 (128 * 390 + m)) _ (i % 128) (Nat.mod_lt _ (by decide))
theorem lit0_391 (i : Nat) : lit0t0_391 i = sel32 (128 * 391 + i % 128) :=
  digits128 (fun m => sel32 (128 * 391 + m)) _ (i % 128) (Nat.mod_lt _ (by decide))
theorem lit0_392 (i : Nat) : lit0t0_392 i = sel32 (128 * 392 + i % 128) :=
  digits128 (fun m => sel32 (128 * 392 + m)) _ (i % 128) (Nat.mod_lt _ (by decide))
theorem lit0_393 (i : Nat) : lit0t0_393 i = sel32 (128 * 393 + i % 128) :=
  digits128 (fun m => sel32 (128 * 393 + m)) _ (i % 128) (Nat.mod_lt _ (by decide))
theorem lit0_394 (i : Nat) : lit0t0_394 i = sel32 (128 * 394 + i % 128) :=
  digits128 (fun m => sel32 (128 * 394 + m)) _ (i % 128) (Nat.mod_lt _ (by decide))
theorem lit0_395 (i : Nat) : lit0t0_395 i = sel32 (128 * 395 + i % 128) :=
  digits128 (fun m => sel32 (128 * 395 + m)) _ (i % 128) (Nat.mod_lt _ (by decide))
theorem lit0_396 (i : Nat) : lit0t0_396 i = sel32 (128 * 396 + i % 128) :=
  digits128 (fun m => sel32 (128 * 396 + m)) _ (i % 128) (Nat.mod_lt _ (by decide))
theorem lit0_397 (i : Nat) : lit0t0_397 i = sel32 (128 * 397 + i % 128) :=
  digits128 (fun m => sel32 (128 * 397 + m)) _ (i % 128) (Nat.mod_lt _ (by decide))
theorem lit0_398 (i : Nat) : lit0t0_398 i = sel32 (128 * 398 + i % 128) :=
  digits128 (fun m => sel32 (128 * 398 + m)) _ (i % 128) (Nat.mod_lt _ (by decide))
theorem lit0_399 (i : Nat) : lit0t0_399 i = sel32 (128 * 399 + i % 128) :=
  digits128 (fun m => sel32 (128 * 399 + m)) _ (i % 128) (Nat.mod_lt _ (by decide))

end Cert.Conv

end
-- ==== Proof.Table0C.lean ====
/- The leaves of the table `lit0`, entries 51200 to 76799. -/
module

public import proofs.«01_k».proof.Proof.TableDigits

@[expose] public section

noncomputable section

namespace Cert.Conv

open Idealize.ShloMosaic
open Cert.KernelIdeal

set_option maxRecDepth 100000

theorem lit0_400 (i : Nat) : lit0t0_400 i = sel32 (128 * 400 + i % 128) :=
  digits128 (fun m => sel32 (128 * 400 + m)) _ (i % 128) (Nat.mod_lt _ (by decide))
theorem lit0_401 (i : Nat) : lit0t0_401 i = sel32 (128 * 401 + i % 128) :=
  digits128 (fun m => sel32 (128 * 401 + m)) _ (i % 128) (Nat.mod_lt _ (by decide))
theorem lit0_402 (i : Nat) : lit0t0_402 i = sel32 (128 * 402 + i % 128) :=
  digits128 (fun m => sel32 (128 * 402 + m)) _ (i % 128) (Nat.mod_lt _ (by decide))
theorem lit0_403 (i : Nat) : lit0t0_403 i = sel32 (128 * 403 + i % 128) :=
  digits128 (fun m => sel32 (128 * 403 + m)) _ (i % 128) (Nat.mod_lt _ (by decide))
theorem lit0_404 (i : Nat) : lit0t0_404 i = sel32 (128 * 404 + i % 128) :=
  digits128 (fun m => sel32 (128 * 404 + m)) _ (i % 128) (Nat.mod_lt _ (by decide))
theorem lit0_405 (i : Nat) : lit0t0_405 i = sel32 (128 * 405 + i % 128) :=
  digits128 (fun m => sel32 (128 * 405 + m)) _ (i % 128) (Nat.mod_lt _ (by decide))
theorem lit0_406 (i : Nat) : lit0t0_406 i = sel32 (128 * 406 + i % 128) :=
  digits128 (fun m => sel32 (128 * 406 + m)) _ (i % 128) (Nat.mod_lt _ (by decide))
theorem lit0_407 (i : Nat) : lit0t0_407 i = sel32 (128 * 407 + i % 128) :=
  digits128 (fun m => sel32 (128 * 407 + m)) _ (i % 128) (Nat.mod_lt _ (by decide))
theorem lit0_408 (i : Nat) : lit0t0_408 i = sel32 (128 * 408 + i % 128) :=
  digits128 (fun m => sel32 (128 * 408 + m)) _ (i % 128) (Nat.mod_lt _ (by decide))
theorem lit0_409 (i : Nat) : lit0t0_409 i = sel32 (128 * 409 + i % 128) :=
  digits128 (fun m => sel32 (128 * 409 + m)) _ (i % 128) (Nat.mod_lt _ (by decide))
theorem lit0_410 (i : Nat) : lit0t0_410 i = sel32 (128 * 410 + i % 128) :=
  digits128 (fun m => sel32 (128 * 410 + m)) _ (i % 128) (Nat.mod_lt _ (by decide))
theorem lit0_411 (i : Nat) : lit0t0_411 i = sel32 (128 * 411 + i % 128) :=
  digits128 (fun m => sel32 (128 * 411 + m)) _ (i % 128) (Nat.mod_lt _ (by decide))
theorem lit0_412 (i : Nat) : lit0t0_412 i = sel32 (128 * 412 + i % 128) :=
  digits128 (fun m => sel32 (128 * 412 + m)) _ (i % 128) (Nat.mod_lt _ (by decide))
theorem lit0_413 (i : Nat) : lit0t0_413 i = sel32 (128 * 413 + i % 128) :=
  digits128 (fun m => sel32 (128 * 413 + m)) _ (i % 128) (Nat.mod_lt _ (by decide))
theorem lit0_414 (i : Nat) : lit0t0_414 i = sel32 (128 * 414 + i % 128) :=
  digits128 (fun m => sel32 (128 * 414 + m)) _ (i % 128) (Nat.mod_lt _ (by decide))
theorem lit0_415 (i : Nat) : lit0t0_415 i = sel32 (128 * 415 + i % 128) :=
  digits128 (fun m => sel32 (128 * 415 + m)) _ (i % 128) (Nat.mod_lt _ (by decide))
theorem lit0_416 (i : Nat) : lit0t0_416 i = sel32 (128 * 416 + i % 128) :=
  digits128 (fun m => sel32 (128 * 416 + m)) _ (i % 128) (Nat.mod_lt _ (by decide))
theorem lit0_417 (i : Nat) : lit0t0_417 i = sel32 (128 * 417 + i % 128) :=
  digits128 (fun m => sel32 (128 * 417 + m)) _ (i % 128) (Nat.mod_lt _ (by decide))
theorem lit0_418 (i : Nat) : lit0t0_418 i = sel32 (128 * 418 + i % 128) :=
  digits128 (fun m => sel32 (128 * 418 + m)) _ (i % 128) (Nat.mod_lt _ (by decide))
theorem lit0_419 (i : Nat) : lit0t0_419 i = sel32 (128 * 419 + i % 128) :=
  digits128 (fun m => sel32 (128 * 419 + m)) _ (i % 128) (Nat.mod_lt _ (by decide))
theorem lit0_420 (i : Nat) : lit0t0_420 i = sel32 (128 * 420 + i % 128) :=
  digits128 (fun m => sel32 (128 * 420 + m)) _ (i % 128) (Nat.mod_lt _ (by decide))
theorem lit0_421 (i : Nat) : lit0t0_421 i = sel32 (128 * 421 + i % 128) :=
  digits128 (fun m => sel32 (128 * 421 + m)) _ (i % 128) (Nat.mod_lt _ (by decide))
theorem lit0_422 (i : Nat) : lit0t0_422 i = sel32 (128 * 422 + i % 128) :=
  digits128 (fun m => sel32 (128 * 422 + m)) _ (i % 128) (Nat.mod_lt _ (by decide))
theorem lit0_423 (i : Nat) : lit0t0_423 i = sel32 (128 * 423 + i % 128) :=
  digits128 (fun m => sel32 (128 * 423 + m)) _ (i % 128) (Nat.mod_lt _ (by decide))
theorem lit0_424 (i : Nat) : lit0t0_424 i = sel32 (128 * 424 + i % 128) :=
  digits128 (fun m => sel32 (128 * 424 + m)) _ (i % 128) (Nat.mod_lt _ (by decide))
theorem lit0_425 (i : Nat) : lit0t0_425 i = sel32 (128 * 425 + i % 128) :=
  digits128 (fun m => sel32 (128 * 425 + m)) _ (i % 128) (Nat.mod_lt _ (by decide))
theorem lit0_426 (i : Nat) : lit0t0_426 i = sel32 (128 * 426 + i % 128) :=
  digits128 (fun m => sel32 (128 * 426 + m)) _ (i % 128) (Nat.mod_lt _ (by decide))
theorem lit0_427 (i : Nat) : lit0t0_427 i = sel32 (128 * 427 + i % 128) :=
  digits128 (fun m => sel32 (128 * 427 + m)) _ (i % 128) (Nat.mod_lt _ (by decide))
theorem lit0_428 (i : Nat) : lit0t0_428 i = sel32 (128 * 428 + i % 128) :=
  digits128 (fun m => sel32 (128 * 428 + m)) _ (i % 128) (Nat.mod_lt _ (by decide))
theorem lit0_429 (i : Nat) : lit0t0_429 i = sel32 (128 * 429 + i % 128) :=
  digits128 (fun m => sel32 (128 * 429 + m)) _ (i % 128) (Nat.mod_lt _ (by decide))
theorem lit0_430 (i : Nat) : lit0t0_430 i = sel32 (128 * 430 + i % 128) :=
  digits128 (fun m => sel32 (128 * 430 + m)) _ (i % 128) (Nat.mod_lt _ (by decide))
theorem lit0_431 (i : Nat) : lit0t0_431 i = sel32 (128 * 431 + i % 128) :=
  digits128 (fun m => sel32 (128 * 431 + m)) _ (i % 128) (Nat.mod_lt _ (by decide))
theorem lit0_432 (i : Nat) : lit0t0_432 i = sel32 (128 * 432 + i % 128) :=
  digits128 (fun m => sel32 (128 * 432 + m)) _ (i % 128) (Nat.mod_lt _ (by decide))
theorem lit0_433 (i : Nat) : lit0t0_433 i = sel32 (128 * 433 + i % 128) :=
  digits128 (fun m => sel32 (128 * 433 + m)) _ (i % 128) (Nat.mod_lt _ (by decide))
theorem lit0_434 (i : Nat) : lit0t0_434 i = sel32 (128 * 434 + i % 128) :=
  digits128 (fun m => sel32 (128 * 434 + m)) _ (i % 128) (Nat.mod_lt _ (by decide))
theorem lit0_435 (i : Nat) : lit0t0_435 i = sel32 (128 * 435 + i % 128) :=
  digits128 (fun m => sel32 (128 * 435 + m)) _ (i % 128) (Nat.mod_lt _ (by decide))
theorem lit0_436 (i : Nat) : lit0t0_436 i = sel32 (128 * 436 + i % 128) :=
  digits128 (fun m => sel32 (128 * 436 + m)) _ (i % 128) (Nat.mod_lt _ (by decide))
theorem lit0_437 (i : Nat) : lit0t0_437 i = sel32 (128 * 437 + i % 128) :=
  digits128 (fun m => sel32 (128 * 437 + m)) _ (i % 128) (Nat.mod_lt _ (by decide))
theorem lit0_438 (i : Nat) : lit0t0_438 i = sel32 (128 * 438 + i % 128) :=
  digits128 (fun m => sel32 (128 * 438 + m)) _ (i % 128) (Nat.mod_lt _ (by decide))
theorem lit0_439 (i : Nat) : lit0t0_439 i = sel32 (128 * 439 + i % 128) :=
  digits128 (fun m => sel32 (128 * 439 + m)) _ (i % 128) (Nat.mod_lt _ (by decide))
theorem lit0_440 (i : Nat) : lit0t0_440 i = sel32 (128 * 440 + i % 128) :=
  digits128 (fun m => sel32 (128 * 440 + m)) _ (i % 128) (Nat.mod_lt _ (by decide))
theorem lit0_441 (i : Nat) : lit0t0_441 i = sel32 (128 * 441 + i % 128) :=
  digits128 (fun m => sel32 (128 * 441 + m)) _ (i % 128) (Nat.mod_lt _ (by decide))
theorem lit0_442 (i : Nat) : lit0t0_442 i = sel32 (128 * 442 + i % 128) :=
  digits128 (fun m => sel32 (128 * 442 + m)) _ (i % 128) (Nat.mod_lt _ (by decide))
theorem lit0_443 (i : Nat) : lit0t0_443 i = sel32 (128 * 443 + i % 128) :=
  digits128 (fun m => sel32 (128 * 443 + m)) _ (i % 128) (Nat.mod_lt _ (by decide))
theorem lit0_444 (i : Nat) : lit0t0_444 i = sel32 (128 * 444 + i % 128) :=
  digits128 (fun m => sel32 (128 * 444 + m)) _ (i % 128) (Nat.mod_lt _ (by decide))
theorem lit0_445 (i : Nat) : lit0t0_445 i = sel32 (128 * 445 + i % 128) :=
  digits128 (fun m => sel32 (128 * 445 + m)) _ (i % 128) (Nat.mod_lt _ (by decide))
theorem lit0_446 (i : Nat) : lit0t0_446 i = sel32 (128 * 446 + i % 128) :=
  digits128 (fun m => sel32 (128 * 446 + m)) _ (i % 128) (Nat.mod_lt _ (by decide))
theorem lit0_447 (i : Nat) : lit0t0_447 i = sel32 (128 * 447 + i % 128) :=
  digits128 (fun m => sel32 (128 * 447 + m)) _ (i % 128) (Nat.mod_lt _ (by decide))
theorem lit0_448 (i : Nat) : lit0t0_448 i = sel32 (128 * 448 + i % 128) :=
  digits128 (fun m => sel32 (128 * 448 + m)) _ (i % 128) (Nat.mod_lt _ (by decide))
theorem lit0_449 (i : Nat) : lit0t0_449 i = sel32 (128 * 449 + i % 128) :=
  digits128 (fun m => sel32 (128 * 449 + m)) _ (i % 128) (Nat.mod_lt _ (by decide))
theorem lit0_450 (i : Nat) : lit0t0_450 i = sel32 (128 * 450 + i % 128) :=
  digits128 (fun m => sel32 (128 * 450 + m)) _ (i % 128) (Nat.mod_lt _ (by decide))
theorem lit0_451 (i : Nat) : lit0t0_451 i = sel32 (128 * 451 + i % 128) :=
  digits128 (fun m => sel32 (128 * 451 + m)) _ (i % 128) (Nat.mod_lt _ (by decide))
theorem lit0_452 (i : Nat) : lit0t0_452 i = sel32 (128 * 452 + i % 128) :=
  digits128 (fun m => sel32 (128 * 452 + m)) _ (i % 128) (Nat.mod_lt _ (by decide))
theorem lit0_453 (i : Nat) : lit0t0_453 i = sel32 (128 * 453 + i % 128) :=
  digits128 (fun m => sel32 (128 * 453 + m)) _ (i % 128) (Nat.mod_lt _ (by decide))
theorem lit0_454 (i : Nat) : lit0t0_454 i = sel32 (128 * 454 + i % 128) :=
  digits128 (fun m => sel32 (128 * 454 + m)) _ (i % 128) (Nat.mod_lt _ (by decide))
theorem lit0_455 (i : Nat) : lit0t0_455 i = sel32 (128 * 455 + i % 128) :=
  digits128 (fun m => sel32 (128 * 455 + m)) _ (i % 128) (Nat.mod_lt _ (by decide))
theorem lit0_456 (i : Nat) : lit0t0_456 i = sel32 (128 * 456 + i % 128) :=
  digits128 (fun m => sel32 (128 * 456 + m)) _ (i % 128) (Nat.mod_lt _ (by decide))
theorem lit0_457 (i : Nat) : lit0t0_457 i = sel32 (128 * 457 + i % 128) :=
  digits128 (fun m => sel32 (128 * 457 + m)) _ (i % 128) (Nat.mod_lt _ (by decide))
theorem lit0_458 (i : Nat) : lit0t0_458 i = sel32 (128 * 458 + i % 128) :=
  digits128 (fun m => sel32 (128 * 458 + m)) _ (i % 128) (Nat.mod_lt _ (by decide))
theorem lit0_459 (i : Nat) : lit0t0_459 i = sel32 (128 * 459 + i % 128) :=
  digits128 (fun m => sel32 (128 * 459 + m)) _ (i % 128) (Nat.mod_lt _ (by decide))
theorem lit0_460 (i : Nat) : lit0t0_460 i = sel32 (128 * 460 + i % 128) :=
  digits128 (fun m => sel32 (128 * 460 + m)) _ (i % 128) (Nat.mod_lt _ (by decide))
theorem lit0_461 (i : Nat) : lit0t0_461 i = sel32 (128 * 461 + i % 128) :=
  digits128 (fun m => sel32 (128 * 461 + m)) _ (i % 128) (Nat.mod_lt _ (by decide))
theorem lit0_462 (i : Nat) : lit0t0_462 i = sel32 (128 * 462 + i % 128) :=
  digits128 (fun m => sel32 (128 * 462 + m)) _ (i % 128) (Nat.mod_lt _ (by decide))
theorem lit0_463 (i : Nat) : lit0t0_463 i = sel32 (128 * 463 + i % 128) :=
  digits128 (fun m => sel32 (128 * 463 + m)) _ (i % 128) (Nat.mod_lt _ (by decide))
theorem lit0_464 (i : Nat) : lit0t0_464 i = sel32 (128 * 464 + i % 128) :=
  digits128 (fun m => sel32 (128 * 464 + m)) _ (i % 128) (Nat.mod_lt _ (by decide))
theorem lit0_465 (i : Nat) : lit0t0_465 i = sel32 (128 * 465 + i % 128) :=
  digits128 (fun m => sel32 (128 * 465 + m)) _ (i % 128) (Nat.mod_lt _ (by decide))
theorem lit0_466 (i : Nat) : lit0t0_466 i = sel32 (128 * 466 + i % 128) :=
  digits128 (fun m => sel32 (128 * 466 + m)) _ (i % 128) (Nat.mod_lt _ (by decide))
theorem lit0_467 (i : Nat) : lit0t0_467 i = sel32 (128 * 467 + i % 128) :=
  digits128 (fun m => sel32 (128 * 467 + m)) _ (i % 128) (Nat.mod_lt _ (by decide))
theorem lit0_468 (i : Nat) : lit0t0_468 i = sel32 (128 * 468 + i % 128) :=
  digits128 (fun m => sel32 (128 * 468 + m)) _ (i % 128) (Nat.mod_lt _ (by decide))
theorem lit0_469 (i : Nat) : lit0t0_469 i = sel32 (128 * 469 + i % 128) :=
  digits128 (fun m => sel32 (128 * 469 + m)) _ (i % 128) (Nat.mod_lt _ (by decide))
theorem lit0_470 (i : Nat) : lit0t0_470 i = sel32 (128 * 470 + i % 128) :=
  digits128 (fun m => sel32 (128 * 470 + m)) _ (i % 128) (Nat.mod_lt _ (by decide))
theorem lit0_471 (i : Nat) : lit0t0_471 i = sel32 (128 * 471 + i % 128) :=
  digits128 (fun m => sel32 (128 * 471 + m)) _ (i % 128) (Nat.mod_lt _ (by decide))
theorem lit0_472 (i : Nat) : lit0t0_472 i = sel32 (128 * 472 + i % 128) :=
  digits128 (fun m => sel32 (128 * 472 + m)) _ (i % 128) (Nat.mod_lt _ (by decide))
theorem lit0_473 (i : Nat) : lit0t0_473 i = sel32 (128 * 473 + i % 128) :=
  digits128 (fun m => sel32 (128 * 473 + m)) _ (i % 128) (Nat.mod_lt _ (by decide))
theorem lit0_474 (i : Nat) : lit0t0_474 i = sel32 (128 * 474 + i % 128) :=
  digits128 (fun m => sel32 (128 * 474 + m)) _ (i % 128) (Nat.mod_lt _ (by decide))
theorem lit0_475 (i : Nat) : lit0t0_475 i = sel32 (128 * 475 + i % 128) :=
  digits128 (fun m => sel32 (128 * 475 + m)) _ (i % 128) (Nat.mod_lt _ (by decide))
theorem lit0_476 (i : Nat) : lit0t0_476 i = sel32 (128 * 476 + i % 128) :=
  digits128 (fun m => sel32 (128 * 476 + m)) _ (i % 128) (Nat.mod_lt _ (by decide))
theorem lit0_477 (i : Nat) : lit0t0_477 i = sel32 (128 * 477 + i % 128) :=
  digits128 (fun m => sel32 (128 * 477 + m)) _ (i % 128) (Nat.mod_lt _ (by decide))
theorem lit0_478 (i : Nat) : lit0t0_478 i = sel32 (128 * 478 + i % 128) :=
  digits128 (fun m => sel32 (128 * 478 + m)) _ (i % 128) (Nat.mod_lt _ (by decide))
theorem lit0_479 (i : Nat) : lit0t0_479 i = sel32 (128 * 479 + i % 128) :=
  digits128 (fun m => sel32 (128 * 479 + m)) _ (i % 128) (Nat.mod_lt _ (by decide))
theorem lit0_480 (i : Nat) : lit0t0_480 i = sel32 (128 * 480 + i % 128) :=
  digits128 (fun m => sel32 (128 * 480 + m)) _ (i % 128) (Nat.mod_lt _ (by decide))
theorem lit0_481 (i : Nat) : lit0t0_481 i = sel32 (128 * 481 + i % 128) :=
  digits128 (fun m => sel32 (128 * 481 + m)) _ (i % 128) (Nat.mod_lt _ (by decide))
theorem lit0_482 (i : Nat) : lit0t0_482 i = sel32 (128 * 482 + i % 128) :=
  digits128 (fun m => sel32 (128 * 482 + m)) _ (i % 128) (Nat.mod_lt _ (by decide))
theorem lit0_483 (i : Nat) : lit0t0_483 i = sel32 (128 * 483 + i % 128) :=
  digits128 (fun m => sel32 (128 * 483 + m)) _ (i % 128) (Nat.mod_lt _ (by decide))
theorem lit0_484 (i : Nat) : lit0t0_484 i = sel32 (128 * 484 + i % 128) :=
  digits128 (fun m => sel32 (128 * 484 + m)) _ (i % 128) (Nat.mod_lt _ (by decide))
theorem lit0_485 (i : Nat) : lit0t0_485 i = sel32 (128 * 485 + i % 128) :=
  digits128 (fun m => sel32 (128 * 485 + m)) _ (i % 128) (Nat.mod_lt _ (by decide))
theorem lit0_486 (i : Nat) : lit0t0_486 i = sel32 (128 * 486 + i % 128) :=
  digits128 (fun m => sel32 (128 * 486 + m)) _ (i % 128) (Nat.mod_lt _ (by decide))
theorem lit0_487 (i : Nat) : lit0t0_487 i = sel32 (128 * 487 + i % 128) :=
  digits128 (fun m => sel32 (128 * 487 + m)) _ (i % 128) (Nat.mod_lt _ (by decide))
theorem lit0_488 (i : Nat) : lit0t0_488 i = sel32 (128 * 488 + i % 128) :=
  digits128 (fun m => sel32 (128 * 488 + m)) _ (i % 128) (Nat.mod_lt _ (by decide))
theorem lit0_489 (i : Nat) : lit0t0_489 i = sel32 (128 * 489 + i % 128) :=
  digits128 (fun m => sel32 (128 * 489 + m)) _ (i % 128) (Nat.mod_lt _ (by decide))
theorem lit0_490 (i : Nat) : lit0t0_490 i = sel32 (128 * 490 + i % 128) :=
  digits128 (fun m => sel32 (128 * 490 + m)) _ (i % 128) (Nat.mod_lt _ (by decide))
theorem lit0_491 (i : Nat) : lit0t0_491 i = sel32 (128 * 491 + i % 128) :=
  digits128 (fun m => sel32 (128 * 491 + m)) _ (i % 128) (Nat.mod_lt _ (by decide))
theorem lit0_492 (i : Nat) : lit0t0_492 i = sel32 (128 * 492 + i % 128) :=
  digits128 (fun m => sel32 (128 * 492 + m)) _ (i % 128) (Nat.mod_lt _ (by decide))
theorem lit0_493 (i : Nat) : lit0t0_493 i = sel32 (128 * 493 + i % 128) :=
  digits128 (fun m => sel32 (128 * 493 + m)) _ (i % 128) (Nat.mod_lt _ (by decide))
theorem lit0_494 (i : Nat) : lit0t0_494 i = sel32 (128 * 494 + i % 128) :=
  digits128 (fun m => sel32 (128 * 494 + m)) _ (i % 128) (Nat.mod_lt _ (by decide))
theorem lit0_495 (i : Nat) : lit0t0_495 i = sel32 (128 * 495 + i % 128) :=
  digits128 (fun m => sel32 (128 * 495 + m)) _ (i % 128) (Nat.mod_lt _ (by decide))
theorem lit0_496 (i : Nat) : lit0t0_496 i = sel32 (128 * 496 + i % 128) :=
  digits128 (fun m => sel32 (128 * 496 + m)) _ (i % 128) (Nat.mod_lt _ (by decide))
theorem lit0_497 (i : Nat) : lit0t0_497 i = sel32 (128 * 497 + i % 128) :=
  digits128 (fun m => sel32 (128 * 497 + m)) _ (i % 128) (Nat.mod_lt _ (by decide))
theorem lit0_498 (i : Nat) : lit0t0_498 i = sel32 (128 * 498 + i % 128) :=
  digits128 (fun m => sel32 (128 * 498 + m)) _ (i % 128) (Nat.mod_lt _ (by decide))
theorem lit0_499 (i : Nat) : lit0t0_499 i = sel32 (128 * 499 + i % 128) :=
  digits128 (fun m => sel32 (128 * 499 + m)) _ (i % 128) (Nat.mod_lt _ (by decide))
theorem lit0_500 (i : Nat) : lit0t0_500 i = sel32 (128 * 500 + i % 128) :=
  digits128 (fun m => sel32 (128 * 500 + m)) _ (i % 128) (Nat.mod_lt _ (by decide))
theorem lit0_501 (i : Nat) : lit0t0_501 i = sel32 (128 * 501 + i % 128) :=
  digits128 (fun m => sel32 (128 * 501 + m)) _ (i % 128) (Nat.mod_lt _ (by decide))
theorem lit0_502 (i : Nat) : lit0t0_502 i = sel32 (128 * 502 + i % 128) :=
  digits128 (fun m => sel32 (128 * 502 + m)) _ (i % 128) (Nat.mod_lt _ (by decide))
theorem lit0_503 (i : Nat) : lit0t0_503 i = sel32 (128 * 503 + i % 128) :=
  digits128 (fun m => sel32 (128 * 503 + m)) _ (i % 128) (Nat.mod_lt _ (by decide))
theorem lit0_504 (i : Nat) : lit0t0_504 i = sel32 (128 * 504 + i % 128) :=
  digits128 (fun m => sel32 (128 * 504 + m)) _ (i % 128) (Nat.mod_lt _ (by decide))
theorem lit0_505 (i : Nat) : lit0t0_505 i = sel32 (128 * 505 + i % 128) :=
  digits128 (fun m => sel32 (128 * 505 + m)) _ (i % 128) (Nat.mod_lt _ (by decide))
theorem lit0_506 (i : Nat) : lit0t0_506 i = sel32 (128 * 506 + i % 128) :=
  digits128 (fun m => sel32 (128 * 506 + m)) _ (i % 128) (Nat.mod_lt _ (by decide))
theorem lit0_507 (i : Nat) : lit0t0_507 i = sel32 (128 * 507 + i % 128) :=
  digits128 (fun m => sel32 (128 * 507 + m)) _ (i % 128) (Nat.mod_lt _ (by decide))
theorem lit0_508 (i : Nat) : lit0t0_508 i = sel32 (128 * 508 + i % 128) :=
  digits128 (fun m => sel32 (128 * 508 + m)) _ (i % 128) (Nat.mod_lt _ (by decide))
theorem lit0_509 (i : Nat) : lit0t0_509 i = sel32 (128 * 509 + i % 128) :=
  digits128 (fun m => sel32 (128 * 509 + m)) _ (i % 128) (Nat.mod_lt _ (by decide))
theorem lit0_510 (i : Nat) : lit0t0_510 i = sel32 (128 * 510 + i % 128) :=
  digits128 (fun m => sel32 (128 * 510 + m)) _ (i % 128) (Nat.mod_lt _ (by decide))
theorem lit0_511 (i : Nat) : lit0t0_511 i = sel32 (128 * 511 + i % 128) :=
  digits128 (fun m => sel32 (128 * 511 + m)) _ (i % 128) (Nat.mod_lt _ (by decide))
theorem lit0_512 (i : Nat) : lit0t0_512 i = sel32 (128 * 512 + i % 128) :=
  digits128 (fun m => sel32 (128 * 512 + m)) _ (i % 128) (Nat.mod_lt _ (by decide))
theorem lit0_513 (i : Nat) : lit0t0_513 i = sel32 (128 * 513 + i % 128) :=
  digits128 (fun m => sel32 (128 * 513 + m)) _ (i % 128) (Nat.mod_lt _ (by decide))
theorem lit0_514 (i : Nat) : lit0t0_514 i = sel32 (128 * 514 + i % 128) :=
  digits128 (fun m => sel32 (128 * 514 + m)) _ (i % 128) (Nat.mod_lt _ (by decide))
theorem lit0_515 (i : Nat) : lit0t0_515 i = sel32 (128 * 515 + i % 128) :=
  digits128 (fun m => sel32 (128 * 515 + m)) _ (i % 128) (Nat.mod_lt _ (by decide))
theorem lit0_516 (i : Nat) : lit0t0_516 i = sel32 (128 * 516 + i % 128) :=
  digits128 (fun m => sel32 (128 * 516 + m)) _ (i % 128) (Nat.mod_lt _ (by decide))
theorem lit0_517 (i : Nat) : lit0t0_517 i = sel32 (128 * 517 + i % 128) :=
  digits128 (fun m => sel32 (128 * 517 + m)) _ (i % 128) (Nat.mod_lt _ (by decide))
theorem lit0_518 (i : Nat) : lit0t0_518 i = sel32 (128 * 518 + i % 128) :=
  digits128 (fun m => sel32 (128 * 518 + m)) _ (i % 128) (Nat.mod_lt _ (by decide))
theorem lit0_519 (i : Nat) : lit0t0_519 i = sel32 (128 * 519 + i % 128) :=
  digits128 (fun m => sel32 (128 * 519 + m)) _ (i % 128) (Nat.mod_lt _ (by decide))
theorem lit0_520 (i : Nat) : lit0t0_520 i = sel32 (128 * 520 + i % 128) :=
  digits128 (fun m => sel32 (128 * 520 + m)) _ (i % 128) (Nat.mod_lt _ (by decide))
theorem lit0_521 (i : Nat) : lit0t0_521 i = sel32 (128 * 521 + i % 128) :=
  digits128 (fun m => sel32 (128 * 521 + m)) _ (i % 128) (Nat.mod_lt _ (by decide))
theorem lit0_522 (i : Nat) : lit0t0_522 i = sel32 (128 * 522 + i % 128) :=
  digits128 (fun m => sel32 (128 * 522 + m)) _ (i % 128) (Nat.mod_lt _ (by decide))
theorem lit0_523 (i : Nat) : lit0t0_523 i = sel32 (128 * 523 + i % 128) :=
  digits128 (fun m => sel32 (128 * 523 + m)) _ (i % 128) (Nat.mod_lt _ (by decide))
theorem lit0_524 (i : Nat) : lit0t0_524 i = sel32 (128 * 524 + i % 128) :=
  digits128 (fun m => sel32 (128 * 524 + m)) _ (i % 128) (Nat.mod_lt _ (by decide))
theorem lit0_525 (i : Nat) : lit0t0_525 i = sel32 (128 * 525 + i % 128) :=
  digits128 (fun m => sel32 (128 * 525 + m)) _ (i % 128) (Nat.mod_lt _ (by decide))
theorem lit0_526 (i : Nat) : lit0t0_526 i = sel32 (128 * 526 + i % 128) :=
  digits128 (fun m => sel32 (128 * 526 + m)) _ (i % 128) (Nat.mod_lt _ (by decide))
theorem lit0_527 (i : Nat) : lit0t0_527 i = sel32 (128 * 527 + i % 128) :=
  digits128 (fun m => sel32 (128 * 527 + m)) _ (i % 128) (Nat.mod_lt _ (by decide))
theorem lit0_528 (i : Nat) : lit0t0_528 i = sel32 (128 * 528 + i % 128) :=
  digits128 (fun m => sel32 (128 * 528 + m)) _ (i % 128) (Nat.mod_lt _ (by decide))
theorem lit0_529 (i : Nat) : lit0t0_529 i = sel32 (128 * 529 + i % 128) :=
  digits128 (fun m => sel32 (128 * 529 + m)) _ (i % 128) (Nat.mod_lt _ (by decide))
theorem lit0_530 (i : Nat) : lit0t0_530 i = sel32 (128 * 530 + i % 128) :=
  digits128 (fun m => sel32 (128 * 530 + m)) _ (i % 128) (Nat.mod_lt _ (by decide))
theorem lit0_531 (i : Nat) : lit0t0_531 i = sel32 (128 * 531 + i % 128) :=
  digits128 (fun m => sel32 (128 * 531 + m)) _ (i % 128) (Nat.mod_lt _ (by decide))
theorem lit0_532 (i : Nat) : lit0t0_532 i = sel32 (128 * 532 + i % 128) :=
  digits128 (fun m => sel32 (128 * 532 + m)) _ (i % 128) (Nat.mod_lt _ (by decide))
theorem lit0_533 (i : Nat) : lit0t0_533 i = sel32 (128 * 533 + i % 128) :=
  digits128 (fun m => sel32 (128 * 533 + m)) _ (i % 128) (Nat.mod_lt _ (by decide))
theorem lit0_534 (i : Nat) : lit0t0_534 i = sel32 (128 * 534 + i % 128) :=
  digits128 (fun m => sel32 (128 * 534 + m)) _ (i % 128) (Nat.mod_lt _ (by decide))
theorem lit0_535 (i : Nat) : lit0t0_535 i = sel32 (128 * 535 + i % 128) :=
  digits128 (fun m => sel32 (128 * 535 + m)) _ (i % 128) (Nat.mod_lt _ (by decide))
theorem lit0_536 (i : Nat) : lit0t0_536 i = sel32 (128 * 536 + i % 128) :=
  digits128 (fun m => sel32 (128 * 536 + m)) _ (i % 128) (Nat.mod_lt _ (by decide))
theorem lit0_537 (i : Nat) : lit0t0_537 i = sel32 (128 * 537 + i % 128) :=
  digits128 (fun m => sel32 (128 * 537 + m)) _ (i % 128) (Nat.mod_lt _ (by decide))
theorem lit0_538 (i : Nat) : lit0t0_538 i = sel32 (128 * 538 + i % 128) :=
  digits128 (fun m => sel32 (128 * 538 + m)) _ (i % 128) (Nat.mod_lt _ (by decide))
theorem lit0_539 (i : Nat) : lit0t0_539 i = sel32 (128 * 539 + i % 128) :=
  digits128 (fun m => sel32 (128 * 539 + m)) _ (i % 128) (Nat.mod_lt _ (by decide))
theorem lit0_540 (i : Nat) : lit0t0_540 i = sel32 (128 * 540 + i % 128) :=
  digits128 (fun m => sel32 (128 * 540 + m)) _ (i % 128) (Nat.mod_lt _ (by decide))
theorem lit0_541 (i : Nat) : lit0t0_541 i = sel32 (128 * 541 + i % 128) :=
  digits128 (fun m => sel32 (128 * 541 + m)) _ (i % 128) (Nat.mod_lt _ (by decide))
theorem lit0_542 (i : Nat) : lit0t0_542 i = sel32 (128 * 542 + i % 128) :=
  digits128 (fun m => sel32 (128 * 542 + m)) _ (i % 128) (Nat.mod_lt _ (by decide))
theorem lit0_543 (i : Nat) : lit0t0_543 i = sel32 (128 * 543 + i % 128) :=
  digits128 (fun m => sel32 (128 * 543 + m)) _ (i % 128) (Nat.mod_lt _ (by decide))
theorem lit0_544 (i : Nat) : lit0t0_544 i = sel32 (128 * 544 + i % 128) :=
  digits128 (fun m => sel32 (128 * 544 + m)) _ (i % 128) (Nat.mod_lt _ (by decide))
theorem lit0_545 (i : Nat) : lit0t0_545 i = sel32 (128 * 545 + i % 128) :=
  digits128 (fun m => sel32 (128 * 545 + m)) _ (i % 128) (Nat.mod_lt _ (by decide))
theorem lit0_546 (i : Nat) : lit0t0_546 i = sel32 (128 * 546 + i % 128) :=
  digits128 (fun m => sel32 (128 * 546 + m)) _ (i % 128) (Nat.mod_lt _ (by decide))
theorem lit0_547 (i : Nat) : lit0t0_547 i = sel32 (128 * 547 + i % 128) :=
  digits128 (fun m => sel32 (128 * 547 + m)) _ (i % 128) (Nat.mod_lt _ (by decide))
theorem lit0_548 (i : Nat) : lit0t0_548 i = sel32 (128 * 548 + i % 128) :=
  digits128 (fun m => sel32 (128 * 548 + m)) _ (i % 128) (Nat.mod_lt _ (by decide))
theorem lit0_549 (i : Nat) : lit0t0_549 i = sel32 (128 * 549 + i % 128) :=
  digits128 (fun m => sel32 (128 * 549 + m)) _ (i % 128) (Nat.mod_lt _ (by decide))
theorem lit0_550 (i : Nat) : lit0t0_550 i = sel32 (128 * 550 + i % 128) :=
  digits128 (fun m => sel32 (128 * 550 + m)) _ (i % 128) (Nat.mod_lt _ (by decide))
theorem lit0_551 (i : Nat) : lit0t0_551 i = sel32 (128 * 551 + i % 128) :=
  digits128 (fun m => sel32 (128 * 551 + m)) _ (i % 128) (Nat.mod_lt _ (by decide))
theorem lit0_552 (i : Nat) : lit0t0_552 i = sel32 (128 * 552 + i % 128) :=
  digits128 (fun m => sel32 (128 * 552 + m)) _ (i % 128) (Nat.mod_lt _ (by decide))
theorem lit0_553 (i : Nat) : lit0t0_553 i = sel32 (128 * 553 + i % 128) :=
  digits128 (fun m => sel32 (128 * 553 + m)) _ (i % 128) (Nat.mod_lt _ (by decide))
theorem lit0_554 (i : Nat) : lit0t0_554 i = sel32 (128 * 554 + i % 128) :=
  digits128 (fun m => sel32 (128 * 554 + m)) _ (i % 128) (Nat.mod_lt _ (by decide))
theorem lit0_555 (i : Nat) : lit0t0_555 i = sel32 (128 * 555 + i % 128) :=
  digits128 (fun m => sel32 (128 * 555 + m)) _ (i % 128) (Nat.mod_lt _ (by decide))
theorem lit0_556 (i : Nat) : lit0t0_556 i = sel32 (128 * 556 + i % 128) :=
  digits128 (fun m => sel32 (128 * 556 + m)) _ (i % 128) (Nat.mod_lt _ (by decide))
theorem lit0_557 (i : Nat) : lit0t0_557 i = sel32 (128 * 557 + i % 128) :=
  digits128 (fun m => sel32 (128 * 557 + m)) _ (i % 128) (Nat.mod_lt _ (by decide))
theorem lit0_558 (i : Nat) : lit0t0_558 i = sel32 (128 * 558 + i % 128) :=
  digits128 (fun m => sel32 (128 * 558 + m)) _ (i % 128) (Nat.mod_lt _ (by decide))
theorem lit0_559 (i : Nat) : lit0t0_559 i = sel32 (128 * 559 + i % 128) :=
  digits128 (fun m => sel32 (128 * 559 + m)) _ (i % 128) (Nat.mod_lt _ (by decide))
theorem lit0_560 (i : Nat) : lit0t0_560 i = sel32 (128 * 560 + i % 128) :=
  digits128 (fun m => sel32 (128 * 560 + m)) _ (i % 128) (Nat.mod_lt _ (by decide))
theorem lit0_561 (i : Nat) : lit0t0_561 i = sel32 (128 * 561 + i % 128) :=
  digits128 (fun m => sel32 (128 * 561 + m)) _ (i % 128) (Nat.mod_lt _ (by decide))
theorem lit0_562 (i : Nat) : lit0t0_562 i = sel32 (128 * 562 + i % 128) :=
  digits128 (fun m => sel32 (128 * 562 + m)) _ (i % 128) (Nat.mod_lt _ (by decide))
theorem lit0_563 (i : Nat) : lit0t0_563 i = sel32 (128 * 563 + i % 128) :=
  digits128 (fun m => sel32 (128 * 563 + m)) _ (i % 128) (Nat.mod_lt _ (by decide))
theorem lit0_564 (i : Nat) : lit0t0_564 i = sel32 (128 * 564 + i % 128) :=
  digits128 (fun m => sel32 (128 * 564 + m)) _ (i % 128) (Nat.mod_lt _ (by decide))
theorem lit0_565 (i : Nat) : lit0t0_565 i = sel32 (128 * 565 + i % 128) :=
  digits128 (fun m => sel32 (128 * 565 + m)) _ (i % 128) (Nat.mod_lt _ (by decide))
theorem lit0_566 (i : Nat) : lit0t0_566 i = sel32 (128 * 566 + i % 128) :=
  digits128 (fun m => sel32 (128 * 566 + m)) _ (i % 128) (Nat.mod_lt _ (by decide))
theorem lit0_567 (i : Nat) : lit0t0_567 i = sel32 (128 * 567 + i % 128) :=
  digits128 (fun m => sel32 (128 * 567 + m)) _ (i % 128) (Nat.mod_lt _ (by decide))
theorem lit0_568 (i : Nat) : lit0t0_568 i = sel32 (128 * 568 + i % 128) :=
  digits128 (fun m => sel32 (128 * 568 + m)) _ (i % 128) (Nat.mod_lt _ (by decide))
theorem lit0_569 (i : Nat) : lit0t0_569 i = sel32 (128 * 569 + i % 128) :=
  digits128 (fun m => sel32 (128 * 569 + m)) _ (i % 128) (Nat.mod_lt _ (by decide))
theorem lit0_570 (i : Nat) : lit0t0_570 i = sel32 (128 * 570 + i % 128) :=
  digits128 (fun m => sel32 (128 * 570 + m)) _ (i % 128) (Nat.mod_lt _ (by decide))
theorem lit0_571 (i : Nat) : lit0t0_571 i = sel32 (128 * 571 + i % 128) :=
  digits128 (fun m => sel32 (128 * 571 + m)) _ (i % 128) (Nat.mod_lt _ (by decide))
theorem lit0_572 (i : Nat) : lit0t0_572 i = sel32 (128 * 572 + i % 128) :=
  digits128 (fun m => sel32 (128 * 572 + m)) _ (i % 128) (Nat.mod_lt _ (by decide))
theorem lit0_573 (i : Nat) : lit0t0_573 i = sel32 (128 * 573 + i % 128) :=
  digits128 (fun m => sel32 (128 * 573 + m)) _ (i % 128) (Nat.mod_lt _ (by decide))
theorem lit0_574 (i : Nat) : lit0t0_574 i = sel32 (128 * 574 + i % 128) :=
  digits128 (fun m => sel32 (128 * 574 + m)) _ (i % 128) (Nat.mod_lt _ (by decide))
theorem lit0_575 (i : Nat) : lit0t0_575 i = sel32 (128 * 575 + i % 128) :=
  digits128 (fun m => sel32 (128 * 575 + m)) _ (i % 128) (Nat.mod_lt _ (by decide))
theorem lit0_576 (i : Nat) : lit0t0_576 i = sel32 (128 * 576 + i % 128) :=
  digits128 (fun m => sel32 (128 * 576 + m)) _ (i % 128) (Nat.mod_lt _ (by decide))
theorem lit0_577 (i : Nat) : lit0t0_577 i = sel32 (128 * 577 + i % 128) :=
  digits128 (fun m => sel32 (128 * 577 + m)) _ (i % 128) (Nat.mod_lt _ (by decide))
theorem lit0_578 (i : Nat) : lit0t0_578 i = sel32 (128 * 578 + i % 128) :=
  digits128 (fun m => sel32 (128 * 578 + m)) _ (i % 128) (Nat.mod_lt _ (by decide))
theorem lit0_579 (i : Nat) : lit0t0_579 i = sel32 (128 * 579 + i % 128) :=
  digits128 (fun m => sel32 (128 * 579 + m)) _ (i % 128) (Nat.mod_lt _ (by decide))
theorem lit0_580 (i : Nat) : lit0t0_580 i = sel32 (128 * 580 + i % 128) :=
  digits128 (fun m => sel32 (128 * 580 + m)) _ (i % 128) (Nat.mod_lt _ (by decide))
theorem lit0_581 (i : Nat) : lit0t0_581 i = sel32 (128 * 581 + i % 128) :=
  digits128 (fun m => sel32 (128 * 581 + m)) _ (i % 128) (Nat.mod_lt _ (by decide))
theorem lit0_582 (i : Nat) : lit0t0_582 i = sel32 (128 * 582 + i % 128) :=
  digits128 (fun m => sel32 (128 * 582 + m)) _ (i % 128) (Nat.mod_lt _ (by decide))
theorem lit0_583 (i : Nat) : lit0t0_583 i = sel32 (128 * 583 + i % 128) :=
  digits128 (fun m => sel32 (128 * 583 + m)) _ (i % 128) (Nat.mod_lt _ (by decide))
theorem lit0_584 (i : Nat) : lit0t0_584 i = sel32 (128 * 584 + i % 128) :=
  digits128 (fun m => sel32 (128 * 584 + m)) _ (i % 128) (Nat.mod_lt _ (by decide))
theorem lit0_585 (i : Nat) : lit0t0_585 i = sel32 (128 * 585 + i % 128) :=
  digits128 (fun m => sel32 (128 * 585 + m)) _ (i % 128) (Nat.mod_lt _ (by decide))
theorem lit0_586 (i : Nat) : lit0t0_586 i = sel32 (128 * 586 + i % 128) :=
  digits128 (fun m => sel32 (128 * 586 + m)) _ (i % 128) (Nat.mod_lt _ (by decide))
theorem lit0_587 (i : Nat) : lit0t0_587 i = sel32 (128 * 587 + i % 128) :=
  digits128 (fun m => sel32 (128 * 587 + m)) _ (i % 128) (Nat.mod_lt _ (by decide))
theorem lit0_588 (i : Nat) : lit0t0_588 i = sel32 (128 * 588 + i % 128) :=
  digits128 (fun m => sel32 (128 * 588 + m)) _ (i % 128) (Nat.mod_lt _ (by decide))
theorem lit0_589 (i : Nat) : lit0t0_589 i = sel32 (128 * 589 + i % 128) :=
  digits128 (fun m => sel32 (128 * 589 + m)) _ (i % 128) (Nat.mod_lt _ (by decide))
theorem lit0_590 (i : Nat) : lit0t0_590 i = sel32 (128 * 590 + i % 128) :=
  digits128 (fun m => sel32 (128 * 590 + m)) _ (i % 128) (Nat.mod_lt _ (by decide))
theorem lit0_591 (i : Nat) : lit0t0_591 i = sel32 (128 * 591 + i % 128) :=
  digits128 (fun m => sel32 (128 * 591 + m)) _ (i % 128) (Nat.mod_lt _ (by decide))
theorem lit0_592 (i : Nat) : lit0t0_592 i = sel32 (128 * 592 + i % 128) :=
  digits128 (fun m => sel32 (128 * 592 + m)) _ (i % 128) (Nat.mod_lt _ (by decide))
theorem lit0_593 (i : Nat) : lit0t0_593 i = sel32 (128 * 593 + i % 128) :=
  digits128 (fun m => sel32 (128 * 593 + m)) _ (i % 128) (Nat.mod_lt _ (by decide))
theorem lit0_594 (i : Nat) : lit0t0_594 i = sel32 (128 * 594 + i % 128) :=
  digits128 (fun m => sel32 (128 * 594 + m)) _ (i % 128) (Nat.mod_lt _ (by decide))
theorem lit0_595 (i : Nat) : lit0t0_595 i = sel32 (128 * 595 + i % 128) :=
  digits128 (fun m => sel32 (128 * 595 + m)) _ (i % 128) (Nat.mod_lt _ (by decide))
theorem lit0_596 (i : Nat) : lit0t0_596 i = sel32 (128 * 596 + i % 128) :=
  digits128 (fun m => sel32 (128 * 596 + m)) _ (i % 128) (Nat.mod_lt _ (by decide))
theorem lit0_597 (i : Nat) : lit0t0_597 i = sel32 (128 * 597 + i % 128) :=
  digits128 (fun m => sel32 (128 * 597 + m)) _ (i % 128) (Nat.mod_lt _ (by decide))
theorem lit0_598 (i : Nat) : lit0t0_598 i = sel32 (128 * 598 + i % 128) :=
  digits128 (fun m => sel32 (128 * 598 + m)) _ (i % 128) (Nat.mod_lt _ (by decide))
theorem lit0_599 (i : Nat) : lit0t0_599 i = sel32 (128 * 599 + i % 128) :=
  digits128 (fun m => sel32 (128 * 599 + m)) _ (i % 128) (Nat.mod_lt _ (by decide))

end Cert.Conv

end
-- ==== Proof.Table0D.lean ====
/- The leaves of the table `lit0`, entries 76800 to 102399. -/
module

public import proofs.«01_k».proof.Proof.TableDigits

@[expose] public section

noncomputable section

namespace Cert.Conv

open Idealize.ShloMosaic
open Cert.KernelIdeal

set_option maxRecDepth 100000

theorem lit0_600 (i : Nat) : lit0t0_600 i = sel32 (128 * 600 + i % 128) :=
  digits128 (fun m => sel32 (128 * 600 + m)) _ (i % 128) (Nat.mod_lt _ (by decide))
theorem lit0_601 (i : Nat) : lit0t0_601 i = sel32 (128 * 601 + i % 128) :=
  digits128 (fun m => sel32 (128 * 601 + m)) _ (i % 128) (Nat.mod_lt _ (by decide))
theorem lit0_602 (i : Nat) : lit0t0_602 i = sel32 (128 * 602 + i % 128) :=
  digits128 (fun m => sel32 (128 * 602 + m)) _ (i % 128) (Nat.mod_lt _ (by decide))
theorem lit0_603 (i : Nat) : lit0t0_603 i = sel32 (128 * 603 + i % 128) :=
  digits128 (fun m => sel32 (128 * 603 + m)) _ (i % 128) (Nat.mod_lt _ (by decide))
theorem lit0_604 (i : Nat) : lit0t0_604 i = sel32 (128 * 604 + i % 128) :=
  digits128 (fun m => sel32 (128 * 604 + m)) _ (i % 128) (Nat.mod_lt _ (by decide))
theorem lit0_605 (i : Nat) : lit0t0_605 i = sel32 (128 * 605 + i % 128) :=
  digits128 (fun m => sel32 (128 * 605 + m)) _ (i % 128) (Nat.mod_lt _ (by decide))
theorem lit0_606 (i : Nat) : lit0t0_606 i = sel32 (128 * 606 + i % 128) :=
  digits128 (fun m => sel32 (128 * 606 + m)) _ (i % 128) (Nat.mod_lt _ (by decide))
theorem lit0_607 (i : Nat) : lit0t0_607 i = sel32 (128 * 607 + i % 128) :=
  digits128 (fun m => sel32 (128 * 607 + m)) _ (i % 128) (Nat.mod_lt _ (by decide))
theorem lit0_608 (i : Nat) : lit0t0_608 i = sel32 (128 * 608 + i % 128) :=
  digits128 (fun m => sel32 (128 * 608 + m)) _ (i % 128) (Nat.mod_lt _ (by decide))
theorem lit0_609 (i : Nat) : lit0t0_609 i = sel32 (128 * 609 + i % 128) :=
  digits128 (fun m => sel32 (128 * 609 + m)) _ (i % 128) (Nat.mod_lt _ (by decide))
theorem lit0_610 (i : Nat) : lit0t0_610 i = sel32 (128 * 610 + i % 128) :=
  digits128 (fun m => sel32 (128 * 610 + m)) _ (i % 128) (Nat.mod_lt _ (by decide))
theorem lit0_611 (i : Nat) : lit0t0_611 i = sel32 (128 * 611 + i % 128) :=
  digits128 (fun m => sel32 (128 * 611 + m)) _ (i % 128) (Nat.mod_lt _ (by decide))
theorem lit0_612 (i : Nat) : lit0t0_612 i = sel32 (128 * 612 + i % 128) :=
  digits128 (fun m => sel32 (128 * 612 + m)) _ (i % 128) (Nat.mod_lt _ (by decide))
theorem lit0_613 (i : Nat) : lit0t0_613 i = sel32 (128 * 613 + i % 128) :=
  digits128 (fun m => sel32 (128 * 613 + m)) _ (i % 128) (Nat.mod_lt _ (by decide))
theorem lit0_614 (i : Nat) : lit0t0_614 i = sel32 (128 * 614 + i % 128) :=
  digits128 (fun m => sel32 (128 * 614 + m)) _ (i % 128) (Nat.mod_lt _ (by decide))
theorem lit0_615 (i : Nat) : lit0t0_615 i = sel32 (128 * 615 + i % 128) :=
  digits128 (fun m => sel32 (128 * 615 + m)) _ (i % 128) (Nat.mod_lt _ (by decide))
theorem lit0_616 (i : Nat) : lit0t0_616 i = sel32 (128 * 616 + i % 128) :=
  digits128 (fun m => sel32 (128 * 616 + m)) _ (i % 128) (Nat.mod_lt _ (by decide))
theorem lit0_617 (i : Nat) : lit0t0_617 i = sel32 (128 * 617 + i % 128) :=
  digits128 (fun m => sel32 (128 * 617 + m)) _ (i % 128) (Nat.mod_lt _ (by decide))
theorem lit0_618 (i : Nat) : lit0t0_618 i = sel32 (128 * 618 + i % 128) :=
  digits128 (fun m => sel32 (128 * 618 + m)) _ (i % 128) (Nat.mod_lt _ (by decide))
theorem lit0_619 (i : Nat) : lit0t0_619 i = sel32 (128 * 619 + i % 128) :=
  digits128 (fun m => sel32 (128 * 619 + m)) _ (i % 128) (Nat.mod_lt _ (by decide))
theorem lit0_620 (i : Nat) : lit0t0_620 i = sel32 (128 * 620 + i % 128) :=
  digits128 (fun m => sel32 (128 * 620 + m)) _ (i % 128) (Nat.mod_lt _ (by decide))
theorem lit0_621 (i : Nat) : lit0t0_621 i = sel32 (128 * 621 + i % 128) :=
  digits128 (fun m => sel32 (128 * 621 + m)) _ (i % 128) (Nat.mod_lt _ (by decide))
theorem lit0_622 (i : Nat) : lit0t0_622 i = sel32 (128 * 622 + i % 128) :=
  digits128 (fun m => sel32 (128 * 622 + m)) _ (i % 128) (Nat.mod_lt _ (by decide))
theorem lit0_623 (i : Nat) : lit0t0_623 i = sel32 (128 * 623 + i % 128) :=
  digits128 (fun m => sel32 (128 * 623 + m)) _ (i % 128) (Nat.mod_lt _ (by decide))
theorem lit0_624 (i : Nat) : lit0t0_624 i = sel32 (128 * 624 + i % 128) :=
  digits128 (fun m => sel32 (128 * 624 + m)) _ (i % 128) (Nat.mod_lt _ (by decide))
theorem lit0_625 (i : Nat) : lit0t0_625 i = sel32 (128 * 625 + i % 128) :=
  digits128 (fun m => sel32 (128 * 625 + m)) _ (i % 128) (Nat.mod_lt _ (by decide))
theorem lit0_626 (i : Nat) : lit0t0_626 i = sel32 (128 * 626 + i % 128) :=
  digits128 (fun m => sel32 (128 * 626 + m)) _ (i % 128) (Nat.mod_lt _ (by decide))
theorem lit0_627 (i : Nat) : lit0t0_627 i = sel32 (128 * 627 + i % 128) :=
  digits128 (fun m => sel32 (128 * 627 + m)) _ (i % 128) (Nat.mod_lt _ (by decide))
theorem lit0_628 (i : Nat) : lit0t0_628 i = sel32 (128 * 628 + i % 128) :=
  digits128 (fun m => sel32 (128 * 628 + m)) _ (i % 128) (Nat.mod_lt _ (by decide))
theorem lit0_629 (i : Nat) : lit0t0_629 i = sel32 (128 * 629 + i % 128) :=
  digits128 (fun m => sel32 (128 * 629 + m)) _ (i % 128) (Nat.mod_lt _ (by decide))
theorem lit0_630 (i : Nat) : lit0t0_630 i = sel32 (128 * 630 + i % 128) :=
  digits128 (fun m => sel32 (128 * 630 + m)) _ (i % 128) (Nat.mod_lt _ (by decide))
theorem lit0_631 (i : Nat) : lit0t0_631 i = sel32 (128 * 631 + i % 128) :=
  digits128 (fun m => sel32 (128 * 631 + m)) _ (i % 128) (Nat.mod_lt _ (by decide))
theorem lit0_632 (i : Nat) : lit0t0_632 i = sel32 (128 * 632 + i % 128) :=
  digits128 (fun m => sel32 (128 * 632 + m)) _ (i % 128) (Nat.mod_lt _ (by decide))
theorem lit0_633 (i : Nat) : lit0t0_633 i = sel32 (128 * 633 + i % 128) :=
  digits128 (fun m => sel32 (128 * 633 + m)) _ (i % 128) (Nat.mod_lt _ (by decide))
theorem lit0_634 (i : Nat) : lit0t0_634 i = sel32 (128 * 634 + i % 128) :=
  digits128 (fun m => sel32 (128 * 634 + m)) _ (i % 128) (Nat.mod_lt _ (by decide))
theorem lit0_635 (i : Nat) : lit0t0_635 i = sel32 (128 * 635 + i % 128) :=
  digits128 (fun m => sel32 (128 * 635 + m)) _ (i % 128) (Nat.mod_lt _ (by decide))
theorem lit0_636 (i : Nat) : lit0t0_636 i = sel32 (128 * 636 + i % 128) :=
  digits128 (fun m => sel32 (128 * 636 + m)) _ (i % 128) (Nat.mod_lt _ (by decide))
theorem lit0_637 (i : Nat) : lit0t0_637 i = sel32 (128 * 637 + i % 128) :=
  digits128 (fun m => sel32 (128 * 637 + m)) _ (i % 128) (Nat.mod_lt _ (by decide))
theorem lit0_638 (i : Nat) : lit0t0_638 i = sel32 (128 * 638 + i % 128) :=
  digits128 (fun m => sel32 (128 * 638 + m)) _ (i % 128) (Nat.mod_lt _ (by decide))
theorem lit0_639 (i : Nat) : lit0t0_639 i = sel32 (128 * 639 + i % 128) :=
  digits128 (fun m => sel32 (128 * 639 + m)) _ (i % 128) (Nat.mod_lt _ (by decide))
theorem lit0_640 (i : Nat) : lit0t0_640 i = sel32 (128 * 640 + i % 128) :=
  digits128 (fun m => sel32 (128 * 640 + m)) _ (i % 128) (Nat.mod_lt _ (by decide))
theorem lit0_641 (i : Nat) : lit0t0_641 i = sel32 (128 * 641 + i % 128) :=
  digits128 (fun m => sel32 (128 * 641 + m)) _ (i % 128) (Nat.mod_lt _ (by decide))
theorem lit0_642 (i : Nat) : lit0t0_642 i = sel32 (128 * 642 + i % 128) :=
  digits128 (fun m => sel32 (128 * 642 + m)) _ (i % 128) (Nat.mod_lt _ (by decide))
theorem lit0_643 (i : Nat) : lit0t0_643 i = sel32 (128 * 643 + i % 128) :=
  digits128 (fun m => sel32 (128 * 643 + m)) _ (i % 128) (Nat.mod_lt _ (by decide))
theorem lit0_644 (i : Nat) : lit0t0_644 i = sel32 (128 * 644 + i % 128) :=
  digits128 (fun m => sel32 (128 * 644 + m)) _ (i % 128) (Nat.mod_lt _ (by decide))
theorem lit0_645 (i : Nat) : lit0t0_645 i = sel32 (128 * 645 + i % 128) :=
  digits128 (fun m => sel32 (128 * 645 + m)) _ (i % 128) (Nat.mod_lt _ (by decide))
theorem lit0_646 (i : Nat) : lit0t0_646 i = sel32 (128 * 646 + i % 128) :=
  digits128 (fun m => sel32 (128 * 646 + m)) _ (i % 128) (Nat.mod_lt _ (by decide))
theorem lit0_647 (i : Nat) : lit0t0_647 i = sel32 (128 * 647 + i % 128) :=
  digits128 (fun m => sel32 (128 * 647 + m)) _ (i % 128) (Nat.mod_lt _ (by decide))
theorem lit0_648 (i : Nat) : lit0t0_648 i = sel32 (128 * 648 + i % 128) :=
  digits128 (fun m => sel32 (128 * 648 + m)) _ (i % 128) (Nat.mod_lt _ (by decide))
theorem lit0_649 (i : Nat) : lit0t0_649 i = sel32 (128 * 649 + i % 128) :=
  digits128 (fun m => sel32 (128 * 649 + m)) _ (i % 128) (Nat.mod_lt _ (by decide))
theorem lit0_650 (i : Nat) : lit0t0_650 i = sel32 (128 * 650 + i % 128) :=
  digits128 (fun m => sel32 (128 * 650 + m)) _ (i % 128) (Nat.mod_lt _ (by decide))
theorem lit0_651 (i : Nat) : lit0t0_651 i = sel32 (128 * 651 + i % 128) :=
  digits128 (fun m => sel32 (128 * 651 + m)) _ (i % 128) (Nat.mod_lt _ (by decide))
theorem lit0_652 (i : Nat) : lit0t0_652 i = sel32 (128 * 652 + i % 128) :=
  digits128 (fun m => sel32 (128 * 652 + m)) _ (i % 128) (Nat.mod_lt _ (by decide))
theorem lit0_653 (i : Nat) : lit0t0_653 i = sel32 (128 * 653 + i % 128) :=
  digits128 (fun m => sel32 (128 * 653 + m)) _ (i % 128) (Nat.mod_lt _ (by decide))
theorem lit0_654 (i : Nat) : lit0t0_654 i = sel32 (128 * 654 + i % 128) :=
  digits128 (fun m => sel32 (128 * 654 + m)) _ (i % 128) (Nat.mod_lt _ (by decide))
theorem lit0_655 (i : Nat) : lit0t0_655 i = sel32 (128 * 655 + i % 128) :=
  digits128 (fun m => sel32 (128 * 655 + m)) _ (i % 128) (Nat.mod_lt _ (by decide))
theorem lit0_656 (i : Nat) : lit0t0_656 i = sel32 (128 * 656 + i % 128) :=
  digits128 (fun m => sel32 (128 * 656 + m)) _ (i % 128) (Nat.mod_lt _ (by decide))
theorem lit0_657 (i : Nat) : lit0t0_657 i = sel32 (128 * 657 + i % 128) :=
  digits128 (fun m => sel32 (128 * 657 + m)) _ (i % 128) (Nat.mod_lt _ (by decide))
theorem lit0_658 (i : Nat) : lit0t0_658 i = sel32 (128 * 658 + i % 128) :=
  digits128 (fun m => sel32 (128 * 658 + m)) _ (i % 128) (Nat.mod_lt _ (by decide))
theorem lit0_659 (i : Nat) : lit0t0_659 i = sel32 (128 * 659 + i % 128) :=
  digits128 (fun m => sel32 (128 * 659 + m)) _ (i % 128) (Nat.mod_lt _ (by decide))
theorem lit0_660 (i : Nat) : lit0t0_660 i = sel32 (128 * 660 + i % 128) :=
  digits128 (fun m => sel32 (128 * 660 + m)) _ (i % 128) (Nat.mod_lt _ (by decide))
theorem lit0_661 (i : Nat) : lit0t0_661 i = sel32 (128 * 661 + i % 128) :=
  digits128 (fun m => sel32 (128 * 661 + m)) _ (i % 128) (Nat.mod_lt _ (by decide))
theorem lit0_662 (i : Nat) : lit0t0_662 i = sel32 (128 * 662 + i % 128) :=
  digits128 (fun m => sel32 (128 * 662 + m)) _ (i % 128) (Nat.mod_lt _ (by decide))
theorem lit0_663 (i : Nat) : lit0t0_663 i = sel32 (128 * 663 + i % 128) :=
  digits128 (fun m => sel32 (128 * 663 + m)) _ (i % 128) (Nat.mod_lt _ (by decide))
theorem lit0_664 (i : Nat) : lit0t0_664 i = sel32 (128 * 664 + i % 128) :=
  digits128 (fun m => sel32 (128 * 664 + m)) _ (i % 128) (Nat.mod_lt _ (by decide))
theorem lit0_665 (i : Nat) : lit0t0_665 i = sel32 (128 * 665 + i % 128) :=
  digits128 (fun m => sel32 (128 * 665 + m)) _ (i % 128) (Nat.mod_lt _ (by decide))
theorem lit0_666 (i : Nat) : lit0t0_666 i = sel32 (128 * 666 + i % 128) :=
  digits128 (fun m => sel32 (128 * 666 + m)) _ (i % 128) (Nat.mod_lt _ (by decide))
theorem lit0_667 (i : Nat) : lit0t0_667 i = sel32 (128 * 667 + i % 128) :=
  digits128 (fun m => sel32 (128 * 667 + m)) _ (i % 128) (Nat.mod_lt _ (by decide))
theorem lit0_668 (i : Nat) : lit0t0_668 i = sel32 (128 * 668 + i % 128) :=
  digits128 (fun m => sel32 (128 * 668 + m)) _ (i % 128) (Nat.mod_lt _ (by decide))
theorem lit0_669 (i : Nat) : lit0t0_669 i = sel32 (128 * 669 + i % 128) :=
  digits128 (fun m => sel32 (128 * 669 + m)) _ (i % 128) (Nat.mod_lt _ (by decide))
theorem lit0_670 (i : Nat) : lit0t0_670 i = sel32 (128 * 670 + i % 128) :=
  digits128 (fun m => sel32 (128 * 670 + m)) _ (i % 128) (Nat.mod_lt _ (by decide))
theorem lit0_671 (i : Nat) : lit0t0_671 i = sel32 (128 * 671 + i % 128) :=
  digits128 (fun m => sel32 (128 * 671 + m)) _ (i % 128) (Nat.mod_lt _ (by decide))
theorem lit0_672 (i : Nat) : lit0t0_672 i = sel32 (128 * 672 + i % 128) :=
  digits128 (fun m => sel32 (128 * 672 + m)) _ (i % 128) (Nat.mod_lt _ (by decide))
theorem lit0_673 (i : Nat) : lit0t0_673 i = sel32 (128 * 673 + i % 128) :=
  digits128 (fun m => sel32 (128 * 673 + m)) _ (i % 128) (Nat.mod_lt _ (by decide))
theorem lit0_674 (i : Nat) : lit0t0_674 i = sel32 (128 * 674 + i % 128) :=
  digits128 (fun m => sel32 (128 * 674 + m)) _ (i % 128) (Nat.mod_lt _ (by decide))
theorem lit0_675 (i : Nat) : lit0t0_675 i = sel32 (128 * 675 + i % 128) :=
  digits128 (fun m => sel32 (128 * 675 + m)) _ (i % 128) (Nat.mod_lt _ (by decide))
theorem lit0_676 (i : Nat) : lit0t0_676 i = sel32 (128 * 676 + i % 128) :=
  digits128 (fun m => sel32 (128 * 676 + m)) _ (i % 128) (Nat.mod_lt _ (by decide))
theorem lit0_677 (i : Nat) : lit0t0_677 i = sel32 (128 * 677 + i % 128) :=
  digits128 (fun m => sel32 (128 * 677 + m)) _ (i % 128) (Nat.mod_lt _ (by decide))
theorem lit0_678 (i : Nat) : lit0t0_678 i = sel32 (128 * 678 + i % 128) :=
  digits128 (fun m => sel32 (128 * 678 + m)) _ (i % 128) (Nat.mod_lt _ (by decide))
theorem lit0_679 (i : Nat) : lit0t0_679 i = sel32 (128 * 679 + i % 128) :=
  digits128 (fun m => sel32 (128 * 679 + m)) _ (i % 128) (Nat.mod_lt _ (by decide))
theorem lit0_680 (i : Nat) : lit0t0_680 i = sel32 (128 * 680 + i % 128) :=
  digits128 (fun m => sel32 (128 * 680 + m)) _ (i % 128) (Nat.mod_lt _ (by decide))
theorem lit0_681 (i : Nat) : lit0t0_681 i = sel32 (128 * 681 + i % 128) :=
  digits128 (fun m => sel32 (128 * 681 + m)) _ (i % 128) (Nat.mod_lt _ (by decide))
theorem lit0_682 (i : Nat) : lit0t0_682 i = sel32 (128 * 682 + i % 128) :=
  digits128 (fun m => sel32 (128 * 682 + m)) _ (i % 128) (Nat.mod_lt _ (by decide))
theorem lit0_683 (i : Nat) : lit0t0_683 i = sel32 (128 * 683 + i % 128) :=
  digits128 (fun m => sel32 (128 * 683 + m)) _ (i % 128) (Nat.mod_lt _ (by decide))
theorem lit0_684 (i : Nat) : lit0t0_684 i = sel32 (128 * 684 + i % 128) :=
  digits128 (fun m => sel32 (128 * 684 + m)) _ (i % 128) (Nat.mod_lt _ (by decide))
theorem lit0_685 (i : Nat) : lit0t0_685 i = sel32 (128 * 685 + i % 128) :=
  digits128 (fun m => sel32 (128 * 685 + m)) _ (i % 128) (Nat.mod_lt _ (by decide))
theorem lit0_686 (i : Nat) : lit0t0_686 i = sel32 (128 * 686 + i % 128) :=
  digits128 (fun m => sel32 (128 * 686 + m)) _ (i % 128) (Nat.mod_lt _ (by decide))
theorem lit0_687 (i : Nat) : lit0t0_687 i = sel32 (128 * 687 + i % 128) :=
  digits128 (fun m => sel32 (128 * 687 + m)) _ (i % 128) (Nat.mod_lt _ (by decide))
theorem lit0_688 (i : Nat) : lit0t0_688 i = sel32 (128 * 688 + i % 128) :=
  digits128 (fun m => sel32 (128 * 688 + m)) _ (i % 128) (Nat.mod_lt _ (by decide))
theorem lit0_689 (i : Nat) : lit0t0_689 i = sel32 (128 * 689 + i % 128) :=
  digits128 (fun m => sel32 (128 * 689 + m)) _ (i % 128) (Nat.mod_lt _ (by decide))
theorem lit0_690 (i : Nat) : lit0t0_690 i = sel32 (128 * 690 + i % 128) :=
  digits128 (fun m => sel32 (128 * 690 + m)) _ (i % 128) (Nat.mod_lt _ (by decide))
theorem lit0_691 (i : Nat) : lit0t0_691 i = sel32 (128 * 691 + i % 128) :=
  digits128 (fun m => sel32 (128 * 691 + m)) _ (i % 128) (Nat.mod_lt _ (by decide))
theorem lit0_692 (i : Nat) : lit0t0_692 i = sel32 (128 * 692 + i % 128) :=
  digits128 (fun m => sel32 (128 * 692 + m)) _ (i % 128) (Nat.mod_lt _ (by decide))
theorem lit0_693 (i : Nat) : lit0t0_693 i = sel32 (128 * 693 + i % 128) :=
  digits128 (fun m => sel32 (128 * 693 + m)) _ (i % 128) (Nat.mod_lt _ (by decide))
theorem lit0_694 (i : Nat) : lit0t0_694 i = sel32 (128 * 694 + i % 128) :=
  digits128 (fun m => sel32 (128 * 694 + m)) _ (i % 128) (Nat.mod_lt _ (by decide))
theorem lit0_695 (i : Nat) : lit0t0_695 i = sel32 (128 * 695 + i % 128) :=
  digits128 (fun m => sel32 (128 * 695 + m)) _ (i % 128) (Nat.mod_lt _ (by decide))
theorem lit0_696 (i : Nat) : lit0t0_696 i = sel32 (128 * 696 + i % 128) :=
  digits128 (fun m => sel32 (128 * 696 + m)) _ (i % 128) (Nat.mod_lt _ (by decide))
theorem lit0_697 (i : Nat) : lit0t0_697 i = sel32 (128 * 697 + i % 128) :=
  digits128 (fun m => sel32 (128 * 697 + m)) _ (i % 128) (Nat.mod_lt _ (by decide))
theorem lit0_698 (i : Nat) : lit0t0_698 i = sel32 (128 * 698 + i % 128) :=
  digits128 (fun m => sel32 (128 * 698 + m)) _ (i % 128) (Nat.mod_lt _ (by decide))
theorem lit0_699 (i : Nat) : lit0t0_699 i = sel32 (128 * 699 + i % 128) :=
  digits128 (fun m => sel32 (128 * 699 + m)) _ (i % 128) (Nat.mod_lt _ (by decide))
theorem lit0_700 (i : Nat) : lit0t0_700 i = sel32 (128 * 700 + i % 128) :=
  digits128 (fun m => sel32 (128 * 700 + m)) _ (i % 128) (Nat.mod_lt _ (by decide))
theorem lit0_701 (i : Nat) : lit0t0_701 i = sel32 (128 * 701 + i % 128) :=
  digits128 (fun m => sel32 (128 * 701 + m)) _ (i % 128) (Nat.mod_lt _ (by decide))
theorem lit0_702 (i : Nat) : lit0t0_702 i = sel32 (128 * 702 + i % 128) :=
  digits128 (fun m => sel32 (128 * 702 + m)) _ (i % 128) (Nat.mod_lt _ (by decide))
theorem lit0_703 (i : Nat) : lit0t0_703 i = sel32 (128 * 703 + i % 128) :=
  digits128 (fun m => sel32 (128 * 703 + m)) _ (i % 128) (Nat.mod_lt _ (by decide))
theorem lit0_704 (i : Nat) : lit0t0_704 i = sel32 (128 * 704 + i % 128) :=
  digits128 (fun m => sel32 (128 * 704 + m)) _ (i % 128) (Nat.mod_lt _ (by decide))
theorem lit0_705 (i : Nat) : lit0t0_705 i = sel32 (128 * 705 + i % 128) :=
  digits128 (fun m => sel32 (128 * 705 + m)) _ (i % 128) (Nat.mod_lt _ (by decide))
theorem lit0_706 (i : Nat) : lit0t0_706 i = sel32 (128 * 706 + i % 128) :=
  digits128 (fun m => sel32 (128 * 706 + m)) _ (i % 128) (Nat.mod_lt _ (by decide))
theorem lit0_707 (i : Nat) : lit0t0_707 i = sel32 (128 * 707 + i % 128) :=
  digits128 (fun m => sel32 (128 * 707 + m)) _ (i % 128) (Nat.mod_lt _ (by decide))
theorem lit0_708 (i : Nat) : lit0t0_708 i = sel32 (128 * 708 + i % 128) :=
  digits128 (fun m => sel32 (128 * 708 + m)) _ (i % 128) (Nat.mod_lt _ (by decide))
theorem lit0_709 (i : Nat) : lit0t0_709 i = sel32 (128 * 709 + i % 128) :=
  digits128 (fun m => sel32 (128 * 709 + m)) _ (i % 128) (Nat.mod_lt _ (by decide))
theorem lit0_710 (i : Nat) : lit0t0_710 i = sel32 (128 * 710 + i % 128) :=
  digits128 (fun m => sel32 (128 * 710 + m)) _ (i % 128) (Nat.mod_lt _ (by decide))
theorem lit0_711 (i : Nat) : lit0t0_711 i = sel32 (128 * 711 + i % 128) :=
  digits128 (fun m => sel32 (128 * 711 + m)) _ (i % 128) (Nat.mod_lt _ (by decide))
theorem lit0_712 (i : Nat) : lit0t0_712 i = sel32 (128 * 712 + i % 128) :=
  digits128 (fun m => sel32 (128 * 712 + m)) _ (i % 128) (Nat.mod_lt _ (by decide))
theorem lit0_713 (i : Nat) : lit0t0_713 i = sel32 (128 * 713 + i % 128) :=
  digits128 (fun m => sel32 (128 * 713 + m)) _ (i % 128) (Nat.mod_lt _ (by decide))
theorem lit0_714 (i : Nat) : lit0t0_714 i = sel32 (128 * 714 + i % 128) :=
  digits128 (fun m => sel32 (128 * 714 + m)) _ (i % 128) (Nat.mod_lt _ (by decide))
theorem lit0_715 (i : Nat) : lit0t0_715 i = sel32 (128 * 715 + i % 128) :=
  digits128 (fun m => sel32 (128 * 715 + m)) _ (i % 128) (Nat.mod_lt _ (by decide))
theorem lit0_716 (i : Nat) : lit0t0_716 i = sel32 (128 * 716 + i % 128) :=
  digits128 (fun m => sel32 (128 * 716 + m)) _ (i % 128) (Nat.mod_lt _ (by decide))
theorem lit0_717 (i : Nat) : lit0t0_717 i = sel32 (128 * 717 + i % 128) :=
  digits128 (fun m => sel32 (128 * 717 + m)) _ (i % 128) (Nat.mod_lt _ (by decide))
theorem lit0_718 (i : Nat) : lit0t0_718 i = sel32 (128 * 718 + i % 128) :=
  digits128 (fun m => sel32 (128 * 718 + m)) _ (i % 128) (Nat.mod_lt _ (by decide))
theorem lit0_719 (i : Nat) : lit0t0_719 i = sel32 (128 * 719 + i % 128) :=
  digits128 (fun m => sel32 (128 * 719 + m)) _ (i % 128) (Nat.mod_lt _ (by decide))
theorem lit0_720 (i : Nat) : lit0t0_720 i = sel32 (128 * 720 + i % 128) :=
  digits128 (fun m => sel32 (128 * 720 + m)) _ (i % 128) (Nat.mod_lt _ (by decide))
theorem lit0_721 (i : Nat) : lit0t0_721 i = sel32 (128 * 721 + i % 128) :=
  digits128 (fun m => sel32 (128 * 721 + m)) _ (i % 128) (Nat.mod_lt _ (by decide))
theorem lit0_722 (i : Nat) : lit0t0_722 i = sel32 (128 * 722 + i % 128) :=
  digits128 (fun m => sel32 (128 * 722 + m)) _ (i % 128) (Nat.mod_lt _ (by decide))
theorem lit0_723 (i : Nat) : lit0t0_723 i = sel32 (128 * 723 + i % 128) :=
  digits128 (fun m => sel32 (128 * 723 + m)) _ (i % 128) (Nat.mod_lt _ (by decide))
theorem lit0_724 (i : Nat) : lit0t0_724 i = sel32 (128 * 724 + i % 128) :=
  digits128 (fun m => sel32 (128 * 724 + m)) _ (i % 128) (Nat.mod_lt _ (by decide))
theorem lit0_725 (i : Nat) : lit0t0_725 i = sel32 (128 * 725 + i % 128) :=
  digits128 (fun m => sel32 (128 * 725 + m)) _ (i % 128) (Nat.mod_lt _ (by decide))
theorem lit0_726 (i : Nat) : lit0t0_726 i = sel32 (128 * 726 + i % 128) :=
  digits128 (fun m => sel32 (128 * 726 + m)) _ (i % 128) (Nat.mod_lt _ (by decide))
theorem lit0_727 (i : Nat) : lit0t0_727 i = sel32 (128 * 727 + i % 128) :=
  digits128 (fun m => sel32 (128 * 727 + m)) _ (i % 128) (Nat.mod_lt _ (by decide))
theorem lit0_728 (i : Nat) : lit0t0_728 i = sel32 (128 * 728 + i % 128) :=
  digits128 (fun m => sel32 (128 * 728 + m)) _ (i % 128) (Nat.mod_lt _ (by decide))
theorem lit0_729 (i : Nat) : lit0t0_729 i = sel32 (128 * 729 + i % 128) :=
  digits128 (fun m => sel32 (128 * 729 + m)) _ (i % 128) (Nat.mod_lt _ (by decide))
theorem lit0_730 (i : Nat) : lit0t0_730 i = sel32 (128 * 730 + i % 128) :=
  digits128 (fun m => sel32 (128 * 730 + m)) _ (i % 128) (Nat.mod_lt _ (by decide))
theorem lit0_731 (i : Nat) : lit0t0_731 i = sel32 (128 * 731 + i % 128) :=
  digits128 (fun m => sel32 (128 * 731 + m)) _ (i % 128) (Nat.mod_lt _ (by decide))
theorem lit0_732 (i : Nat) : lit0t0_732 i = sel32 (128 * 732 + i % 128) :=
  digits128 (fun m => sel32 (128 * 732 + m)) _ (i % 128) (Nat.mod_lt _ (by decide))
theorem lit0_733 (i : Nat) : lit0t0_733 i = sel32 (128 * 733 + i % 128) :=
  digits128 (fun m => sel32 (128 * 733 + m)) _ (i % 128) (Nat.mod_lt _ (by decide))
theorem lit0_734 (i : Nat) : lit0t0_734 i = sel32 (128 * 734 + i % 128) :=
  digits128 (fun m => sel32 (128 * 734 + m)) _ (i % 128) (Nat.mod_lt _ (by decide))
theorem lit0_735 (i : Nat) : lit0t0_735 i = sel32 (128 * 735 + i % 128) :=
  digits128 (fun m => sel32 (128 * 735 + m)) _ (i % 128) (Nat.mod_lt _ (by decide))
theorem lit0_736 (i : Nat) : lit0t0_736 i = sel32 (128 * 736 + i % 128) :=
  digits128 (fun m => sel32 (128 * 736 + m)) _ (i % 128) (Nat.mod_lt _ (by decide))
theorem lit0_737 (i : Nat) : lit0t0_737 i = sel32 (128 * 737 + i % 128) :=
  digits128 (fun m => sel32 (128 * 737 + m)) _ (i % 128) (Nat.mod_lt _ (by decide))
theorem lit0_738 (i : Nat) : lit0t0_738 i = sel32 (128 * 738 + i % 128) :=
  digits128 (fun m => sel32 (128 * 738 + m)) _ (i % 128) (Nat.mod_lt _ (by decide))
theorem lit0_739 (i : Nat) : lit0t0_739 i = sel32 (128 * 739 + i % 128) :=
  digits128 (fun m => sel32 (128 * 739 + m)) _ (i % 128) (Nat.mod_lt _ (by decide))
theorem lit0_740 (i : Nat) : lit0t0_740 i = sel32 (128 * 740 + i % 128) :=
  digits128 (fun m => sel32 (128 * 740 + m)) _ (i % 128) (Nat.mod_lt _ (by decide))
theorem lit0_741 (i : Nat) : lit0t0_741 i = sel32 (128 * 741 + i % 128) :=
  digits128 (fun m => sel32 (128 * 741 + m)) _ (i % 128) (Nat.mod_lt _ (by decide))
theorem lit0_742 (i : Nat) : lit0t0_742 i = sel32 (128 * 742 + i % 128) :=
  digits128 (fun m => sel32 (128 * 742 + m)) _ (i % 128) (Nat.mod_lt _ (by decide))
theorem lit0_743 (i : Nat) : lit0t0_743 i = sel32 (128 * 743 + i % 128) :=
  digits128 (fun m => sel32 (128 * 743 + m)) _ (i % 128) (Nat.mod_lt _ (by decide))
theorem lit0_744 (i : Nat) : lit0t0_744 i = sel32 (128 * 744 + i % 128) :=
  digits128 (fun m => sel32 (128 * 744 + m)) _ (i % 128) (Nat.mod_lt _ (by decide))
theorem lit0_745 (i : Nat) : lit0t0_745 i = sel32 (128 * 745 + i % 128) :=
  digits128 (fun m => sel32 (128 * 745 + m)) _ (i % 128) (Nat.mod_lt _ (by decide))
theorem lit0_746 (i : Nat) : lit0t0_746 i = sel32 (128 * 746 + i % 128) :=
  digits128 (fun m => sel32 (128 * 746 + m)) _ (i % 128) (Nat.mod_lt _ (by decide))
theorem lit0_747 (i : Nat) : lit0t0_747 i = sel32 (128 * 747 + i % 128) :=
  digits128 (fun m => sel32 (128 * 747 + m)) _ (i % 128) (Nat.mod_lt _ (by decide))
theorem lit0_748 (i : Nat) : lit0t0_748 i = sel32 (128 * 748 + i % 128) :=
  digits128 (fun m => sel32 (128 * 748 + m)) _ (i % 128) (Nat.mod_lt _ (by decide))
theorem lit0_749 (i : Nat) : lit0t0_749 i = sel32 (128 * 749 + i % 128) :=
  digits128 (fun m => sel32 (128 * 749 + m)) _ (i % 128) (Nat.mod_lt _ (by decide))
theorem lit0_750 (i : Nat) : lit0t0_750 i = sel32 (128 * 750 + i % 128) :=
  digits128 (fun m => sel32 (128 * 750 + m)) _ (i % 128) (Nat.mod_lt _ (by decide))
theorem lit0_751 (i : Nat) : lit0t0_751 i = sel32 (128 * 751 + i % 128) :=
  digits128 (fun m => sel32 (128 * 751 + m)) _ (i % 128) (Nat.mod_lt _ (by decide))
theorem lit0_752 (i : Nat) : lit0t0_752 i = sel32 (128 * 752 + i % 128) :=
  digits128 (fun m => sel32 (128 * 752 + m)) _ (i % 128) (Nat.mod_lt _ (by decide))
theorem lit0_753 (i : Nat) : lit0t0_753 i = sel32 (128 * 753 + i % 128) :=
  digits128 (fun m => sel32 (128 * 753 + m)) _ (i % 128) (Nat.mod_lt _ (by decide))
theorem lit0_754 (i : Nat) : lit0t0_754 i = sel32 (128 * 754 + i % 128) :=
  digits128 (fun m => sel32 (128 * 754 + m)) _ (i % 128) (Nat.mod_lt _ (by decide))
theorem lit0_755 (i : Nat) : lit0t0_755 i = sel32 (128 * 755 + i % 128) :=
  digits128 (fun m => sel32 (128 * 755 + m)) _ (i % 128) (Nat.mod_lt _ (by decide))
theorem lit0_756 (i : Nat) : lit0t0_756 i = sel32 (128 * 756 + i % 128) :=
  digits128 (fun m => sel32 (128 * 756 + m)) _ (i % 128) (Nat.mod_lt _ (by decide))
theorem lit0_757 (i : Nat) : lit0t0_757 i = sel32 (128 * 757 + i % 128) :=
  digits128 (fun m => sel32 (128 * 757 + m)) _ (i % 128) (Nat.mod_lt _ (by decide))
theorem lit0_758 (i : Nat) : lit0t0_758 i = sel32 (128 * 758 + i % 128) :=
  digits128 (fun m => sel32 (128 * 758 + m)) _ (i % 128) (Nat.mod_lt _ (by decide))
theorem lit0_759 (i : Nat) : lit0t0_759 i = sel32 (128 * 759 + i % 128) :=
  digits128 (fun m => sel32 (128 * 759 + m)) _ (i % 128) (Nat.mod_lt _ (by decide))
theorem lit0_760 (i : Nat) : lit0t0_760 i = sel32 (128 * 760 + i % 128) :=
  digits128 (fun m => sel32 (128 * 760 + m)) _ (i % 128) (Nat.mod_lt _ (by decide))
theorem lit0_761 (i : Nat) : lit0t0_761 i = sel32 (128 * 761 + i % 128) :=
  digits128 (fun m => sel32 (128 * 761 + m)) _ (i % 128) (Nat.mod_lt _ (by decide))
theorem lit0_762 (i : Nat) : lit0t0_762 i = sel32 (128 * 762 + i % 128) :=
  digits128 (fun m => sel32 (128 * 762 + m)) _ (i % 128) (Nat.mod_lt _ (by decide))
theorem lit0_763 (i : Nat) : lit0t0_763 i = sel32 (128 * 763 + i % 128) :=
  digits128 (fun m => sel32 (128 * 763 + m)) _ (i % 128) (Nat.mod_lt _ (by decide))
theorem lit0_764 (i : Nat) : lit0t0_764 i = sel32 (128 * 764 + i % 128) :=
  digits128 (fun m => sel32 (128 * 764 + m)) _ (i % 128) (Nat.mod_lt _ (by decide))
theorem lit0_765 (i : Nat) : lit0t0_765 i = sel32 (128 * 765 + i % 128) :=
  digits128 (fun m => sel32 (128 * 765 + m)) _ (i % 128) (Nat.mod_lt _ (by decide))
theorem lit0_766 (i : Nat) : lit0t0_766 i = sel32 (128 * 766 + i % 128) :=
  digits128 (fun m => sel32 (128 * 766 + m)) _ (i % 128) (Nat.mod_lt _ (by decide))
theorem lit0_767 (i : Nat) : lit0t0_767 i = sel32 (128 * 767 + i % 128) :=
  digits128 (fun m => sel32 (128 * 767 + m)) _ (i % 128) (Nat.mod_lt _ (by decide))
theorem lit0_768 (i : Nat) : lit0t0_768 i = sel32 (128 * 768 + i % 128) :=
  digits128 (fun m => sel32 (128 * 768 + m)) _ (i % 128) (Nat.mod_lt _ (by decide))
theorem lit0_769 (i : Nat) : lit0t0_769 i = sel32 (128 * 769 + i % 128) :=
  digits128 (fun m => sel32 (128 * 769 + m)) _ (i % 128) (Nat.mod_lt _ (by decide))
theorem lit0_770 (i : Nat) : lit0t0_770 i = sel32 (128 * 770 + i % 128) :=
  digits128 (fun m => sel32 (128 * 770 + m)) _ (i % 128) (Nat.mod_lt _ (by decide))
theorem lit0_771 (i : Nat) : lit0t0_771 i = sel32 (128 * 771 + i % 128) :=
  digits128 (fun m => sel32 (128 * 771 + m)) _ (i % 128) (Nat.mod_lt _ (by decide))
theorem lit0_772 (i : Nat) : lit0t0_772 i = sel32 (128 * 772 + i % 128) :=
  digits128 (fun m => sel32 (128 * 772 + m)) _ (i % 128) (Nat.mod_lt _ (by decide))
theorem lit0_773 (i : Nat) : lit0t0_773 i = sel32 (128 * 773 + i % 128) :=
  digits128 (fun m => sel32 (128 * 773 + m)) _ (i % 128) (Nat.mod_lt _ (by decide))
theorem lit0_774 (i : Nat) : lit0t0_774 i = sel32 (128 * 774 + i % 128) :=
  digits128 (fun m => sel32 (128 * 774 + m)) _ (i % 128) (Nat.mod_lt _ (by decide))
theorem lit0_775 (i : Nat) : lit0t0_775 i = sel32 (128 * 775 + i % 128) :=
  digits128 (fun m => sel32 (128 * 775 + m)) _ (i % 128) (Nat.mod_lt _ (by decide))
theorem lit0_776 (i : Nat) : lit0t0_776 i = sel32 (128 * 776 + i % 128) :=
  digits128 (fun m => sel32 (128 * 776 + m)) _ (i % 128) (Nat.mod_lt _ (by decide))
theorem lit0_777 (i : Nat) : lit0t0_777 i = sel32 (128 * 777 + i % 128) :=
  digits128 (fun m => sel32 (128 * 777 + m)) _ (i % 128) (Nat.mod_lt _ (by decide))
theorem lit0_778 (i : Nat) : lit0t0_778 i = sel32 (128 * 778 + i % 128) :=
  digits128 (fun m => sel32 (128 * 778 + m)) _ (i % 128) (Nat.mod_lt _ (by decide))
theorem lit0_779 (i : Nat) : lit0t0_779 i = sel32 (128 * 779 + i % 128) :=
  digits128 (fun m => sel32 (128 * 779 + m)) _ (i % 128) (Nat.mod_lt _ (by decide))
theorem lit0_780 (i : Nat) : lit0t0_780 i = sel32 (128 * 780 + i % 128) :=
  digits128 (fun m => sel32 (128 * 780 + m)) _ (i % 128) (Nat.mod_lt _ (by decide))
theorem lit0_781 (i : Nat) : lit0t0_781 i = sel32 (128 * 781 + i % 128) :=
  digits128 (fun m => sel32 (128 * 781 + m)) _ (i % 128) (Nat.mod_lt _ (by decide))
theorem lit0_782 (i : Nat) : lit0t0_782 i = sel32 (128 * 782 + i % 128) :=
  digits128 (fun m => sel32 (128 * 782 + m)) _ (i % 128) (Nat.mod_lt _ (by decide))
theorem lit0_783 (i : Nat) : lit0t0_783 i = sel32 (128 * 783 + i % 128) :=
  digits128 (fun m => sel32 (128 * 783 + m)) _ (i % 128) (Nat.mod_lt _ (by decide))
theorem lit0_784 (i : Nat) : lit0t0_784 i = sel32 (128 * 784 + i % 128) :=
  digits128 (fun m => sel32 (128 * 784 + m)) _ (i % 128) (Nat.mod_lt _ (by decide))
theorem lit0_785 (i : Nat) : lit0t0_785 i = sel32 (128 * 785 + i % 128) :=
  digits128 (fun m => sel32 (128 * 785 + m)) _ (i % 128) (Nat.mod_lt _ (by decide))
theorem lit0_786 (i : Nat) : lit0t0_786 i = sel32 (128 * 786 + i % 128) :=
  digits128 (fun m => sel32 (128 * 786 + m)) _ (i % 128) (Nat.mod_lt _ (by decide))
theorem lit0_787 (i : Nat) : lit0t0_787 i = sel32 (128 * 787 + i % 128) :=
  digits128 (fun m => sel32 (128 * 787 + m)) _ (i % 128) (Nat.mod_lt _ (by decide))
theorem lit0_788 (i : Nat) : lit0t0_788 i = sel32 (128 * 788 + i % 128) :=
  digits128 (fun m => sel32 (128 * 788 + m)) _ (i % 128) (Nat.mod_lt _ (by decide))
theorem lit0_789 (i : Nat) : lit0t0_789 i = sel32 (128 * 789 + i % 128) :=
  digits128 (fun m => sel32 (128 * 789 + m)) _ (i % 128) (Nat.mod_lt _ (by decide))
theorem lit0_790 (i : Nat) : lit0t0_790 i = sel32 (128 * 790 + i % 128) :=
  digits128 (fun m => sel32 (128 * 790 + m)) _ (i % 128) (Nat.mod_lt _ (by decide))
theorem lit0_791 (i : Nat) : lit0t0_791 i = sel32 (128 * 791 + i % 128) :=
  digits128 (fun m => sel32 (128 * 791 + m)) _ (i % 128) (Nat.mod_lt _ (by decide))
theorem lit0_792 (i : Nat) : lit0t0_792 i = sel32 (128 * 792 + i % 128) :=
  digits128 (fun m => sel32 (128 * 792 + m)) _ (i % 128) (Nat.mod_lt _ (by decide))
theorem lit0_793 (i : Nat) : lit0t0_793 i = sel32 (128 * 793 + i % 128) :=
  digits128 (fun m => sel32 (128 * 793 + m)) _ (i % 128) (Nat.mod_lt _ (by decide))
theorem lit0_794 (i : Nat) : lit0t0_794 i = sel32 (128 * 794 + i % 128) :=
  digits128 (fun m => sel32 (128 * 794 + m)) _ (i % 128) (Nat.mod_lt _ (by decide))
theorem lit0_795 (i : Nat) : lit0t0_795 i = sel32 (128 * 795 + i % 128) :=
  digits128 (fun m => sel32 (128 * 795 + m)) _ (i % 128) (Nat.mod_lt _ (by decide))
theorem lit0_796 (i : Nat) : lit0t0_796 i = sel32 (128 * 796 + i % 128) :=
  digits128 (fun m => sel32 (128 * 796 + m)) _ (i % 128) (Nat.mod_lt _ (by decide))
theorem lit0_797 (i : Nat) : lit0t0_797 i = sel32 (128 * 797 + i % 128) :=
  digits128 (fun m => sel32 (128 * 797 + m)) _ (i % 128) (Nat.mod_lt _ (by decide))
theorem lit0_798 (i : Nat) : lit0t0_798 i = sel32 (128 * 798 + i % 128) :=
  digits128 (fun m => sel32 (128 * 798 + m)) _ (i % 128) (Nat.mod_lt _ (by decide))
theorem lit0_799 (i : Nat) : lit0t0_799 i = sel32 (128 * 799 + i % 128) :=
  digits128 (fun m => sel32 (128 * 799 + m)) _ (i % 128) (Nat.mod_lt _ (by decide))

end Cert.Conv

end
-- ==== Proof.Table1A.lean ====
/- The leaves of the table `lit1`, entries 0 to 25599. -/
module

public import proofs.«01_k».proof.Proof.TableDigits

@[expose] public section

noncomputable section

namespace Cert.Conv

open Idealize.ShloMosaic
open Cert.KernelIdeal

set_option maxRecDepth 100000

theorem lit1_0 (i : Nat) : lit1t0_0 i = sel16 (128 * 0 + i % 128) :=
  digits128 (fun m => sel16 (128 * 0 + m)) _ (i % 128) (Nat.mod_lt _ (by decide))
theorem lit1_1 (i : Nat) : lit1t0_1 i = sel16 (128 * 1 + i % 128) :=
  digits128 (fun m => sel16 (128 * 1 + m)) _ (i % 128) (Nat.mod_lt _ (by decide))
theorem lit1_2 (i : Nat) : lit1t0_2 i = sel16 (128 * 2 + i % 128) :=
  digits128 (fun m => sel16 (128 * 2 + m)) _ (i % 128) (Nat.mod_lt _ (by decide))
theorem lit1_3 (i : Nat) : lit1t0_3 i = sel16 (128 * 3 + i % 128) :=
  digits128 (fun m => sel16 (128 * 3 + m)) _ (i % 128) (Nat.mod_lt _ (by decide))
theorem lit1_4 (i : Nat) : lit1t0_4 i = sel16 (128 * 4 + i % 128) :=
  digits128 (fun m => sel16 (128 * 4 + m)) _ (i % 128) (Nat.mod_lt _ (by decide))
theorem lit1_5 (i : Nat) : lit1t0_5 i = sel16 (128 * 5 + i % 128) :=
  digits128 (fun m => sel16 (128 * 5 + m)) _ (i % 128) (Nat.mod_lt _ (by decide))
theorem lit1_6 (i : Nat) : lit1t0_6 i = sel16 (128 * 6 + i % 128) :=
  digits128 (fun m => sel16 (128 * 6 + m)) _ (i % 128) (Nat.mod_lt _ (by decide))
theorem lit1_7 (i : Nat) : lit1t0_7 i = sel16 (128 * 7 + i % 128) :=
  digits128 (fun m => sel16 (128 * 7 + m)) _ (i % 128) (Nat.mod_lt _ (by decide))
theorem lit1_8 (i : Nat) : lit1t0_8 i = sel16 (128 * 8 + i % 128) :=
  digits128 (fun m => sel16 (128 * 8 + m)) _ (i % 128) (Nat.mod_lt _ (by decide))
theorem lit1_9 (i : Nat) : lit1t0_9 i = sel16 (128 * 9 + i % 128) :=
  digits128 (fun m => sel16 (128 * 9 + m)) _ (i % 128) (Nat.mod_lt _ (by decide))
theorem lit1_10 (i : Nat) : lit1t0_10 i = sel16 (128 * 10 + i % 128) :=
  digits128 (fun m => sel16 (128 * 10 + m)) _ (i % 128) (Nat.mod_lt _ (by decide))
theorem lit1_11 (i : Nat) : lit1t0_11 i = sel16 (128 * 11 + i % 128) :=
  digits128 (fun m => sel16 (128 * 11 + m)) _ (i % 128) (Nat.mod_lt _ (by decide))
theorem lit1_12 (i : Nat) : lit1t0_12 i = sel16 (128 * 12 + i % 128) :=
  digits128 (fun m => sel16 (128 * 12 + m)) _ (i % 128) (Nat.mod_lt _ (by decide))
theorem lit1_13 (i : Nat) : lit1t0_13 i = sel16 (128 * 13 + i % 128) :=
  digits128 (fun m => sel16 (128 * 13 + m)) _ (i % 128) (Nat.mod_lt _ (by decide))
theorem lit1_14 (i : Nat) : lit1t0_14 i = sel16 (128 * 14 + i % 128) :=
  digits128 (fun m => sel16 (128 * 14 + m)) _ (i % 128) (Nat.mod_lt _ (by decide))
theorem lit1_15 (i : Nat) : lit1t0_15 i = sel16 (128 * 15 + i % 128) :=
  digits128 (fun m => sel16 (128 * 15 + m)) _ (i % 128) (Nat.mod_lt _ (by decide))
theorem lit1_16 (i : Nat) : lit1t0_16 i = sel16 (128 * 16 + i % 128) :=
  digits128 (fun m => sel16 (128 * 16 + m)) _ (i % 128) (Nat.mod_lt _ (by decide))
theorem lit1_17 (i : Nat) : lit1t0_17 i = sel16 (128 * 17 + i % 128) :=
  digits128 (fun m => sel16 (128 * 17 + m)) _ (i % 128) (Nat.mod_lt _ (by decide))
theorem lit1_18 (i : Nat) : lit1t0_18 i = sel16 (128 * 18 + i % 128) :=
  digits128 (fun m => sel16 (128 * 18 + m)) _ (i % 128) (Nat.mod_lt _ (by decide))
theorem lit1_19 (i : Nat) : lit1t0_19 i = sel16 (128 * 19 + i % 128) :=
  digits128 (fun m => sel16 (128 * 19 + m)) _ (i % 128) (Nat.mod_lt _ (by decide))
theorem lit1_20 (i : Nat) : lit1t0_20 i = sel16 (128 * 20 + i % 128) :=
  digits128 (fun m => sel16 (128 * 20 + m)) _ (i % 128) (Nat.mod_lt _ (by decide))
theorem lit1_21 (i : Nat) : lit1t0_21 i = sel16 (128 * 21 + i % 128) :=
  digits128 (fun m => sel16 (128 * 21 + m)) _ (i % 128) (Nat.mod_lt _ (by decide))
theorem lit1_22 (i : Nat) : lit1t0_22 i = sel16 (128 * 22 + i % 128) :=
  digits128 (fun m => sel16 (128 * 22 + m)) _ (i % 128) (Nat.mod_lt _ (by decide))
theorem lit1_23 (i : Nat) : lit1t0_23 i = sel16 (128 * 23 + i % 128) :=
  digits128 (fun m => sel16 (128 * 23 + m)) _ (i % 128) (Nat.mod_lt _ (by decide))
theorem lit1_24 (i : Nat) : lit1t0_24 i = sel16 (128 * 24 + i % 128) :=
  digits128 (fun m => sel16 (128 * 24 + m)) _ (i % 128) (Nat.mod_lt _ (by decide))
theorem lit1_25 (i : Nat) : lit1t0_25 i = sel16 (128 * 25 + i % 128) :=
  digits128 (fun m => sel16 (128 * 25 + m)) _ (i % 128) (Nat.mod_lt _ (by decide))
theorem lit1_26 (i : Nat) : lit1t0_26 i = sel16 (128 * 26 + i % 128) :=
  digits128 (fun m => sel16 (128 * 26 + m)) _ (i % 128) (Nat.mod_lt _ (by decide))
theorem lit1_27 (i : Nat) : lit1t0_27 i = sel16 (128 * 27 + i % 128) :=
  digits128 (fun m => sel16 (128 * 27 + m)) _ (i % 128) (Nat.mod_lt _ (by decide))
theorem lit1_28 (i : Nat) : lit1t0_28 i = sel16 (128 * 28 + i % 128) :=
  digits128 (fun m => sel16 (128 * 28 + m)) _ (i % 128) (Nat.mod_lt _ (by decide))
theorem lit1_29 (i : Nat) : lit1t0_29 i = sel16 (128 * 29 + i % 128) :=
  digits128 (fun m => sel16 (128 * 29 + m)) _ (i % 128) (Nat.mod_lt _ (by decide))
theorem lit1_30 (i : Nat) : lit1t0_30 i = sel16 (128 * 30 + i % 128) :=
  digits128 (fun m => sel16 (128 * 30 + m)) _ (i % 128) (Nat.mod_lt _ (by decide))
theorem lit1_31 (i : Nat) : lit1t0_31 i = sel16 (128 * 31 + i % 128) :=
  digits128 (fun m => sel16 (128 * 31 + m)) _ (i % 128) (Nat.mod_lt _ (by decide))
theorem lit1_32 (i : Nat) : lit1t0_32 i = sel16 (128 * 32 + i % 128) :=
  digits128 (fun m => sel16 (128 * 32 + m)) _ (i % 128) (Nat.mod_lt _ (by decide))
theorem lit1_33 (i : Nat) : lit1t0_33 i = sel16 (128 * 33 + i % 128) :=
  digits128 (fun m => sel16 (128 * 33 + m)) _ (i % 128) (Nat.mod_lt _ (by decide))
theorem lit1_34 (i : Nat) : lit1t0_34 i = sel16 (128 * 34 + i % 128) :=
  digits128 (fun m => sel16 (128 * 34 + m)) _ (i % 128) (Nat.mod_lt _ (by decide))
theorem lit1_35 (i : Nat) : lit1t0_35 i = sel16 (128 * 35 + i % 128) :=
  digits128 (fun m => sel16 (128 * 35 + m)) _ (i % 128) (Nat.mod_lt _ (by decide))
theorem lit1_36 (i : Nat) : lit1t0_36 i = sel16 (128 * 36 + i % 128) :=
  digits128 (fun m => sel16 (128 * 36 + m)) _ (i % 128) (Nat.mod_lt _ (by decide))
theorem lit1_37 (i : Nat) : lit1t0_37 i = sel16 (128 * 37 + i % 128) :=
  digits128 (fun m => sel16 (128 * 37 + m)) _ (i % 128) (Nat.mod_lt _ (by decide))
theorem lit1_38 (i : Nat) : lit1t0_38 i = sel16 (128 * 38 + i % 128) :=
  digits128 (fun m => sel16 (128 * 38 + m)) _ (i % 128) (Nat.mod_lt _ (by decide))
theorem lit1_39 (i : Nat) : lit1t0_39 i = sel16 (128 * 39 + i % 128) :=
  digits128 (fun m => sel16 (128 * 39 + m)) _ (i % 128) (Nat.mod_lt _ (by decide))
theorem lit1_40 (i : Nat) : lit1t0_40 i = sel16 (128 * 40 + i % 128) :=
  digits128 (fun m => sel16 (128 * 40 + m)) _ (i % 128) (Nat.mod_lt _ (by decide))
theorem lit1_41 (i : Nat) : lit1t0_41 i = sel16 (128 * 41 + i % 128) :=
  digits128 (fun m => sel16 (128 * 41 + m)) _ (i % 128) (Nat.mod_lt _ (by decide))
theorem lit1_42 (i : Nat) : lit1t0_42 i = sel16 (128 * 42 + i % 128) :=
  digits128 (fun m => sel16 (128 * 42 + m)) _ (i % 128) (Nat.mod_lt _ (by decide))
theorem lit1_43 (i : Nat) : lit1t0_43 i = sel16 (128 * 43 + i % 128) :=
  digits128 (fun m => sel16 (128 * 43 + m)) _ (i % 128) (Nat.mod_lt _ (by decide))
theorem lit1_44 (i : Nat) : lit1t0_44 i = sel16 (128 * 44 + i % 128) :=
  digits128 (fun m => sel16 (128 * 44 + m)) _ (i % 128) (Nat.mod_lt _ (by decide))
theorem lit1_45 (i : Nat) : lit1t0_45 i = sel16 (128 * 45 + i % 128) :=
  digits128 (fun m => sel16 (128 * 45 + m)) _ (i % 128) (Nat.mod_lt _ (by decide))
theorem lit1_46 (i : Nat) : lit1t0_46 i = sel16 (128 * 46 + i % 128) :=
  digits128 (fun m => sel16 (128 * 46 + m)) _ (i % 128) (Nat.mod_lt _ (by decide))
theorem lit1_47 (i : Nat) : lit1t0_47 i = sel16 (128 * 47 + i % 128) :=
  digits128 (fun m => sel16 (128 * 47 + m)) _ (i % 128) (Nat.mod_lt _ (by decide))
theorem lit1_48 (i : Nat) : lit1t0_48 i = sel16 (128 * 48 + i % 128) :=
  digits128 (fun m => sel16 (128 * 48 + m)) _ (i % 128) (Nat.mod_lt _ (by decide))
theorem lit1_49 (i : Nat) : lit1t0_49 i = sel16 (128 * 49 + i % 128) :=
  digits128 (fun m => sel16 (128 * 49 + m)) _ (i % 128) (Nat.mod_lt _ (by decide))
theorem lit1_50 (i : Nat) : lit1t0_50 i = sel16 (128 * 50 + i % 128) :=
  digits128 (fun m => sel16 (128 * 50 + m)) _ (i % 128) (Nat.mod_lt _ (by decide))
theorem lit1_51 (i : Nat) : lit1t0_51 i = sel16 (128 * 51 + i % 128) :=
  digits128 (fun m => sel16 (128 * 51 + m)) _ (i % 128) (Nat.mod_lt _ (by decide))
theorem lit1_52 (i : Nat) : lit1t0_52 i = sel16 (128 * 52 + i % 128) :=
  digits128 (fun m => sel16 (128 * 52 + m)) _ (i % 128) (Nat.mod_lt _ (by decide))
theorem lit1_53 (i : Nat) : lit1t0_53 i = sel16 (128 * 53 + i % 128) :=
  digits128 (fun m => sel16 (128 * 53 + m)) _ (i % 128) (Nat.mod_lt _ (by decide))
theorem lit1_54 (i : Nat) : lit1t0_54 i = sel16 (128 * 54 + i % 128) :=
  digits128 (fun m => sel16 (128 * 54 + m)) _ (i % 128) (Nat.mod_lt _ (by decide))
theorem lit1_55 (i : Nat) : lit1t0_55 i = sel16 (128 * 55 + i % 128) :=
  digits128 (fun m => sel16 (128 * 55 + m)) _ (i % 128) (Nat.mod_lt _ (by decide))
theorem lit1_56 (i : Nat) : lit1t0_56 i = sel16 (128 * 56 + i % 128) :=
  digits128 (fun m => sel16 (128 * 56 + m)) _ (i % 128) (Nat.mod_lt _ (by decide))
theorem lit1_57 (i : Nat) : lit1t0_57 i = sel16 (128 * 57 + i % 128) :=
  digits128 (fun m => sel16 (128 * 57 + m)) _ (i % 128) (Nat.mod_lt _ (by decide))
theorem lit1_58 (i : Nat) : lit1t0_58 i = sel16 (128 * 58 + i % 128) :=
  digits128 (fun m => sel16 (128 * 58 + m)) _ (i % 128) (Nat.mod_lt _ (by decide))
theorem lit1_59 (i : Nat) : lit1t0_59 i = sel16 (128 * 59 + i % 128) :=
  digits128 (fun m => sel16 (128 * 59 + m)) _ (i % 128) (Nat.mod_lt _ (by decide))
theorem lit1_60 (i : Nat) : lit1t0_60 i = sel16 (128 * 60 + i % 128) :=
  digits128 (fun m => sel16 (128 * 60 + m)) _ (i % 128) (Nat.mod_lt _ (by decide))
theorem lit1_61 (i : Nat) : lit1t0_61 i = sel16 (128 * 61 + i % 128) :=
  digits128 (fun m => sel16 (128 * 61 + m)) _ (i % 128) (Nat.mod_lt _ (by decide))
theorem lit1_62 (i : Nat) : lit1t0_62 i = sel16 (128 * 62 + i % 128) :=
  digits128 (fun m => sel16 (128 * 62 + m)) _ (i % 128) (Nat.mod_lt _ (by decide))
theorem lit1_63 (i : Nat) : lit1t0_63 i = sel16 (128 * 63 + i % 128) :=
  digits128 (fun m => sel16 (128 * 63 + m)) _ (i % 128) (Nat.mod_lt _ (by decide))
theorem lit1_64 (i : Nat) : lit1t0_64 i = sel16 (128 * 64 + i % 128) :=
  digits128 (fun m => sel16 (128 * 64 + m)) _ (i % 128) (Nat.mod_lt _ (by decide))
theorem lit1_65 (i : Nat) : lit1t0_65 i = sel16 (128 * 65 + i % 128) :=
  digits128 (fun m => sel16 (128 * 65 + m)) _ (i % 128) (Nat.mod_lt _ (by decide))
theorem lit1_66 (i : Nat) : lit1t0_66 i = sel16 (128 * 66 + i % 128) :=
  digits128 (fun m => sel16 (128 * 66 + m)) _ (i % 128) (Nat.mod_lt _ (by decide))
theorem lit1_67 (i : Nat) : lit1t0_67 i = sel16 (128 * 67 + i % 128) :=
  digits128 (fun m => sel16 (128 * 67 + m)) _ (i % 128) (Nat.mod_lt _ (by decide))
theorem lit1_68 (i : Nat) : lit1t0_68 i = sel16 (128 * 68 + i % 128) :=
  digits128 (fun m => sel16 (128 * 68 + m)) _ (i % 128) (Nat.mod_lt _ (by decide))
theorem lit1_69 (i : Nat) : lit1t0_69 i = sel16 (128 * 69 + i % 128) :=
  digits128 (fun m => sel16 (128 * 69 + m)) _ (i % 128) (Nat.mod_lt _ (by decide))
theorem lit1_70 (i : Nat) : lit1t0_70 i = sel16 (128 * 70 + i % 128) :=
  digits128 (fun m => sel16 (128 * 70 + m)) _ (i % 128) (Nat.mod_lt _ (by decide))
theorem lit1_71 (i : Nat) : lit1t0_71 i = sel16 (128 * 71 + i % 128) :=
  digits128 (fun m => sel16 (128 * 71 + m)) _ (i % 128) (Nat.mod_lt _ (by decide))
theorem lit1_72 (i : Nat) : lit1t0_72 i = sel16 (128 * 72 + i % 128) :=
  digits128 (fun m => sel16 (128 * 72 + m)) _ (i % 128) (Nat.mod_lt _ (by decide))
theorem lit1_73 (i : Nat) : lit1t0_73 i = sel16 (128 * 73 + i % 128) :=
  digits128 (fun m => sel16 (128 * 73 + m)) _ (i % 128) (Nat.mod_lt _ (by decide))
theorem lit1_74 (i : Nat) : lit1t0_74 i = sel16 (128 * 74 + i % 128) :=
  digits128 (fun m => sel16 (128 * 74 + m)) _ (i % 128) (Nat.mod_lt _ (by decide))
theorem lit1_75 (i : Nat) : lit1t0_75 i = sel16 (128 * 75 + i % 128) :=
  digits128 (fun m => sel16 (128 * 75 + m)) _ (i % 128) (Nat.mod_lt _ (by decide))
theorem lit1_76 (i : Nat) : lit1t0_76 i = sel16 (128 * 76 + i % 128) :=
  digits128 (fun m => sel16 (128 * 76 + m)) _ (i % 128) (Nat.mod_lt _ (by decide))
theorem lit1_77 (i : Nat) : lit1t0_77 i = sel16 (128 * 77 + i % 128) :=
  digits128 (fun m => sel16 (128 * 77 + m)) _ (i % 128) (Nat.mod_lt _ (by decide))
theorem lit1_78 (i : Nat) : lit1t0_78 i = sel16 (128 * 78 + i % 128) :=
  digits128 (fun m => sel16 (128 * 78 + m)) _ (i % 128) (Nat.mod_lt _ (by decide))
theorem lit1_79 (i : Nat) : lit1t0_79 i = sel16 (128 * 79 + i % 128) :=
  digits128 (fun m => sel16 (128 * 79 + m)) _ (i % 128) (Nat.mod_lt _ (by decide))
theorem lit1_80 (i : Nat) : lit1t0_80 i = sel16 (128 * 80 + i % 128) :=
  digits128 (fun m => sel16 (128 * 80 + m)) _ (i % 128) (Nat.mod_lt _ (by decide))
theorem lit1_81 (i : Nat) : lit1t0_81 i = sel16 (128 * 81 + i % 128) :=
  digits128 (fun m => sel16 (128 * 81 + m)) _ (i % 128) (Nat.mod_lt _ (by decide))
theorem lit1_82 (i : Nat) : lit1t0_82 i = sel16 (128 * 82 + i % 128) :=
  digits128 (fun m => sel16 (128 * 82 + m)) _ (i % 128) (Nat.mod_lt _ (by decide))
theorem lit1_83 (i : Nat) : lit1t0_83 i = sel16 (128 * 83 + i % 128) :=
  digits128 (fun m => sel16 (128 * 83 + m)) _ (i % 128) (Nat.mod_lt _ (by decide))
theorem lit1_84 (i : Nat) : lit1t0_84 i = sel16 (128 * 84 + i % 128) :=
  digits128 (fun m => sel16 (128 * 84 + m)) _ (i % 128) (Nat.mod_lt _ (by decide))
theorem lit1_85 (i : Nat) : lit1t0_85 i = sel16 (128 * 85 + i % 128) :=
  digits128 (fun m => sel16 (128 * 85 + m)) _ (i % 128) (Nat.mod_lt _ (by decide))
theorem lit1_86 (i : Nat) : lit1t0_86 i = sel16 (128 * 86 + i % 128) :=
  digits128 (fun m => sel16 (128 * 86 + m)) _ (i % 128) (Nat.mod_lt _ (by decide))
theorem lit1_87 (i : Nat) : lit1t0_87 i = sel16 (128 * 87 + i % 128) :=
  digits128 (fun m => sel16 (128 * 87 + m)) _ (i % 128) (Nat.mod_lt _ (by decide))
theorem lit1_88 (i : Nat) : lit1t0_88 i = sel16 (128 * 88 + i % 128) :=
  digits128 (fun m => sel16 (128 * 88 + m)) _ (i % 128) (Nat.mod_lt _ (by decide))
theorem lit1_89 (i : Nat) : lit1t0_89 i = sel16 (128 * 89 + i % 128) :=
  digits128 (fun m => sel16 (128 * 89 + m)) _ (i % 128) (Nat.mod_lt _ (by decide))
theorem lit1_90 (i : Nat) : lit1t0_90 i = sel16 (128 * 90 + i % 128) :=
  digits128 (fun m => sel16 (128 * 90 + m)) _ (i % 128) (Nat.mod_lt _ (by decide))
theorem lit1_91 (i : Nat) : lit1t0_91 i = sel16 (128 * 91 + i % 128) :=
  digits128 (fun m => sel16 (128 * 91 + m)) _ (i % 128) (Nat.mod_lt _ (by decide))
theorem lit1_92 (i : Nat) : lit1t0_92 i = sel16 (128 * 92 + i % 128) :=
  digits128 (fun m => sel16 (128 * 92 + m)) _ (i % 128) (Nat.mod_lt _ (by decide))
theorem lit1_93 (i : Nat) : lit1t0_93 i = sel16 (128 * 93 + i % 128) :=
  digits128 (fun m => sel16 (128 * 93 + m)) _ (i % 128) (Nat.mod_lt _ (by decide))
theorem lit1_94 (i : Nat) : lit1t0_94 i = sel16 (128 * 94 + i % 128) :=
  digits128 (fun m => sel16 (128 * 94 + m)) _ (i % 128) (Nat.mod_lt _ (by decide))
theorem lit1_95 (i : Nat) : lit1t0_95 i = sel16 (128 * 95 + i % 128) :=
  digits128 (fun m => sel16 (128 * 95 + m)) _ (i % 128) (Nat.mod_lt _ (by decide))
theorem lit1_96 (i : Nat) : lit1t0_96 i = sel16 (128 * 96 + i % 128) :=
  digits128 (fun m => sel16 (128 * 96 + m)) _ (i % 128) (Nat.mod_lt _ (by decide))
theorem lit1_97 (i : Nat) : lit1t0_97 i = sel16 (128 * 97 + i % 128) :=
  digits128 (fun m => sel16 (128 * 97 + m)) _ (i % 128) (Nat.mod_lt _ (by decide))
theorem lit1_98 (i : Nat) : lit1t0_98 i = sel16 (128 * 98 + i % 128) :=
  digits128 (fun m => sel16 (128 * 98 + m)) _ (i % 128) (Nat.mod_lt _ (by decide))
theorem lit1_99 (i : Nat) : lit1t0_99 i = sel16 (128 * 99 + i % 128) :=
  digits128 (fun m => sel16 (128 * 99 + m)) _ (i % 128) (Nat.mod_lt _ (by decide))
theorem lit1_100 (i : Nat) : lit1t0_100 i = sel16 (128 * 100 + i % 128) :=
  digits128 (fun m => sel16 (128 * 100 + m)) _ (i % 128) (Nat.mod_lt _ (by decide))
theorem lit1_101 (i : Nat) : lit1t0_101 i = sel16 (128 * 101 + i % 128) :=
  digits128 (fun m => sel16 (128 * 101 + m)) _ (i % 128) (Nat.mod_lt _ (by decide))
theorem lit1_102 (i : Nat) : lit1t0_102 i = sel16 (128 * 102 + i % 128) :=
  digits128 (fun m => sel16 (128 * 102 + m)) _ (i % 128) (Nat.mod_lt _ (by decide))
theorem lit1_103 (i : Nat) : lit1t0_103 i = sel16 (128 * 103 + i % 128) :=
  digits128 (fun m => sel16 (128 * 103 + m)) _ (i % 128) (Nat.mod_lt _ (by decide))
theorem lit1_104 (i : Nat) : lit1t0_104 i = sel16 (128 * 104 + i % 128) :=
  digits128 (fun m => sel16 (128 * 104 + m)) _ (i % 128) (Nat.mod_lt _ (by decide))
theorem lit1_105 (i : Nat) : lit1t0_105 i = sel16 (128 * 105 + i % 128) :=
  digits128 (fun m => sel16 (128 * 105 + m)) _ (i % 128) (Nat.mod_lt _ (by decide))
theorem lit1_106 (i : Nat) : lit1t0_106 i = sel16 (128 * 106 + i % 128) :=
  digits128 (fun m => sel16 (128 * 106 + m)) _ (i % 128) (Nat.mod_lt _ (by decide))
theorem lit1_107 (i : Nat) : lit1t0_107 i = sel16 (128 * 107 + i % 128) :=
  digits128 (fun m => sel16 (128 * 107 + m)) _ (i % 128) (Nat.mod_lt _ (by decide))
theorem lit1_108 (i : Nat) : lit1t0_108 i = sel16 (128 * 108 + i % 128) :=
  digits128 (fun m => sel16 (128 * 108 + m)) _ (i % 128) (Nat.mod_lt _ (by decide))
theorem lit1_109 (i : Nat) : lit1t0_109 i = sel16 (128 * 109 + i % 128) :=
  digits128 (fun m => sel16 (128 * 109 + m)) _ (i % 128) (Nat.mod_lt _ (by decide))
theorem lit1_110 (i : Nat) : lit1t0_110 i = sel16 (128 * 110 + i % 128) :=
  digits128 (fun m => sel16 (128 * 110 + m)) _ (i % 128) (Nat.mod_lt _ (by decide))
theorem lit1_111 (i : Nat) : lit1t0_111 i = sel16 (128 * 111 + i % 128) :=
  digits128 (fun m => sel16 (128 * 111 + m)) _ (i % 128) (Nat.mod_lt _ (by decide))
theorem lit1_112 (i : Nat) : lit1t0_112 i = sel16 (128 * 112 + i % 128) :=
  digits128 (fun m => sel16 (128 * 112 + m)) _ (i % 128) (Nat.mod_lt _ (by decide))
theorem lit1_113 (i : Nat) : lit1t0_113 i = sel16 (128 * 113 + i % 128) :=
  digits128 (fun m => sel16 (128 * 113 + m)) _ (i % 128) (Nat.mod_lt _ (by decide))
theorem lit1_114 (i : Nat) : lit1t0_114 i = sel16 (128 * 114 + i % 128) :=
  digits128 (fun m => sel16 (128 * 114 + m)) _ (i % 128) (Nat.mod_lt _ (by decide))
theorem lit1_115 (i : Nat) : lit1t0_115 i = sel16 (128 * 115 + i % 128) :=
  digits128 (fun m => sel16 (128 * 115 + m)) _ (i % 128) (Nat.mod_lt _ (by decide))
theorem lit1_116 (i : Nat) : lit1t0_116 i = sel16 (128 * 116 + i % 128) :=
  digits128 (fun m => sel16 (128 * 116 + m)) _ (i % 128) (Nat.mod_lt _ (by decide))
theorem lit1_117 (i : Nat) : lit1t0_117 i = sel16 (128 * 117 + i % 128) :=
  digits128 (fun m => sel16 (128 * 117 + m)) _ (i % 128) (Nat.mod_lt _ (by decide))
theorem lit1_118 (i : Nat) : lit1t0_118 i = sel16 (128 * 118 + i % 128) :=
  digits128 (fun m => sel16 (128 * 118 + m)) _ (i % 128) (Nat.mod_lt _ (by decide))
theorem lit1_119 (i : Nat) : lit1t0_119 i = sel16 (128 * 119 + i % 128) :=
  digits128 (fun m => sel16 (128 * 119 + m)) _ (i % 128) (Nat.mod_lt _ (by decide))
theorem lit1_120 (i : Nat) : lit1t0_120 i = sel16 (128 * 120 + i % 128) :=
  digits128 (fun m => sel16 (128 * 120 + m)) _ (i % 128) (Nat.mod_lt _ (by decide))
theorem lit1_121 (i : Nat) : lit1t0_121 i = sel16 (128 * 121 + i % 128) :=
  digits128 (fun m => sel16 (128 * 121 + m)) _ (i % 128) (Nat.mod_lt _ (by decide))
theorem lit1_122 (i : Nat) : lit1t0_122 i = sel16 (128 * 122 + i % 128) :=
  digits128 (fun m => sel16 (128 * 122 + m)) _ (i % 128) (Nat.mod_lt _ (by decide))
theorem lit1_123 (i : Nat) : lit1t0_123 i = sel16 (128 * 123 + i % 128) :=
  digits128 (fun m => sel16 (128 * 123 + m)) _ (i % 128) (Nat.mod_lt _ (by decide))
theorem lit1_124 (i : Nat) : lit1t0_124 i = sel16 (128 * 124 + i % 128) :=
  digits128 (fun m => sel16 (128 * 124 + m)) _ (i % 128) (Nat.mod_lt _ (by decide))
theorem lit1_125 (i : Nat) : lit1t0_125 i = sel16 (128 * 125 + i % 128) :=
  digits128 (fun m => sel16 (128 * 125 + m)) _ (i % 128) (Nat.mod_lt _ (by decide))
theorem lit1_126 (i : Nat) : lit1t0_126 i = sel16 (128 * 126 + i % 128) :=
  digits128 (fun m => sel16 (128 * 126 + m)) _ (i % 128) (Nat.mod_lt _ (by decide))
theorem lit1_127 (i : Nat) : lit1t0_127 i = sel16 (128 * 127 + i % 128) :=
  digits128 (fun m => sel16 (128 * 127 + m)) _ (i % 128) (Nat.mod_lt _ (by decide))
theorem lit1_128 (i : Nat) : lit1t0_128 i = sel16 (128 * 128 + i % 128) :=
  digits128 (fun m => sel16 (128 * 128 + m)) _ (i % 128) (Nat.mod_lt _ (by decide))
theorem lit1_129 (i : Nat) : lit1t0_129 i = sel16 (128 * 129 + i % 128) :=
  digits128 (fun m => sel16 (128 * 129 + m)) _ (i % 128) (Nat.mod_lt _ (by decide))
theorem lit1_130 (i : Nat) : lit1t0_130 i = sel16 (128 * 130 + i % 128) :=
  digits128 (fun m => sel16 (128 * 130 + m)) _ (i % 128) (Nat.mod_lt _ (by decide))
theorem lit1_131 (i : Nat) : lit1t0_131 i = sel16 (128 * 131 + i % 128) :=
  digits128 (fun m => sel16 (128 * 131 + m)) _ (i % 128) (Nat.mod_lt _ (by decide))
theorem lit1_132 (i : Nat) : lit1t0_132 i = sel16 (128 * 132 + i % 128) :=
  digits128 (fun m => sel16 (128 * 132 + m)) _ (i % 128) (Nat.mod_lt _ (by decide))
theorem lit1_133 (i : Nat) : lit1t0_133 i = sel16 (128 * 133 + i % 128) :=
  digits128 (fun m => sel16 (128 * 133 + m)) _ (i % 128) (Nat.mod_lt _ (by decide))
theorem lit1_134 (i : Nat) : lit1t0_134 i = sel16 (128 * 134 + i % 128) :=
  digits128 (fun m => sel16 (128 * 134 + m)) _ (i % 128) (Nat.mod_lt _ (by decide))
theorem lit1_135 (i : Nat) : lit1t0_135 i = sel16 (128 * 135 + i % 128) :=
  digits128 (fun m => sel16 (128 * 135 + m)) _ (i % 128) (Nat.mod_lt _ (by decide))
theorem lit1_136 (i : Nat) : lit1t0_136 i = sel16 (128 * 136 + i % 128) :=
  digits128 (fun m => sel16 (128 * 136 + m)) _ (i % 128) (Nat.mod_lt _ (by decide))
theorem lit1_137 (i : Nat) : lit1t0_137 i = sel16 (128 * 137 + i % 128) :=
  digits128 (fun m => sel16 (128 * 137 + m)) _ (i % 128) (Nat.mod_lt _ (by decide))
theorem lit1_138 (i : Nat) : lit1t0_138 i = sel16 (128 * 138 + i % 128) :=
  digits128 (fun m => sel16 (128 * 138 + m)) _ (i % 128) (Nat.mod_lt _ (by decide))
theorem lit1_139 (i : Nat) : lit1t0_139 i = sel16 (128 * 139 + i % 128) :=
  digits128 (fun m => sel16 (128 * 139 + m)) _ (i % 128) (Nat.mod_lt _ (by decide))
theorem lit1_140 (i : Nat) : lit1t0_140 i = sel16 (128 * 140 + i % 128) :=
  digits128 (fun m => sel16 (128 * 140 + m)) _ (i % 128) (Nat.mod_lt _ (by decide))
theorem lit1_141 (i : Nat) : lit1t0_141 i = sel16 (128 * 141 + i % 128) :=
  digits128 (fun m => sel16 (128 * 141 + m)) _ (i % 128) (Nat.mod_lt _ (by decide))
theorem lit1_142 (i : Nat) : lit1t0_142 i = sel16 (128 * 142 + i % 128) :=
  digits128 (fun m => sel16 (128 * 142 + m)) _ (i % 128) (Nat.mod_lt _ (by decide))
theorem lit1_143 (i : Nat) : lit1t0_143 i = sel16 (128 * 143 + i % 128) :=
  digits128 (fun m => sel16 (128 * 143 + m)) _ (i % 128) (Nat.mod_lt _ (by decide))
theorem lit1_144 (i : Nat) : lit1t0_144 i = sel16 (128 * 144 + i % 128) :=
  digits128 (fun m => sel16 (128 * 144 + m)) _ (i % 128) (Nat.mod_lt _ (by decide))
theorem lit1_145 (i : Nat) : lit1t0_145 i = sel16 (128 * 145 + i % 128) :=
  digits128 (fun m => sel16 (128 * 145 + m)) _ (i % 128) (Nat.mod_lt _ (by decide))
theorem lit1_146 (i : Nat) : lit1t0_146 i = sel16 (128 * 146 + i % 128) :=
  digits128 (fun m => sel16 (128 * 146 + m)) _ (i % 128) (Nat.mod_lt _ (by decide))
theorem lit1_147 (i : Nat) : lit1t0_147 i = sel16 (128 * 147 + i % 128) :=
  digits128 (fun m => sel16 (128 * 147 + m)) _ (i % 128) (Nat.mod_lt _ (by decide))
theorem lit1_148 (i : Nat) : lit1t0_148 i = sel16 (128 * 148 + i % 128) :=
  digits128 (fun m => sel16 (128 * 148 + m)) _ (i % 128) (Nat.mod_lt _ (by decide))
theorem lit1_149 (i : Nat) : lit1t0_149 i = sel16 (128 * 149 + i % 128) :=
  digits128 (fun m => sel16 (128 * 149 + m)) _ (i % 128) (Nat.mod_lt _ (by decide))
theorem lit1_150 (i : Nat) : lit1t0_150 i = sel16 (128 * 150 + i % 128) :=
  digits128 (fun m => sel16 (128 * 150 + m)) _ (i % 128) (Nat.mod_lt _ (by decide))
theorem lit1_151 (i : Nat) : lit1t0_151 i = sel16 (128 * 151 + i % 128) :=
  digits128 (fun m => sel16 (128 * 151 + m)) _ (i % 128) (Nat.mod_lt _ (by decide))
theorem lit1_152 (i : Nat) : lit1t0_152 i = sel16 (128 * 152 + i % 128) :=
  digits128 (fun m => sel16 (128 * 152 + m)) _ (i % 128) (Nat.mod_lt _ (by decide))
theorem lit1_153 (i : Nat) : lit1t0_153 i = sel16 (128 * 153 + i % 128) :=
  digits128 (fun m => sel16 (128 * 153 + m)) _ (i % 128) (Nat.mod_lt _ (by decide))
theorem lit1_154 (i : Nat) : lit1t0_154 i = sel16 (128 * 154 + i % 128) :=
  digits128 (fun m => sel16 (128 * 154 + m)) _ (i % 128) (Nat.mod_lt _ (by decide))
theorem lit1_155 (i : Nat) : lit1t0_155 i = sel16 (128 * 155 + i % 128) :=
  digits128 (fun m => sel16 (128 * 155 + m)) _ (i % 128) (Nat.mod_lt _ (by decide))
theorem lit1_156 (i : Nat) : lit1t0_156 i = sel16 (128 * 156 + i % 128) :=
  digits128 (fun m => sel16 (128 * 156 + m)) _ (i % 128) (Nat.mod_lt _ (by decide))
theorem lit1_157 (i : Nat) : lit1t0_157 i = sel16 (128 * 157 + i % 128) :=
  digits128 (fun m => sel16 (128 * 157 + m)) _ (i % 128) (Nat.mod_lt _ (by decide))
theorem lit1_158 (i : Nat) : lit1t0_158 i = sel16 (128 * 158 + i % 128) :=
  digits128 (fun m => sel16 (128 * 158 + m)) _ (i % 128) (Nat.mod_lt _ (by decide))
theorem lit1_159 (i : Nat) : lit1t0_159 i = sel16 (128 * 159 + i % 128) :=
  digits128 (fun m => sel16 (128 * 159 + m)) _ (i % 128) (Nat.mod_lt _ (by decide))
theorem lit1_160 (i : Nat) : lit1t0_160 i = sel16 (128 * 160 + i % 128) :=
  digits128 (fun m => sel16 (128 * 160 + m)) _ (i % 128) (Nat.mod_lt _ (by decide))
theorem lit1_161 (i : Nat) : lit1t0_161 i = sel16 (128 * 161 + i % 128) :=
  digits128 (fun m => sel16 (128 * 161 + m)) _ (i % 128) (Nat.mod_lt _ (by decide))
theorem lit1_162 (i : Nat) : lit1t0_162 i = sel16 (128 * 162 + i % 128) :=
  digits128 (fun m => sel16 (128 * 162 + m)) _ (i % 128) (Nat.mod_lt _ (by decide))
theorem lit1_163 (i : Nat) : lit1t0_163 i = sel16 (128 * 163 + i % 128) :=
  digits128 (fun m => sel16 (128 * 163 + m)) _ (i % 128) (Nat.mod_lt _ (by decide))
theorem lit1_164 (i : Nat) : lit1t0_164 i = sel16 (128 * 164 + i % 128) :=
  digits128 (fun m => sel16 (128 * 164 + m)) _ (i % 128) (Nat.mod_lt _ (by decide))
theorem lit1_165 (i : Nat) : lit1t0_165 i = sel16 (128 * 165 + i % 128) :=
  digits128 (fun m => sel16 (128 * 165 + m)) _ (i % 128) (Nat.mod_lt _ (by decide))
theorem lit1_166 (i : Nat) : lit1t0_166 i = sel16 (128 * 166 + i % 128) :=
  digits128 (fun m => sel16 (128 * 166 + m)) _ (i % 128) (Nat.mod_lt _ (by decide))
theorem lit1_167 (i : Nat) : lit1t0_167 i = sel16 (128 * 167 + i % 128) :=
  digits128 (fun m => sel16 (128 * 167 + m)) _ (i % 128) (Nat.mod_lt _ (by decide))
theorem lit1_168 (i : Nat) : lit1t0_168 i = sel16 (128 * 168 + i % 128) :=
  digits128 (fun m => sel16 (128 * 168 + m)) _ (i % 128) (Nat.mod_lt _ (by decide))
theorem lit1_169 (i : Nat) : lit1t0_169 i = sel16 (128 * 169 + i % 128) :=
  digits128 (fun m => sel16 (128 * 169 + m)) _ (i % 128) (Nat.mod_lt _ (by decide))
theorem lit1_170 (i : Nat) : lit1t0_170 i = sel16 (128 * 170 + i % 128) :=
  digits128 (fun m => sel16 (128 * 170 + m)) _ (i % 128) (Nat.mod_lt _ (by decide))
theorem lit1_171 (i : Nat) : lit1t0_171 i = sel16 (128 * 171 + i % 128) :=
  digits128 (fun m => sel16 (128 * 171 + m)) _ (i % 128) (Nat.mod_lt _ (by decide))
theorem lit1_172 (i : Nat) : lit1t0_172 i = sel16 (128 * 172 + i % 128) :=
  digits128 (fun m => sel16 (128 * 172 + m)) _ (i % 128) (Nat.mod_lt _ (by decide))
theorem lit1_173 (i : Nat) : lit1t0_173 i = sel16 (128 * 173 + i % 128) :=
  digits128 (fun m => sel16 (128 * 173 + m)) _ (i % 128) (Nat.mod_lt _ (by decide))
theorem lit1_174 (i : Nat) : lit1t0_174 i = sel16 (128 * 174 + i % 128) :=
  digits128 (fun m => sel16 (128 * 174 + m)) _ (i % 128) (Nat.mod_lt _ (by decide))
theorem lit1_175 (i : Nat) : lit1t0_175 i = sel16 (128 * 175 + i % 128) :=
  digits128 (fun m => sel16 (128 * 175 + m)) _ (i % 128) (Nat.mod_lt _ (by decide))
theorem lit1_176 (i : Nat) : lit1t0_176 i = sel16 (128 * 176 + i % 128) :=
  digits128 (fun m => sel16 (128 * 176 + m)) _ (i % 128) (Nat.mod_lt _ (by decide))
theorem lit1_177 (i : Nat) : lit1t0_177 i = sel16 (128 * 177 + i % 128) :=
  digits128 (fun m => sel16 (128 * 177 + m)) _ (i % 128) (Nat.mod_lt _ (by decide))
theorem lit1_178 (i : Nat) : lit1t0_178 i = sel16 (128 * 178 + i % 128) :=
  digits128 (fun m => sel16 (128 * 178 + m)) _ (i % 128) (Nat.mod_lt _ (by decide))
theorem lit1_179 (i : Nat) : lit1t0_179 i = sel16 (128 * 179 + i % 128) :=
  digits128 (fun m => sel16 (128 * 179 + m)) _ (i % 128) (Nat.mod_lt _ (by decide))
theorem lit1_180 (i : Nat) : lit1t0_180 i = sel16 (128 * 180 + i % 128) :=
  digits128 (fun m => sel16 (128 * 180 + m)) _ (i % 128) (Nat.mod_lt _ (by decide))
theorem lit1_181 (i : Nat) : lit1t0_181 i = sel16 (128 * 181 + i % 128) :=
  digits128 (fun m => sel16 (128 * 181 + m)) _ (i % 128) (Nat.mod_lt _ (by decide))
theorem lit1_182 (i : Nat) : lit1t0_182 i = sel16 (128 * 182 + i % 128) :=
  digits128 (fun m => sel16 (128 * 182 + m)) _ (i % 128) (Nat.mod_lt _ (by decide))
theorem lit1_183 (i : Nat) : lit1t0_183 i = sel16 (128 * 183 + i % 128) :=
  digits128 (fun m => sel16 (128 * 183 + m)) _ (i % 128) (Nat.mod_lt _ (by decide))
theorem lit1_184 (i : Nat) : lit1t0_184 i = sel16 (128 * 184 + i % 128) :=
  digits128 (fun m => sel16 (128 * 184 + m)) _ (i % 128) (Nat.mod_lt _ (by decide))
theorem lit1_185 (i : Nat) : lit1t0_185 i = sel16 (128 * 185 + i % 128) :=
  digits128 (fun m => sel16 (128 * 185 + m)) _ (i % 128) (Nat.mod_lt _ (by decide))
theorem lit1_186 (i : Nat) : lit1t0_186 i = sel16 (128 * 186 + i % 128) :=
  digits128 (fun m => sel16 (128 * 186 + m)) _ (i % 128) (Nat.mod_lt _ (by decide))
theorem lit1_187 (i : Nat) : lit1t0_187 i = sel16 (128 * 187 + i % 128) :=
  digits128 (fun m => sel16 (128 * 187 + m)) _ (i % 128) (Nat.mod_lt _ (by decide))
theorem lit1_188 (i : Nat) : lit1t0_188 i = sel16 (128 * 188 + i % 128) :=
  digits128 (fun m => sel16 (128 * 188 + m)) _ (i % 128) (Nat.mod_lt _ (by decide))
theorem lit1_189 (i : Nat) : lit1t0_189 i = sel16 (128 * 189 + i % 128) :=
  digits128 (fun m => sel16 (128 * 189 + m)) _ (i % 128) (Nat.mod_lt _ (by decide))
theorem lit1_190 (i : Nat) : lit1t0_190 i = sel16 (128 * 190 + i % 128) :=
  digits128 (fun m => sel16 (128 * 190 + m)) _ (i % 128) (Nat.mod_lt _ (by decide))
theorem lit1_191 (i : Nat) : lit1t0_191 i = sel16 (128 * 191 + i % 128) :=
  digits128 (fun m => sel16 (128 * 191 + m)) _ (i % 128) (Nat.mod_lt _ (by decide))
theorem lit1_192 (i : Nat) : lit1t0_192 i = sel16 (128 * 192 + i % 128) :=
  digits128 (fun m => sel16 (128 * 192 + m)) _ (i % 128) (Nat.mod_lt _ (by decide))
theorem lit1_193 (i : Nat) : lit1t0_193 i = sel16 (128 * 193 + i % 128) :=
  digits128 (fun m => sel16 (128 * 193 + m)) _ (i % 128) (Nat.mod_lt _ (by decide))
theorem lit1_194 (i : Nat) : lit1t0_194 i = sel16 (128 * 194 + i % 128) :=
  digits128 (fun m => sel16 (128 * 194 + m)) _ (i % 128) (Nat.mod_lt _ (by decide))
theorem lit1_195 (i : Nat) : lit1t0_195 i = sel16 (128 * 195 + i % 128) :=
  digits128 (fun m => sel16 (128 * 195 + m)) _ (i % 128) (Nat.mod_lt _ (by decide))
theorem lit1_196 (i : Nat) : lit1t0_196 i = sel16 (128 * 196 + i % 128) :=
  digits128 (fun m => sel16 (128 * 196 + m)) _ (i % 128) (Nat.mod_lt _ (by decide))
theorem lit1_197 (i : Nat) : lit1t0_197 i = sel16 (128 * 197 + i % 128) :=
  digits128 (fun m => sel16 (128 * 197 + m)) _ (i % 128) (Nat.mod_lt _ (by decide))
theorem lit1_198 (i : Nat) : lit1t0_198 i = sel16 (128 * 198 + i % 128) :=
  digits128 (fun m => sel16 (128 * 198 + m)) _ (i % 128) (Nat.mod_lt _ (by decide))
theorem lit1_199 (i : Nat) : lit1t0_199 i = sel16 (128 * 199 + i % 128) :=
  digits128 (fun m => sel16 (128 * 199 + m)) _ (i % 128) (Nat.mod_lt _ (by decide))

end Cert.Conv

end
-- ==== Proof.Table1B.lean ====
/- The leaves of the table `lit1`, entries 25600 to 51199. -/
module

public import proofs.«01_k».proof.Proof.TableDigits

@[expose] public section

noncomputable section

namespace Cert.Conv

open Idealize.ShloMosaic
open Cert.KernelIdeal

set_option maxRecDepth 100000

theorem lit1_200 (i : Nat) : lit1t0_200 i = sel16 (128 * 200 + i % 128) :=
  digits128 (fun m => sel16 (128 * 200 + m)) _ (i % 128) (Nat.mod_lt _ (by decide))
theorem lit1_201 (i : Nat) : lit1t0_201 i = sel16 (128 * 201 + i % 128) :=
  digits128 (fun m => sel16 (128 * 201 + m)) _ (i % 128) (Nat.mod_lt _ (by decide))
theorem lit1_202 (i : Nat) : lit1t0_202 i = sel16 (128 * 202 + i % 128) :=
  digits128 (fun m => sel16 (128 * 202 + m)) _ (i % 128) (Nat.mod_lt _ (by decide))
theorem lit1_203 (i : Nat) : lit1t0_203 i = sel16 (128 * 203 + i % 128) :=
  digits128 (fun m => sel16 (128 * 203 + m)) _ (i % 128) (Nat.mod_lt _ (by decide))
theorem lit1_204 (i : Nat) : lit1t0_204 i = sel16 (128 * 204 + i % 128) :=
  digits128 (fun m => sel16 (128 * 204 + m)) _ (i % 128) (Nat.mod_lt _ (by decide))
theorem lit1_205 (i : Nat) : lit1t0_205 i = sel16 (128 * 205 + i % 128) :=
  digits128 (fun m => sel16 (128 * 205 + m)) _ (i % 128) (Nat.mod_lt _ (by decide))
theorem lit1_206 (i : Nat) : lit1t0_206 i = sel16 (128 * 206 + i % 128) :=
  digits128 (fun m => sel16 (128 * 206 + m)) _ (i % 128) (Nat.mod_lt _ (by decide))
theorem lit1_207 (i : Nat) : lit1t0_207 i = sel16 (128 * 207 + i % 128) :=
  digits128 (fun m => sel16 (128 * 207 + m)) _ (i % 128) (Nat.mod_lt _ (by decide))
theorem lit1_208 (i : Nat) : lit1t0_208 i = sel16 (128 * 208 + i % 128) :=
  digits128 (fun m => sel16 (128 * 208 + m)) _ (i % 128) (Nat.mod_lt _ (by decide))
theorem lit1_209 (i : Nat) : lit1t0_209 i = sel16 (128 * 209 + i % 128) :=
  digits128 (fun m => sel16 (128 * 209 + m)) _ (i % 128) (Nat.mod_lt _ (by decide))
theorem lit1_210 (i : Nat) : lit1t0_210 i = sel16 (128 * 210 + i % 128) :=
  digits128 (fun m => sel16 (128 * 210 + m)) _ (i % 128) (Nat.mod_lt _ (by decide))
theorem lit1_211 (i : Nat) : lit1t0_211 i = sel16 (128 * 211 + i % 128) :=
  digits128 (fun m => sel16 (128 * 211 + m)) _ (i % 128) (Nat.mod_lt _ (by decide))
theorem lit1_212 (i : Nat) : lit1t0_212 i = sel16 (128 * 212 + i % 128) :=
  digits128 (fun m => sel16 (128 * 212 + m)) _ (i % 128) (Nat.mod_lt _ (by decide))
theorem lit1_213 (i : Nat) : lit1t0_213 i = sel16 (128 * 213 + i % 128) :=
  digits128 (fun m => sel16 (128 * 213 + m)) _ (i % 128) (Nat.mod_lt _ (by decide))
theorem lit1_214 (i : Nat) : lit1t0_214 i = sel16 (128 * 214 + i % 128) :=
  digits128 (fun m => sel16 (128 * 214 + m)) _ (i % 128) (Nat.mod_lt _ (by decide))
theorem lit1_215 (i : Nat) : lit1t0_215 i = sel16 (128 * 215 + i % 128) :=
  digits128 (fun m => sel16 (128 * 215 + m)) _ (i % 128) (Nat.mod_lt _ (by decide))
theorem lit1_216 (i : Nat) : lit1t0_216 i = sel16 (128 * 216 + i % 128) :=
  digits128 (fun m => sel16 (128 * 216 + m)) _ (i % 128) (Nat.mod_lt _ (by decide))
theorem lit1_217 (i : Nat) : lit1t0_217 i = sel16 (128 * 217 + i % 128) :=
  digits128 (fun m => sel16 (128 * 217 + m)) _ (i % 128) (Nat.mod_lt _ (by decide))
theorem lit1_218 (i : Nat) : lit1t0_218 i = sel16 (128 * 218 + i % 128) :=
  digits128 (fun m => sel16 (128 * 218 + m)) _ (i % 128) (Nat.mod_lt _ (by decide))
theorem lit1_219 (i : Nat) : lit1t0_219 i = sel16 (128 * 219 + i % 128) :=
  digits128 (fun m => sel16 (128 * 219 + m)) _ (i % 128) (Nat.mod_lt _ (by decide))
theorem lit1_220 (i : Nat) : lit1t0_220 i = sel16 (128 * 220 + i % 128) :=
  digits128 (fun m => sel16 (128 * 220 + m)) _ (i % 128) (Nat.mod_lt _ (by decide))
theorem lit1_221 (i : Nat) : lit1t0_221 i = sel16 (128 * 221 + i % 128) :=
  digits128 (fun m => sel16 (128 * 221 + m)) _ (i % 128) (Nat.mod_lt _ (by decide))
theorem lit1_222 (i : Nat) : lit1t0_222 i = sel16 (128 * 222 + i % 128) :=
  digits128 (fun m => sel16 (128 * 222 + m)) _ (i % 128) (Nat.mod_lt _ (by decide))
theorem lit1_223 (i : Nat) : lit1t0_223 i = sel16 (128 * 223 + i % 128) :=
  digits128 (fun m => sel16 (128 * 223 + m)) _ (i % 128) (Nat.mod_lt _ (by decide))
theorem lit1_224 (i : Nat) : lit1t0_224 i = sel16 (128 * 224 + i % 128) :=
  digits128 (fun m => sel16 (128 * 224 + m)) _ (i % 128) (Nat.mod_lt _ (by decide))
theorem lit1_225 (i : Nat) : lit1t0_225 i = sel16 (128 * 225 + i % 128) :=
  digits128 (fun m => sel16 (128 * 225 + m)) _ (i % 128) (Nat.mod_lt _ (by decide))
theorem lit1_226 (i : Nat) : lit1t0_226 i = sel16 (128 * 226 + i % 128) :=
  digits128 (fun m => sel16 (128 * 226 + m)) _ (i % 128) (Nat.mod_lt _ (by decide))
theorem lit1_227 (i : Nat) : lit1t0_227 i = sel16 (128 * 227 + i % 128) :=
  digits128 (fun m => sel16 (128 * 227 + m)) _ (i % 128) (Nat.mod_lt _ (by decide))
theorem lit1_228 (i : Nat) : lit1t0_228 i = sel16 (128 * 228 + i % 128) :=
  digits128 (fun m => sel16 (128 * 228 + m)) _ (i % 128) (Nat.mod_lt _ (by decide))
theorem lit1_229 (i : Nat) : lit1t0_229 i = sel16 (128 * 229 + i % 128) :=
  digits128 (fun m => sel16 (128 * 229 + m)) _ (i % 128) (Nat.mod_lt _ (by decide))
theorem lit1_230 (i : Nat) : lit1t0_230 i = sel16 (128 * 230 + i % 128) :=
  digits128 (fun m => sel16 (128 * 230 + m)) _ (i % 128) (Nat.mod_lt _ (by decide))
theorem lit1_231 (i : Nat) : lit1t0_231 i = sel16 (128 * 231 + i % 128) :=
  digits128 (fun m => sel16 (128 * 231 + m)) _ (i % 128) (Nat.mod_lt _ (by decide))
theorem lit1_232 (i : Nat) : lit1t0_232 i = sel16 (128 * 232 + i % 128) :=
  digits128 (fun m => sel16 (128 * 232 + m)) _ (i % 128) (Nat.mod_lt _ (by decide))
theorem lit1_233 (i : Nat) : lit1t0_233 i = sel16 (128 * 233 + i % 128) :=
  digits128 (fun m => sel16 (128 * 233 + m)) _ (i % 128) (Nat.mod_lt _ (by decide))
theorem lit1_234 (i : Nat) : lit1t0_234 i = sel16 (128 * 234 + i % 128) :=
  digits128 (fun m => sel16 (128 * 234 + m)) _ (i % 128) (Nat.mod_lt _ (by decide))
theorem lit1_235 (i : Nat) : lit1t0_235 i = sel16 (128 * 235 + i % 128) :=
  digits128 (fun m => sel16 (128 * 235 + m)) _ (i % 128) (Nat.mod_lt _ (by decide))
theorem lit1_236 (i : Nat) : lit1t0_236 i = sel16 (128 * 236 + i % 128) :=
  digits128 (fun m => sel16 (128 * 236 + m)) _ (i % 128) (Nat.mod_lt _ (by decide))
theorem lit1_237 (i : Nat) : lit1t0_237 i = sel16 (128 * 237 + i % 128) :=
  digits128 (fun m => sel16 (128 * 237 + m)) _ (i % 128) (Nat.mod_lt _ (by decide))
theorem lit1_238 (i : Nat) : lit1t0_238 i = sel16 (128 * 238 + i % 128) :=
  digits128 (fun m => sel16 (128 * 238 + m)) _ (i % 128) (Nat.mod_lt _ (by decide))
theorem lit1_239 (i : Nat) : lit1t0_239 i = sel16 (128 * 239 + i % 128) :=
  digits128 (fun m => sel16 (128 * 239 + m)) _ (i % 128) (Nat.mod_lt _ (by decide))
theorem lit1_240 (i : Nat) : lit1t0_240 i = sel16 (128 * 240 + i % 128) :=
  digits128 (fun m => sel16 (128 * 240 + m)) _ (i % 128) (Nat.mod_lt _ (by decide))
theorem lit1_241 (i : Nat) : lit1t0_241 i = sel16 (128 * 241 + i % 128) :=
  digits128 (fun m => sel16 (128 * 241 + m)) _ (i % 128) (Nat.mod_lt _ (by decide))
theorem lit1_242 (i : Nat) : lit1t0_242 i = sel16 (128 * 242 + i % 128) :=
  digits128 (fun m => sel16 (128 * 242 + m)) _ (i % 128) (Nat.mod_lt _ (by decide))
theorem lit1_243 (i : Nat) : lit1t0_243 i = sel16 (128 * 243 + i % 128) :=
  digits128 (fun m => sel16 (128 * 243 + m)) _ (i % 128) (Nat.mod_lt _ (by decide))
theorem lit1_244 (i : Nat) : lit1t0_244 i = sel16 (128 * 244 + i % 128) :=
  digits128 (fun m => sel16 (128 * 244 + m)) _ (i % 128) (Nat.mod_lt _ (by decide))
theorem lit1_245 (i : Nat) : lit1t0_245 i = sel16 (128 * 245 + i % 128) :=
  digits128 (fun m => sel16 (128 * 245 + m)) _ (i % 128) (Nat.mod_lt _ (by decide))
theorem lit1_246 (i : Nat) : lit1t0_246 i = sel16 (128 * 246 + i % 128) :=
  digits128 (fun m => sel16 (128 * 246 + m)) _ (i % 128) (Nat.mod_lt _ (by decide))
theorem lit1_247 (i : Nat) : lit1t0_247 i = sel16 (128 * 247 + i % 128) :=
  digits128 (fun m => sel16 (128 * 247 + m)) _ (i % 128) (Nat.mod_lt _ (by decide))
theorem lit1_248 (i : Nat) : lit1t0_248 i = sel16 (128 * 248 + i % 128) :=
  digits128 (fun m => sel16 (128 * 248 + m)) _ (i % 128) (Nat.mod_lt _ (by decide))
theorem lit1_249 (i : Nat) : lit1t0_249 i = sel16 (128 * 249 + i % 128) :=
  digits128 (fun m => sel16 (128 * 249 + m)) _ (i % 128) (Nat.mod_lt _ (by decide))
theorem lit1_250 (i : Nat) : lit1t0_250 i = sel16 (128 * 250 + i % 128) :=
  digits128 (fun m => sel16 (128 * 250 + m)) _ (i % 128) (Nat.mod_lt _ (by decide))
theorem lit1_251 (i : Nat) : lit1t0_251 i = sel16 (128 * 251 + i % 128) :=
  digits128 (fun m => sel16 (128 * 251 + m)) _ (i % 128) (Nat.mod_lt _ (by decide))
theorem lit1_252 (i : Nat) : lit1t0_252 i = sel16 (128 * 252 + i % 128) :=
  digits128 (fun m => sel16 (128 * 252 + m)) _ (i % 128) (Nat.mod_lt _ (by decide))
theorem lit1_253 (i : Nat) : lit1t0_253 i = sel16 (128 * 253 + i % 128) :=
  digits128 (fun m => sel16 (128 * 253 + m)) _ (i % 128) (Nat.mod_lt _ (by decide))
theorem lit1_254 (i : Nat) : lit1t0_254 i = sel16 (128 * 254 + i % 128) :=
  digits128 (fun m => sel16 (128 * 254 + m)) _ (i % 128) (Nat.mod_lt _ (by decide))
theorem lit1_255 (i : Nat) : lit1t0_255 i = sel16 (128 * 255 + i % 128) :=
  digits128 (fun m => sel16 (128 * 255 + m)) _ (i % 128) (Nat.mod_lt _ (by decide))
theorem lit1_256 (i : Nat) : lit1t0_256 i = sel16 (128 * 256 + i % 128) :=
  digits128 (fun m => sel16 (128 * 256 + m)) _ (i % 128) (Nat.mod_lt _ (by decide))
theorem lit1_257 (i : Nat) : lit1t0_257 i = sel16 (128 * 257 + i % 128) :=
  digits128 (fun m => sel16 (128 * 257 + m)) _ (i % 128) (Nat.mod_lt _ (by decide))
theorem lit1_258 (i : Nat) : lit1t0_258 i = sel16 (128 * 258 + i % 128) :=
  digits128 (fun m => sel16 (128 * 258 + m)) _ (i % 128) (Nat.mod_lt _ (by decide))
theorem lit1_259 (i : Nat) : lit1t0_259 i = sel16 (128 * 259 + i % 128) :=
  digits128 (fun m => sel16 (128 * 259 + m)) _ (i % 128) (Nat.mod_lt _ (by decide))
theorem lit1_260 (i : Nat) : lit1t0_260 i = sel16 (128 * 260 + i % 128) :=
  digits128 (fun m => sel16 (128 * 260 + m)) _ (i % 128) (Nat.mod_lt _ (by decide))
theorem lit1_261 (i : Nat) : lit1t0_261 i = sel16 (128 * 261 + i % 128) :=
  digits128 (fun m => sel16 (128 * 261 + m)) _ (i % 128) (Nat.mod_lt _ (by decide))
theorem lit1_262 (i : Nat) : lit1t0_262 i = sel16 (128 * 262 + i % 128) :=
  digits128 (fun m => sel16 (128 * 262 + m)) _ (i % 128) (Nat.mod_lt _ (by decide))
theorem lit1_263 (i : Nat) : lit1t0_263 i = sel16 (128 * 263 + i % 128) :=
  digits128 (fun m => sel16 (128 * 263 + m)) _ (i % 128) (Nat.mod_lt _ (by decide))
theorem lit1_264 (i : Nat) : lit1t0_264 i = sel16 (128 * 264 + i % 128) :=
  digits128 (fun m => sel16 (128 * 264 + m)) _ (i % 128) (Nat.mod_lt _ (by decide))
theorem lit1_265 (i : Nat) : lit1t0_265 i = sel16 (128 * 265 + i % 128) :=
  digits128 (fun m => sel16 (128 * 265 + m)) _ (i % 128) (Nat.mod_lt _ (by decide))
theorem lit1_266 (i : Nat) : lit1t0_266 i = sel16 (128 * 266 + i % 128) :=
  digits128 (fun m => sel16 (128 * 266 + m)) _ (i % 128) (Nat.mod_lt _ (by decide))
theorem lit1_267 (i : Nat) : lit1t0_267 i = sel16 (128 * 267 + i % 128) :=
  digits128 (fun m => sel16 (128 * 267 + m)) _ (i % 128) (Nat.mod_lt _ (by decide))
theorem lit1_268 (i : Nat) : lit1t0_268 i = sel16 (128 * 268 + i % 128) :=
  digits128 (fun m => sel16 (128 * 268 + m)) _ (i % 128) (Nat.mod_lt _ (by decide))
theorem lit1_269 (i : Nat) : lit1t0_269 i = sel16 (128 * 269 + i % 128) :=
  digits128 (fun m => sel16 (128 * 269 + m)) _ (i % 128) (Nat.mod_lt _ (by decide))
theorem lit1_270 (i : Nat) : lit1t0_270 i = sel16 (128 * 270 + i % 128) :=
  digits128 (fun m => sel16 (128 * 270 + m)) _ (i % 128) (Nat.mod_lt _ (by decide))
theorem lit1_271 (i : Nat) : lit1t0_271 i = sel16 (128 * 271 + i % 128) :=
  digits128 (fun m => sel16 (128 * 271 + m)) _ (i % 128) (Nat.mod_lt _ (by decide))
theorem lit1_272 (i : Nat) : lit1t0_272 i = sel16 (128 * 272 + i % 128) :=
  digits128 (fun m => sel16 (128 * 272 + m)) _ (i % 128) (Nat.mod_lt _ (by decide))
theorem lit1_273 (i : Nat) : lit1t0_273 i = sel16 (128 * 273 + i % 128) :=
  digits128 (fun m => sel16 (128 * 273 + m)) _ (i % 128) (Nat.mod_lt _ (by decide))
theorem lit1_274 (i : Nat) : lit1t0_274 i = sel16 (128 * 274 + i % 128) :=
  digits128 (fun m => sel16 (128 * 274 + m)) _ (i % 128) (Nat.mod_lt _ (by decide))
theorem lit1_275 (i : Nat) : lit1t0_275 i = sel16 (128 * 275 + i % 128) :=
  digits128 (fun m => sel16 (128 * 275 + m)) _ (i % 128) (Nat.mod_lt _ (by decide))
theorem lit1_276 (i : Nat) : lit1t0_276 i = sel16 (128 * 276 + i % 128) :=
  digits128 (fun m => sel16 (128 * 276 + m)) _ (i % 128) (Nat.mod_lt _ (by decide))
theorem lit1_277 (i : Nat) : lit1t0_277 i = sel16 (128 * 277 + i % 128) :=
  digits128 (fun m => sel16 (128 * 277 + m)) _ (i % 128) (Nat.mod_lt _ (by decide))
theorem lit1_278 (i : Nat) : lit1t0_278 i = sel16 (128 * 278 + i % 128) :=
  digits128 (fun m => sel16 (128 * 278 + m)) _ (i % 128) (Nat.mod_lt _ (by decide))
theorem lit1_279 (i : Nat) : lit1t0_279 i = sel16 (128 * 279 + i % 128) :=
  digits128 (fun m => sel16 (128 * 279 + m)) _ (i % 128) (Nat.mod_lt _ (by decide))
theorem lit1_280 (i : Nat) : lit1t0_280 i = sel16 (128 * 280 + i % 128) :=
  digits128 (fun m => sel16 (128 * 280 + m)) _ (i % 128) (Nat.mod_lt _ (by decide))
theorem lit1_281 (i : Nat) : lit1t0_281 i = sel16 (128 * 281 + i % 128) :=
  digits128 (fun m => sel16 (128 * 281 + m)) _ (i % 128) (Nat.mod_lt _ (by decide))
theorem lit1_282 (i : Nat) : lit1t0_282 i = sel16 (128 * 282 + i % 128) :=
  digits128 (fun m => sel16 (128 * 282 + m)) _ (i % 128) (Nat.mod_lt _ (by decide))
theorem lit1_283 (i : Nat) : lit1t0_283 i = sel16 (128 * 283 + i % 128) :=
  digits128 (fun m => sel16 (128 * 283 + m)) _ (i % 128) (Nat.mod_lt _ (by decide))
theorem lit1_284 (i : Nat) : lit1t0_284 i = sel16 (128 * 284 + i % 128) :=
  digits128 (fun m => sel16 (128 * 284 + m)) _ (i % 128) (Nat.mod_lt _ (by decide))
theorem lit1_285 (i : Nat) : lit1t0_285 i = sel16 (128 * 285 + i % 128) :=
  digits128 (fun m => sel16 (128 * 285 + m)) _ (i % 128) (Nat.mod_lt _ (by decide))
theorem lit1_286 (i : Nat) : lit1t0_286 i = sel16 (128 * 286 + i % 128) :=
  digits128 (fun m => sel16 (128 * 286 + m)) _ (i % 128) (Nat.mod_lt _ (by decide))
theorem lit1_287 (i : Nat) : lit1t0_287 i = sel16 (128 * 287 + i % 128) :=
  digits128 (fun m => sel16 (128 * 287 + m)) _ (i % 128) (Nat.mod_lt _ (by decide))
theorem lit1_288 (i : Nat) : lit1t0_288 i = sel16 (128 * 288 + i % 128) :=
  digits128 (fun m => sel16 (128 * 288 + m)) _ (i % 128) (Nat.mod_lt _ (by decide))
theorem lit1_289 (i : Nat) : lit1t0_289 i = sel16 (128 * 289 + i % 128) :=
  digits128 (fun m => sel16 (128 * 289 + m)) _ (i % 128) (Nat.mod_lt _ (by decide))
theorem lit1_290 (i : Nat) : lit1t0_290 i = sel16 (128 * 290 + i % 128) :=
  digits128 (fun m => sel16 (128 * 290 + m)) _ (i % 128) (Nat.mod_lt _ (by decide))
theorem lit1_291 (i : Nat) : lit1t0_291 i = sel16 (128 * 291 + i % 128) :=
  digits128 (fun m => sel16 (128 * 291 + m)) _ (i % 128) (Nat.mod_lt _ (by decide))
theorem lit1_292 (i : Nat) : lit1t0_292 i = sel16 (128 * 292 + i % 128) :=
  digits128 (fun m => sel16 (128 * 292 + m)) _ (i % 128) (Nat.mod_lt _ (by decide))
theorem lit1_293 (i : Nat) : lit1t0_293 i = sel16 (128 * 293 + i % 128) :=
  digits128 (fun m => sel16 (128 * 293 + m)) _ (i % 128) (Nat.mod_lt _ (by decide))
theorem lit1_294 (i : Nat) : lit1t0_294 i = sel16 (128 * 294 + i % 128) :=
  digits128 (fun m => sel16 (128 * 294 + m)) _ (i % 128) (Nat.mod_lt _ (by decide))
theorem lit1_295 (i : Nat) : lit1t0_295 i = sel16 (128 * 295 + i % 128) :=
  digits128 (fun m => sel16 (128 * 295 + m)) _ (i % 128) (Nat.mod_lt _ (by decide))
theorem lit1_296 (i : Nat) : lit1t0_296 i = sel16 (128 * 296 + i % 128) :=
  digits128 (fun m => sel16 (128 * 296 + m)) _ (i % 128) (Nat.mod_lt _ (by decide))
theorem lit1_297 (i : Nat) : lit1t0_297 i = sel16 (128 * 297 + i % 128) :=
  digits128 (fun m => sel16 (128 * 297 + m)) _ (i % 128) (Nat.mod_lt _ (by decide))
theorem lit1_298 (i : Nat) : lit1t0_298 i = sel16 (128 * 298 + i % 128) :=
  digits128 (fun m => sel16 (128 * 298 + m)) _ (i % 128) (Nat.mod_lt _ (by decide))
theorem lit1_299 (i : Nat) : lit1t0_299 i = sel16 (128 * 299 + i % 128) :=
  digits128 (fun m => sel16 (128 * 299 + m)) _ (i % 128) (Nat.mod_lt _ (by decide))
theorem lit1_300 (i : Nat) : lit1t0_300 i = sel16 (128 * 300 + i % 128) :=
  digits128 (fun m => sel16 (128 * 300 + m)) _ (i % 128) (Nat.mod_lt _ (by decide))
theorem lit1_301 (i : Nat) : lit1t0_301 i = sel16 (128 * 301 + i % 128) :=
  digits128 (fun m => sel16 (128 * 301 + m)) _ (i % 128) (Nat.mod_lt _ (by decide))
theorem lit1_302 (i : Nat) : lit1t0_302 i = sel16 (128 * 302 + i % 128) :=
  digits128 (fun m => sel16 (128 * 302 + m)) _ (i % 128) (Nat.mod_lt _ (by decide))
theorem lit1_303 (i : Nat) : lit1t0_303 i = sel16 (128 * 303 + i % 128) :=
  digits128 (fun m => sel16 (128 * 303 + m)) _ (i % 128) (Nat.mod_lt _ (by decide))
theorem lit1_304 (i : Nat) : lit1t0_304 i = sel16 (128 * 304 + i % 128) :=
  digits128 (fun m => sel16 (128 * 304 + m)) _ (i % 128) (Nat.mod_lt _ (by decide))
theorem lit1_305 (i : Nat) : lit1t0_305 i = sel16 (128 * 305 + i % 128) :=
  digits128 (fun m => sel16 (128 * 305 + m)) _ (i % 128) (Nat.mod_lt _ (by decide))
theorem lit1_306 (i : Nat) : lit1t0_306 i = sel16 (128 * 306 + i % 128) :=
  digits128 (fun m => sel16 (128 * 306 + m)) _ (i % 128) (Nat.mod_lt _ (by decide))
theorem lit1_307 (i : Nat) : lit1t0_307 i = sel16 (128 * 307 + i % 128) :=
  digits128 (fun m => sel16 (128 * 307 + m)) _ (i % 128) (Nat.mod_lt _ (by decide))
theorem lit1_308 (i : Nat) : lit1t0_308 i = sel16 (128 * 308 + i % 128) :=
  digits128 (fun m => sel16 (128 * 308 + m)) _ (i % 128) (Nat.mod_lt _ (by decide))
theorem lit1_309 (i : Nat) : lit1t0_309 i = sel16 (128 * 309 + i % 128) :=
  digits128 (fun m => sel16 (128 * 309 + m)) _ (i % 128) (Nat.mod_lt _ (by decide))
theorem lit1_310 (i : Nat) : lit1t0_310 i = sel16 (128 * 310 + i % 128) :=
  digits128 (fun m => sel16 (128 * 310 + m)) _ (i % 128) (Nat.mod_lt _ (by decide))
theorem lit1_311 (i : Nat) : lit1t0_311 i = sel16 (128 * 311 + i % 128) :=
  digits128 (fun m => sel16 (128 * 311 + m)) _ (i % 128) (Nat.mod_lt _ (by decide))
theorem lit1_312 (i : Nat) : lit1t0_312 i = sel16 (128 * 312 + i % 128) :=
  digits128 (fun m => sel16 (128 * 312 + m)) _ (i % 128) (Nat.mod_lt _ (by decide))
theorem lit1_313 (i : Nat) : lit1t0_313 i = sel16 (128 * 313 + i % 128) :=
  digits128 (fun m => sel16 (128 * 313 + m)) _ (i % 128) (Nat.mod_lt _ (by decide))
theorem lit1_314 (i : Nat) : lit1t0_314 i = sel16 (128 * 314 + i % 128) :=
  digits128 (fun m => sel16 (128 * 314 + m)) _ (i % 128) (Nat.mod_lt _ (by decide))
theorem lit1_315 (i : Nat) : lit1t0_315 i = sel16 (128 * 315 + i % 128) :=
  digits128 (fun m => sel16 (128 * 315 + m)) _ (i % 128) (Nat.mod_lt _ (by decide))
theorem lit1_316 (i : Nat) : lit1t0_316 i = sel16 (128 * 316 + i % 128) :=
  digits128 (fun m => sel16 (128 * 316 + m)) _ (i % 128) (Nat.mod_lt _ (by decide))
theorem lit1_317 (i : Nat) : lit1t0_317 i = sel16 (128 * 317 + i % 128) :=
  digits128 (fun m => sel16 (128 * 317 + m)) _ (i % 128) (Nat.mod_lt _ (by decide))
theorem lit1_318 (i : Nat) : lit1t0_318 i = sel16 (128 * 318 + i % 128) :=
  digits128 (fun m => sel16 (128 * 318 + m)) _ (i % 128) (Nat.mod_lt _ (by decide))
theorem lit1_319 (i : Nat) : lit1t0_319 i = sel16 (128 * 319 + i % 128) :=
  digits128 (fun m => sel16 (128 * 319 + m)) _ (i % 128) (Nat.mod_lt _ (by decide))
theorem lit1_320 (i : Nat) : lit1t0_320 i = sel16 (128 * 320 + i % 128) :=
  digits128 (fun m => sel16 (128 * 320 + m)) _ (i % 128) (Nat.mod_lt _ (by decide))
theorem lit1_321 (i : Nat) : lit1t0_321 i = sel16 (128 * 321 + i % 128) :=
  digits128 (fun m => sel16 (128 * 321 + m)) _ (i % 128) (Nat.mod_lt _ (by decide))
theorem lit1_322 (i : Nat) : lit1t0_322 i = sel16 (128 * 322 + i % 128) :=
  digits128 (fun m => sel16 (128 * 322 + m)) _ (i % 128) (Nat.mod_lt _ (by decide))
theorem lit1_323 (i : Nat) : lit1t0_323 i = sel16 (128 * 323 + i % 128) :=
  digits128 (fun m => sel16 (128 * 323 + m)) _ (i % 128) (Nat.mod_lt _ (by decide))
theorem lit1_324 (i : Nat) : lit1t0_324 i = sel16 (128 * 324 + i % 128) :=
  digits128 (fun m => sel16 (128 * 324 + m)) _ (i % 128) (Nat.mod_lt _ (by decide))
theorem lit1_325 (i : Nat) : lit1t0_325 i = sel16 (128 * 325 + i % 128) :=
  digits128 (fun m => sel16 (128 * 325 + m)) _ (i % 128) (Nat.mod_lt _ (by decide))
theorem lit1_326 (i : Nat) : lit1t0_326 i = sel16 (128 * 326 + i % 128) :=
  digits128 (fun m => sel16 (128 * 326 + m)) _ (i % 128) (Nat.mod_lt _ (by decide))
theorem lit1_327 (i : Nat) : lit1t0_327 i = sel16 (128 * 327 + i % 128) :=
  digits128 (fun m => sel16 (128 * 327 + m)) _ (i % 128) (Nat.mod_lt _ (by decide))
theorem lit1_328 (i : Nat) : lit1t0_328 i = sel16 (128 * 328 + i % 128) :=
  digits128 (fun m => sel16 (128 * 328 + m)) _ (i % 128) (Nat.mod_lt _ (by decide))
theorem lit1_329 (i : Nat) : lit1t0_329 i = sel16 (128 * 329 + i % 128) :=
  digits128 (fun m => sel16 (128 * 329 + m)) _ (i % 128) (Nat.mod_lt _ (by decide))
theorem lit1_330 (i : Nat) : lit1t0_330 i = sel16 (128 * 330 + i % 128) :=
  digits128 (fun m => sel16 (128 * 330 + m)) _ (i % 128) (Nat.mod_lt _ (by decide))
theorem lit1_331 (i : Nat) : lit1t0_331 i = sel16 (128 * 331 + i % 128) :=
  digits128 (fun m => sel16 (128 * 331 + m)) _ (i % 128) (Nat.mod_lt _ (by decide))
theorem lit1_332 (i : Nat) : lit1t0_332 i = sel16 (128 * 332 + i % 128) :=
  digits128 (fun m => sel16 (128 * 332 + m)) _ (i % 128) (Nat.mod_lt _ (by decide))
theorem lit1_333 (i : Nat) : lit1t0_333 i = sel16 (128 * 333 + i % 128) :=
  digits128 (fun m => sel16 (128 * 333 + m)) _ (i % 128) (Nat.mod_lt _ (by decide))
theorem lit1_334 (i : Nat) : lit1t0_334 i = sel16 (128 * 334 + i % 128) :=
  digits128 (fun m => sel16 (128 * 334 + m)) _ (i % 128) (Nat.mod_lt _ (by decide))
theorem lit1_335 (i : Nat) : lit1t0_335 i = sel16 (128 * 335 + i % 128) :=
  digits128 (fun m => sel16 (128 * 335 + m)) _ (i % 128) (Nat.mod_lt _ (by decide))
theorem lit1_336 (i : Nat) : lit1t0_336 i = sel16 (128 * 336 + i % 128) :=
  digits128 (fun m => sel16 (128 * 336 + m)) _ (i % 128) (Nat.mod_lt _ (by decide))
theorem lit1_337 (i : Nat) : lit1t0_337 i = sel16 (128 * 337 + i % 128) :=
  digits128 (fun m => sel16 (128 * 337 + m)) _ (i % 128) (Nat.mod_lt _ (by decide))
theorem lit1_338 (i : Nat) : lit1t0_338 i = sel16 (128 * 338 + i % 128) :=
  digits128 (fun m => sel16 (128 * 338 + m)) _ (i % 128) (Nat.mod_lt _ (by decide))
theorem lit1_339 (i : Nat) : lit1t0_339 i = sel16 (128 * 339 + i % 128) :=
  digits128 (fun m => sel16 (128 * 339 + m)) _ (i % 128) (Nat.mod_lt _ (by decide))
theorem lit1_340 (i : Nat) : lit1t0_340 i = sel16 (128 * 340 + i % 128) :=
  digits128 (fun m => sel16 (128 * 340 + m)) _ (i % 128) (Nat.mod_lt _ (by decide))
theorem lit1_341 (i : Nat) : lit1t0_341 i = sel16 (128 * 341 + i % 128) :=
  digits128 (fun m => sel16 (128 * 341 + m)) _ (i % 128) (Nat.mod_lt _ (by decide))
theorem lit1_342 (i : Nat) : lit1t0_342 i = sel16 (128 * 342 + i % 128) :=
  digits128 (fun m => sel16 (128 * 342 + m)) _ (i % 128) (Nat.mod_lt _ (by decide))
theorem lit1_343 (i : Nat) : lit1t0_343 i = sel16 (128 * 343 + i % 128) :=
  digits128 (fun m => sel16 (128 * 343 + m)) _ (i % 128) (Nat.mod_lt _ (by decide))
theorem lit1_344 (i : Nat) : lit1t0_344 i = sel16 (128 * 344 + i % 128) :=
  digits128 (fun m => sel16 (128 * 344 + m)) _ (i % 128) (Nat.mod_lt _ (by decide))
theorem lit1_345 (i : Nat) : lit1t0_345 i = sel16 (128 * 345 + i % 128) :=
  digits128 (fun m => sel16 (128 * 345 + m)) _ (i % 128) (Nat.mod_lt _ (by decide))
theorem lit1_346 (i : Nat) : lit1t0_346 i = sel16 (128 * 346 + i % 128) :=
  digits128 (fun m => sel16 (128 * 346 + m)) _ (i % 128) (Nat.mod_lt _ (by decide))
theorem lit1_347 (i : Nat) : lit1t0_347 i = sel16 (128 * 347 + i % 128) :=
  digits128 (fun m => sel16 (128 * 347 + m)) _ (i % 128) (Nat.mod_lt _ (by decide))
theorem lit1_348 (i : Nat) : lit1t0_348 i = sel16 (128 * 348 + i % 128) :=
  digits128 (fun m => sel16 (128 * 348 + m)) _ (i % 128) (Nat.mod_lt _ (by decide))
theorem lit1_349 (i : Nat) : lit1t0_349 i = sel16 (128 * 349 + i % 128) :=
  digits128 (fun m => sel16 (128 * 349 + m)) _ (i % 128) (Nat.mod_lt _ (by decide))
theorem lit1_350 (i : Nat) : lit1t0_350 i = sel16 (128 * 350 + i % 128) :=
  digits128 (fun m => sel16 (128 * 350 + m)) _ (i % 128) (Nat.mod_lt _ (by decide))
theorem lit1_351 (i : Nat) : lit1t0_351 i = sel16 (128 * 351 + i % 128) :=
  digits128 (fun m => sel16 (128 * 351 + m)) _ (i % 128) (Nat.mod_lt _ (by decide))
theorem lit1_352 (i : Nat) : lit1t0_352 i = sel16 (128 * 352 + i % 128) :=
  digits128 (fun m => sel16 (128 * 352 + m)) _ (i % 128) (Nat.mod_lt _ (by decide))
theorem lit1_353 (i : Nat) : lit1t0_353 i = sel16 (128 * 353 + i % 128) :=
  digits128 (fun m => sel16 (128 * 353 + m)) _ (i % 128) (Nat.mod_lt _ (by decide))
theorem lit1_354 (i : Nat) : lit1t0_354 i = sel16 (128 * 354 + i % 128) :=
  digits128 (fun m => sel16 (128 * 354 + m)) _ (i % 128) (Nat.mod_lt _ (by decide))
theorem lit1_355 (i : Nat) : lit1t0_355 i = sel16 (128 * 355 + i % 128) :=
  digits128 (fun m => sel16 (128 * 355 + m)) _ (i % 128) (Nat.mod_lt _ (by decide))
theorem lit1_356 (i : Nat) : lit1t0_356 i = sel16 (128 * 356 + i % 128) :=
  digits128 (fun m => sel16 (128 * 356 + m)) _ (i % 128) (Nat.mod_lt _ (by decide))
theorem lit1_357 (i : Nat) : lit1t0_357 i = sel16 (128 * 357 + i % 128) :=
  digits128 (fun m => sel16 (128 * 357 + m)) _ (i % 128) (Nat.mod_lt _ (by decide))
theorem lit1_358 (i : Nat) : lit1t0_358 i = sel16 (128 * 358 + i % 128) :=
  digits128 (fun m => sel16 (128 * 358 + m)) _ (i % 128) (Nat.mod_lt _ (by decide))
theorem lit1_359 (i : Nat) : lit1t0_359 i = sel16 (128 * 359 + i % 128) :=
  digits128 (fun m => sel16 (128 * 359 + m)) _ (i % 128) (Nat.mod_lt _ (by decide))
theorem lit1_360 (i : Nat) : lit1t0_360 i = sel16 (128 * 360 + i % 128) :=
  digits128 (fun m => sel16 (128 * 360 + m)) _ (i % 128) (Nat.mod_lt _ (by decide))
theorem lit1_361 (i : Nat) : lit1t0_361 i = sel16 (128 * 361 + i % 128) :=
  digits128 (fun m => sel16 (128 * 361 + m)) _ (i % 128) (Nat.mod_lt _ (by decide))
theorem lit1_362 (i : Nat) : lit1t0_362 i = sel16 (128 * 362 + i % 128) :=
  digits128 (fun m => sel16 (128 * 362 + m)) _ (i % 128) (Nat.mod_lt _ (by decide))
theorem lit1_363 (i : Nat) : lit1t0_363 i = sel16 (128 * 363 + i % 128) :=
  digits128 (fun m => sel16 (128 * 363 + m)) _ (i % 128) (Nat.mod_lt _ (by decide))
theorem lit1_364 (i : Nat) : lit1t0_364 i = sel16 (128 * 364 + i % 128) :=
  digits128 (fun m => sel16 (128 * 364 + m)) _ (i % 128) (Nat.mod_lt _ (by decide))
theorem lit1_365 (i : Nat) : lit1t0_365 i = sel16 (128 * 365 + i % 128) :=
  digits128 (fun m => sel16 (128 * 365 + m)) _ (i % 128) (Nat.mod_lt _ (by decide))
theorem lit1_366 (i : Nat) : lit1t0_366 i = sel16 (128 * 366 + i % 128) :=
  digits128 (fun m => sel16 (128 * 366 + m)) _ (i % 128) (Nat.mod_lt _ (by decide))
theorem lit1_367 (i : Nat) : lit1t0_367 i = sel16 (128 * 367 + i % 128) :=
  digits128 (fun m => sel16 (128 * 367 + m)) _ (i % 128) (Nat.mod_lt _ (by decide))
theorem lit1_368 (i : Nat) : lit1t0_368 i = sel16 (128 * 368 + i % 128) :=
  digits128 (fun m => sel16 (128 * 368 + m)) _ (i % 128) (Nat.mod_lt _ (by decide))
theorem lit1_369 (i : Nat) : lit1t0_369 i = sel16 (128 * 369 + i % 128) :=
  digits128 (fun m => sel16 (128 * 369 + m)) _ (i % 128) (Nat.mod_lt _ (by decide))
theorem lit1_370 (i : Nat) : lit1t0_370 i = sel16 (128 * 370 + i % 128) :=
  digits128 (fun m => sel16 (128 * 370 + m)) _ (i % 128) (Nat.mod_lt _ (by decide))
theorem lit1_371 (i : Nat) : lit1t0_371 i = sel16 (128 * 371 + i % 128) :=
  digits128 (fun m => sel16 (128 * 371 + m)) _ (i % 128) (Nat.mod_lt _ (by decide))
theorem lit1_372 (i : Nat) : lit1t0_372 i = sel16 (128 * 372 + i % 128) :=
  digits128 (fun m => sel16 (128 * 372 + m)) _ (i % 128) (Nat.mod_lt _ (by decide))
theorem lit1_373 (i : Nat) : lit1t0_373 i = sel16 (128 * 373 + i % 128) :=
  digits128 (fun m => sel16 (128 * 373 + m)) _ (i % 128) (Nat.mod_lt _ (by decide))
theorem lit1_374 (i : Nat) : lit1t0_374 i = sel16 (128 * 374 + i % 128) :=
  digits128 (fun m => sel16 (128 * 374 + m)) _ (i % 128) (Nat.mod_lt _ (by decide))
theorem lit1_375 (i : Nat) : lit1t0_375 i = sel16 (128 * 375 + i % 128) :=
  digits128 (fun m => sel16 (128 * 375 + m)) _ (i % 128) (Nat.mod_lt _ (by decide))
theorem lit1_376 (i : Nat) : lit1t0_376 i = sel16 (128 * 376 + i % 128) :=
  digits128 (fun m => sel16 (128 * 376 + m)) _ (i % 128) (Nat.mod_lt _ (by decide))
theorem lit1_377 (i : Nat) : lit1t0_377 i = sel16 (128 * 377 + i % 128) :=
  digits128 (fun m => sel16 (128 * 377 + m)) _ (i % 128) (Nat.mod_lt _ (by decide))
theorem lit1_378 (i : Nat) : lit1t0_378 i = sel16 (128 * 378 + i % 128) :=
  digits128 (fun m => sel16 (128 * 378 + m)) _ (i % 128) (Nat.mod_lt _ (by decide))
theorem lit1_379 (i : Nat) : lit1t0_379 i = sel16 (128 * 379 + i % 128) :=
  digits128 (fun m => sel16 (128 * 379 + m)) _ (i % 128) (Nat.mod_lt _ (by decide))
theorem lit1_380 (i : Nat) : lit1t0_380 i = sel16 (128 * 380 + i % 128) :=
  digits128 (fun m => sel16 (128 * 380 + m)) _ (i % 128) (Nat.mod_lt _ (by decide))
theorem lit1_381 (i : Nat) : lit1t0_381 i = sel16 (128 * 381 + i % 128) :=
  digits128 (fun m => sel16 (128 * 381 + m)) _ (i % 128) (Nat.mod_lt _ (by decide))
theorem lit1_382 (i : Nat) : lit1t0_382 i = sel16 (128 * 382 + i % 128) :=
  digits128 (fun m => sel16 (128 * 382 + m)) _ (i % 128) (Nat.mod_lt _ (by decide))
theorem lit1_383 (i : Nat) : lit1t0_383 i = sel16 (128 * 383 + i % 128) :=
  digits128 (fun m => sel16 (128 * 383 + m)) _ (i % 128) (Nat.mod_lt _ (by decide))
theorem lit1_384 (i : Nat) : lit1t0_384 i = sel16 (128 * 384 + i % 128) :=
  digits128 (fun m => sel16 (128 * 384 + m)) _ (i % 128) (Nat.mod_lt _ (by decide))
theorem lit1_385 (i : Nat) : lit1t0_385 i = sel16 (128 * 385 + i % 128) :=
  digits128 (fun m => sel16 (128 * 385 + m)) _ (i % 128) (Nat.mod_lt _ (by decide))
theorem lit1_386 (i : Nat) : lit1t0_386 i = sel16 (128 * 386 + i % 128) :=
  digits128 (fun m => sel16 (128 * 386 + m)) _ (i % 128) (Nat.mod_lt _ (by decide))
theorem lit1_387 (i : Nat) : lit1t0_387 i = sel16 (128 * 387 + i % 128) :=
  digits128 (fun m => sel16 (128 * 387 + m)) _ (i % 128) (Nat.mod_lt _ (by decide))
theorem lit1_388 (i : Nat) : lit1t0_388 i = sel16 (128 * 388 + i % 128) :=
  digits128 (fun m => sel16 (128 * 388 + m)) _ (i % 128) (Nat.mod_lt _ (by decide))
theorem lit1_389 (i : Nat) : lit1t0_389 i = sel16 (128 * 389 + i % 128) :=
  digits128 (fun m => sel16 (128 * 389 + m)) _ (i % 128) (Nat.mod_lt _ (by decide))
theorem lit1_390 (i : Nat) : lit1t0_390 i = sel16 (128 * 390 + i % 128) :=
  digits128 (fun m => sel16 (128 * 390 + m)) _ (i % 128) (Nat.mod_lt _ (by decide))
theorem lit1_391 (i : Nat) : lit1t0_391 i = sel16 (128 * 391 + i % 128) :=
  digits128 (fun m => sel16 (128 * 391 + m)) _ (i % 128) (Nat.mod_lt _ (by decide))
theorem lit1_392 (i : Nat) : lit1t0_392 i = sel16 (128 * 392 + i % 128) :=
  digits128 (fun m => sel16 (128 * 392 + m)) _ (i % 128) (Nat.mod_lt _ (by decide))
theorem lit1_393 (i : Nat) : lit1t0_393 i = sel16 (128 * 393 + i % 128) :=
  digits128 (fun m => sel16 (128 * 393 + m)) _ (i % 128) (Nat.mod_lt _ (by decide))
theorem lit1_394 (i : Nat) : lit1t0_394 i = sel16 (128 * 394 + i % 128) :=
  digits128 (fun m => sel16 (128 * 394 + m)) _ (i % 128) (Nat.mod_lt _ (by decide))
theorem lit1_395 (i : Nat) : lit1t0_395 i = sel16 (128 * 395 + i % 128) :=
  digits128 (fun m => sel16 (128 * 395 + m)) _ (i % 128) (Nat.mod_lt _ (by decide))
theorem lit1_396 (i : Nat) : lit1t0_396 i = sel16 (128 * 396 + i % 128) :=
  digits128 (fun m => sel16 (128 * 396 + m)) _ (i % 128) (Nat.mod_lt _ (by decide))
theorem lit1_397 (i : Nat) : lit1t0_397 i = sel16 (128 * 397 + i % 128) :=
  digits128 (fun m => sel16 (128 * 397 + m)) _ (i % 128) (Nat.mod_lt _ (by decide))
theorem lit1_398 (i : Nat) : lit1t0_398 i = sel16 (128 * 398 + i % 128) :=
  digits128 (fun m => sel16 (128 * 398 + m)) _ (i % 128) (Nat.mod_lt _ (by decide))
theorem lit1_399 (i : Nat) : lit1t0_399 i = sel16 (128 * 399 + i % 128) :=
  digits128 (fun m => sel16 (128 * 399 + m)) _ (i % 128) (Nat.mod_lt _ (by decide))

end Cert.Conv

end
-- ==== Proof.Table1C.lean ====
/- The leaves of the table `lit1`, entries 51200 to 76799. -/
module

public import proofs.«01_k».proof.Proof.TableDigits

@[expose] public section

noncomputable section

namespace Cert.Conv

open Idealize.ShloMosaic
open Cert.KernelIdeal

set_option maxRecDepth 100000

theorem lit1_400 (i : Nat) : lit1t0_400 i = sel16 (128 * 400 + i % 128) :=
  digits128 (fun m => sel16 (128 * 400 + m)) _ (i % 128) (Nat.mod_lt _ (by decide))
theorem lit1_401 (i : Nat) : lit1t0_401 i = sel16 (128 * 401 + i % 128) :=
  digits128 (fun m => sel16 (128 * 401 + m)) _ (i % 128) (Nat.mod_lt _ (by decide))
theorem lit1_402 (i : Nat) : lit1t0_402 i = sel16 (128 * 402 + i % 128) :=
  digits128 (fun m => sel16 (128 * 402 + m)) _ (i % 128) (Nat.mod_lt _ (by decide))
theorem lit1_403 (i : Nat) : lit1t0_403 i = sel16 (128 * 403 + i % 128) :=
  digits128 (fun m => sel16 (128 * 403 + m)) _ (i % 128) (Nat.mod_lt _ (by decide))
theorem lit1_404 (i : Nat) : lit1t0_404 i = sel16 (128 * 404 + i % 128) :=
  digits128 (fun m => sel16 (128 * 404 + m)) _ (i % 128) (Nat.mod_lt _ (by decide))
theorem lit1_405 (i : Nat) : lit1t0_405 i = sel16 (128 * 405 + i % 128) :=
  digits128 (fun m => sel16 (128 * 405 + m)) _ (i % 128) (Nat.mod_lt _ (by decide))
theorem lit1_406 (i : Nat) : lit1t0_406 i = sel16 (128 * 406 + i % 128) :=
  digits128 (fun m => sel16 (128 * 406 + m)) _ (i % 128) (Nat.mod_lt _ (by decide))
theorem lit1_407 (i : Nat) : lit1t0_407 i = sel16 (128 * 407 + i % 128) :=
  digits128 (fun m => sel16 (128 * 407 + m)) _ (i % 128) (Nat.mod_lt _ (by decide))
theorem lit1_408 (i : Nat) : lit1t0_408 i = sel16 (128 * 408 + i % 128) :=
  digits128 (fun m => sel16 (128 * 408 + m)) _ (i % 128) (Nat.mod_lt _ (by decide))
theorem lit1_409 (i : Nat) : lit1t0_409 i = sel16 (128 * 409 + i % 128) :=
  digits128 (fun m => sel16 (128 * 409 + m)) _ (i % 128) (Nat.mod_lt _ (by decide))
theorem lit1_410 (i : Nat) : lit1t0_410 i = sel16 (128 * 410 + i % 128) :=
  digits128 (fun m => sel16 (128 * 410 + m)) _ (i % 128) (Nat.mod_lt _ (by decide))
theorem lit1_411 (i : Nat) : lit1t0_411 i = sel16 (128 * 411 + i % 128) :=
  digits128 (fun m => sel16 (128 * 411 + m)) _ (i % 128) (Nat.mod_lt _ (by decide))
theorem lit1_412 (i : Nat) : lit1t0_412 i = sel16 (128 * 412 + i % 128) :=
  digits128 (fun m => sel16 (128 * 412 + m)) _ (i % 128) (Nat.mod_lt _ (by decide))
theorem lit1_413 (i : Nat) : lit1t0_413 i = sel16 (128 * 413 + i % 128) :=
  digits128 (fun m => sel16 (128 * 413 + m)) _ (i % 128) (Nat.mod_lt _ (by decide))
theorem lit1_414 (i : Nat) : lit1t0_414 i = sel16 (128 * 414 + i % 128) :=
  digits128 (fun m => sel16 (128 * 414 + m)) _ (i % 128) (Nat.mod_lt _ (by decide))
theorem lit1_415 (i : Nat) : lit1t0_415 i = sel16 (128 * 415 + i % 128) :=
  digits128 (fun m => sel16 (128 * 415 + m)) _ (i % 128) (Nat.mod_lt _ (by decide))
theorem lit1_416 (i : Nat) : lit1t0_416 i = sel16 (128 * 416 + i % 128) :=
  digits128 (fun m => sel16 (128 * 416 + m)) _ (i % 128) (Nat.mod_lt _ (by decide))
theorem lit1_417 (i : Nat) : lit1t0_417 i = sel16 (128 * 417 + i % 128) :=
  digits128 (fun m => sel16 (128 * 417 + m)) _ (i % 128) (Nat.mod_lt _ (by decide))
theorem lit1_418 (i : Nat) : lit1t0_418 i = sel16 (128 * 418 + i % 128) :=
  digits128 (fun m => sel16 (128 * 418 + m)) _ (i % 128) (Nat.mod_lt _ (by decide))
theorem lit1_419 (i : Nat) : lit1t0_419 i = sel16 (128 * 419 + i % 128) :=
  digits128 (fun m => sel16 (128 * 419 + m)) _ (i % 128) (Nat.mod_lt _ (by decide))
theorem lit1_420 (i : Nat) : lit1t0_420 i = sel16 (128 * 420 + i % 128) :=
  digits128 (fun m => sel16 (128 * 420 + m)) _ (i % 128) (Nat.mod_lt _ (by decide))
theorem lit1_421 (i : Nat) : lit1t0_421 i = sel16 (128 * 421 + i % 128) :=
  digits128 (fun m => sel16 (128 * 421 + m)) _ (i % 128) (Nat.mod_lt _ (by decide))
theorem lit1_422 (i : Nat) : lit1t0_422 i = sel16 (128 * 422 + i % 128) :=
  digits128 (fun m => sel16 (128 * 422 + m)) _ (i % 128) (Nat.mod_lt _ (by decide))
theorem lit1_423 (i : Nat) : lit1t0_423 i = sel16 (128 * 423 + i % 128) :=
  digits128 (fun m => sel16 (128 * 423 + m)) _ (i % 128) (Nat.mod_lt _ (by decide))
theorem lit1_424 (i : Nat) : lit1t0_424 i = sel16 (128 * 424 + i % 128) :=
  digits128 (fun m => sel16 (128 * 424 + m)) _ (i % 128) (Nat.mod_lt _ (by decide))
theorem lit1_425 (i : Nat) : lit1t0_425 i = sel16 (128 * 425 + i % 128) :=
  digits128 (fun m => sel16 (128 * 425 + m)) _ (i % 128) (Nat.mod_lt _ (by decide))
theorem lit1_426 (i : Nat) : lit1t0_426 i = sel16 (128 * 426 + i % 128) :=
  digits128 (fun m => sel16 (128 * 426 + m)) _ (i % 128) (Nat.mod_lt _ (by decide))
theorem lit1_427 (i : Nat) : lit1t0_427 i = sel16 (128 * 427 + i % 128) :=
  digits128 (fun m => sel16 (128 * 427 + m)) _ (i % 128) (Nat.mod_lt _ (by decide))
theorem lit1_428 (i : Nat) : lit1t0_428 i = sel16 (128 * 428 + i % 128) :=
  digits128 (fun m => sel16 (128 * 428 + m)) _ (i % 128) (Nat.mod_lt _ (by decide))
theorem lit1_429 (i : Nat) : lit1t0_429 i = sel16 (128 * 429 + i % 128) :=
  digits128 (fun m => sel16 (128 * 429 + m)) _ (i % 128) (Nat.mod_lt _ (by decide))
theorem lit1_430 (i : Nat) : lit1t0_430 i = sel16 (128 * 430 + i % 128) :=
  digits128 (fun m => sel16 (128 * 430 + m)) _ (i % 128) (Nat.mod_lt _ (by decide))
theorem lit1_431 (i : Nat) : lit1t0_431 i = sel16 (128 * 431 + i % 128) :=
  digits128 (fun m => sel16 (128 * 431 + m)) _ (i % 128) (Nat.mod_lt _ (by decide))
theorem lit1_432 (i : Nat) : lit1t0_432 i = sel16 (128 * 432 + i % 128) :=
  digits128 (fun m => sel16 (128 * 432 + m)) _ (i % 128) (Nat.mod_lt _ (by decide))
theorem lit1_433 (i : Nat) : lit1t0_433 i = sel16 (128 * 433 + i % 128) :=
  digits128 (fun m => sel16 (128 * 433 + m)) _ (i % 128) (Nat.mod_lt _ (by decide))
theorem lit1_434 (i : Nat) : lit1t0_434 i = sel16 (128 * 434 + i % 128) :=
  digits128 (fun m => sel16 (128 * 434 + m)) _ (i % 128) (Nat.mod_lt _ (by decide))
theorem lit1_435 (i : Nat) : lit1t0_435 i = sel16 (128 * 435 + i % 128) :=
  digits128 (fun m => sel16 (128 * 435 + m)) _ (i % 128) (Nat.mod_lt _ (by decide))
theorem lit1_436 (i : Nat) : lit1t0_436 i = sel16 (128 * 436 + i % 128) :=
  digits128 (fun m => sel16 (128 * 436 + m)) _ (i % 128) (Nat.mod_lt _ (by decide))
theorem lit1_437 (i : Nat) : lit1t0_437 i = sel16 (128 * 437 + i % 128) :=
  digits128 (fun m => sel16 (128 * 437 + m)) _ (i % 128) (Nat.mod_lt _ (by decide))
theorem lit1_438 (i : Nat) : lit1t0_438 i = sel16 (128 * 438 + i % 128) :=
  digits128 (fun m => sel16 (128 * 438 + m)) _ (i % 128) (Nat.mod_lt _ (by decide))
theorem lit1_439 (i : Nat) : lit1t0_439 i = sel16 (128 * 439 + i % 128) :=
  digits128 (fun m => sel16 (128 * 439 + m)) _ (i % 128) (Nat.mod_lt _ (by decide))
theorem lit1_440 (i : Nat) : lit1t0_440 i = sel16 (128 * 440 + i % 128) :=
  digits128 (fun m => sel16 (128 * 440 + m)) _ (i % 128) (Nat.mod_lt _ (by decide))
theorem lit1_441 (i : Nat) : lit1t0_441 i = sel16 (128 * 441 + i % 128) :=
  digits128 (fun m => sel16 (128 * 441 + m)) _ (i % 128) (Nat.mod_lt _ (by decide))
theorem lit1_442 (i : Nat) : lit1t0_442 i = sel16 (128 * 442 + i % 128) :=
  digits128 (fun m => sel16 (128 * 442 + m)) _ (i % 128) (Nat.mod_lt _ (by decide))
theorem lit1_443 (i : Nat) : lit1t0_443 i = sel16 (128 * 443 + i % 128) :=
  digits128 (fun m => sel16 (128 * 443 + m)) _ (i % 128) (Nat.mod_lt _ (by decide))
theorem lit1_444 (i : Nat) : lit1t0_444 i = sel16 (128 * 444 + i % 128) :=
  digits128 (fun m => sel16 (128 * 444 + m)) _ (i % 128) (Nat.mod_lt _ (by decide))
theorem lit1_445 (i : Nat) : lit1t0_445 i = sel16 (128 * 445 + i % 128) :=
  digits128 (fun m => sel16 (128 * 445 + m)) _ (i % 128) (Nat.mod_lt _ (by decide))
theorem lit1_446 (i : Nat) : lit1t0_446 i = sel16 (128 * 446 + i % 128) :=
  digits128 (fun m => sel16 (128 * 446 + m)) _ (i % 128) (Nat.mod_lt _ (by decide))
theorem lit1_447 (i : Nat) : lit1t0_447 i = sel16 (128 * 447 + i % 128) :=
  digits128 (fun m => sel16 (128 * 447 + m)) _ (i % 128) (Nat.mod_lt _ (by decide))
theorem lit1_448 (i : Nat) : lit1t0_448 i = sel16 (128 * 448 + i % 128) :=
  digits128 (fun m => sel16 (128 * 448 + m)) _ (i % 128) (Nat.mod_lt _ (by decide))
theorem lit1_449 (i : Nat) : lit1t0_449 i = sel16 (128 * 449 + i % 128) :=
  digits128 (fun m => sel16 (128 * 449 + m)) _ (i % 128) (Nat.mod_lt _ (by decide))
theorem lit1_450 (i : Nat) : lit1t0_450 i = sel16 (128 * 450 + i % 128) :=
  digits128 (fun m => sel16 (128 * 450 + m)) _ (i % 128) (Nat.mod_lt _ (by decide))
theorem lit1_451 (i : Nat) : lit1t0_451 i = sel16 (128 * 451 + i % 128) :=
  digits128 (fun m => sel16 (128 * 451 + m)) _ (i % 128) (Nat.mod_lt _ (by decide))
theorem lit1_452 (i : Nat) : lit1t0_452 i = sel16 (128 * 452 + i % 128) :=
  digits128 (fun m => sel16 (128 * 452 + m)) _ (i % 128) (Nat.mod_lt _ (by decide))
theorem lit1_453 (i : Nat) : lit1t0_453 i = sel16 (128 * 453 + i % 128) :=
  digits128 (fun m => sel16 (128 * 453 + m)) _ (i % 128) (Nat.mod_lt _ (by decide))
theorem lit1_454 (i : Nat) : lit1t0_454 i = sel16 (128 * 454 + i % 128) :=
  digits128 (fun m => sel16 (128 * 454 + m)) _ (i % 128) (Nat.mod_lt _ (by decide))
theorem lit1_455 (i : Nat) : lit1t0_455 i = sel16 (128 * 455 + i % 128) :=
  digits128 (fun m => sel16 (128 * 455 + m)) _ (i % 128) (Nat.mod_lt _ (by decide))
theorem lit1_456 (i : Nat) : lit1t0_456 i = sel16 (128 * 456 + i % 128) :=
  digits128 (fun m => sel16 (128 * 456 + m)) _ (i % 128) (Nat.mod_lt _ (by decide))
theorem lit1_457 (i : Nat) : lit1t0_457 i = sel16 (128 * 457 + i % 128) :=
  digits128 (fun m => sel16 (128 * 457 + m)) _ (i % 128) (Nat.mod_lt _ (by decide))
theorem lit1_458 (i : Nat) : lit1t0_458 i = sel16 (128 * 458 + i % 128) :=
  digits128 (fun m => sel16 (128 * 458 + m)) _ (i % 128) (Nat.mod_lt _ (by decide))
theorem lit1_459 (i : Nat) : lit1t0_459 i = sel16 (128 * 459 + i % 128) :=
  digits128 (fun m => sel16 (128 * 459 + m)) _ (i % 128) (Nat.mod_lt _ (by decide))
theorem lit1_460 (i : Nat) : lit1t0_460 i = sel16 (128 * 460 + i % 128) :=
  digits128 (fun m => sel16 (128 * 460 + m)) _ (i % 128) (Nat.mod_lt _ (by decide))
theorem lit1_461 (i : Nat) : lit1t0_461 i = sel16 (128 * 461 + i % 128) :=
  digits128 (fun m => sel16 (128 * 461 + m)) _ (i % 128) (Nat.mod_lt _ (by decide))
theorem lit1_462 (i : Nat) : lit1t0_462 i = sel16 (128 * 462 + i % 128) :=
  digits128 (fun m => sel16 (128 * 462 + m)) _ (i % 128) (Nat.mod_lt _ (by decide))
theorem lit1_463 (i : Nat) : lit1t0_463 i = sel16 (128 * 463 + i % 128) :=
  digits128 (fun m => sel16 (128 * 463 + m)) _ (i % 128) (Nat.mod_lt _ (by decide))
theorem lit1_464 (i : Nat) : lit1t0_464 i = sel16 (128 * 464 + i % 128) :=
  digits128 (fun m => sel16 (128 * 464 + m)) _ (i % 128) (Nat.mod_lt _ (by decide))
theorem lit1_465 (i : Nat) : lit1t0_465 i = sel16 (128 * 465 + i % 128) :=
  digits128 (fun m => sel16 (128 * 465 + m)) _ (i % 128) (Nat.mod_lt _ (by decide))
theorem lit1_466 (i : Nat) : lit1t0_466 i = sel16 (128 * 466 + i % 128) :=
  digits128 (fun m => sel16 (128 * 466 + m)) _ (i % 128) (Nat.mod_lt _ (by decide))
theorem lit1_467 (i : Nat) : lit1t0_467 i = sel16 (128 * 467 + i % 128) :=
  digits128 (fun m => sel16 (128 * 467 + m)) _ (i % 128) (Nat.mod_lt _ (by decide))
theorem lit1_468 (i : Nat) : lit1t0_468 i = sel16 (128 * 468 + i % 128) :=
  digits128 (fun m => sel16 (128 * 468 + m)) _ (i % 128) (Nat.mod_lt _ (by decide))
theorem lit1_469 (i : Nat) : lit1t0_469 i = sel16 (128 * 469 + i % 128) :=
  digits128 (fun m => sel16 (128 * 469 + m)) _ (i % 128) (Nat.mod_lt _ (by decide))
theorem lit1_470 (i : Nat) : lit1t0_470 i = sel16 (128 * 470 + i % 128) :=
  digits128 (fun m => sel16 (128 * 470 + m)) _ (i % 128) (Nat.mod_lt _ (by decide))
theorem lit1_471 (i : Nat) : lit1t0_471 i = sel16 (128 * 471 + i % 128) :=
  digits128 (fun m => sel16 (128 * 471 + m)) _ (i % 128) (Nat.mod_lt _ (by decide))
theorem lit1_472 (i : Nat) : lit1t0_472 i = sel16 (128 * 472 + i % 128) :=
  digits128 (fun m => sel16 (128 * 472 + m)) _ (i % 128) (Nat.mod_lt _ (by decide))
theorem lit1_473 (i : Nat) : lit1t0_473 i = sel16 (128 * 473 + i % 128) :=
  digits128 (fun m => sel16 (128 * 473 + m)) _ (i % 128) (Nat.mod_lt _ (by decide))
theorem lit1_474 (i : Nat) : lit1t0_474 i = sel16 (128 * 474 + i % 128) :=
  digits128 (fun m => sel16 (128 * 474 + m)) _ (i % 128) (Nat.mod_lt _ (by decide))
theorem lit1_475 (i : Nat) : lit1t0_475 i = sel16 (128 * 475 + i % 128) :=
  digits128 (fun m => sel16 (128 * 475 + m)) _ (i % 128) (Nat.mod_lt _ (by decide))
theorem lit1_476 (i : Nat) : lit1t0_476 i = sel16 (128 * 476 + i % 128) :=
  digits128 (fun m => sel16 (128 * 476 + m)) _ (i % 128) (Nat.mod_lt _ (by decide))
theorem lit1_477 (i : Nat) : lit1t0_477 i = sel16 (128 * 477 + i % 128) :=
  digits128 (fun m => sel16 (128 * 477 + m)) _ (i % 128) (Nat.mod_lt _ (by decide))
theorem lit1_478 (i : Nat) : lit1t0_478 i = sel16 (128 * 478 + i % 128) :=
  digits128 (fun m => sel16 (128 * 478 + m)) _ (i % 128) (Nat.mod_lt _ (by decide))
theorem lit1_479 (i : Nat) : lit1t0_479 i = sel16 (128 * 479 + i % 128) :=
  digits128 (fun m => sel16 (128 * 479 + m)) _ (i % 128) (Nat.mod_lt _ (by decide))
theorem lit1_480 (i : Nat) : lit1t0_480 i = sel16 (128 * 480 + i % 128) :=
  digits128 (fun m => sel16 (128 * 480 + m)) _ (i % 128) (Nat.mod_lt _ (by decide))
theorem lit1_481 (i : Nat) : lit1t0_481 i = sel16 (128 * 481 + i % 128) :=
  digits128 (fun m => sel16 (128 * 481 + m)) _ (i % 128) (Nat.mod_lt _ (by decide))
theorem lit1_482 (i : Nat) : lit1t0_482 i = sel16 (128 * 482 + i % 128) :=
  digits128 (fun m => sel16 (128 * 482 + m)) _ (i % 128) (Nat.mod_lt _ (by decide))
theorem lit1_483 (i : Nat) : lit1t0_483 i = sel16 (128 * 483 + i % 128) :=
  digits128 (fun m => sel16 (128 * 483 + m)) _ (i % 128) (Nat.mod_lt _ (by decide))
theorem lit1_484 (i : Nat) : lit1t0_484 i = sel16 (128 * 484 + i % 128) :=
  digits128 (fun m => sel16 (128 * 484 + m)) _ (i % 128) (Nat.mod_lt _ (by decide))
theorem lit1_485 (i : Nat) : lit1t0_485 i = sel16 (128 * 485 + i % 128) :=
  digits128 (fun m => sel16 (128 * 485 + m)) _ (i % 128) (Nat.mod_lt _ (by decide))
theorem lit1_486 (i : Nat) : lit1t0_486 i = sel16 (128 * 486 + i % 128) :=
  digits128 (fun m => sel16 (128 * 486 + m)) _ (i % 128) (Nat.mod_lt _ (by decide))
theorem lit1_487 (i : Nat) : lit1t0_487 i = sel16 (128 * 487 + i % 128) :=
  digits128 (fun m => sel16 (128 * 487 + m)) _ (i % 128) (Nat.mod_lt _ (by decide))
theorem lit1_488 (i : Nat) : lit1t0_488 i = sel16 (128 * 488 + i % 128) :=
  digits128 (fun m => sel16 (128 * 488 + m)) _ (i % 128) (Nat.mod_lt _ (by decide))
theorem lit1_489 (i : Nat) : lit1t0_489 i = sel16 (128 * 489 + i % 128) :=
  digits128 (fun m => sel16 (128 * 489 + m)) _ (i % 128) (Nat.mod_lt _ (by decide))
theorem lit1_490 (i : Nat) : lit1t0_490 i = sel16 (128 * 490 + i % 128) :=
  digits128 (fun m => sel16 (128 * 490 + m)) _ (i % 128) (Nat.mod_lt _ (by decide))
theorem lit1_491 (i : Nat) : lit1t0_491 i = sel16 (128 * 491 + i % 128) :=
  digits128 (fun m => sel16 (128 * 491 + m)) _ (i % 128) (Nat.mod_lt _ (by decide))
theorem lit1_492 (i : Nat) : lit1t0_492 i = sel16 (128 * 492 + i % 128) :=
  digits128 (fun m => sel16 (128 * 492 + m)) _ (i % 128) (Nat.mod_lt _ (by decide))
theorem lit1_493 (i : Nat) : lit1t0_493 i = sel16 (128 * 493 + i % 128) :=
  digits128 (fun m => sel16 (128 * 493 + m)) _ (i % 128) (Nat.mod_lt _ (by decide))
theorem lit1_494 (i : Nat) : lit1t0_494 i = sel16 (128 * 494 + i % 128) :=
  digits128 (fun m => sel16 (128 * 494 + m)) _ (i % 128) (Nat.mod_lt _ (by decide))
theorem lit1_495 (i : Nat) : lit1t0_495 i = sel16 (128 * 495 + i % 128) :=
  digits128 (fun m => sel16 (128 * 495 + m)) _ (i % 128) (Nat.mod_lt _ (by decide))
theorem lit1_496 (i : Nat) : lit1t0_496 i = sel16 (128 * 496 + i % 128) :=
  digits128 (fun m => sel16 (128 * 496 + m)) _ (i % 128) (Nat.mod_lt _ (by decide))
theorem lit1_497 (i : Nat) : lit1t0_497 i = sel16 (128 * 497 + i % 128) :=
  digits128 (fun m => sel16 (128 * 497 + m)) _ (i % 128) (Nat.mod_lt _ (by decide))
theorem lit1_498 (i : Nat) : lit1t0_498 i = sel16 (128 * 498 + i % 128) :=
  digits128 (fun m => sel16 (128 * 498 + m)) _ (i % 128) (Nat.mod_lt _ (by decide))
theorem lit1_499 (i : Nat) : lit1t0_499 i = sel16 (128 * 499 + i % 128) :=
  digits128 (fun m => sel16 (128 * 499 + m)) _ (i % 128) (Nat.mod_lt _ (by decide))
theorem lit1_500 (i : Nat) : lit1t0_500 i = sel16 (128 * 500 + i % 128) :=
  digits128 (fun m => sel16 (128 * 500 + m)) _ (i % 128) (Nat.mod_lt _ (by decide))
theorem lit1_501 (i : Nat) : lit1t0_501 i = sel16 (128 * 501 + i % 128) :=
  digits128 (fun m => sel16 (128 * 501 + m)) _ (i % 128) (Nat.mod_lt _ (by decide))
theorem lit1_502 (i : Nat) : lit1t0_502 i = sel16 (128 * 502 + i % 128) :=
  digits128 (fun m => sel16 (128 * 502 + m)) _ (i % 128) (Nat.mod_lt _ (by decide))
theorem lit1_503 (i : Nat) : lit1t0_503 i = sel16 (128 * 503 + i % 128) :=
  digits128 (fun m => sel16 (128 * 503 + m)) _ (i % 128) (Nat.mod_lt _ (by decide))
theorem lit1_504 (i : Nat) : lit1t0_504 i = sel16 (128 * 504 + i % 128) :=
  digits128 (fun m => sel16 (128 * 504 + m)) _ (i % 128) (Nat.mod_lt _ (by decide))
theorem lit1_505 (i : Nat) : lit1t0_505 i = sel16 (128 * 505 + i % 128) :=
  digits128 (fun m => sel16 (128 * 505 + m)) _ (i % 128) (Nat.mod_lt _ (by decide))
theorem lit1_506 (i : Nat) : lit1t0_506 i = sel16 (128 * 506 + i % 128) :=
  digits128 (fun m => sel16 (128 * 506 + m)) _ (i % 128) (Nat.mod_lt _ (by decide))
theorem lit1_507 (i : Nat) : lit1t0_507 i = sel16 (128 * 507 + i % 128) :=
  digits128 (fun m => sel16 (128 * 507 + m)) _ (i % 128) (Nat.mod_lt _ (by decide))
theorem lit1_508 (i : Nat) : lit1t0_508 i = sel16 (128 * 508 + i % 128) :=
  digits128 (fun m => sel16 (128 * 508 + m)) _ (i % 128) (Nat.mod_lt _ (by decide))
theorem lit1_509 (i : Nat) : lit1t0_509 i = sel16 (128 * 509 + i % 128) :=
  digits128 (fun m => sel16 (128 * 509 + m)) _ (i % 128) (Nat.mod_lt _ (by decide))
theorem lit1_510 (i : Nat) : lit1t0_510 i = sel16 (128 * 510 + i % 128) :=
  digits128 (fun m => sel16 (128 * 510 + m)) _ (i % 128) (Nat.mod_lt _ (by decide))
theorem lit1_511 (i : Nat) : lit1t0_511 i = sel16 (128 * 511 + i % 128) :=
  digits128 (fun m => sel16 (128 * 511 + m)) _ (i % 128) (Nat.mod_lt _ (by decide))
theorem lit1_512 (i : Nat) : lit1t0_512 i = sel16 (128 * 512 + i % 128) :=
  digits128 (fun m => sel16 (128 * 512 + m)) _ (i % 128) (Nat.mod_lt _ (by decide))
theorem lit1_513 (i : Nat) : lit1t0_513 i = sel16 (128 * 513 + i % 128) :=
  digits128 (fun m => sel16 (128 * 513 + m)) _ (i % 128) (Nat.mod_lt _ (by decide))
theorem lit1_514 (i : Nat) : lit1t0_514 i = sel16 (128 * 514 + i % 128) :=
  digits128 (fun m => sel16 (128 * 514 + m)) _ (i % 128) (Nat.mod_lt _ (by decide))
theorem lit1_515 (i : Nat) : lit1t0_515 i = sel16 (128 * 515 + i % 128) :=
  digits128 (fun m => sel16 (128 * 515 + m)) _ (i % 128) (Nat.mod_lt _ (by decide))
theorem lit1_516 (i : Nat) : lit1t0_516 i = sel16 (128 * 516 + i % 128) :=
  digits128 (fun m => sel16 (128 * 516 + m)) _ (i % 128) (Nat.mod_lt _ (by decide))
theorem lit1_517 (i : Nat) : lit1t0_517 i = sel16 (128 * 517 + i % 128) :=
  digits128 (fun m => sel16 (128 * 517 + m)) _ (i % 128) (Nat.mod_lt _ (by decide))
theorem lit1_518 (i : Nat) : lit1t0_518 i = sel16 (128 * 518 + i % 128) :=
  digits128 (fun m => sel16 (128 * 518 + m)) _ (i % 128) (Nat.mod_lt _ (by decide))
theorem lit1_519 (i : Nat) : lit1t0_519 i = sel16 (128 * 519 + i % 128) :=
  digits128 (fun m => sel16 (128 * 519 + m)) _ (i % 128) (Nat.mod_lt _ (by decide))
theorem lit1_520 (i : Nat) : lit1t0_520 i = sel16 (128 * 520 + i % 128) :=
  digits128 (fun m => sel16 (128 * 520 + m)) _ (i % 128) (Nat.mod_lt _ (by decide))
theorem lit1_521 (i : Nat) : lit1t0_521 i = sel16 (128 * 521 + i % 128) :=
  digits128 (fun m => sel16 (128 * 521 + m)) _ (i % 128) (Nat.mod_lt _ (by decide))
theorem lit1_522 (i : Nat) : lit1t0_522 i = sel16 (128 * 522 + i % 128) :=
  digits128 (fun m => sel16 (128 * 522 + m)) _ (i % 128) (Nat.mod_lt _ (by decide))
theorem lit1_523 (i : Nat) : lit1t0_523 i = sel16 (128 * 523 + i % 128) :=
  digits128 (fun m => sel16 (128 * 523 + m)) _ (i % 128) (Nat.mod_lt _ (by decide))
theorem lit1_524 (i : Nat) : lit1t0_524 i = sel16 (128 * 524 + i % 128) :=
  digits128 (fun m => sel16 (128 * 524 + m)) _ (i % 128) (Nat.mod_lt _ (by decide))
theorem lit1_525 (i : Nat) : lit1t0_525 i = sel16 (128 * 525 + i % 128) :=
  digits128 (fun m => sel16 (128 * 525 + m)) _ (i % 128) (Nat.mod_lt _ (by decide))
theorem lit1_526 (i : Nat) : lit1t0_526 i = sel16 (128 * 526 + i % 128) :=
  digits128 (fun m => sel16 (128 * 526 + m)) _ (i % 128) (Nat.mod_lt _ (by decide))
theorem lit1_527 (i : Nat) : lit1t0_527 i = sel16 (128 * 527 + i % 128) :=
  digits128 (fun m => sel16 (128 * 527 + m)) _ (i % 128) (Nat.mod_lt _ (by decide))
theorem lit1_528 (i : Nat) : lit1t0_528 i = sel16 (128 * 528 + i % 128) :=
  digits128 (fun m => sel16 (128 * 528 + m)) _ (i % 128) (Nat.mod_lt _ (by decide))
theorem lit1_529 (i : Nat) : lit1t0_529 i = sel16 (128 * 529 + i % 128) :=
  digits128 (fun m => sel16 (128 * 529 + m)) _ (i % 128) (Nat.mod_lt _ (by decide))
theorem lit1_530 (i : Nat) : lit1t0_530 i = sel16 (128 * 530 + i % 128) :=
  digits128 (fun m => sel16 (128 * 530 + m)) _ (i % 128) (Nat.mod_lt _ (by decide))
theorem lit1_531 (i : Nat) : lit1t0_531 i = sel16 (128 * 531 + i % 128) :=
  digits128 (fun m => sel16 (128 * 531 + m)) _ (i % 128) (Nat.mod_lt _ (by decide))
theorem lit1_532 (i : Nat) : lit1t0_532 i = sel16 (128 * 532 + i % 128) :=
  digits128 (fun m => sel16 (128 * 532 + m)) _ (i % 128) (Nat.mod_lt _ (by decide))
theorem lit1_533 (i : Nat) : lit1t0_533 i = sel16 (128 * 533 + i % 128) :=
  digits128 (fun m => sel16 (128 * 533 + m)) _ (i % 128) (Nat.mod_lt _ (by decide))
theorem lit1_534 (i : Nat) : lit1t0_534 i = sel16 (128 * 534 + i % 128) :=
  digits128 (fun m => sel16 (128 * 534 + m)) _ (i % 128) (Nat.mod_lt _ (by decide))
theorem lit1_535 (i : Nat) : lit1t0_535 i = sel16 (128 * 535 + i % 128) :=
  digits128 (fun m => sel16 (128 * 535 + m)) _ (i % 128) (Nat.mod_lt _ (by decide))
theorem lit1_536 (i : Nat) : lit1t0_536 i = sel16 (128 * 536 + i % 128) :=
  digits128 (fun m => sel16 (128 * 536 + m)) _ (i % 128) (Nat.mod_lt _ (by decide))
theorem lit1_537 (i : Nat) : lit1t0_537 i = sel16 (128 * 537 + i % 128) :=
  digits128 (fun m => sel16 (128 * 537 + m)) _ (i % 128) (Nat.mod_lt _ (by decide))
theorem lit1_538 (i : Nat) : lit1t0_538 i = sel16 (128 * 538 + i % 128) :=
  digits128 (fun m => sel16 (128 * 538 + m)) _ (i % 128) (Nat.mod_lt _ (by decide))
theorem lit1_539 (i : Nat) : lit1t0_539 i = sel16 (128 * 539 + i % 128) :=
  digits128 (fun m => sel16 (128 * 539 + m)) _ (i % 128) (Nat.mod_lt _ (by decide))
theorem lit1_540 (i : Nat) : lit1t0_540 i = sel16 (128 * 540 + i % 128) :=
  digits128 (fun m => sel16 (128 * 540 + m)) _ (i % 128) (Nat.mod_lt _ (by decide))
theorem lit1_541 (i : Nat) : lit1t0_541 i = sel16 (128 * 541 + i % 128) :=
  digits128 (fun m => sel16 (128 * 541 + m)) _ (i % 128) (Nat.mod_lt _ (by decide))
theorem lit1_542 (i : Nat) : lit1t0_542 i = sel16 (128 * 542 + i % 128) :=
  digits128 (fun m => sel16 (128 * 542 + m)) _ (i % 128) (Nat.mod_lt _ (by decide))
theorem lit1_543 (i : Nat) : lit1t0_543 i = sel16 (128 * 543 + i % 128) :=
  digits128 (fun m => sel16 (128 * 543 + m)) _ (i % 128) (Nat.mod_lt _ (by decide))
theorem lit1_544 (i : Nat) : lit1t0_544 i = sel16 (128 * 544 + i % 128) :=
  digits128 (fun m => sel16 (128 * 544 + m)) _ (i % 128) (Nat.mod_lt _ (by decide))
theorem lit1_545 (i : Nat) : lit1t0_545 i = sel16 (128 * 545 + i % 128) :=
  digits128 (fun m => sel16 (128 * 545 + m)) _ (i % 128) (Nat.mod_lt _ (by decide))
theorem lit1_546 (i : Nat) : lit1t0_546 i = sel16 (128 * 546 + i % 128) :=
  digits128 (fun m => sel16 (128 * 546 + m)) _ (i % 128) (Nat.mod_lt _ (by decide))
theorem lit1_547 (i : Nat) : lit1t0_547 i = sel16 (128 * 547 + i % 128) :=
  digits128 (fun m => sel16 (128 * 547 + m)) _ (i % 128) (Nat.mod_lt _ (by decide))
theorem lit1_548 (i : Nat) : lit1t0_548 i = sel16 (128 * 548 + i % 128) :=
  digits128 (fun m => sel16 (128 * 548 + m)) _ (i % 128) (Nat.mod_lt _ (by decide))
theorem lit1_549 (i : Nat) : lit1t0_549 i = sel16 (128 * 549 + i % 128) :=
  digits128 (fun m => sel16 (128 * 549 + m)) _ (i % 128) (Nat.mod_lt _ (by decide))
theorem lit1_550 (i : Nat) : lit1t0_550 i = sel16 (128 * 550 + i % 128) :=
  digits128 (fun m => sel16 (128 * 550 + m)) _ (i % 128) (Nat.mod_lt _ (by decide))
theorem lit1_551 (i : Nat) : lit1t0_551 i = sel16 (128 * 551 + i % 128) :=
  digits128 (fun m => sel16 (128 * 551 + m)) _ (i % 128) (Nat.mod_lt _ (by decide))
theorem lit1_552 (i : Nat) : lit1t0_552 i = sel16 (128 * 552 + i % 128) :=
  digits128 (fun m => sel16 (128 * 552 + m)) _ (i % 128) (Nat.mod_lt _ (by decide))
theorem lit1_553 (i : Nat) : lit1t0_553 i = sel16 (128 * 553 + i % 128) :=
  digits128 (fun m => sel16 (128 * 553 + m)) _ (i % 128) (Nat.mod_lt _ (by decide))
theorem lit1_554 (i : Nat) : lit1t0_554 i = sel16 (128 * 554 + i % 128) :=
  digits128 (fun m => sel16 (128 * 554 + m)) _ (i % 128) (Nat.mod_lt _ (by decide))
theorem lit1_555 (i : Nat) : lit1t0_555 i = sel16 (128 * 555 + i % 128) :=
  digits128 (fun m => sel16 (128 * 555 + m)) _ (i % 128) (Nat.mod_lt _ (by decide))
theorem lit1_556 (i : Nat) : lit1t0_556 i = sel16 (128 * 556 + i % 128) :=
  digits128 (fun m => sel16 (128 * 556 + m)) _ (i % 128) (Nat.mod_lt _ (by decide))
theorem lit1_557 (i : Nat) : lit1t0_557 i = sel16 (128 * 557 + i % 128) :=
  digits128 (fun m => sel16 (128 * 557 + m)) _ (i % 128) (Nat.mod_lt _ (by decide))
theorem lit1_558 (i : Nat) : lit1t0_558 i = sel16 (128 * 558 + i % 128) :=
  digits128 (fun m => sel16 (128 * 558 + m)) _ (i % 128) (Nat.mod_lt _ (by decide))
theorem lit1_559 (i : Nat) : lit1t0_559 i = sel16 (128 * 559 + i % 128) :=
  digits128 (fun m => sel16 (128 * 559 + m)) _ (i % 128) (Nat.mod_lt _ (by decide))
theorem lit1_560 (i : Nat) : lit1t0_560 i = sel16 (128 * 560 + i % 128) :=
  digits128 (fun m => sel16 (128 * 560 + m)) _ (i % 128) (Nat.mod_lt _ (by decide))
theorem lit1_561 (i : Nat) : lit1t0_561 i = sel16 (128 * 561 + i % 128) :=
  digits128 (fun m => sel16 (128 * 561 + m)) _ (i % 128) (Nat.mod_lt _ (by decide))
theorem lit1_562 (i : Nat) : lit1t0_562 i = sel16 (128 * 562 + i % 128) :=
  digits128 (fun m => sel16 (128 * 562 + m)) _ (i % 128) (Nat.mod_lt _ (by decide))
theorem lit1_563 (i : Nat) : lit1t0_563 i = sel16 (128 * 563 + i % 128) :=
  digits128 (fun m => sel16 (128 * 563 + m)) _ (i % 128) (Nat.mod_lt _ (by decide))
theorem lit1_564 (i : Nat) : lit1t0_564 i = sel16 (128 * 564 + i % 128) :=
  digits128 (fun m => sel16 (128 * 564 + m)) _ (i % 128) (Nat.mod_lt _ (by decide))
theorem lit1_565 (i : Nat) : lit1t0_565 i = sel16 (128 * 565 + i % 128) :=
  digits128 (fun m => sel16 (128 * 565 + m)) _ (i % 128) (Nat.mod_lt _ (by decide))
theorem lit1_566 (i : Nat) : lit1t0_566 i = sel16 (128 * 566 + i % 128) :=
  digits128 (fun m => sel16 (128 * 566 + m)) _ (i % 128) (Nat.mod_lt _ (by decide))
theorem lit1_567 (i : Nat) : lit1t0_567 i = sel16 (128 * 567 + i % 128) :=
  digits128 (fun m => sel16 (128 * 567 + m)) _ (i % 128) (Nat.mod_lt _ (by decide))
theorem lit1_568 (i : Nat) : lit1t0_568 i = sel16 (128 * 568 + i % 128) :=
  digits128 (fun m => sel16 (128 * 568 + m)) _ (i % 128) (Nat.mod_lt _ (by decide))
theorem lit1_569 (i : Nat) : lit1t0_569 i = sel16 (128 * 569 + i % 128) :=
  digits128 (fun m => sel16 (128 * 569 + m)) _ (i % 128) (Nat.mod_lt _ (by decide))
theorem lit1_570 (i : Nat) : lit1t0_570 i = sel16 (128 * 570 + i % 128) :=
  digits128 (fun m => sel16 (128 * 570 + m)) _ (i % 128) (Nat.mod_lt _ (by decide))
theorem lit1_571 (i : Nat) : lit1t0_571 i = sel16 (128 * 571 + i % 128) :=
  digits128 (fun m => sel16 (128 * 571 + m)) _ (i % 128) (Nat.mod_lt _ (by decide))
theorem lit1_572 (i : Nat) : lit1t0_572 i = sel16 (128 * 572 + i % 128) :=
  digits128 (fun m => sel16 (128 * 572 + m)) _ (i % 128) (Nat.mod_lt _ (by decide))
theorem lit1_573 (i : Nat) : lit1t0_573 i = sel16 (128 * 573 + i % 128) :=
  digits128 (fun m => sel16 (128 * 573 + m)) _ (i % 128) (Nat.mod_lt _ (by decide))
theorem lit1_574 (i : Nat) : lit1t0_574 i = sel16 (128 * 574 + i % 128) :=
  digits128 (fun m => sel16 (128 * 574 + m)) _ (i % 128) (Nat.mod_lt _ (by decide))
theorem lit1_575 (i : Nat) : lit1t0_575 i = sel16 (128 * 575 + i % 128) :=
  digits128 (fun m => sel16 (128 * 575 + m)) _ (i % 128) (Nat.mod_lt _ (by decide))
theorem lit1_576 (i : Nat) : lit1t0_576 i = sel16 (128 * 576 + i % 128) :=
  digits128 (fun m => sel16 (128 * 576 + m)) _ (i % 128) (Nat.mod_lt _ (by decide))
theorem lit1_577 (i : Nat) : lit1t0_577 i = sel16 (128 * 577 + i % 128) :=
  digits128 (fun m => sel16 (128 * 577 + m)) _ (i % 128) (Nat.mod_lt _ (by decide))
theorem lit1_578 (i : Nat) : lit1t0_578 i = sel16 (128 * 578 + i % 128) :=
  digits128 (fun m => sel16 (128 * 578 + m)) _ (i % 128) (Nat.mod_lt _ (by decide))
theorem lit1_579 (i : Nat) : lit1t0_579 i = sel16 (128 * 579 + i % 128) :=
  digits128 (fun m => sel16 (128 * 579 + m)) _ (i % 128) (Nat.mod_lt _ (by decide))
theorem lit1_580 (i : Nat) : lit1t0_580 i = sel16 (128 * 580 + i % 128) :=
  digits128 (fun m => sel16 (128 * 580 + m)) _ (i % 128) (Nat.mod_lt _ (by decide))
theorem lit1_581 (i : Nat) : lit1t0_581 i = sel16 (128 * 581 + i % 128) :=
  digits128 (fun m => sel16 (128 * 581 + m)) _ (i % 128) (Nat.mod_lt _ (by decide))
theorem lit1_582 (i : Nat) : lit1t0_582 i = sel16 (128 * 582 + i % 128) :=
  digits128 (fun m => sel16 (128 * 582 + m)) _ (i % 128) (Nat.mod_lt _ (by decide))
theorem lit1_583 (i : Nat) : lit1t0_583 i = sel16 (128 * 583 + i % 128) :=
  digits128 (fun m => sel16 (128 * 583 + m)) _ (i % 128) (Nat.mod_lt _ (by decide))
theorem lit1_584 (i : Nat) : lit1t0_584 i = sel16 (128 * 584 + i % 128) :=
  digits128 (fun m => sel16 (128 * 584 + m)) _ (i % 128) (Nat.mod_lt _ (by decide))
theorem lit1_585 (i : Nat) : lit1t0_585 i = sel16 (128 * 585 + i % 128) :=
  digits128 (fun m => sel16 (128 * 585 + m)) _ (i % 128) (Nat.mod_lt _ (by decide))
theorem lit1_586 (i : Nat) : lit1t0_586 i = sel16 (128 * 586 + i % 128) :=
  digits128 (fun m => sel16 (128 * 586 + m)) _ (i % 128) (Nat.mod_lt _ (by decide))
theorem lit1_587 (i : Nat) : lit1t0_587 i = sel16 (128 * 587 + i % 128) :=
  digits128 (fun m => sel16 (128 * 587 + m)) _ (i % 128) (Nat.mod_lt _ (by decide))
theorem lit1_588 (i : Nat) : lit1t0_588 i = sel16 (128 * 588 + i % 128) :=
  digits128 (fun m => sel16 (128 * 588 + m)) _ (i % 128) (Nat.mod_lt _ (by decide))
theorem lit1_589 (i : Nat) : lit1t0_589 i = sel16 (128 * 589 + i % 128) :=
  digits128 (fun m => sel16 (128 * 589 + m)) _ (i % 128) (Nat.mod_lt _ (by decide))
theorem lit1_590 (i : Nat) : lit1t0_590 i = sel16 (128 * 590 + i % 128) :=
  digits128 (fun m => sel16 (128 * 590 + m)) _ (i % 128) (Nat.mod_lt _ (by decide))
theorem lit1_591 (i : Nat) : lit1t0_591 i = sel16 (128 * 591 + i % 128) :=
  digits128 (fun m => sel16 (128 * 591 + m)) _ (i % 128) (Nat.mod_lt _ (by decide))
theorem lit1_592 (i : Nat) : lit1t0_592 i = sel16 (128 * 592 + i % 128) :=
  digits128 (fun m => sel16 (128 * 592 + m)) _ (i % 128) (Nat.mod_lt _ (by decide))
theorem lit1_593 (i : Nat) : lit1t0_593 i = sel16 (128 * 593 + i % 128) :=
  digits128 (fun m => sel16 (128 * 593 + m)) _ (i % 128) (Nat.mod_lt _ (by decide))
theorem lit1_594 (i : Nat) : lit1t0_594 i = sel16 (128 * 594 + i % 128) :=
  digits128 (fun m => sel16 (128 * 594 + m)) _ (i % 128) (Nat.mod_lt _ (by decide))
theorem lit1_595 (i : Nat) : lit1t0_595 i = sel16 (128 * 595 + i % 128) :=
  digits128 (fun m => sel16 (128 * 595 + m)) _ (i % 128) (Nat.mod_lt _ (by decide))
theorem lit1_596 (i : Nat) : lit1t0_596 i = sel16 (128 * 596 + i % 128) :=
  digits128 (fun m => sel16 (128 * 596 + m)) _ (i % 128) (Nat.mod_lt _ (by decide))
theorem lit1_597 (i : Nat) : lit1t0_597 i = sel16 (128 * 597 + i % 128) :=
  digits128 (fun m => sel16 (128 * 597 + m)) _ (i % 128) (Nat.mod_lt _ (by decide))
theorem lit1_598 (i : Nat) : lit1t0_598 i = sel16 (128 * 598 + i % 128) :=
  digits128 (fun m => sel16 (128 * 598 + m)) _ (i % 128) (Nat.mod_lt _ (by decide))
theorem lit1_599 (i : Nat) : lit1t0_599 i = sel16 (128 * 599 + i % 128) :=
  digits128 (fun m => sel16 (128 * 599 + m)) _ (i % 128) (Nat.mod_lt _ (by decide))

end Cert.Conv

end
-- ==== Proof.Table1D.lean ====
/- The leaves of the table `lit1`, entries 76800 to 102399. -/
module

public import proofs.«01_k».proof.Proof.TableDigits

@[expose] public section

noncomputable section

namespace Cert.Conv

open Idealize.ShloMosaic
open Cert.KernelIdeal

set_option maxRecDepth 100000

theorem lit1_600 (i : Nat) : lit1t0_600 i = sel16 (128 * 600 + i % 128) :=
  digits128 (fun m => sel16 (128 * 600 + m)) _ (i % 128) (Nat.mod_lt _ (by decide))
theorem lit1_601 (i : Nat) : lit1t0_601 i = sel16 (128 * 601 + i % 128) :=
  digits128 (fun m => sel16 (128 * 601 + m)) _ (i % 128) (Nat.mod_lt _ (by decide))
theorem lit1_602 (i : Nat) : lit1t0_602 i = sel16 (128 * 602 + i % 128) :=
  digits128 (fun m => sel16 (128 * 602 + m)) _ (i % 128) (Nat.mod_lt _ (by decide))
theorem lit1_603 (i : Nat) : lit1t0_603 i = sel16 (128 * 603 + i % 128) :=
  digits128 (fun m => sel16 (128 * 603 + m)) _ (i % 128) (Nat.mod_lt _ (by decide))
theorem lit1_604 (i : Nat) : lit1t0_604 i = sel16 (128 * 604 + i % 128) :=
  digits128 (fun m => sel16 (128 * 604 + m)) _ (i % 128) (Nat.mod_lt _ (by decide))
theorem lit1_605 (i : Nat) : lit1t0_605 i = sel16 (128 * 605 + i % 128) :=
  digits128 (fun m => sel16 (128 * 605 + m)) _ (i % 128) (Nat.mod_lt _ (by decide))
theorem lit1_606 (i : Nat) : lit1t0_606 i = sel16 (128 * 606 + i % 128) :=
  digits128 (fun m => sel16 (128 * 606 + m)) _ (i % 128) (Nat.mod_lt _ (by decide))
theorem lit1_607 (i : Nat) : lit1t0_607 i = sel16 (128 * 607 + i % 128) :=
  digits128 (fun m => sel16 (128 * 607 + m)) _ (i % 128) (Nat.mod_lt _ (by decide))
theorem lit1_608 (i : Nat) : lit1t0_608 i = sel16 (128 * 608 + i % 128) :=
  digits128 (fun m => sel16 (128 * 608 + m)) _ (i % 128) (Nat.mod_lt _ (by decide))
theorem lit1_609 (i : Nat) : lit1t0_609 i = sel16 (128 * 609 + i % 128) :=
  digits128 (fun m => sel16 (128 * 609 + m)) _ (i % 128) (Nat.mod_lt _ (by decide))
theorem lit1_610 (i : Nat) : lit1t0_610 i = sel16 (128 * 610 + i % 128) :=
  digits128 (fun m => sel16 (128 * 610 + m)) _ (i % 128) (Nat.mod_lt _ (by decide))
theorem lit1_611 (i : Nat) : lit1t0_611 i = sel16 (128 * 611 + i % 128) :=
  digits128 (fun m => sel16 (128 * 611 + m)) _ (i % 128) (Nat.mod_lt _ (by decide))
theorem lit1_612 (i : Nat) : lit1t0_612 i = sel16 (128 * 612 + i % 128) :=
  digits128 (fun m => sel16 (128 * 612 + m)) _ (i % 128) (Nat.mod_lt _ (by decide))
theorem lit1_613 (i : Nat) : lit1t0_613 i = sel16 (128 * 613 + i % 128) :=
  digits128 (fun m => sel16 (128 * 613 + m)) _ (i % 128) (Nat.mod_lt _ (by decide))
theorem lit1_614 (i : Nat) : lit1t0_614 i = sel16 (128 * 614 + i % 128) :=
  digits128 (fun m => sel16 (128 * 614 + m)) _ (i % 128) (Nat.mod_lt _ (by decide))
theorem lit1_615 (i : Nat) : lit1t0_615 i = sel16 (128 * 615 + i % 128) :=
  digits128 (fun m => sel16 (128 * 615 + m)) _ (i % 128) (Nat.mod_lt _ (by decide))
theorem lit1_616 (i : Nat) : lit1t0_616 i = sel16 (128 * 616 + i % 128) :=
  digits128 (fun m => sel16 (128 * 616 + m)) _ (i % 128) (Nat.mod_lt _ (by decide))
theorem lit1_617 (i : Nat) : lit1t0_617 i = sel16 (128 * 617 + i % 128) :=
  digits128 (fun m => sel16 (128 * 617 + m)) _ (i % 128) (Nat.mod_lt _ (by decide))
theorem lit1_618 (i : Nat) : lit1t0_618 i = sel16 (128 * 618 + i % 128) :=
  digits128 (fun m => sel16 (128 * 618 + m)) _ (i % 128) (Nat.mod_lt _ (by decide))
theorem lit1_619 (i : Nat) : lit1t0_619 i = sel16 (128 * 619 + i % 128) :=
  digits128 (fun m => sel16 (128 * 619 + m)) _ (i % 128) (Nat.mod_lt _ (by decide))
theorem lit1_620 (i : Nat) : lit1t0_620 i = sel16 (128 * 620 + i % 128) :=
  digits128 (fun m => sel16 (128 * 620 + m)) _ (i % 128) (Nat.mod_lt _ (by decide))
theorem lit1_621 (i : Nat) : lit1t0_621 i = sel16 (128 * 621 + i % 128) :=
  digits128 (fun m => sel16 (128 * 621 + m)) _ (i % 128) (Nat.mod_lt _ (by decide))
theorem lit1_622 (i : Nat) : lit1t0_622 i = sel16 (128 * 622 + i % 128) :=
  digits128 (fun m => sel16 (128 * 622 + m)) _ (i % 128) (Nat.mod_lt _ (by decide))
theorem lit1_623 (i : Nat) : lit1t0_623 i = sel16 (128 * 623 + i % 128) :=
  digits128 (fun m => sel16 (128 * 623 + m)) _ (i % 128) (Nat.mod_lt _ (by decide))
theorem lit1_624 (i : Nat) : lit1t0_624 i = sel16 (128 * 624 + i % 128) :=
  digits128 (fun m => sel16 (128 * 624 + m)) _ (i % 128) (Nat.mod_lt _ (by decide))
theorem lit1_625 (i : Nat) : lit1t0_625 i = sel16 (128 * 625 + i % 128) :=
  digits128 (fun m => sel16 (128 * 625 + m)) _ (i % 128) (Nat.mod_lt _ (by decide))
theorem lit1_626 (i : Nat) : lit1t0_626 i = sel16 (128 * 626 + i % 128) :=
  digits128 (fun m => sel16 (128 * 626 + m)) _ (i % 128) (Nat.mod_lt _ (by decide))
theorem lit1_627 (i : Nat) : lit1t0_627 i = sel16 (128 * 627 + i % 128) :=
  digits128 (fun m => sel16 (128 * 627 + m)) _ (i % 128) (Nat.mod_lt _ (by decide))
theorem lit1_628 (i : Nat) : lit1t0_628 i = sel16 (128 * 628 + i % 128) :=
  digits128 (fun m => sel16 (128 * 628 + m)) _ (i % 128) (Nat.mod_lt _ (by decide))
theorem lit1_629 (i : Nat) : lit1t0_629 i = sel16 (128 * 629 + i % 128) :=
  digits128 (fun m => sel16 (128 * 629 + m)) _ (i % 128) (Nat.mod_lt _ (by decide))
theorem lit1_630 (i : Nat) : lit1t0_630 i = sel16 (128 * 630 + i % 128) :=
  digits128 (fun m => sel16 (128 * 630 + m)) _ (i % 128) (Nat.mod_lt _ (by decide))
theorem lit1_631 (i : Nat) : lit1t0_631 i = sel16 (128 * 631 + i % 128) :=
  digits128 (fun m => sel16 (128 * 631 + m)) _ (i % 128) (Nat.mod_lt _ (by decide))
theorem lit1_632 (i : Nat) : lit1t0_632 i = sel16 (128 * 632 + i % 128) :=
  digits128 (fun m => sel16 (128 * 632 + m)) _ (i % 128) (Nat.mod_lt _ (by decide))
theorem lit1_633 (i : Nat) : lit1t0_633 i = sel16 (128 * 633 + i % 128) :=
  digits128 (fun m => sel16 (128 * 633 + m)) _ (i % 128) (Nat.mod_lt _ (by decide))
theorem lit1_634 (i : Nat) : lit1t0_634 i = sel16 (128 * 634 + i % 128) :=
  digits128 (fun m => sel16 (128 * 634 + m)) _ (i % 128) (Nat.mod_lt _ (by decide))
theorem lit1_635 (i : Nat) : lit1t0_635 i = sel16 (128 * 635 + i % 128) :=
  digits128 (fun m => sel16 (128 * 635 + m)) _ (i % 128) (Nat.mod_lt _ (by decide))
theorem lit1_636 (i : Nat) : lit1t0_636 i = sel16 (128 * 636 + i % 128) :=
  digits128 (fun m => sel16 (128 * 636 + m)) _ (i % 128) (Nat.mod_lt _ (by decide))
theorem lit1_637 (i : Nat) : lit1t0_637 i = sel16 (128 * 637 + i % 128) :=
  digits128 (fun m => sel16 (128 * 637 + m)) _ (i % 128) (Nat.mod_lt _ (by decide))
theorem lit1_638 (i : Nat) : lit1t0_638 i = sel16 (128 * 638 + i % 128) :=
  digits128 (fun m => sel16 (128 * 638 + m)) _ (i % 128) (Nat.mod_lt _ (by decide))
theorem lit1_639 (i : Nat) : lit1t0_639 i = sel16 (128 * 639 + i % 128) :=
  digits128 (fun m => sel16 (128 * 639 + m)) _ (i % 128) (Nat.mod_lt _ (by decide))
theorem lit1_640 (i : Nat) : lit1t0_640 i = sel16 (128 * 640 + i % 128) :=
  digits128 (fun m => sel16 (128 * 640 + m)) _ (i % 128) (Nat.mod_lt _ (by decide))
theorem lit1_641 (i : Nat) : lit1t0_641 i = sel16 (128 * 641 + i % 128) :=
  digits128 (fun m => sel16 (128 * 641 + m)) _ (i % 128) (Nat.mod_lt _ (by decide))
theorem lit1_642 (i : Nat) : lit1t0_642 i = sel16 (128 * 642 + i % 128) :=
  digits128 (fun m => sel16 (128 * 642 + m)) _ (i % 128) (Nat.mod_lt _ (by decide))
theorem lit1_643 (i : Nat) : lit1t0_643 i = sel16 (128 * 643 + i % 128) :=
  digits128 (fun m => sel16 (128 * 643 + m)) _ (i % 128) (Nat.mod_lt _ (by decide))
theorem lit1_644 (i : Nat) : lit1t0_644 i = sel16 (128 * 644 + i % 128) :=
  digits128 (fun m => sel16 (128 * 644 + m)) _ (i % 128) (Nat.mod_lt _ (by decide))
theorem lit1_645 (i : Nat) : lit1t0_645 i = sel16 (128 * 645 + i % 128) :=
  digits128 (fun m => sel16 (128 * 645 + m)) _ (i % 128) (Nat.mod_lt _ (by decide))
theorem lit1_646 (i : Nat) : lit1t0_646 i = sel16 (128 * 646 + i % 128) :=
  digits128 (fun m => sel16 (128 * 646 + m)) _ (i % 128) (Nat.mod_lt _ (by decide))
theorem lit1_647 (i : Nat) : lit1t0_647 i = sel16 (128 * 647 + i % 128) :=
  digits128 (fun m => sel16 (128 * 647 + m)) _ (i % 128) (Nat.mod_lt _ (by decide))
theorem lit1_648 (i : Nat) : lit1t0_648 i = sel16 (128 * 648 + i % 128) :=
  digits128 (fun m => sel16 (128 * 648 + m)) _ (i % 128) (Nat.mod_lt _ (by decide))
theorem lit1_649 (i : Nat) : lit1t0_649 i = sel16 (128 * 649 + i % 128) :=
  digits128 (fun m => sel16 (128 * 649 + m)) _ (i % 128) (Nat.mod_lt _ (by decide))
theorem lit1_650 (i : Nat) : lit1t0_650 i = sel16 (128 * 650 + i % 128) :=
  digits128 (fun m => sel16 (128 * 650 + m)) _ (i % 128) (Nat.mod_lt _ (by decide))
theorem lit1_651 (i : Nat) : lit1t0_651 i = sel16 (128 * 651 + i % 128) :=
  digits128 (fun m => sel16 (128 * 651 + m)) _ (i % 128) (Nat.mod_lt _ (by decide))
theorem lit1_652 (i : Nat) : lit1t0_652 i = sel16 (128 * 652 + i % 128) :=
  digits128 (fun m => sel16 (128 * 652 + m)) _ (i % 128) (Nat.mod_lt _ (by decide))
theorem lit1_653 (i : Nat) : lit1t0_653 i = sel16 (128 * 653 + i % 128) :=
  digits128 (fun m => sel16 (128 * 653 + m)) _ (i % 128) (Nat.mod_lt _ (by decide))
theorem lit1_654 (i : Nat) : lit1t0_654 i = sel16 (128 * 654 + i % 128) :=
  digits128 (fun m => sel16 (128 * 654 + m)) _ (i % 128) (Nat.mod_lt _ (by decide))
theorem lit1_655 (i : Nat) : lit1t0_655 i = sel16 (128 * 655 + i % 128) :=
  digits128 (fun m => sel16 (128 * 655 + m)) _ (i % 128) (Nat.mod_lt _ (by decide))
theorem lit1_656 (i : Nat) : lit1t0_656 i = sel16 (128 * 656 + i % 128) :=
  digits128 (fun m => sel16 (128 * 656 + m)) _ (i % 128) (Nat.mod_lt _ (by decide))
theorem lit1_657 (i : Nat) : lit1t0_657 i = sel16 (128 * 657 + i % 128) :=
  digits128 (fun m => sel16 (128 * 657 + m)) _ (i % 128) (Nat.mod_lt _ (by decide))
theorem lit1_658 (i : Nat) : lit1t0_658 i = sel16 (128 * 658 + i % 128) :=
  digits128 (fun m => sel16 (128 * 658 + m)) _ (i % 128) (Nat.mod_lt _ (by decide))
theorem lit1_659 (i : Nat) : lit1t0_659 i = sel16 (128 * 659 + i % 128) :=
  digits128 (fun m => sel16 (128 * 659 + m)) _ (i % 128) (Nat.mod_lt _ (by decide))
theorem lit1_660 (i : Nat) : lit1t0_660 i = sel16 (128 * 660 + i % 128) :=
  digits128 (fun m => sel16 (128 * 660 + m)) _ (i % 128) (Nat.mod_lt _ (by decide))
theorem lit1_661 (i : Nat) : lit1t0_661 i = sel16 (128 * 661 + i % 128) :=
  digits128 (fun m => sel16 (128 * 661 + m)) _ (i % 128) (Nat.mod_lt _ (by decide))
theorem lit1_662 (i : Nat) : lit1t0_662 i = sel16 (128 * 662 + i % 128) :=
  digits128 (fun m => sel16 (128 * 662 + m)) _ (i % 128) (Nat.mod_lt _ (by decide))
theorem lit1_663 (i : Nat) : lit1t0_663 i = sel16 (128 * 663 + i % 128) :=
  digits128 (fun m => sel16 (128 * 663 + m)) _ (i % 128) (Nat.mod_lt _ (by decide))
theorem lit1_664 (i : Nat) : lit1t0_664 i = sel16 (128 * 664 + i % 128) :=
  digits128 (fun m => sel16 (128 * 664 + m)) _ (i % 128) (Nat.mod_lt _ (by decide))
theorem lit1_665 (i : Nat) : lit1t0_665 i = sel16 (128 * 665 + i % 128) :=
  digits128 (fun m => sel16 (128 * 665 + m)) _ (i % 128) (Nat.mod_lt _ (by decide))
theorem lit1_666 (i : Nat) : lit1t0_666 i = sel16 (128 * 666 + i % 128) :=
  digits128 (fun m => sel16 (128 * 666 + m)) _ (i % 128) (Nat.mod_lt _ (by decide))
theorem lit1_667 (i : Nat) : lit1t0_667 i = sel16 (128 * 667 + i % 128) :=
  digits128 (fun m => sel16 (128 * 667 + m)) _ (i % 128) (Nat.mod_lt _ (by decide))
theorem lit1_668 (i : Nat) : lit1t0_668 i = sel16 (128 * 668 + i % 128) :=
  digits128 (fun m => sel16 (128 * 668 + m)) _ (i % 128) (Nat.mod_lt _ (by decide))
theorem lit1_669 (i : Nat) : lit1t0_669 i = sel16 (128 * 669 + i % 128) :=
  digits128 (fun m => sel16 (128 * 669 + m)) _ (i % 128) (Nat.mod_lt _ (by decide))
theorem lit1_670 (i : Nat) : lit1t0_670 i = sel16 (128 * 670 + i % 128) :=
  digits128 (fun m => sel16 (128 * 670 + m)) _ (i % 128) (Nat.mod_lt _ (by decide))
theorem lit1_671 (i : Nat) : lit1t0_671 i = sel16 (128 * 671 + i % 128) :=
  digits128 (fun m => sel16 (128 * 671 + m)) _ (i % 128) (Nat.mod_lt _ (by decide))
theorem lit1_672 (i : Nat) : lit1t0_672 i = sel16 (128 * 672 + i % 128) :=
  digits128 (fun m => sel16 (128 * 672 + m)) _ (i % 128) (Nat.mod_lt _ (by decide))
theorem lit1_673 (i : Nat) : lit1t0_673 i = sel16 (128 * 673 + i % 128) :=
  digits128 (fun m => sel16 (128 * 673 + m)) _ (i % 128) (Nat.mod_lt _ (by decide))
theorem lit1_674 (i : Nat) : lit1t0_674 i = sel16 (128 * 674 + i % 128) :=
  digits128 (fun m => sel16 (128 * 674 + m)) _ (i % 128) (Nat.mod_lt _ (by decide))
theorem lit1_675 (i : Nat) : lit1t0_675 i = sel16 (128 * 675 + i % 128) :=
  digits128 (fun m => sel16 (128 * 675 + m)) _ (i % 128) (Nat.mod_lt _ (by decide))
theorem lit1_676 (i : Nat) : lit1t0_676 i = sel16 (128 * 676 + i % 128) :=
  digits128 (fun m => sel16 (128 * 676 + m)) _ (i % 128) (Nat.mod_lt _ (by decide))
theorem lit1_677 (i : Nat) : lit1t0_677 i = sel16 (128 * 677 + i % 128) :=
  digits128 (fun m => sel16 (128 * 677 + m)) _ (i % 128) (Nat.mod_lt _ (by decide))
theorem lit1_678 (i : Nat) : lit1t0_678 i = sel16 (128 * 678 + i % 128) :=
  digits128 (fun m => sel16 (128 * 678 + m)) _ (i % 128) (Nat.mod_lt _ (by decide))
theorem lit1_679 (i : Nat) : lit1t0_679 i = sel16 (128 * 679 + i % 128) :=
  digits128 (fun m => sel16 (128 * 679 + m)) _ (i % 128) (Nat.mod_lt _ (by decide))
theorem lit1_680 (i : Nat) : lit1t0_680 i = sel16 (128 * 680 + i % 128) :=
  digits128 (fun m => sel16 (128 * 680 + m)) _ (i % 128) (Nat.mod_lt _ (by decide))
theorem lit1_681 (i : Nat) : lit1t0_681 i = sel16 (128 * 681 + i % 128) :=
  digits128 (fun m => sel16 (128 * 681 + m)) _ (i % 128) (Nat.mod_lt _ (by decide))
theorem lit1_682 (i : Nat) : lit1t0_682 i = sel16 (128 * 682 + i % 128) :=
  digits128 (fun m => sel16 (128 * 682 + m)) _ (i % 128) (Nat.mod_lt _ (by decide))
theorem lit1_683 (i : Nat) : lit1t0_683 i = sel16 (128 * 683 + i % 128) :=
  digits128 (fun m => sel16 (128 * 683 + m)) _ (i % 128) (Nat.mod_lt _ (by decide))
theorem lit1_684 (i : Nat) : lit1t0_684 i = sel16 (128 * 684 + i % 128) :=
  digits128 (fun m => sel16 (128 * 684 + m)) _ (i % 128) (Nat.mod_lt _ (by decide))
theorem lit1_685 (i : Nat) : lit1t0_685 i = sel16 (128 * 685 + i % 128) :=
  digits128 (fun m => sel16 (128 * 685 + m)) _ (i % 128) (Nat.mod_lt _ (by decide))
theorem lit1_686 (i : Nat) : lit1t0_686 i = sel16 (128 * 686 + i % 128) :=
  digits128 (fun m => sel16 (128 * 686 + m)) _ (i % 128) (Nat.mod_lt _ (by decide))
theorem lit1_687 (i : Nat) : lit1t0_687 i = sel16 (128 * 687 + i % 128) :=
  digits128 (fun m => sel16 (128 * 687 + m)) _ (i % 128) (Nat.mod_lt _ (by decide))
theorem lit1_688 (i : Nat) : lit1t0_688 i = sel16 (128 * 688 + i % 128) :=
  digits128 (fun m => sel16 (128 * 688 + m)) _ (i % 128) (Nat.mod_lt _ (by decide))
theorem lit1_689 (i : Nat) : lit1t0_689 i = sel16 (128 * 689 + i % 128) :=
  digits128 (fun m => sel16 (128 * 689 + m)) _ (i % 128) (Nat.mod_lt _ (by decide))
theorem lit1_690 (i : Nat) : lit1t0_690 i = sel16 (128 * 690 + i % 128) :=
  digits128 (fun m => sel16 (128 * 690 + m)) _ (i % 128) (Nat.mod_lt _ (by decide))
theorem lit1_691 (i : Nat) : lit1t0_691 i = sel16 (128 * 691 + i % 128) :=
  digits128 (fun m => sel16 (128 * 691 + m)) _ (i % 128) (Nat.mod_lt _ (by decide))
theorem lit1_692 (i : Nat) : lit1t0_692 i = sel16 (128 * 692 + i % 128) :=
  digits128 (fun m => sel16 (128 * 692 + m)) _ (i % 128) (Nat.mod_lt _ (by decide))
theorem lit1_693 (i : Nat) : lit1t0_693 i = sel16 (128 * 693 + i % 128) :=
  digits128 (fun m => sel16 (128 * 693 + m)) _ (i % 128) (Nat.mod_lt _ (by decide))
theorem lit1_694 (i : Nat) : lit1t0_694 i = sel16 (128 * 694 + i % 128) :=
  digits128 (fun m => sel16 (128 * 694 + m)) _ (i % 128) (Nat.mod_lt _ (by decide))
theorem lit1_695 (i : Nat) : lit1t0_695 i = sel16 (128 * 695 + i % 128) :=
  digits128 (fun m => sel16 (128 * 695 + m)) _ (i % 128) (Nat.mod_lt _ (by decide))
theorem lit1_696 (i : Nat) : lit1t0_696 i = sel16 (128 * 696 + i % 128) :=
  digits128 (fun m => sel16 (128 * 696 + m)) _ (i % 128) (Nat.mod_lt _ (by decide))
theorem lit1_697 (i : Nat) : lit1t0_697 i = sel16 (128 * 697 + i % 128) :=
  digits128 (fun m => sel16 (128 * 697 + m)) _ (i % 128) (Nat.mod_lt _ (by decide))
theorem lit1_698 (i : Nat) : lit1t0_698 i = sel16 (128 * 698 + i % 128) :=
  digits128 (fun m => sel16 (128 * 698 + m)) _ (i % 128) (Nat.mod_lt _ (by decide))
theorem lit1_699 (i : Nat) : lit1t0_699 i = sel16 (128 * 699 + i % 128) :=
  digits128 (fun m => sel16 (128 * 699 + m)) _ (i % 128) (Nat.mod_lt _ (by decide))
theorem lit1_700 (i : Nat) : lit1t0_700 i = sel16 (128 * 700 + i % 128) :=
  digits128 (fun m => sel16 (128 * 700 + m)) _ (i % 128) (Nat.mod_lt _ (by decide))
theorem lit1_701 (i : Nat) : lit1t0_701 i = sel16 (128 * 701 + i % 128) :=
  digits128 (fun m => sel16 (128 * 701 + m)) _ (i % 128) (Nat.mod_lt _ (by decide))
theorem lit1_702 (i : Nat) : lit1t0_702 i = sel16 (128 * 702 + i % 128) :=
  digits128 (fun m => sel16 (128 * 702 + m)) _ (i % 128) (Nat.mod_lt _ (by decide))
theorem lit1_703 (i : Nat) : lit1t0_703 i = sel16 (128 * 703 + i % 128) :=
  digits128 (fun m => sel16 (128 * 703 + m)) _ (i % 128) (Nat.mod_lt _ (by decide))
theorem lit1_704 (i : Nat) : lit1t0_704 i = sel16 (128 * 704 + i % 128) :=
  digits128 (fun m => sel16 (128 * 704 + m)) _ (i % 128) (Nat.mod_lt _ (by decide))
theorem lit1_705 (i : Nat) : lit1t0_705 i = sel16 (128 * 705 + i % 128) :=
  digits128 (fun m => sel16 (128 * 705 + m)) _ (i % 128) (Nat.mod_lt _ (by decide))
theorem lit1_706 (i : Nat) : lit1t0_706 i = sel16 (128 * 706 + i % 128) :=
  digits128 (fun m => sel16 (128 * 706 + m)) _ (i % 128) (Nat.mod_lt _ (by decide))
theorem lit1_707 (i : Nat) : lit1t0_707 i = sel16 (128 * 707 + i % 128) :=
  digits128 (fun m => sel16 (128 * 707 + m)) _ (i % 128) (Nat.mod_lt _ (by decide))
theorem lit1_708 (i : Nat) : lit1t0_708 i = sel16 (128 * 708 + i % 128) :=
  digits128 (fun m => sel16 (128 * 708 + m)) _ (i % 128) (Nat.mod_lt _ (by decide))
theorem lit1_709 (i : Nat) : lit1t0_709 i = sel16 (128 * 709 + i % 128) :=
  digits128 (fun m => sel16 (128 * 709 + m)) _ (i % 128) (Nat.mod_lt _ (by decide))
theorem lit1_710 (i : Nat) : lit1t0_710 i = sel16 (128 * 710 + i % 128) :=
  digits128 (fun m => sel16 (128 * 710 + m)) _ (i % 128) (Nat.mod_lt _ (by decide))
theorem lit1_711 (i : Nat) : lit1t0_711 i = sel16 (128 * 711 + i % 128) :=
  digits128 (fun m => sel16 (128 * 711 + m)) _ (i % 128) (Nat.mod_lt _ (by decide))
theorem lit1_712 (i : Nat) : lit1t0_712 i = sel16 (128 * 712 + i % 128) :=
  digits128 (fun m => sel16 (128 * 712 + m)) _ (i % 128) (Nat.mod_lt _ (by decide))
theorem lit1_713 (i : Nat) : lit1t0_713 i = sel16 (128 * 713 + i % 128) :=
  digits128 (fun m => sel16 (128 * 713 + m)) _ (i % 128) (Nat.mod_lt _ (by decide))
theorem lit1_714 (i : Nat) : lit1t0_714 i = sel16 (128 * 714 + i % 128) :=
  digits128 (fun m => sel16 (128 * 714 + m)) _ (i % 128) (Nat.mod_lt _ (by decide))
theorem lit1_715 (i : Nat) : lit1t0_715 i = sel16 (128 * 715 + i % 128) :=
  digits128 (fun m => sel16 (128 * 715 + m)) _ (i % 128) (Nat.mod_lt _ (by decide))
theorem lit1_716 (i : Nat) : lit1t0_716 i = sel16 (128 * 716 + i % 128) :=
  digits128 (fun m => sel16 (128 * 716 + m)) _ (i % 128) (Nat.mod_lt _ (by decide))
theorem lit1_717 (i : Nat) : lit1t0_717 i = sel16 (128 * 717 + i % 128) :=
  digits128 (fun m => sel16 (128 * 717 + m)) _ (i % 128) (Nat.mod_lt _ (by decide))
theorem lit1_718 (i : Nat) : lit1t0_718 i = sel16 (128 * 718 + i % 128) :=
  digits128 (fun m => sel16 (128 * 718 + m)) _ (i % 128) (Nat.mod_lt _ (by decide))
theorem lit1_719 (i : Nat) : lit1t0_719 i = sel16 (128 * 719 + i % 128) :=
  digits128 (fun m => sel16 (128 * 719 + m)) _ (i % 128) (Nat.mod_lt _ (by decide))
theorem lit1_720 (i : Nat) : lit1t0_720 i = sel16 (128 * 720 + i % 128) :=
  digits128 (fun m => sel16 (128 * 720 + m)) _ (i % 128) (Nat.mod_lt _ (by decide))
theorem lit1_721 (i : Nat) : lit1t0_721 i = sel16 (128 * 721 + i % 128) :=
  digits128 (fun m => sel16 (128 * 721 + m)) _ (i % 128) (Nat.mod_lt _ (by decide))
theorem lit1_722 (i : Nat) : lit1t0_722 i = sel16 (128 * 722 + i % 128) :=
  digits128 (fun m => sel16 (128 * 722 + m)) _ (i % 128) (Nat.mod_lt _ (by decide))
theorem lit1_723 (i : Nat) : lit1t0_723 i = sel16 (128 * 723 + i % 128) :=
  digits128 (fun m => sel16 (128 * 723 + m)) _ (i % 128) (Nat.mod_lt _ (by decide))
theorem lit1_724 (i : Nat) : lit1t0_724 i = sel16 (128 * 724 + i % 128) :=
  digits128 (fun m => sel16 (128 * 724 + m)) _ (i % 128) (Nat.mod_lt _ (by decide))
theorem lit1_725 (i : Nat) : lit1t0_725 i = sel16 (128 * 725 + i % 128) :=
  digits128 (fun m => sel16 (128 * 725 + m)) _ (i % 128) (Nat.mod_lt _ (by decide))
theorem lit1_726 (i : Nat) : lit1t0_726 i = sel16 (128 * 726 + i % 128) :=
  digits128 (fun m => sel16 (128 * 726 + m)) _ (i % 128) (Nat.mod_lt _ (by decide))
theorem lit1_727 (i : Nat) : lit1t0_727 i = sel16 (128 * 727 + i % 128) :=
  digits128 (fun m => sel16 (128 * 727 + m)) _ (i % 128) (Nat.mod_lt _ (by decide))
theorem lit1_728 (i : Nat) : lit1t0_728 i = sel16 (128 * 728 + i % 128) :=
  digits128 (fun m => sel16 (128 * 728 + m)) _ (i % 128) (Nat.mod_lt _ (by decide))
theorem lit1_729 (i : Nat) : lit1t0_729 i = sel16 (128 * 729 + i % 128) :=
  digits128 (fun m => sel16 (128 * 729 + m)) _ (i % 128) (Nat.mod_lt _ (by decide))
theorem lit1_730 (i : Nat) : lit1t0_730 i = sel16 (128 * 730 + i % 128) :=
  digits128 (fun m => sel16 (128 * 730 + m)) _ (i % 128) (Nat.mod_lt _ (by decide))
theorem lit1_731 (i : Nat) : lit1t0_731 i = sel16 (128 * 731 + i % 128) :=
  digits128 (fun m => sel16 (128 * 731 + m)) _ (i % 128) (Nat.mod_lt _ (by decide))
theorem lit1_732 (i : Nat) : lit1t0_732 i = sel16 (128 * 732 + i % 128) :=
  digits128 (fun m => sel16 (128 * 732 + m)) _ (i % 128) (Nat.mod_lt _ (by decide))
theorem lit1_733 (i : Nat) : lit1t0_733 i = sel16 (128 * 733 + i % 128) :=
  digits128 (fun m => sel16 (128 * 733 + m)) _ (i % 128) (Nat.mod_lt _ (by decide))
theorem lit1_734 (i : Nat) : lit1t0_734 i = sel16 (128 * 734 + i % 128) :=
  digits128 (fun m => sel16 (128 * 734 + m)) _ (i % 128) (Nat.mod_lt _ (by decide))
theorem lit1_735 (i : Nat) : lit1t0_735 i = sel16 (128 * 735 + i % 128) :=
  digits128 (fun m => sel16 (128 * 735 + m)) _ (i % 128) (Nat.mod_lt _ (by decide))
theorem lit1_736 (i : Nat) : lit1t0_736 i = sel16 (128 * 736 + i % 128) :=
  digits128 (fun m => sel16 (128 * 736 + m)) _ (i % 128) (Nat.mod_lt _ (by decide))
theorem lit1_737 (i : Nat) : lit1t0_737 i = sel16 (128 * 737 + i % 128) :=
  digits128 (fun m => sel16 (128 * 737 + m)) _ (i % 128) (Nat.mod_lt _ (by decide))
theorem lit1_738 (i : Nat) : lit1t0_738 i = sel16 (128 * 738 + i % 128) :=
  digits128 (fun m => sel16 (128 * 738 + m)) _ (i % 128) (Nat.mod_lt _ (by decide))
theorem lit1_739 (i : Nat) : lit1t0_739 i = sel16 (128 * 739 + i % 128) :=
  digits128 (fun m => sel16 (128 * 739 + m)) _ (i % 128) (Nat.mod_lt _ (by decide))
theorem lit1_740 (i : Nat) : lit1t0_740 i = sel16 (128 * 740 + i % 128) :=
  digits128 (fun m => sel16 (128 * 740 + m)) _ (i % 128) (Nat.mod_lt _ (by decide))
theorem lit1_741 (i : Nat) : lit1t0_741 i = sel16 (128 * 741 + i % 128) :=
  digits128 (fun m => sel16 (128 * 741 + m)) _ (i % 128) (Nat.mod_lt _ (by decide))
theorem lit1_742 (i : Nat) : lit1t0_742 i = sel16 (128 * 742 + i % 128) :=
  digits128 (fun m => sel16 (128 * 742 + m)) _ (i % 128) (Nat.mod_lt _ (by decide))
theorem lit1_743 (i : Nat) : lit1t0_743 i = sel16 (128 * 743 + i % 128) :=
  digits128 (fun m => sel16 (128 * 743 + m)) _ (i % 128) (Nat.mod_lt _ (by decide))
theorem lit1_744 (i : Nat) : lit1t0_744 i = sel16 (128 * 744 + i % 128) :=
  digits128 (fun m => sel16 (128 * 744 + m)) _ (i % 128) (Nat.mod_lt _ (by decide))
theorem lit1_745 (i : Nat) : lit1t0_745 i = sel16 (128 * 745 + i % 128) :=
  digits128 (fun m => sel16 (128 * 745 + m)) _ (i % 128) (Nat.mod_lt _ (by decide))
theorem lit1_746 (i : Nat) : lit1t0_746 i = sel16 (128 * 746 + i % 128) :=
  digits128 (fun m => sel16 (128 * 746 + m)) _ (i % 128) (Nat.mod_lt _ (by decide))
theorem lit1_747 (i : Nat) : lit1t0_747 i = sel16 (128 * 747 + i % 128) :=
  digits128 (fun m => sel16 (128 * 747 + m)) _ (i % 128) (Nat.mod_lt _ (by decide))
theorem lit1_748 (i : Nat) : lit1t0_748 i = sel16 (128 * 748 + i % 128) :=
  digits128 (fun m => sel16 (128 * 748 + m)) _ (i % 128) (Nat.mod_lt _ (by decide))
theorem lit1_749 (i : Nat) : lit1t0_749 i = sel16 (128 * 749 + i % 128) :=
  digits128 (fun m => sel16 (128 * 749 + m)) _ (i % 128) (Nat.mod_lt _ (by decide))
theorem lit1_750 (i : Nat) : lit1t0_750 i = sel16 (128 * 750 + i % 128) :=
  digits128 (fun m => sel16 (128 * 750 + m)) _ (i % 128) (Nat.mod_lt _ (by decide))
theorem lit1_751 (i : Nat) : lit1t0_751 i = sel16 (128 * 751 + i % 128) :=
  digits128 (fun m => sel16 (128 * 751 + m)) _ (i % 128) (Nat.mod_lt _ (by decide))
theorem lit1_752 (i : Nat) : lit1t0_752 i = sel16 (128 * 752 + i % 128) :=
  digits128 (fun m => sel16 (128 * 752 + m)) _ (i % 128) (Nat.mod_lt _ (by decide))
theorem lit1_753 (i : Nat) : lit1t0_753 i = sel16 (128 * 753 + i % 128) :=
  digits128 (fun m => sel16 (128 * 753 + m)) _ (i % 128) (Nat.mod_lt _ (by decide))
theorem lit1_754 (i : Nat) : lit1t0_754 i = sel16 (128 * 754 + i % 128) :=
  digits128 (fun m => sel16 (128 * 754 + m)) _ (i % 128) (Nat.mod_lt _ (by decide))
theorem lit1_755 (i : Nat) : lit1t0_755 i = sel16 (128 * 755 + i % 128) :=
  digits128 (fun m => sel16 (128 * 755 + m)) _ (i % 128) (Nat.mod_lt _ (by decide))
theorem lit1_756 (i : Nat) : lit1t0_756 i = sel16 (128 * 756 + i % 128) :=
  digits128 (fun m => sel16 (128 * 756 + m)) _ (i % 128) (Nat.mod_lt _ (by decide))
theorem lit1_757 (i : Nat) : lit1t0_757 i = sel16 (128 * 757 + i % 128) :=
  digits128 (fun m => sel16 (128 * 757 + m)) _ (i % 128) (Nat.mod_lt _ (by decide))
theorem lit1_758 (i : Nat) : lit1t0_758 i = sel16 (128 * 758 + i % 128) :=
  digits128 (fun m => sel16 (128 * 758 + m)) _ (i % 128) (Nat.mod_lt _ (by decide))
theorem lit1_759 (i : Nat) : lit1t0_759 i = sel16 (128 * 759 + i % 128) :=
  digits128 (fun m => sel16 (128 * 759 + m)) _ (i % 128) (Nat.mod_lt _ (by decide))
theorem lit1_760 (i : Nat) : lit1t0_760 i = sel16 (128 * 760 + i % 128) :=
  digits128 (fun m => sel16 (128 * 760 + m)) _ (i % 128) (Nat.mod_lt _ (by decide))
theorem lit1_761 (i : Nat) : lit1t0_761 i = sel16 (128 * 761 + i % 128) :=
  digits128 (fun m => sel16 (128 * 761 + m)) _ (i % 128) (Nat.mod_lt _ (by decide))
theorem lit1_762 (i : Nat) : lit1t0_762 i = sel16 (128 * 762 + i % 128) :=
  digits128 (fun m => sel16 (128 * 762 + m)) _ (i % 128) (Nat.mod_lt _ (by decide))
theorem lit1_763 (i : Nat) : lit1t0_763 i = sel16 (128 * 763 + i % 128) :=
  digits128 (fun m => sel16 (128 * 763 + m)) _ (i % 128) (Nat.mod_lt _ (by decide))
theorem lit1_764 (i : Nat) : lit1t0_764 i = sel16 (128 * 764 + i % 128) :=
  digits128 (fun m => sel16 (128 * 764 + m)) _ (i % 128) (Nat.mod_lt _ (by decide))
theorem lit1_765 (i : Nat) : lit1t0_765 i = sel16 (128 * 765 + i % 128) :=
  digits128 (fun m => sel16 (128 * 765 + m)) _ (i % 128) (Nat.mod_lt _ (by decide))
theorem lit1_766 (i : Nat) : lit1t0_766 i = sel16 (128 * 766 + i % 128) :=
  digits128 (fun m => sel16 (128 * 766 + m)) _ (i % 128) (Nat.mod_lt _ (by decide))
theorem lit1_767 (i : Nat) : lit1t0_767 i = sel16 (128 * 767 + i % 128) :=
  digits128 (fun m => sel16 (128 * 767 + m)) _ (i % 128) (Nat.mod_lt _ (by decide))
theorem lit1_768 (i : Nat) : lit1t0_768 i = sel16 (128 * 768 + i % 128) :=
  digits128 (fun m => sel16 (128 * 768 + m)) _ (i % 128) (Nat.mod_lt _ (by decide))
theorem lit1_769 (i : Nat) : lit1t0_769 i = sel16 (128 * 769 + i % 128) :=
  digits128 (fun m => sel16 (128 * 769 + m)) _ (i % 128) (Nat.mod_lt _ (by decide))
theorem lit1_770 (i : Nat) : lit1t0_770 i = sel16 (128 * 770 + i % 128) :=
  digits128 (fun m => sel16 (128 * 770 + m)) _ (i % 128) (Nat.mod_lt _ (by decide))
theorem lit1_771 (i : Nat) : lit1t0_771 i = sel16 (128 * 771 + i % 128) :=
  digits128 (fun m => sel16 (128 * 771 + m)) _ (i % 128) (Nat.mod_lt _ (by decide))
theorem lit1_772 (i : Nat) : lit1t0_772 i = sel16 (128 * 772 + i % 128) :=
  digits128 (fun m => sel16 (128 * 772 + m)) _ (i % 128) (Nat.mod_lt _ (by decide))
theorem lit1_773 (i : Nat) : lit1t0_773 i = sel16 (128 * 773 + i % 128) :=
  digits128 (fun m => sel16 (128 * 773 + m)) _ (i % 128) (Nat.mod_lt _ (by decide))
theorem lit1_774 (i : Nat) : lit1t0_774 i = sel16 (128 * 774 + i % 128) :=
  digits128 (fun m => sel16 (128 * 774 + m)) _ (i % 128) (Nat.mod_lt _ (by decide))
theorem lit1_775 (i : Nat) : lit1t0_775 i = sel16 (128 * 775 + i % 128) :=
  digits128 (fun m => sel16 (128 * 775 + m)) _ (i % 128) (Nat.mod_lt _ (by decide))
theorem lit1_776 (i : Nat) : lit1t0_776 i = sel16 (128 * 776 + i % 128) :=
  digits128 (fun m => sel16 (128 * 776 + m)) _ (i % 128) (Nat.mod_lt _ (by decide))
theorem lit1_777 (i : Nat) : lit1t0_777 i = sel16 (128 * 777 + i % 128) :=
  digits128 (fun m => sel16 (128 * 777 + m)) _ (i % 128) (Nat.mod_lt _ (by decide))
theorem lit1_778 (i : Nat) : lit1t0_778 i = sel16 (128 * 778 + i % 128) :=
  digits128 (fun m => sel16 (128 * 778 + m)) _ (i % 128) (Nat.mod_lt _ (by decide))
theorem lit1_779 (i : Nat) : lit1t0_779 i = sel16 (128 * 779 + i % 128) :=
  digits128 (fun m => sel16 (128 * 779 + m)) _ (i % 128) (Nat.mod_lt _ (by decide))
theorem lit1_780 (i : Nat) : lit1t0_780 i = sel16 (128 * 780 + i % 128) :=
  digits128 (fun m => sel16 (128 * 780 + m)) _ (i % 128) (Nat.mod_lt _ (by decide))
theorem lit1_781 (i : Nat) : lit1t0_781 i = sel16 (128 * 781 + i % 128) :=
  digits128 (fun m => sel16 (128 * 781 + m)) _ (i % 128) (Nat.mod_lt _ (by decide))
theorem lit1_782 (i : Nat) : lit1t0_782 i = sel16 (128 * 782 + i % 128) :=
  digits128 (fun m => sel16 (128 * 782 + m)) _ (i % 128) (Nat.mod_lt _ (by decide))
theorem lit1_783 (i : Nat) : lit1t0_783 i = sel16 (128 * 783 + i % 128) :=
  digits128 (fun m => sel16 (128 * 783 + m)) _ (i % 128) (Nat.mod_lt _ (by decide))
theorem lit1_784 (i : Nat) : lit1t0_784 i = sel16 (128 * 784 + i % 128) :=
  digits128 (fun m => sel16 (128 * 784 + m)) _ (i % 128) (Nat.mod_lt _ (by decide))
theorem lit1_785 (i : Nat) : lit1t0_785 i = sel16 (128 * 785 + i % 128) :=
  digits128 (fun m => sel16 (128 * 785 + m)) _ (i % 128) (Nat.mod_lt _ (by decide))
theorem lit1_786 (i : Nat) : lit1t0_786 i = sel16 (128 * 786 + i % 128) :=
  digits128 (fun m => sel16 (128 * 786 + m)) _ (i % 128) (Nat.mod_lt _ (by decide))
theorem lit1_787 (i : Nat) : lit1t0_787 i = sel16 (128 * 787 + i % 128) :=
  digits128 (fun m => sel16 (128 * 787 + m)) _ (i % 128) (Nat.mod_lt _ (by decide))
theorem lit1_788 (i : Nat) : lit1t0_788 i = sel16 (128 * 788 + i % 128) :=
  digits128 (fun m => sel16 (128 * 788 + m)) _ (i % 128) (Nat.mod_lt _ (by decide))
theorem lit1_789 (i : Nat) : lit1t0_789 i = sel16 (128 * 789 + i % 128) :=
  digits128 (fun m => sel16 (128 * 789 + m)) _ (i % 128) (Nat.mod_lt _ (by decide))
theorem lit1_790 (i : Nat) : lit1t0_790 i = sel16 (128 * 790 + i % 128) :=
  digits128 (fun m => sel16 (128 * 790 + m)) _ (i % 128) (Nat.mod_lt _ (by decide))
theorem lit1_791 (i : Nat) : lit1t0_791 i = sel16 (128 * 791 + i % 128) :=
  digits128 (fun m => sel16 (128 * 791 + m)) _ (i % 128) (Nat.mod_lt _ (by decide))
theorem lit1_792 (i : Nat) : lit1t0_792 i = sel16 (128 * 792 + i % 128) :=
  digits128 (fun m => sel16 (128 * 792 + m)) _ (i % 128) (Nat.mod_lt _ (by decide))
theorem lit1_793 (i : Nat) : lit1t0_793 i = sel16 (128 * 793 + i % 128) :=
  digits128 (fun m => sel16 (128 * 793 + m)) _ (i % 128) (Nat.mod_lt _ (by decide))
theorem lit1_794 (i : Nat) : lit1t0_794 i = sel16 (128 * 794 + i % 128) :=
  digits128 (fun m => sel16 (128 * 794 + m)) _ (i % 128) (Nat.mod_lt _ (by decide))
theorem lit1_795 (i : Nat) : lit1t0_795 i = sel16 (128 * 795 + i % 128) :=
  digits128 (fun m => sel16 (128 * 795 + m)) _ (i % 128) (Nat.mod_lt _ (by decide))
theorem lit1_796 (i : Nat) : lit1t0_796 i = sel16 (128 * 796 + i % 128) :=
  digits128 (fun m => sel16 (128 * 796 + m)) _ (i % 128) (Nat.mod_lt _ (by decide))
theorem lit1_797 (i : Nat) : lit1t0_797 i = sel16 (128 * 797 + i % 128) :=
  digits128 (fun m => sel16 (128 * 797 + m)) _ (i % 128) (Nat.mod_lt _ (by decide))
theorem lit1_798 (i : Nat) : lit1t0_798 i = sel16 (128 * 798 + i % 128) :=
  digits128 (fun m => sel16 (128 * 798 + m)) _ (i % 128) (Nat.mod_lt _ (by decide))
theorem lit1_799 (i : Nat) : lit1t0_799 i = sel16 (128 * 799 + i % 128) :=
  digits128 (fun m => sel16 (128 * 799 + m)) _ (i % 128) (Nat.mod_lt _ (by decide))

end Cert.Conv

end
-- ==== Proof.Tables.lean ====
/- The two printed tables are the selectors: entry `(r, b)` is one where `r / 16 = b` and zero elsewhere. -/
module

public import proofs.«01_k».proof.Proof.Table0A
public import proofs.«01_k».proof.Proof.Table0B
public import proofs.«01_k».proof.Proof.Table0C
public import proofs.«01_k».proof.Proof.Table0D
public import proofs.«01_k».proof.Proof.Table1A
public import proofs.«01_k».proof.Proof.Table1B
public import proofs.«01_k».proof.Proof.Table1C
public import proofs.«01_k».proof.Proof.Table1D

@[expose] public section

noncomputable section

namespace Cert.Conv

open Idealize.ShloMosaic
open Cert.KernelIdeal

set_option maxRecDepth 100000

theorem lit0_level_0 (i : Nat) : lit0t1_0 i = sel32 (128 * (128 * 0 + i / 128 % 128) + i % 128) := by
  unfold lit0t1_0
  have hd : i / 128 % 128 < 128 := Nat.mod_lt _ (by decide)
  generalize i / 128 % 128 = j at hd ⊢
  match j, hd with
  | 0, _ => exact lit0_0 i
  | 1, _ => exact lit0_1 i
  | 2, _ => exact lit0_2 i
  | 3, _ => exact lit0_3 i
  | 4, _ => exact lit0_4 i
  | 5, _ => exact lit0_5 i
  | 6, _ => exact lit0_6 i
  | 7, _ => exact lit0_7 i
  | 8, _ => exact lit0_8 i
  | 9, _ => exact lit0_9 i
  | 10, _ => exact lit0_10 i
  | 11, _ => exact lit0_11 i
  | 12, _ => exact lit0_12 i
  | 13, _ => exact lit0_13 i
  | 14, _ => exact lit0_14 i
  | 15, _ => exact lit0_15 i
  | 16, _ => exact lit0_16 i
  | 17, _ => exact lit0_17 i
  | 18, _ => exact lit0_18 i
  | 19, _ => exact lit0_19 i
  | 20, _ => exact lit0_20 i
  | 21, _ => exact lit0_21 i
  | 22, _ => exact lit0_22 i
  | 23, _ => exact lit0_23 i
  | 24, _ => exact lit0_24 i
  | 25, _ => exact lit0_25 i
  | 26, _ => exact lit0_26 i
  | 27, _ => exact lit0_27 i
  | 28, _ => exact lit0_28 i
  | 29, _ => exact lit0_29 i
  | 30, _ => exact lit0_30 i
  | 31, _ => exact lit0_31 i
  | 32, _ => exact lit0_32 i
  | 33, _ => exact lit0_33 i
  | 34, _ => exact lit0_34 i
  | 35, _ => exact lit0_35 i
  | 36, _ => exact lit0_36 i
  | 37, _ => exact lit0_37 i
  | 38, _ => exact lit0_38 i
  | 39, _ => exact lit0_39 i
  | 40, _ => exact lit0_40 i
  | 41, _ => exact lit0_41 i
  | 42, _ => exact lit0_42 i
  | 43, _ => exact lit0_43 i
  | 44, _ => exact lit0_44 i
  | 45, _ => exact lit0_45 i
  | 46, _ => exact lit0_46 i
  | 47, _ => exact lit0_47 i
  | 48, _ => exact lit0_48 i
  | 49, _ => exact lit0_49 i
  | 50, _ => exact lit0_50 i
  | 51, _ => exact lit0_51 i
  | 52, _ => exact lit0_52 i
  | 53, _ => exact lit0_53 i
  | 54, _ => exact lit0_54 i
  | 55, _ => exact lit0_55 i
  | 56, _ => exact lit0_56 i
  | 57, _ => exact lit0_57 i
  | 58, _ => exact lit0_58 i
  | 59, _ => exact lit0_59 i
  | 60, _ => exact lit0_60 i
  | 61, _ => exact lit0_61 i
  | 62, _ => exact lit0_62 i
  | 63, _ => exact lit0_63 i
  | 64, _ => exact lit0_64 i
  | 65, _ => exact lit0_65 i
  | 66, _ => exact lit0_66 i
  | 67, _ => exact lit0_67 i
  | 68, _ => exact lit0_68 i
  | 69, _ => exact lit0_69 i
  | 70, _ => exact lit0_70 i
  | 71, _ => exact lit0_71 i
  | 72, _ => exact lit0_72 i
  | 73, _ => exact lit0_73 i
  | 74, _ => exact lit0_74 i
  | 75, _ => exact lit0_75 i
  | 76, _ => exact lit0_76 i
  | 77, _ => exact lit0_77 i
  | 78, _ => exact lit0_78 i
  | 79, _ => exact lit0_79 i
  | 80, _ => exact lit0_80 i
  | 81, _ => exact lit0_81 i
  | 82, _ => exact lit0_82 i
  | 83, _ => exact lit0_83 i
  | 84, _ => exact lit0_84 i
  | 85, _ => exact lit0_85 i
  | 86, _ => exact lit0_86 i
  | 87, _ => exact lit0_87 i
  | 88, _ => exact lit0_88 i
  | 89, _ => exact lit0_89 i
  | 90, _ => exact lit0_90 i
  | 91, _ => exact lit0_91 i
  | 92, _ => exact lit0_92 i
  | 93, _ => exact lit0_93 i
  | 94, _ => exact lit0_94 i
  | 95, _ => exact lit0_95 i
  | 96, _ => exact lit0_96 i
  | 97, _ => exact lit0_97 i
  | 98, _ => exact lit0_98 i
  | 99, _ => exact lit0_99 i
  | 100, _ => exact lit0_100 i
  | 101, _ => exact lit0_101 i
  | 102, _ => exact lit0_102 i
  | 103, _ => exact lit0_103 i
  | 104, _ => exact lit0_104 i
  | 105, _ => exact lit0_105 i
  | 106, _ => exact lit0_106 i
  | 107, _ => exact lit0_107 i
  | 108, _ => exact lit0_108 i
  | 109, _ => exact lit0_109 i
  | 110, _ => exact lit0_110 i
  | 111, _ => exact lit0_111 i
  | 112, _ => exact lit0_112 i
  | 113, _ => exact lit0_113 i
  | 114, _ => exact lit0_114 i
  | 115, _ => exact lit0_115 i
  | 116, _ => exact lit0_116 i
  | 117, _ => exact lit0_117 i
  | 118, _ => exact lit0_118 i
  | 119, _ => exact lit0_119 i
  | 120, _ => exact lit0_120 i
  | 121, _ => exact lit0_121 i
  | 122, _ => exact lit0_122 i
  | 123, _ => exact lit0_123 i
  | 124, _ => exact lit0_124 i
  | 125, _ => exact lit0_125 i
  | 126, _ => exact lit0_126 i
  | 127, _ => exact lit0_127 i
  | _ + 128, hd => exact absurd hd (by omega)

theorem lit0_level_1 (i : Nat) : lit0t1_1 i = sel32 (128 * (128 * 1 + i / 128 % 128) + i % 128) := by
  unfold lit0t1_1
  have hd : i / 128 % 128 < 128 := Nat.mod_lt _ (by decide)
  generalize i / 128 % 128 = j at hd ⊢
  match j, hd with
  | 0, _ => exact lit0_128 i
  | 1, _ => exact lit0_129 i
  | 2, _ => exact lit0_130 i
  | 3, _ => exact lit0_131 i
  | 4, _ => exact lit0_132 i
  | 5, _ => exact lit0_133 i
  | 6, _ => exact lit0_134 i
  | 7, _ => exact lit0_135 i
  | 8, _ => exact lit0_136 i
  | 9, _ => exact lit0_137 i
  | 10, _ => exact lit0_138 i
  | 11, _ => exact lit0_139 i
  | 12, _ => exact lit0_140 i
  | 13, _ => exact lit0_141 i
  | 14, _ => exact lit0_142 i
  | 15, _ => exact lit0_143 i
  | 16, _ => exact lit0_144 i
  | 17, _ => exact lit0_145 i
  | 18, _ => exact lit0_146 i
  | 19, _ => exact lit0_147 i
  | 20, _ => exact lit0_148 i
  | 21, _ => exact lit0_149 i
  | 22, _ => exact lit0_150 i
  | 23, _ => exact lit0_151 i
  | 24, _ => exact lit0_152 i
  | 25, _ => exact lit0_153 i
  | 26, _ => exact lit0_154 i
  | 27, _ => exact lit0_155 i
  | 28, _ => exact lit0_156 i
  | 29, _ => exact lit0_157 i
  | 30, _ => exact lit0_158 i
  | 31, _ => exact lit0_159 i
  | 32, _ => exact lit0_160 i
  | 33, _ => exact lit0_161 i
  | 34, _ => exact lit0_162 i
  | 35, _ => exact lit0_163 i
  | 36, _ => exact lit0_164 i
  | 37, _ => exact lit0_165 i
  | 38, _ => exact lit0_166 i
  | 39, _ => exact lit0_167 i
  | 40, _ => exact lit0_168 i
  | 41, _ => exact lit0_169 i
  | 42, _ => exact lit0_170 i
  | 43, _ => exact lit0_171 i
  | 44, _ => exact lit0_172 i
  | 45, _ => exact lit0_173 i
  | 46, _ => exact lit0_174 i
  | 47, _ => exact lit0_175 i
  | 48, _ => exact lit0_176 i
  | 49, _ => exact lit0_177 i
  | 50, _ => exact lit0_178 i
  | 51, _ => exact lit0_179 i
  | 52, _ => exact lit0_180 i
  | 53, _ => exact lit0_181 i
  | 54, _ => exact lit0_182 i
  | 55, _ => exact lit0_183 i
  | 56, _ => exact lit0_184 i
  | 57, _ => exact lit0_185 i
  | 58, _ => exact lit0_186 i
  | 59, _ => exact lit0_187 i
  | 60, _ => exact lit0_188 i
  | 61, _ => exact lit0_189 i
  | 62, _ => exact lit0_190 i
  | 63, _ => exact lit0_191 i
  | 64, _ => exact lit0_192 i
  | 65, _ => exact lit0_193 i
  | 66, _ => exact lit0_194 i
  | 67, _ => exact lit0_195 i
  | 68, _ => exact lit0_196 i
  | 69, _ => exact lit0_197 i
  | 70, _ => exact lit0_198 i
  | 71, _ => exact lit0_199 i
  | 72, _ => exact lit0_200 i
  | 73, _ => exact lit0_201 i
  | 74, _ => exact lit0_202 i
  | 75, _ => exact lit0_203 i
  | 76, _ => exact lit0_204 i
  | 77, _ => exact lit0_205 i
  | 78, _ => exact lit0_206 i
  | 79, _ => exact lit0_207 i
  | 80, _ => exact lit0_208 i
  | 81, _ => exact lit0_209 i
  | 82, _ => exact lit0_210 i
  | 83, _ => exact lit0_211 i
  | 84, _ => exact lit0_212 i
  | 85, _ => exact lit0_213 i
  | 86, _ => exact lit0_214 i
  | 87, _ => exact lit0_215 i
  | 88, _ => exact lit0_216 i
  | 89, _ => exact lit0_217 i
  | 90, _ => exact lit0_218 i
  | 91, _ => exact lit0_219 i
  | 92, _ => exact lit0_220 i
  | 93, _ => exact lit0_221 i
  | 94, _ => exact lit0_222 i
  | 95, _ => exact lit0_223 i
  | 96, _ => exact lit0_224 i
  | 97, _ => exact lit0_225 i
  | 98, _ => exact lit0_226 i
  | 99, _ => exact lit0_227 i
  | 100, _ => exact lit0_228 i
  | 101, _ => exact lit0_229 i
  | 102, _ => exact lit0_230 i
  | 103, _ => exact lit0_231 i
  | 104, _ => exact lit0_232 i
  | 105, _ => exact lit0_233 i
  | 106, _ => exact lit0_234 i
  | 107, _ => exact lit0_235 i
  | 108, _ => exact lit0_236 i
  | 109, _ => exact lit0_237 i
  | 110, _ => exact lit0_238 i
  | 111, _ => exact lit0_239 i
  | 112, _ => exact lit0_240 i
  | 113, _ => exact lit0_241 i
  | 114, _ => exact lit0_242 i
  | 115, _ => exact lit0_243 i
  | 116, _ => exact lit0_244 i
  | 117, _ => exact lit0_245 i
  | 118, _ => exact lit0_246 i
  | 119, _ => exact lit0_247 i
  | 120, _ => exact lit0_248 i
  | 121, _ => exact lit0_249 i
  | 122, _ => exact lit0_250 i
  | 123, _ => exact lit0_251 i
  | 124, _ => exact lit0_252 i
  | 125, _ => exact lit0_253 i
  | 126, _ => exact lit0_254 i
  | 127, _ => exact lit0_255 i
  | _ + 128, hd => exact absurd hd (by omega)

theorem lit0_level_2 (i : Nat) : lit0t1_2 i = sel32 (128 * (128 * 2 + i / 128 % 128) + i % 128) := by
  unfold lit0t1_2
  have hd : i / 128 % 128 < 128 := Nat.mod_lt _ (by decide)
  generalize i / 128 % 128 = j at hd ⊢
  match j, hd with
  | 0, _ => exact lit0_256 i
  | 1, _ => exact lit0_257 i
  | 2, _ => exact lit0_258 i
  | 3, _ => exact lit0_259 i
  | 4, _ => exact lit0_260 i
  | 5, _ => exact lit0_261 i
  | 6, _ => exact lit0_262 i
  | 7, _ => exact lit0_263 i
  | 8, _ => exact lit0_264 i
  | 9, _ => exact lit0_265 i
  | 10, _ => exact lit0_266 i
  | 11, _ => exact lit0_267 i
  | 12, _ => exact lit0_268 i
  | 13, _ => exact lit0_269 i
  | 14, _ => exact lit0_270 i
  | 15, _ => exact lit0_271 i
  | 16, _ => exact lit0_272 i
  | 17, _ => exact lit0_273 i
  | 18, _ => exact lit0_274 i
  | 19, _ => exact lit0_275 i
  | 20, _ => exact lit0_276 i
  | 21, _ => exact lit0_277 i
  | 22, _ => exact lit0_278 i
  | 23, _ => exact lit0_279 i
  | 24, _ => exact lit0_280 i
  | 25, _ => exact lit0_281 i
  | 26, _ => exact lit0_282 i
  | 27, _ => exact lit0_283 i
  | 28, _ => exact lit0_284 i
  | 29, _ => exact lit0_285 i
  | 30, _ => exact lit0_286 i
  | 31, _ => exact lit0_287 i
  | 32, _ => exact lit0_288 i
  | 33, _ => exact lit0_289 i
  | 34, _ => exact lit0_290 i
  | 35, _ => exact lit0_291 i
  | 36, _ => exact lit0_292 i
  | 37, _ => exact lit0_293 i
  | 38, _ => exact lit0_294 i
  | 39, _ => exact lit0_295 i
  | 40, _ => exact lit0_296 i
  | 41, _ => exact lit0_297 i
  | 42, _ => exact lit0_298 i
  | 43, _ => exact lit0_299 i
  | 44, _ => exact lit0_300 i
  | 45, _ => exact lit0_301 i
  | 46, _ => exact lit0_302 i
  | 47, _ => exact lit0_303 i
  | 48, _ => exact lit0_304 i
  | 49, _ => exact lit0_305 i
  | 50, _ => exact lit0_306 i
  | 51, _ => exact lit0_307 i
  | 52, _ => exact lit0_308 i
  | 53, _ => exact lit0_309 i
  | 54, _ => exact lit0_310 i
  | 55, _ => exact lit0_311 i
  | 56, _ => exact lit0_312 i
  | 57, _ => exact lit0_313 i
  | 58, _ => exact lit0_314 i
  | 59, _ => exact lit0_315 i
  | 60, _ => exact lit0_316 i
  | 61, _ => exact lit0_317 i
  | 62, _ => exact lit0_318 i
  | 63, _ => exact lit0_319 i
  | 64, _ => exact lit0_320 i
  | 65, _ => exact lit0_321 i
  | 66, _ => exact lit0_322 i
  | 67, _ => exact lit0_323 i
  | 68, _ => exact lit0_324 i
  | 69, _ => exact lit0_325 i
  | 70, _ => exact lit0_326 i
  | 71, _ => exact lit0_327 i
  | 72, _ => exact lit0_328 i
  | 73, _ => exact lit0_329 i
  | 74, _ => exact lit0_330 i
  | 75, _ => exact lit0_331 i
  | 76, _ => exact lit0_332 i
  | 77, _ => exact lit0_333 i
  | 78, _ => exact lit0_334 i
  | 79, _ => exact lit0_335 i
  | 80, _ => exact lit0_336 i
  | 81, _ => exact lit0_337 i
  | 82, _ => exact lit0_338 i
  | 83, _ => exact lit0_339 i
  | 84, _ => exact lit0_340 i
  | 85, _ => exact lit0_341 i
  | 86, _ => exact lit0_342 i
  | 87, _ => exact lit0_343 i
  | 88, _ => exact lit0_344 i
  | 89, _ => exact lit0_345 i
  | 90, _ => exact lit0_346 i
  | 91, _ => exact lit0_347 i
  | 92, _ => exact lit0_348 i
  | 93, _ => exact lit0_349 i
  | 94, _ => exact lit0_350 i
  | 95, _ => exact lit0_351 i
  | 96, _ => exact lit0_352 i
  | 97, _ => exact lit0_353 i
  | 98, _ => exact lit0_354 i
  | 99, _ => exact lit0_355 i
  | 100, _ => exact lit0_356 i
  | 101, _ => exact lit0_357 i
  | 102, _ => exact lit0_358 i
  | 103, _ => exact lit0_359 i
  | 104, _ => exact lit0_360 i
  | 105, _ => exact lit0_361 i
  | 106, _ => exact lit0_362 i
  | 107, _ => exact lit0_363 i
  | 108, _ => exact lit0_364 i
  | 109, _ => exact lit0_365 i
  | 110, _ => exact lit0_366 i
  | 111, _ => exact lit0_367 i
  | 112, _ => exact lit0_368 i
  | 113, _ => exact lit0_369 i
  | 114, _ => exact lit0_370 i
  | 115, _ => exact lit0_371 i
  | 116, _ => exact lit0_372 i
  | 117, _ => exact lit0_373 i
  | 118, _ => exact lit0_374 i
  | 119, _ => exact lit0_375 i
  | 120, _ => exact lit0_376 i
  | 121, _ => exact lit0_377 i
  | 122, _ => exact lit0_378 i
  | 123, _ => exact lit0_379 i
  | 124, _ => exact lit0_380 i
  | 125, _ => exact lit0_381 i
  | 126, _ => exact lit0_382 i
  | 127, _ => exact lit0_383 i
  | _ + 128, hd => exact absurd hd (by omega)

theorem lit0_level_3 (i : Nat) : lit0t1_3 i = sel32 (128 * (128 * 3 + i / 128 % 128) + i % 128) := by
  unfold lit0t1_3
  have hd : i / 128 % 128 < 128 := Nat.mod_lt _ (by decide)
  generalize i / 128 % 128 = j at hd ⊢
  match j, hd with
  | 0, _ => exact lit0_384 i
  | 1, _ => exact lit0_385 i
  | 2, _ => exact lit0_386 i
  | 3, _ => exact lit0_387 i
  | 4, _ => exact lit0_388 i
  | 5, _ => exact lit0_389 i
  | 6, _ => exact lit0_390 i
  | 7, _ => exact lit0_391 i
  | 8, _ => exact lit0_392 i
  | 9, _ => exact lit0_393 i
  | 10, _ => exact lit0_394 i
  | 11, _ => exact lit0_395 i
  | 12, _ => exact lit0_396 i
  | 13, _ => exact lit0_397 i
  | 14, _ => exact lit0_398 i
  | 15, _ => exact lit0_399 i
  | 16, _ => exact lit0_400 i
  | 17, _ => exact lit0_401 i
  | 18, _ => exact lit0_402 i
  | 19, _ => exact lit0_403 i
  | 20, _ => exact lit0_404 i
  | 21, _ => exact lit0_405 i
  | 22, _ => exact lit0_406 i
  | 23, _ => exact lit0_407 i
  | 24, _ => exact lit0_408 i
  | 25, _ => exact lit0_409 i
  | 26, _ => exact lit0_410 i
  | 27, _ => exact lit0_411 i
  | 28, _ => exact lit0_412 i
  | 29, _ => exact lit0_413 i
  | 30, _ => exact lit0_414 i
  | 31, _ => exact lit0_415 i
  | 32, _ => exact lit0_416 i
  | 33, _ => exact lit0_417 i
  | 34, _ => exact lit0_418 i
  | 35, _ => exact lit0_419 i
  | 36, _ => exact lit0_420 i
  | 37, _ => exact lit0_421 i
  | 38, _ => exact lit0_422 i
  | 39, _ => exact lit0_423 i
  | 40, _ => exact lit0_424 i
  | 41, _ => exact lit0_425 i
  | 42, _ => exact lit0_426 i
  | 43, _ => exact lit0_427 i
  | 44, _ => exact lit0_428 i
  | 45, _ => exact lit0_429 i
  | 46, _ => exact lit0_430 i
  | 47, _ => exact lit0_431 i
  | 48, _ => exact lit0_432 i
  | 49, _ => exact lit0_433 i
  | 50, _ => exact lit0_434 i
  | 51, _ => exact lit0_435 i
  | 52, _ => exact lit0_436 i
  | 53, _ => exact lit0_437 i
  | 54, _ => exact lit0_438 i
  | 55, _ => exact lit0_439 i
  | 56, _ => exact lit0_440 i
  | 57, _ => exact lit0_441 i
  | 58, _ => exact lit0_442 i
  | 59, _ => exact lit0_443 i
  | 60, _ => exact lit0_444 i
  | 61, _ => exact lit0_445 i
  | 62, _ => exact lit0_446 i
  | 63, _ => exact lit0_447 i
  | 64, _ => exact lit0_448 i
  | 65, _ => exact lit0_449 i
  | 66, _ => exact lit0_450 i
  | 67, _ => exact lit0_451 i
  | 68, _ => exact lit0_452 i
  | 69, _ => exact lit0_453 i
  | 70, _ => exact lit0_454 i
  | 71, _ => exact lit0_455 i
  | 72, _ => exact lit0_456 i
  | 73, _ => exact lit0_457 i
  | 74, _ => exact lit0_458 i
  | 75, _ => exact lit0_459 i
  | 76, _ => exact lit0_460 i
  | 77, _ => exact lit0_461 i
  | 78, _ => exact lit0_462 i
  | 79, _ => exact lit0_463 i
  | 80, _ => exact lit0_464 i
  | 81, _ => exact lit0_465 i
  | 82, _ => exact lit0_466 i
  | 83, _ => exact lit0_467 i
  | 84, _ => exact lit0_468 i
  | 85, _ => exact lit0_469 i
  | 86, _ => exact lit0_470 i
  | 87, _ => exact lit0_471 i
  | 88, _ => exact lit0_472 i
  | 89, _ => exact lit0_473 i
  | 90, _ => exact lit0_474 i
  | 91, _ => exact lit0_475 i
  | 92, _ => exact lit0_476 i
  | 93, _ => exact lit0_477 i
  | 94, _ => exact lit0_478 i
  | 95, _ => exact lit0_479 i
  | 96, _ => exact lit0_480 i
  | 97, _ => exact lit0_481 i
  | 98, _ => exact lit0_482 i
  | 99, _ => exact lit0_483 i
  | 100, _ => exact lit0_484 i
  | 101, _ => exact lit0_485 i
  | 102, _ => exact lit0_486 i
  | 103, _ => exact lit0_487 i
  | 104, _ => exact lit0_488 i
  | 105, _ => exact lit0_489 i
  | 106, _ => exact lit0_490 i
  | 107, _ => exact lit0_491 i
  | 108, _ => exact lit0_492 i
  | 109, _ => exact lit0_493 i
  | 110, _ => exact lit0_494 i
  | 111, _ => exact lit0_495 i
  | 112, _ => exact lit0_496 i
  | 113, _ => exact lit0_497 i
  | 114, _ => exact lit0_498 i
  | 115, _ => exact lit0_499 i
  | 116, _ => exact lit0_500 i
  | 117, _ => exact lit0_501 i
  | 118, _ => exact lit0_502 i
  | 119, _ => exact lit0_503 i
  | 120, _ => exact lit0_504 i
  | 121, _ => exact lit0_505 i
  | 122, _ => exact lit0_506 i
  | 123, _ => exact lit0_507 i
  | 124, _ => exact lit0_508 i
  | 125, _ => exact lit0_509 i
  | 126, _ => exact lit0_510 i
  | 127, _ => exact lit0_511 i
  | _ + 128, hd => exact absurd hd (by omega)

theorem lit0_level_4 (i : Nat) : lit0t1_4 i = sel32 (128 * (128 * 4 + i / 128 % 128) + i % 128) := by
  unfold lit0t1_4
  have hd : i / 128 % 128 < 128 := Nat.mod_lt _ (by decide)
  generalize i / 128 % 128 = j at hd ⊢
  match j, hd with
  | 0, _ => exact lit0_512 i
  | 1, _ => exact lit0_513 i
  | 2, _ => exact lit0_514 i
  | 3, _ => exact lit0_515 i
  | 4, _ => exact lit0_516 i
  | 5, _ => exact lit0_517 i
  | 6, _ => exact lit0_518 i
  | 7, _ => exact lit0_519 i
  | 8, _ => exact lit0_520 i
  | 9, _ => exact lit0_521 i
  | 10, _ => exact lit0_522 i
  | 11, _ => exact lit0_523 i
  | 12, _ => exact lit0_524 i
  | 13, _ => exact lit0_525 i
  | 14, _ => exact lit0_526 i
  | 15, _ => exact lit0_527 i
  | 16, _ => exact lit0_528 i
  | 17, _ => exact lit0_529 i
  | 18, _ => exact lit0_530 i
  | 19, _ => exact lit0_531 i
  | 20, _ => exact lit0_532 i
  | 21, _ => exact lit0_533 i
  | 22, _ => exact lit0_534 i
  | 23, _ => exact lit0_535 i
  | 24, _ => exact lit0_536 i
  | 25, _ => exact lit0_537 i
  | 26, _ => exact lit0_538 i
  | 27, _ => exact lit0_539 i
  | 28, _ => exact lit0_540 i
  | 29, _ => exact lit0_541 i
  | 30, _ => exact lit0_542 i
  | 31, _ => exact lit0_543 i
  | 32, _ => exact lit0_544 i
  | 33, _ => exact lit0_545 i
  | 34, _ => exact lit0_546 i
  | 35, _ => exact lit0_547 i
  | 36, _ => exact lit0_548 i
  | 37, _ => exact lit0_549 i
  | 38, _ => exact lit0_550 i
  | 39, _ => exact lit0_551 i
  | 40, _ => exact lit0_552 i
  | 41, _ => exact lit0_553 i
  | 42, _ => exact lit0_554 i
  | 43, _ => exact lit0_555 i
  | 44, _ => exact lit0_556 i
  | 45, _ => exact lit0_557 i
  | 46, _ => exact lit0_558 i
  | 47, _ => exact lit0_559 i
  | 48, _ => exact lit0_560 i
  | 49, _ => exact lit0_561 i
  | 50, _ => exact lit0_562 i
  | 51, _ => exact lit0_563 i
  | 52, _ => exact lit0_564 i
  | 53, _ => exact lit0_565 i
  | 54, _ => exact lit0_566 i
  | 55, _ => exact lit0_567 i
  | 56, _ => exact lit0_568 i
  | 57, _ => exact lit0_569 i
  | 58, _ => exact lit0_570 i
  | 59, _ => exact lit0_571 i
  | 60, _ => exact lit0_572 i
  | 61, _ => exact lit0_573 i
  | 62, _ => exact lit0_574 i
  | 63, _ => exact lit0_575 i
  | 64, _ => exact lit0_576 i
  | 65, _ => exact lit0_577 i
  | 66, _ => exact lit0_578 i
  | 67, _ => exact lit0_579 i
  | 68, _ => exact lit0_580 i
  | 69, _ => exact lit0_581 i
  | 70, _ => exact lit0_582 i
  | 71, _ => exact lit0_583 i
  | 72, _ => exact lit0_584 i
  | 73, _ => exact lit0_585 i
  | 74, _ => exact lit0_586 i
  | 75, _ => exact lit0_587 i
  | 76, _ => exact lit0_588 i
  | 77, _ => exact lit0_589 i
  | 78, _ => exact lit0_590 i
  | 79, _ => exact lit0_591 i
  | 80, _ => exact lit0_592 i
  | 81, _ => exact lit0_593 i
  | 82, _ => exact lit0_594 i
  | 83, _ => exact lit0_595 i
  | 84, _ => exact lit0_596 i
  | 85, _ => exact lit0_597 i
  | 86, _ => exact lit0_598 i
  | 87, _ => exact lit0_599 i
  | 88, _ => exact lit0_600 i
  | 89, _ => exact lit0_601 i
  | 90, _ => exact lit0_602 i
  | 91, _ => exact lit0_603 i
  | 92, _ => exact lit0_604 i
  | 93, _ => exact lit0_605 i
  | 94, _ => exact lit0_606 i
  | 95, _ => exact lit0_607 i
  | 96, _ => exact lit0_608 i
  | 97, _ => exact lit0_609 i
  | 98, _ => exact lit0_610 i
  | 99, _ => exact lit0_611 i
  | 100, _ => exact lit0_612 i
  | 101, _ => exact lit0_613 i
  | 102, _ => exact lit0_614 i
  | 103, _ => exact lit0_615 i
  | 104, _ => exact lit0_616 i
  | 105, _ => exact lit0_617 i
  | 106, _ => exact lit0_618 i
  | 107, _ => exact lit0_619 i
  | 108, _ => exact lit0_620 i
  | 109, _ => exact lit0_621 i
  | 110, _ => exact lit0_622 i
  | 111, _ => exact lit0_623 i
  | 112, _ => exact lit0_624 i
  | 113, _ => exact lit0_625 i
  | 114, _ => exact lit0_626 i
  | 115, _ => exact lit0_627 i
  | 116, _ => exact lit0_628 i
  | 117, _ => exact lit0_629 i
  | 118, _ => exact lit0_630 i
  | 119, _ => exact lit0_631 i
  | 120, _ => exact lit0_632 i
  | 121, _ => exact lit0_633 i
  | 122, _ => exact lit0_634 i
  | 123, _ => exact lit0_635 i
  | 124, _ => exact lit0_636 i
  | 125, _ => exact lit0_637 i
  | 126, _ => exact lit0_638 i
  | 127, _ => exact lit0_639 i
  | _ + 128, hd => exact absurd hd (by omega)

theorem lit0_level_5 (i : Nat) : lit0t1_5 i = sel32 (128 * (128 * 5 + i / 128 % 128) + i % 128) := by
  unfold lit0t1_5
  have hd : i / 128 % 128 < 128 := Nat.mod_lt _ (by decide)
  generalize i / 128 % 128 = j at hd ⊢
  match j, hd with
  | 0, _ => exact lit0_640 i
  | 1, _ => exact lit0_641 i
  | 2, _ => exact lit0_642 i
  | 3, _ => exact lit0_643 i
  | 4, _ => exact lit0_644 i
  | 5, _ => exact lit0_645 i
  | 6, _ => exact lit0_646 i
  | 7, _ => exact lit0_647 i
  | 8, _ => exact lit0_648 i
  | 9, _ => exact lit0_649 i
  | 10, _ => exact lit0_650 i
  | 11, _ => exact lit0_651 i
  | 12, _ => exact lit0_652 i
  | 13, _ => exact lit0_653 i
  | 14, _ => exact lit0_654 i
  | 15, _ => exact lit0_655 i
  | 16, _ => exact lit0_656 i
  | 17, _ => exact lit0_657 i
  | 18, _ => exact lit0_658 i
  | 19, _ => exact lit0_659 i
  | 20, _ => exact lit0_660 i
  | 21, _ => exact lit0_661 i
  | 22, _ => exact lit0_662 i
  | 23, _ => exact lit0_663 i
  | 24, _ => exact lit0_664 i
  | 25, _ => exact lit0_665 i
  | 26, _ => exact lit0_666 i
  | 27, _ => exact lit0_667 i
  | 28, _ => exact lit0_668 i
  | 29, _ => exact lit0_669 i
  | 30, _ => exact lit0_670 i
  | 31, _ => exact lit0_671 i
  | 32, _ => exact lit0_672 i
  | 33, _ => exact lit0_673 i
  | 34, _ => exact lit0_674 i
  | 35, _ => exact lit0_675 i
  | 36, _ => exact lit0_676 i
  | 37, _ => exact lit0_677 i
  | 38, _ => exact lit0_678 i
  | 39, _ => exact lit0_679 i
  | 40, _ => exact lit0_680 i
  | 41, _ => exact lit0_681 i
  | 42, _ => exact lit0_682 i
  | 43, _ => exact lit0_683 i
  | 44, _ => exact lit0_684 i
  | 45, _ => exact lit0_685 i
  | 46, _ => exact lit0_686 i
  | 47, _ => exact lit0_687 i
  | 48, _ => exact lit0_688 i
  | 49, _ => exact lit0_689 i
  | 50, _ => exact lit0_690 i
  | 51, _ => exact lit0_691 i
  | 52, _ => exact lit0_692 i
  | 53, _ => exact lit0_693 i
  | 54, _ => exact lit0_694 i
  | 55, _ => exact lit0_695 i
  | 56, _ => exact lit0_696 i
  | 57, _ => exact lit0_697 i
  | 58, _ => exact lit0_698 i
  | 59, _ => exact lit0_699 i
  | 60, _ => exact lit0_700 i
  | 61, _ => exact lit0_701 i
  | 62, _ => exact lit0_702 i
  | 63, _ => exact lit0_703 i
  | 64, _ => exact lit0_704 i
  | 65, _ => exact lit0_705 i
  | 66, _ => exact lit0_706 i
  | 67, _ => exact lit0_707 i
  | 68, _ => exact lit0_708 i
  | 69, _ => exact lit0_709 i
  | 70, _ => exact lit0_710 i
  | 71, _ => exact lit0_711 i
  | 72, _ => exact lit0_712 i
  | 73, _ => exact lit0_713 i
  | 74, _ => exact lit0_714 i
  | 75, _ => exact lit0_715 i
  | 76, _ => exact lit0_716 i
  | 77, _ => exact lit0_717 i
  | 78, _ => exact lit0_718 i
  | 79, _ => exact lit0_719 i
  | 80, _ => exact lit0_720 i
  | 81, _ => exact lit0_721 i
  | 82, _ => exact lit0_722 i
  | 83, _ => exact lit0_723 i
  | 84, _ => exact lit0_724 i
  | 85, _ => exact lit0_725 i
  | 86, _ => exact lit0_726 i
  | 87, _ => exact lit0_727 i
  | 88, _ => exact lit0_728 i
  | 89, _ => exact lit0_729 i
  | 90, _ => exact lit0_730 i
  | 91, _ => exact lit0_731 i
  | 92, _ => exact lit0_732 i
  | 93, _ => exact lit0_733 i
  | 94, _ => exact lit0_734 i
  | 95, _ => exact lit0_735 i
  | 96, _ => exact lit0_736 i
  | 97, _ => exact lit0_737 i
  | 98, _ => exact lit0_738 i
  | 99, _ => exact lit0_739 i
  | 100, _ => exact lit0_740 i
  | 101, _ => exact lit0_741 i
  | 102, _ => exact lit0_742 i
  | 103, _ => exact lit0_743 i
  | 104, _ => exact lit0_744 i
  | 105, _ => exact lit0_745 i
  | 106, _ => exact lit0_746 i
  | 107, _ => exact lit0_747 i
  | 108, _ => exact lit0_748 i
  | 109, _ => exact lit0_749 i
  | 110, _ => exact lit0_750 i
  | 111, _ => exact lit0_751 i
  | 112, _ => exact lit0_752 i
  | 113, _ => exact lit0_753 i
  | 114, _ => exact lit0_754 i
  | 115, _ => exact lit0_755 i
  | 116, _ => exact lit0_756 i
  | 117, _ => exact lit0_757 i
  | 118, _ => exact lit0_758 i
  | 119, _ => exact lit0_759 i
  | 120, _ => exact lit0_760 i
  | 121, _ => exact lit0_761 i
  | 122, _ => exact lit0_762 i
  | 123, _ => exact lit0_763 i
  | 124, _ => exact lit0_764 i
  | 125, _ => exact lit0_765 i
  | 126, _ => exact lit0_766 i
  | 127, _ => exact lit0_767 i
  | _ + 128, hd => exact absurd hd (by omega)

theorem lit0_level_6 (i : Nat) (hi : i / 128 % 128 < 32) : lit0t1_6 i = sel32 (128 * (128 * 6 + i / 128 % 128) + i % 128) := by
  unfold lit0t1_6
  have hd := hi; clear hi
  generalize i / 128 % 128 = j at hd ⊢
  match j, hd with
  | 0, _ => exact lit0_768 i
  | 1, _ => exact lit0_769 i
  | 2, _ => exact lit0_770 i
  | 3, _ => exact lit0_771 i
  | 4, _ => exact lit0_772 i
  | 5, _ => exact lit0_773 i
  | 6, _ => exact lit0_774 i
  | 7, _ => exact lit0_775 i
  | 8, _ => exact lit0_776 i
  | 9, _ => exact lit0_777 i
  | 10, _ => exact lit0_778 i
  | 11, _ => exact lit0_779 i
  | 12, _ => exact lit0_780 i
  | 13, _ => exact lit0_781 i
  | 14, _ => exact lit0_782 i
  | 15, _ => exact lit0_783 i
  | 16, _ => exact lit0_784 i
  | 17, _ => exact lit0_785 i
  | 18, _ => exact lit0_786 i
  | 19, _ => exact lit0_787 i
  | 20, _ => exact lit0_788 i
  | 21, _ => exact lit0_789 i
  | 22, _ => exact lit0_790 i
  | 23, _ => exact lit0_791 i
  | 24, _ => exact lit0_792 i
  | 25, _ => exact lit0_793 i
  | 26, _ => exact lit0_794 i
  | 27, _ => exact lit0_795 i
  | 28, _ => exact lit0_796 i
  | 29, _ => exact lit0_797 i
  | 30, _ => exact lit0_798 i
  | 31, _ => exact lit0_799 i
  | _ + 32, hd => exact absurd hd (by omega)

theorem lit0_entry (i : Nat) (hi : i < 102400) : lit0t i = sel32 i := by
  have hk : i / 16384 = 0 ∨ i / 16384 = 1 ∨ i / 16384 = 2 ∨ i / 16384 = 3 ∨ i / 16384 = 4 ∨ i / 16384 = 5 ∨ i / 16384 = 6 := by omega
  unfold lit0t
  rcases hk with h | h | h | h | h | h | h <;> rw [h]
  · exact (lit0_level_0 i).trans (congrArg sel32 (by omega))
  · exact (lit0_level_1 i).trans (congrArg sel32 (by omega))
  · exact (lit0_level_2 i).trans (congrArg sel32 (by omega))
  · exact (lit0_level_3 i).trans (congrArg sel32 (by omega))
  · exact (lit0_level_4 i).trans (congrArg sel32 (by omega))
  · exact (lit0_level_5 i).trans (congrArg sel32 (by omega))
  · exact (lit0_level_6 i (by omega)).trans (congrArg sel32 (by omega))

theorem lit1_level_0 (i : Nat) : lit1t1_0 i = sel16 (128 * (128 * 0 + i / 128 % 128) + i % 128) := by
  unfold lit1t1_0
  have hd : i / 128 % 128 < 128 := Nat.mod_lt _ (by decide)
  generalize i / 128 % 128 = j at hd ⊢
  match j, hd with
  | 0, _ => exact lit1_0 i
  | 1, _ => exact lit1_1 i
  | 2, _ => exact lit1_2 i
  | 3, _ => exact lit1_3 i
  | 4, _ => exact lit1_4 i
  | 5, _ => exact lit1_5 i
  | 6, _ => exact lit1_6 i
  | 7, _ => exact lit1_7 i
  | 8, _ => exact lit1_8 i
  | 9, _ => exact lit1_9 i
  | 10, _ => exact lit1_10 i
  | 11, _ => exact lit1_11 i
  | 12, _ => exact lit1_12 i
  | 13, _ => exact lit1_13 i
  | 14, _ => exact lit1_14 i
  | 15, _ => exact lit1_15 i
  | 16, _ => exact lit1_16 i
  | 17, _ => exact lit1_17 i
  | 18, _ => exact lit1_18 i
  | 19, _ => exact lit1_19 i
  | 20, _ => exact lit1_20 i
  | 21, _ => exact lit1_21 i
  | 22, _ => exact lit1_22 i
  | 23, _ => exact lit1_23 i
  | 24, _ => exact lit1_24 i
  | 25, _ => exact lit1_25 i
  | 26, _ => exact lit1_26 i
  | 27, _ => exact lit1_27 i
  | 28, _ => exact lit1_28 i
  | 29, _ => exact lit1_29 i
  | 30, _ => exact lit1_30 i
  | 31, _ => exact lit1_31 i
  | 32, _ => exact lit1_32 i
  | 33, _ => exact lit1_33 i
  | 34, _ => exact lit1_34 i
  | 35, _ => exact lit1_35 i
  | 36, _ => exact lit1_36 i
  | 37, _ => exact lit1_37 i
  | 38, _ => exact lit1_38 i
  | 39, _ => exact lit1_39 i
  | 40, _ => exact lit1_40 i
  | 41, _ => exact lit1_41 i
  | 42, _ => exact lit1_42 i
  | 43, _ => exact lit1_43 i
  | 44, _ => exact lit1_44 i
  | 45, _ => exact lit1_45 i
  | 46, _ => exact lit1_46 i
  | 47, _ => exact lit1_47 i
  | 48, _ => exact lit1_48 i
  | 49, _ => exact lit1_49 i
  | 50, _ => exact lit1_50 i
  | 51, _ => exact lit1_51 i
  | 52, _ => exact lit1_52 i
  | 53, _ => exact lit1_53 i
  | 54, _ => exact lit1_54 i
  | 55, _ => exact lit1_55 i
  | 56, _ => exact lit1_56 i
  | 57, _ => exact lit1_57 i
  | 58, _ => exact lit1_58 i
  | 59, _ => exact lit1_59 i
  | 60, _ => exact lit1_60 i
  | 61, _ => exact lit1_61 i
  | 62, _ => exact lit1_62 i
  | 63, _ => exact lit1_63 i
  | 64, _ => exact lit1_64 i
  | 65, _ => exact lit1_65 i
  | 66, _ => exact lit1_66 i
  | 67, _ => exact lit1_67 i
  | 68, _ => exact lit1_68 i
  | 69, _ => exact lit1_69 i
  | 70, _ => exact lit1_70 i
  | 71, _ => exact lit1_71 i
  | 72, _ => exact lit1_72 i
  | 73, _ => exact lit1_73 i
  | 74, _ => exact lit1_74 i
  | 75, _ => exact lit1_75 i
  | 76, _ => exact lit1_76 i
  | 77, _ => exact lit1_77 i
  | 78, _ => exact lit1_78 i
  | 79, _ => exact lit1_79 i
  | 80, _ => exact lit1_80 i
  | 81, _ => exact lit1_81 i
  | 82, _ => exact lit1_82 i
  | 83, _ => exact lit1_83 i
  | 84, _ => exact lit1_84 i
  | 85, _ => exact lit1_85 i
  | 86, _ => exact lit1_86 i
  | 87, _ => exact lit1_87 i
  | 88, _ => exact lit1_88 i
  | 89, _ => exact lit1_89 i
  | 90, _ => exact lit1_90 i
  | 91, _ => exact lit1_91 i
  | 92, _ => exact lit1_92 i
  | 93, _ => exact lit1_93 i
  | 94, _ => exact lit1_94 i
  | 95, _ => exact lit1_95 i
  | 96, _ => exact lit1_96 i
  | 97, _ => exact lit1_97 i
  | 98, _ => exact lit1_98 i
  | 99, _ => exact lit1_99 i
  | 100, _ => exact lit1_100 i
  | 101, _ => exact lit1_101 i
  | 102, _ => exact lit1_102 i
  | 103, _ => exact lit1_103 i
  | 104, _ => exact lit1_104 i
  | 105, _ => exact lit1_105 i
  | 106, _ => exact lit1_106 i
  | 107, _ => exact lit1_107 i
  | 108, _ => exact lit1_108 i
  | 109, _ => exact lit1_109 i
  | 110, _ => exact lit1_110 i
  | 111, _ => exact lit1_111 i
  | 112, _ => exact lit1_112 i
  | 113, _ => exact lit1_113 i
  | 114, _ => exact lit1_114 i
  | 115, _ => exact lit1_115 i
  | 116, _ => exact lit1_116 i
  | 117, _ => exact lit1_117 i
  | 118, _ => exact lit1_118 i
  | 119, _ => exact lit1_119 i
  | 120, _ => exact lit1_120 i
  | 121, _ => exact lit1_121 i
  | 122, _ => exact lit1_122 i
  | 123, _ => exact lit1_123 i
  | 124, _ => exact lit1_124 i
  | 125, _ => exact lit1_125 i
  | 126, _ => exact lit1_126 i
  | 127, _ => exact lit1_127 i
  | _ + 128, hd => exact absurd hd (by omega)

theorem lit1_level_1 (i : Nat) : lit1t1_1 i = sel16 (128 * (128 * 1 + i / 128 % 128) + i % 128) := by
  unfold lit1t1_1
  have hd : i / 128 % 128 < 128 := Nat.mod_lt _ (by decide)
  generalize i / 128 % 128 = j at hd ⊢
  match j, hd with
  | 0, _ => exact lit1_128 i
  | 1, _ => exact lit1_129 i
  | 2, _ => exact lit1_130 i
  | 3, _ => exact lit1_131 i
  | 4, _ => exact lit1_132 i
  | 5, _ => exact lit1_133 i
  | 6, _ => exact lit1_134 i
  | 7, _ => exact lit1_135 i
  | 8, _ => exact lit1_136 i
  | 9, _ => exact lit1_137 i
  | 10, _ => exact lit1_138 i
  | 11, _ => exact lit1_139 i
  | 12, _ => exact lit1_140 i
  | 13, _ => exact lit1_141 i
  | 14, _ => exact lit1_142 i
  | 15, _ => exact lit1_143 i
  | 16, _ => exact lit1_144 i
  | 17, _ => exact lit1_145 i
  | 18, _ => exact lit1_146 i
  | 19, _ => exact lit1_147 i
  | 20, _ => exact lit1_148 i
  | 21, _ => exact lit1_149 i
  | 22, _ => exact lit1_150 i
  | 23, _ => exact lit1_151 i
  | 24, _ => exact lit1_152 i
  | 25, _ => exact lit1_153 i
  | 26, _ => exact lit1_154 i
  | 27, _ => exact lit1_155 i
  | 28, _ => exact lit1_156 i
  | 29, _ => exact lit1_157 i
  | 30, _ => exact lit1_158 i
  | 31, _ => exact lit1_159 i
  | 32, _ => exact lit1_160 i
  | 33, _ => exact lit1_161 i
  | 34, _ => exact lit1_162 i
  | 35, _ => exact lit1_163 i
  | 36, _ => exact lit1_164 i
  | 37, _ => exact lit1_165 i
  | 38, _ => exact lit1_166 i
  | 39, _ => exact lit1_167 i
  | 40, _ => exact lit1_168 i
  | 41, _ => exact lit1_169 i
  | 42, _ => exact lit1_170 i
  | 43, _ => exact lit1_171 i
  | 44, _ => exact lit1_172 i
  | 45, _ => exact lit1_173 i
  | 46, _ => exact lit1_174 i
  | 47, _ => exact lit1_175 i
  | 48, _ => exact lit1_176 i
  | 49, _ => exact lit1_177 i
  | 50, _ => exact lit1_178 i
  | 51, _ => exact lit1_179 i
  | 52, _ => exact lit1_180 i
  | 53, _ => exact lit1_181 i
  | 54, _ => exact lit1_182 i
  | 55, _ => exact lit1_183 i
  | 56, _ => exact lit1_184 i
  | 57, _ => exact lit1_185 i
  | 58, _ => exact lit1_186 i
  | 59, _ => exact lit1_187 i
  | 60, _ => exact lit1_188 i
  | 61, _ => exact lit1_189 i
  | 62, _ => exact lit1_190 i
  | 63, _ => exact lit1_191 i
  | 64, _ => exact lit1_192 i
  | 65, _ => exact lit1_193 i
  | 66, _ => exact lit1_194 i
  | 67, _ => exact lit1_195 i
  | 68, _ => exact lit1_196 i
  | 69, _ => exact lit1_197 i
  | 70, _ => exact lit1_198 i
  | 71, _ => exact lit1_199 i
  | 72, _ => exact lit1_200 i
  | 73, _ => exact lit1_201 i
  | 74, _ => exact lit1_202 i
  | 75, _ => exact lit1_203 i
  | 76, _ => exact lit1_204 i
  | 77, _ => exact lit1_205 i
  | 78, _ => exact lit1_206 i
  | 79, _ => exact lit1_207 i
  | 80, _ => exact lit1_208 i
  | 81, _ => exact lit1_209 i
  | 82, _ => exact lit1_210 i
  | 83, _ => exact lit1_211 i
  | 84, _ => exact lit1_212 i
  | 85, _ => exact lit1_213 i
  | 86, _ => exact lit1_214 i
  | 87, _ => exact lit1_215 i
  | 88, _ => exact lit1_216 i
  | 89, _ => exact lit1_217 i
  | 90, _ => exact lit1_218 i
  | 91, _ => exact lit1_219 i
  | 92, _ => exact lit1_220 i
  | 93, _ => exact lit1_221 i
  | 94, _ => exact lit1_222 i
  | 95, _ => exact lit1_223 i
  | 96, _ => exact lit1_224 i
  | 97, _ => exact lit1_225 i
  | 98, _ => exact lit1_226 i
  | 99, _ => exact lit1_227 i
  | 100, _ => exact lit1_228 i
  | 101, _ => exact lit1_229 i
  | 102, _ => exact lit1_230 i
  | 103, _ => exact lit1_231 i
  | 104, _ => exact lit1_232 i
  | 105, _ => exact lit1_233 i
  | 106, _ => exact lit1_234 i
  | 107, _ => exact lit1_235 i
  | 108, _ => exact lit1_236 i
  | 109, _ => exact lit1_237 i
  | 110, _ => exact lit1_238 i
  | 111, _ => exact lit1_239 i
  | 112, _ => exact lit1_240 i
  | 113, _ => exact lit1_241 i
  | 114, _ => exact lit1_242 i
  | 115, _ => exact lit1_243 i
  | 116, _ => exact lit1_244 i
  | 117, _ => exact lit1_245 i
  | 118, _ => exact lit1_246 i
  | 119, _ => exact lit1_247 i
  | 120, _ => exact lit1_248 i
  | 121, _ => exact lit1_249 i
  | 122, _ => exact lit1_250 i
  | 123, _ => exact lit1_251 i
  | 124, _ => exact lit1_252 i
  | 125, _ => exact lit1_253 i
  | 126, _ => exact lit1_254 i
  | 127, _ => exact lit1_255 i
  | _ + 128, hd => exact absurd hd (by omega)

theorem lit1_level_2 (i : Nat) : lit1t1_2 i = sel16 (128 * (128 * 2 + i / 128 % 128) + i % 128) := by
  unfold lit1t1_2
  have hd : i / 128 % 128 < 128 := Nat.mod_lt _ (by decide)
  generalize i / 128 % 128 = j at hd ⊢
  match j, hd with
  | 0, _ => exact lit1_256 i
  | 1, _ => exact lit1_257 i
  | 2, _ => exact lit1_258 i
  | 3, _ => exact lit1_259 i
  | 4, _ => exact lit1_260 i
  | 5, _ => exact lit1_261 i
  | 6, _ => exact lit1_262 i
  | 7, _ => exact lit1_263 i
  | 8, _ => exact lit1_264 i
  | 9, _ => exact lit1_265 i
  | 10, _ => exact lit1_266 i
  | 11, _ => exact lit1_267 i
  | 12, _ => exact lit1_268 i
  | 13, _ => exact lit1_269 i
  | 14, _ => exact lit1_270 i
  | 15, _ => exact lit1_271 i
  | 16, _ => exact lit1_272 i
  | 17, _ => exact lit1_273 i
  | 18, _ => exact lit1_274 i
  | 19, _ => exact lit1_275 i
  | 20, _ => exact lit1_276 i
  | 21, _ => exact lit1_277 i
  | 22, _ => exact lit1_278 i
  | 23, _ => exact lit1_279 i
  | 24, _ => exact lit1_280 i
  | 25, _ => exact lit1_281 i
  | 26, _ => exact lit1_282 i
  | 27, _ => exact lit1_283 i
  | 28, _ => exact lit1_284 i
  | 29, _ => exact lit1_285 i
  | 30, _ => exact lit1_286 i
  | 31, _ => exact lit1_287 i
  | 32, _ => exact lit1_288 i
  | 33, _ => exact lit1_289 i
  | 34, _ => exact lit1_290 i
  | 35, _ => exact lit1_291 i
  | 36, _ => exact lit1_292 i
  | 37, _ => exact lit1_293 i
  | 38, _ => exact lit1_294 i
  | 39, _ => exact lit1_295 i
  | 40, _ => exact lit1_296 i
  | 41, _ => exact lit1_297 i
  | 42, _ => exact lit1_298 i
  | 43, _ => exact lit1_299 i
  | 44, _ => exact lit1_300 i
  | 45, _ => exact lit1_301 i
  | 46, _ => exact lit1_302 i
  | 47, _ => exact lit1_303 i
  | 48, _ => exact lit1_304 i
  | 49, _ => exact lit1_305 i
  | 50, _ => exact lit1_306 i
  | 51, _ => exact lit1_307 i
  | 52, _ => exact lit1_308 i
  | 53, _ => exact lit1_309 i
  | 54, _ => exact lit1_310 i
  | 55, _ => exact lit1_311 i
  | 56, _ => exact lit1_312 i
  | 57, _ => exact lit1_313 i
  | 58, _ => exact lit1_314 i
  | 59, _ => exact lit1_315 i
  | 60, _ => exact lit1_316 i
  | 61, _ => exact lit1_317 i
  | 62, _ => exact lit1_318 i
  | 63, _ => exact lit1_319 i
  | 64, _ => exact lit1_320 i
  | 65, _ => exact lit1_321 i
  | 66, _ => exact lit1_322 i
  | 67, _ => exact lit1_323 i
  | 68, _ => exact lit1_324 i
  | 69, _ => exact lit1_325 i
  | 70, _ => exact lit1_326 i
  | 71, _ => exact lit1_327 i
  | 72, _ => exact lit1_328 i
  | 73, _ => exact lit1_329 i
  | 74, _ => exact lit1_330 i
  | 75, _ => exact lit1_331 i
  | 76, _ => exact lit1_332 i
  | 77, _ => exact lit1_333 i
  | 78, _ => exact lit1_334 i
  | 79, _ => exact lit1_335 i
  | 80, _ => exact lit1_336 i
  | 81, _ => exact lit1_337 i
  | 82, _ => exact lit1_338 i
  | 83, _ => exact lit1_339 i
  | 84, _ => exact lit1_340 i
  | 85, _ => exact lit1_341 i
  | 86, _ => exact lit1_342 i
  | 87, _ => exact lit1_343 i
  | 88, _ => exact lit1_344 i
  | 89, _ => exact lit1_345 i
  | 90, _ => exact lit1_346 i
  | 91, _ => exact lit1_347 i
  | 92, _ => exact lit1_348 i
  | 93, _ => exact lit1_349 i
  | 94, _ => exact lit1_350 i
  | 95, _ => exact lit1_351 i
  | 96, _ => exact lit1_352 i
  | 97, _ => exact lit1_353 i
  | 98, _ => exact lit1_354 i
  | 99, _ => exact lit1_355 i
  | 100, _ => exact lit1_356 i
  | 101, _ => exact lit1_357 i
  | 102, _ => exact lit1_358 i
  | 103, _ => exact lit1_359 i
  | 104, _ => exact lit1_360 i
  | 105, _ => exact lit1_361 i
  | 106, _ => exact lit1_362 i
  | 107, _ => exact lit1_363 i
  | 108, _ => exact lit1_364 i
  | 109, _ => exact lit1_365 i
  | 110, _ => exact lit1_366 i
  | 111, _ => exact lit1_367 i
  | 112, _ => exact lit1_368 i
  | 113, _ => exact lit1_369 i
  | 114, _ => exact lit1_370 i
  | 115, _ => exact lit1_371 i
  | 116, _ => exact lit1_372 i
  | 117, _ => exact lit1_373 i
  | 118, _ => exact lit1_374 i
  | 119, _ => exact lit1_375 i
  | 120, _ => exact lit1_376 i
  | 121, _ => exact lit1_377 i
  | 122, _ => exact lit1_378 i
  | 123, _ => exact lit1_379 i
  | 124, _ => exact lit1_380 i
  | 125, _ => exact lit1_381 i
  | 126, _ => exact lit1_382 i
  | 127, _ => exact lit1_383 i
  | _ + 128, hd => exact absurd hd (by omega)

theorem lit1_level_3 (i : Nat) : lit1t1_3 i = sel16 (128 * (128 * 3 + i / 128 % 128) + i % 128) := by
  unfold lit1t1_3
  have hd : i / 128 % 128 < 128 := Nat.mod_lt _ (by decide)
  generalize i / 128 % 128 = j at hd ⊢
  match j, hd with
  | 0, _ => exact lit1_384 i
  | 1, _ => exact lit1_385 i
  | 2, _ => exact lit1_386 i
  | 3, _ => exact lit1_387 i
  | 4, _ => exact lit1_388 i
  | 5, _ => exact lit1_389 i
  | 6, _ => exact lit1_390 i
  | 7, _ => exact lit1_391 i
  | 8, _ => exact lit1_392 i
  | 9, _ => exact lit1_393 i
  | 10, _ => exact lit1_394 i
  | 11, _ => exact lit1_395 i
  | 12, _ => exact lit1_396 i
  | 13, _ => exact lit1_397 i
  | 14, _ => exact lit1_398 i
  | 15, _ => exact lit1_399 i
  | 16, _ => exact lit1_400 i
  | 17, _ => exact lit1_401 i
  | 18, _ => exact lit1_402 i
  | 19, _ => exact lit1_403 i
  | 20, _ => exact lit1_404 i
  | 21, _ => exact lit1_405 i
  | 22, _ => exact lit1_406 i
  | 23, _ => exact lit1_407 i
  | 24, _ => exact lit1_408 i
  | 25, _ => exact lit1_409 i
  | 26, _ => exact lit1_410 i
  | 27, _ => exact lit1_411 i
  | 28, _ => exact lit1_412 i
  | 29, _ => exact lit1_413 i
  | 30, _ => exact lit1_414 i
  | 31, _ => exact lit1_415 i
  | 32, _ => exact lit1_416 i
  | 33, _ => exact lit1_417 i
  | 34, _ => exact lit1_418 i
  | 35, _ => exact lit1_419 i
  | 36, _ => exact lit1_420 i
  | 37, _ => exact lit1_421 i
  | 38, _ => exact lit1_422 i
  | 39, _ => exact lit1_423 i
  | 40, _ => exact lit1_424 i
  | 41, _ => exact lit1_425 i
  | 42, _ => exact lit1_426 i
  | 43, _ => exact lit1_427 i
  | 44, _ => exact lit1_428 i
  | 45, _ => exact lit1_429 i
  | 46, _ => exact lit1_430 i
  | 47, _ => exact lit1_431 i
  | 48, _ => exact lit1_432 i
  | 49, _ => exact lit1_433 i
  | 50, _ => exact lit1_434 i
  | 51, _ => exact lit1_435 i
  | 52, _ => exact lit1_436 i
  | 53, _ => exact lit1_437 i
  | 54, _ => exact lit1_438 i
  | 55, _ => exact lit1_439 i
  | 56, _ => exact lit1_440 i
  | 57, _ => exact lit1_441 i
  | 58, _ => exact lit1_442 i
  | 59, _ => exact lit1_443 i
  | 60, _ => exact lit1_444 i
  | 61, _ => exact lit1_445 i
  | 62, _ => exact lit1_446 i
  | 63, _ => exact lit1_447 i
  | 64, _ => exact lit1_448 i
  | 65, _ => exact lit1_449 i
  | 66, _ => exact lit1_450 i
  | 67, _ => exact lit1_451 i
  | 68, _ => exact lit1_452 i
  | 69, _ => exact lit1_453 i
  | 70, _ => exact lit1_454 i
  | 71, _ => exact lit1_455 i
  | 72, _ => exact lit1_456 i
  | 73, _ => exact lit1_457 i
  | 74, _ => exact lit1_458 i
  | 75, _ => exact lit1_459 i
  | 76, _ => exact lit1_460 i
  | 77, _ => exact lit1_461 i
  | 78, _ => exact lit1_462 i
  | 79, _ => exact lit1_463 i
  | 80, _ => exact lit1_464 i
  | 81, _ => exact lit1_465 i
  | 82, _ => exact lit1_466 i
  | 83, _ => exact lit1_467 i
  | 84, _ => exact lit1_468 i
  | 85, _ => exact lit1_469 i
  | 86, _ => exact lit1_470 i
  | 87, _ => exact lit1_471 i
  | 88, _ => exact lit1_472 i
  | 89, _ => exact lit1_473 i
  | 90, _ => exact lit1_474 i
  | 91, _ => exact lit1_475 i
  | 92, _ => exact lit1_476 i
  | 93, _ => exact lit1_477 i
  | 94, _ => exact lit1_478 i
  | 95, _ => exact lit1_479 i
  | 96, _ => exact lit1_480 i
  | 97, _ => exact lit1_481 i
  | 98, _ => exact lit1_482 i
  | 99, _ => exact lit1_483 i
  | 100, _ => exact lit1_484 i
  | 101, _ => exact lit1_485 i
  | 102, _ => exact lit1_486 i
  | 103, _ => exact lit1_487 i
  | 104, _ => exact lit1_488 i
  | 105, _ => exact lit1_489 i
  | 106, _ => exact lit1_490 i
  | 107, _ => exact lit1_491 i
  | 108, _ => exact lit1_492 i
  | 109, _ => exact lit1_493 i
  | 110, _ => exact lit1_494 i
  | 111, _ => exact lit1_495 i
  | 112, _ => exact lit1_496 i
  | 113, _ => exact lit1_497 i
  | 114, _ => exact lit1_498 i
  | 115, _ => exact lit1_499 i
  | 116, _ => exact lit1_500 i
  | 117, _ => exact lit1_501 i
  | 118, _ => exact lit1_502 i
  | 119, _ => exact lit1_503 i
  | 120, _ => exact lit1_504 i
  | 121, _ => exact lit1_505 i
  | 122, _ => exact lit1_506 i
  | 123, _ => exact lit1_507 i
  | 124, _ => exact lit1_508 i
  | 125, _ => exact lit1_509 i
  | 126, _ => exact lit1_510 i
  | 127, _ => exact lit1_511 i
  | _ + 128, hd => exact absurd hd (by omega)

theorem lit1_level_4 (i : Nat) : lit1t1_4 i = sel16 (128 * (128 * 4 + i / 128 % 128) + i % 128) := by
  unfold lit1t1_4
  have hd : i / 128 % 128 < 128 := Nat.mod_lt _ (by decide)
  generalize i / 128 % 128 = j at hd ⊢
  match j, hd with
  | 0, _ => exact lit1_512 i
  | 1, _ => exact lit1_513 i
  | 2, _ => exact lit1_514 i
  | 3, _ => exact lit1_515 i
  | 4, _ => exact lit1_516 i
  | 5, _ => exact lit1_517 i
  | 6, _ => exact lit1_518 i
  | 7, _ => exact lit1_519 i
  | 8, _ => exact lit1_520 i
  | 9, _ => exact lit1_521 i
  | 10, _ => exact lit1_522 i
  | 11, _ => exact lit1_523 i
  | 12, _ => exact lit1_524 i
  | 13, _ => exact lit1_525 i
  | 14, _ => exact lit1_526 i
  | 15, _ => exact lit1_527 i
  | 16, _ => exact lit1_528 i
  | 17, _ => exact lit1_529 i
  | 18, _ => exact lit1_530 i
  | 19, _ => exact lit1_531 i
  | 20, _ => exact lit1_532 i
  | 21, _ => exact lit1_533 i
  | 22, _ => exact lit1_534 i
  | 23, _ => exact lit1_535 i
  | 24, _ => exact lit1_536 i
  | 25, _ => exact lit1_537 i
  | 26, _ => exact lit1_538 i
  | 27, _ => exact lit1_539 i
  | 28, _ => exact lit1_540 i
  | 29, _ => exact lit1_541 i
  | 30, _ => exact lit1_542 i
  | 31, _ => exact lit1_543 i
  | 32, _ => exact lit1_544 i
  | 33, _ => exact lit1_545 i
  | 34, _ => exact lit1_546 i
  | 35, _ => exact lit1_547 i
  | 36, _ => exact lit1_548 i
  | 37, _ => exact lit1_549 i
  | 38, _ => exact lit1_550 i
  | 39, _ => exact lit1_551 i
  | 40, _ => exact lit1_552 i
  | 41, _ => exact lit1_553 i
  | 42, _ => exact lit1_554 i
  | 43, _ => exact lit1_555 i
  | 44, _ => exact lit1_556 i
  | 45, _ => exact lit1_557 i
  | 46, _ => exact lit1_558 i
  | 47, _ => exact lit1_559 i
  | 48, _ => exact lit1_560 i
  | 49, _ => exact lit1_561 i
  | 50, _ => exact lit1_562 i
  | 51, _ => exact lit1_563 i
  | 52, _ => exact lit1_564 i
  | 53, _ => exact lit1_565 i
  | 54, _ => exact lit1_566 i
  | 55, _ => exact lit1_567 i
  | 56, _ => exact lit1_568 i
  | 57, _ => exact lit1_569 i
  | 58, _ => exact lit1_570 i
  | 59, _ => exact lit1_571 i
  | 60, _ => exact lit1_572 i
  | 61, _ => exact lit1_573 i
  | 62, _ => exact lit1_574 i
  | 63, _ => exact lit1_575 i
  | 64, _ => exact lit1_576 i
  | 65, _ => exact lit1_577 i
  | 66, _ => exact lit1_578 i
  | 67, _ => exact lit1_579 i
  | 68, _ => exact lit1_580 i
  | 69, _ => exact lit1_581 i
  | 70, _ => exact lit1_582 i
  | 71, _ => exact lit1_583 i
  | 72, _ => exact lit1_584 i
  | 73, _ => exact lit1_585 i
  | 74, _ => exact lit1_586 i
  | 75, _ => exact lit1_587 i
  | 76, _ => exact lit1_588 i
  | 77, _ => exact lit1_589 i
  | 78, _ => exact lit1_590 i
  | 79, _ => exact lit1_591 i
  | 80, _ => exact lit1_592 i
  | 81, _ => exact lit1_593 i
  | 82, _ => exact lit1_594 i
  | 83, _ => exact lit1_595 i
  | 84, _ => exact lit1_596 i
  | 85, _ => exact lit1_597 i
  | 86, _ => exact lit1_598 i
  | 87, _ => exact lit1_599 i
  | 88, _ => exact lit1_600 i
  | 89, _ => exact lit1_601 i
  | 90, _ => exact lit1_602 i
  | 91, _ => exact lit1_603 i
  | 92, _ => exact lit1_604 i
  | 93, _ => exact lit1_605 i
  | 94, _ => exact lit1_606 i
  | 95, _ => exact lit1_607 i
  | 96, _ => exact lit1_608 i
  | 97, _ => exact lit1_609 i
  | 98, _ => exact lit1_610 i
  | 99, _ => exact lit1_611 i
  | 100, _ => exact lit1_612 i
  | 101, _ => exact lit1_613 i
  | 102, _ => exact lit1_614 i
  | 103, _ => exact lit1_615 i
  | 104, _ => exact lit1_616 i
  | 105, _ => exact lit1_617 i
  | 106, _ => exact lit1_618 i
  | 107, _ => exact lit1_619 i
  | 108, _ => exact lit1_620 i
  | 109, _ => exact lit1_621 i
  | 110, _ => exact lit1_622 i
  | 111, _ => exact lit1_623 i
  | 112, _ => exact lit1_624 i
  | 113, _ => exact lit1_625 i
  | 114, _ => exact lit1_626 i
  | 115, _ => exact lit1_627 i
  | 116, _ => exact lit1_628 i
  | 117, _ => exact lit1_629 i
  | 118, _ => exact lit1_630 i
  | 119, _ => exact lit1_631 i
  | 120, _ => exact lit1_632 i
  | 121, _ => exact lit1_633 i
  | 122, _ => exact lit1_634 i
  | 123, _ => exact lit1_635 i
  | 124, _ => exact lit1_636 i
  | 125, _ => exact lit1_637 i
  | 126, _ => exact lit1_638 i
  | 127, _ => exact lit1_639 i
  | _ + 128, hd => exact absurd hd (by omega)

theorem lit1_level_5 (i : Nat) : lit1t1_5 i = sel16 (128 * (128 * 5 + i / 128 % 128) + i % 128) := by
  unfold lit1t1_5
  have hd : i / 128 % 128 < 128 := Nat.mod_lt _ (by decide)
  generalize i / 128 % 128 = j at hd ⊢
  match j, hd with
  | 0, _ => exact lit1_640 i
  | 1, _ => exact lit1_641 i
  | 2, _ => exact lit1_642 i
  | 3, _ => exact lit1_643 i
  | 4, _ => exact lit1_644 i
  | 5, _ => exact lit1_645 i
  | 6, _ => exact lit1_646 i
  | 7, _ => exact lit1_647 i
  | 8, _ => exact lit1_648 i
  | 9, _ => exact lit1_649 i
  | 10, _ => exact lit1_650 i
  | 11, _ => exact lit1_651 i
  | 12, _ => exact lit1_652 i
  | 13, _ => exact lit1_653 i
  | 14, _ => exact lit1_654 i
  | 15, _ => exact lit1_655 i
  | 16, _ => exact lit1_656 i
  | 17, _ => exact lit1_657 i
  | 18, _ => exact lit1_658 i
  | 19, _ => exact lit1_659 i
  | 20, _ => exact lit1_660 i
  | 21, _ => exact lit1_661 i
  | 22, _ => exact lit1_662 i
  | 23, _ => exact lit1_663 i
  | 24, _ => exact lit1_664 i
  | 25, _ => exact lit1_665 i
  | 26, _ => exact lit1_666 i
  | 27, _ => exact lit1_667 i
  | 28, _ => exact lit1_668 i
  | 29, _ => exact lit1_669 i
  | 30, _ => exact lit1_670 i
  | 31, _ => exact lit1_671 i
  | 32, _ => exact lit1_672 i
  | 33, _ => exact lit1_673 i
  | 34, _ => exact lit1_674 i
  | 35, _ => exact lit1_675 i
  | 36, _ => exact lit1_676 i
  | 37, _ => exact lit1_677 i
  | 38, _ => exact lit1_678 i
  | 39, _ => exact lit1_679 i
  | 40, _ => exact lit1_680 i
  | 41, _ => exact lit1_681 i
  | 42, _ => exact lit1_682 i
  | 43, _ => exact lit1_683 i
  | 44, _ => exact lit1_684 i
  | 45, _ => exact lit1_685 i
  | 46, _ => exact lit1_686 i
  | 47, _ => exact lit1_687 i
  | 48, _ => exact lit1_688 i
  | 49, _ => exact lit1_689 i
  | 50, _ => exact lit1_690 i
  | 51, _ => exact lit1_691 i
  | 52, _ => exact lit1_692 i
  | 53, _ => exact lit1_693 i
  | 54, _ => exact lit1_694 i
  | 55, _ => exact lit1_695 i
  | 56, _ => exact lit1_696 i
  | 57, _ => exact lit1_697 i
  | 58, _ => exact lit1_698 i
  | 59, _ => exact lit1_699 i
  | 60, _ => exact lit1_700 i
  | 61, _ => exact lit1_701 i
  | 62, _ => exact lit1_702 i
  | 63, _ => exact lit1_703 i
  | 64, _ => exact lit1_704 i
  | 65, _ => exact lit1_705 i
  | 66, _ => exact lit1_706 i
  | 67, _ => exact lit1_707 i
  | 68, _ => exact lit1_708 i
  | 69, _ => exact lit1_709 i
  | 70, _ => exact lit1_710 i
  | 71, _ => exact lit1_711 i
  | 72, _ => exact lit1_712 i
  | 73, _ => exact lit1_713 i
  | 74, _ => exact lit1_714 i
  | 75, _ => exact lit1_715 i
  | 76, _ => exact lit1_716 i
  | 77, _ => exact lit1_717 i
  | 78, _ => exact lit1_718 i
  | 79, _ => exact lit1_719 i
  | 80, _ => exact lit1_720 i
  | 81, _ => exact lit1_721 i
  | 82, _ => exact lit1_722 i
  | 83, _ => exact lit1_723 i
  | 84, _ => exact lit1_724 i
  | 85, _ => exact lit1_725 i
  | 86, _ => exact lit1_726 i
  | 87, _ => exact lit1_727 i
  | 88, _ => exact lit1_728 i
  | 89, _ => exact lit1_729 i
  | 90, _ => exact lit1_730 i
  | 91, _ => exact lit1_731 i
  | 92, _ => exact lit1_732 i
  | 93, _ => exact lit1_733 i
  | 94, _ => exact lit1_734 i
  | 95, _ => exact lit1_735 i
  | 96, _ => exact lit1_736 i
  | 97, _ => exact lit1_737 i
  | 98, _ => exact lit1_738 i
  | 99, _ => exact lit1_739 i
  | 100, _ => exact lit1_740 i
  | 101, _ => exact lit1_741 i
  | 102, _ => exact lit1_742 i
  | 103, _ => exact lit1_743 i
  | 104, _ => exact lit1_744 i
  | 105, _ => exact lit1_745 i
  | 106, _ => exact lit1_746 i
  | 107, _ => exact lit1_747 i
  | 108, _ => exact lit1_748 i
  | 109, _ => exact lit1_749 i
  | 110, _ => exact lit1_750 i
  | 111, _ => exact lit1_751 i
  | 112, _ => exact lit1_752 i
  | 113, _ => exact lit1_753 i
  | 114, _ => exact lit1_754 i
  | 115, _ => exact lit1_755 i
  | 116, _ => exact lit1_756 i
  | 117, _ => exact lit1_757 i
  | 118, _ => exact lit1_758 i
  | 119, _ => exact lit1_759 i
  | 120, _ => exact lit1_760 i
  | 121, _ => exact lit1_761 i
  | 122, _ => exact lit1_762 i
  | 123, _ => exact lit1_763 i
  | 124, _ => exact lit1_764 i
  | 125, _ => exact lit1_765 i
  | 126, _ => exact lit1_766 i
  | 127, _ => exact lit1_767 i
  | _ + 128, hd => exact absurd hd (by omega)

theorem lit1_level_6 (i : Nat) (hi : i / 128 % 128 < 32) : lit1t1_6 i = sel16 (128 * (128 * 6 + i / 128 % 128) + i % 128) := by
  unfold lit1t1_6
  have hd := hi; clear hi
  generalize i / 128 % 128 = j at hd ⊢
  match j, hd with
  | 0, _ => exact lit1_768 i
  | 1, _ => exact lit1_769 i
  | 2, _ => exact lit1_770 i
  | 3, _ => exact lit1_771 i
  | 4, _ => exact lit1_772 i
  | 5, _ => exact lit1_773 i
  | 6, _ => exact lit1_774 i
  | 7, _ => exact lit1_775 i
  | 8, _ => exact lit1_776 i
  | 9, _ => exact lit1_777 i
  | 10, _ => exact lit1_778 i
  | 11, _ => exact lit1_779 i
  | 12, _ => exact lit1_780 i
  | 13, _ => exact lit1_781 i
  | 14, _ => exact lit1_782 i
  | 15, _ => exact lit1_783 i
  | 16, _ => exact lit1_784 i
  | 17, _ => exact lit1_785 i
  | 18, _ => exact lit1_786 i
  | 19, _ => exact lit1_787 i
  | 20, _ => exact lit1_788 i
  | 21, _ => exact lit1_789 i
  | 22, _ => exact lit1_790 i
  | 23, _ => exact lit1_791 i
  | 24, _ => exact lit1_792 i
  | 25, _ => exact lit1_793 i
  | 26, _ => exact lit1_794 i
  | 27, _ => exact lit1_795 i
  | 28, _ => exact lit1_796 i
  | 29, _ => exact lit1_797 i
  | 30, _ => exact lit1_798 i
  | 31, _ => exact lit1_799 i
  | _ + 32, hd => exact absurd hd (by omega)

theorem lit1_entry (i : Nat) (hi : i < 102400) : lit1t i = sel16 i := by
  have hk : i / 16384 = 0 ∨ i / 16384 = 1 ∨ i / 16384 = 2 ∨ i / 16384 = 3 ∨ i / 16384 = 4 ∨ i / 16384 = 5 ∨ i / 16384 = 6 := by omega
  unfold lit1t
  rcases hk with h | h | h | h | h | h | h <;> rw [h]
  · exact (lit1_level_0 i).trans (congrArg sel16 (by omega))
  · exact (lit1_level_1 i).trans (congrArg sel16 (by omega))
  · exact (lit1_level_2 i).trans (congrArg sel16 (by omega))
  · exact (lit1_level_3 i).trans (congrArg sel16 (by omega))
  · exact (lit1_level_4 i).trans (congrArg sel16 (by omega))
  · exact (lit1_level_5 i).trans (congrArg sel16 (by omega))
  · exact (lit1_level_6 i (by omega)).trans (congrArg sel16 (by omega))

/-- Entry `(r, b)` of the selectors. -/
theorem sel32_apply (r b : Nat) (hb : b < 80) :
    sel32 (r * 80 + b) = if b = r / 16 then 0x3F800000#32 else 0x00000000#32 := by
  have h2 : (r * 80 + b) / 1280 = r / 16 := by omega
  have h3 : (r * 80 + b) % 80 = b := by omega
  unfold sel32
  rw [h2, h3]
  by_cases h : b = r / 16
  · rw [if_pos h, ← h, Nat.beq_refl]
    rfl
  · rw [if_neg h, show Nat.beq (r / 16) b = false from Bool.eq_false_iff.mpr fun e => h (Nat.eq_of_beq_eq_true e).symm]
    rfl

theorem sel16_apply (r b : Nat) (hb : b < 80) :
    sel16 (r * 80 + b) = if b = r / 16 then 0x3F80#16 else 0x0000#16 := by
  have h2 : (r * 80 + b) / 1280 = r / 16 := by omega
  have h3 : (r * 80 + b) % 80 = b := by omega
  unfold sel16
  rw [h2, h3]
  by_cases h : b = r / 16
  · rw [if_pos h, ← h, Nat.beq_refl]
    rfl
  · rw [if_neg h, show Nat.beq (r / 16) b = false from Bool.eq_false_iff.mpr fun e => h (Nat.eq_of_beq_eq_true e).symm]
    rfl

end Cert.Conv

end
-- ==== Proof.Entry.lean ====
/- What the kernel's windows read: the arrays the host hands over, entry by entry. -/
module

public import proofs.«01_k».proof.Proof.Block
public import proofs.«01_k».proof.Proof.Tables
public import proofs.«01_k».proof.Proof.Gen.KernelIdeal.Frame

@[expose] public section

set_option maxRecDepth 16384

noncomputable section

namespace Cert.Conv

open Idealize.ShloMosaic Idealize.ShloMosaic.TcCoe Idealize.ShloMosaic.Pointwise
open Cert.KernelIdeal Cert.KernelIdeal.Gen
open scoped BigOperators

variable (m : (ℓ : Loc nD τ sig) → Buf (Elt Ideal) ℓ) (c : Dev nD)

theorem V_v0 : V m c main_v0 = shapeCast S160000x128 (m (c.tc.loc main_arg0)) shapeCasts_S10000x16x128_S160000x128 := by
  show StableHlo.after _ _ (Proc.devRef .tc main_v0) = _
  simp only [hostOps0, hostOps0_1, List.flatten_cons, List.flatten_nil, List.append_nil, List.cons_append, List.nil_append]
  after_results
  rfl

theorem V_v1 : V m c main_v1 = shapeCast S160000x128 (m (c.tc.loc main_arg1)) shapeCasts_S10000x16x128_S160000x128 := by
  show StableHlo.after _ _ (Proc.devRef .tc main_v1) = _
  simp only [hostOps0, hostOps0_1, List.flatten_cons, List.flatten_nil, List.append_nil, List.cons_append, List.nil_append]
  after_results
  rfl

theorem V_v2 : V m c main_v2 = shapeCast S10000x16 (m (c.tc.loc main_arg3)) shapeCasts_S10000x16x1_S10000x16 := by
  show StableHlo.after _ _ (Proc.devRef .tc main_v2) = _
  simp only [hostOps0, hostOps0_1, List.flatten_cons, List.flatten_nil, List.append_nil, List.cons_append, List.nil_append]
  after_results
  rfl

theorem V_v3 : V m c main_v3 = shapeCast S10000x16 (m (c.tc.loc main_arg4)) shapeCasts_S10000x16x1_S10000x16 := by
  show StableHlo.after _ _ (Proc.devRef .tc main_v3) = _
  simp only [hostOps0, hostOps0_1, List.flatten_cons, List.flatten_nil, List.append_nil, List.cons_append, List.nil_append]
  after_results
  rfl

theorem V_cst : V m c main_call0_cst = fun i => FloatOps.ofBits (F := Ideal) .f32 (lit0 (S1280x80.rowMajor i)) := by
  show StableHlo.after _ _ (Proc.devRef .tc main_call0_cst) = _
  simp only [hostOps0, hostOps0_1, List.flatten_cons, List.flatten_nil, List.append_nil, List.cons_append, List.nil_append]
  after_results
  rfl

theorem V_cst_0 : V m c main_call0_cst_0 = fun i => FloatOps.ofBits (F := Ideal) .bf16 (lit1 (S1280x80.rowMajor i)) := by
  show StableHlo.after _ _ (Proc.devRef .tc main_call0_cst_0) = _
  simp only [hostOps0, hostOps0_1, List.flatten_cons, List.flatten_nil, List.append_nil, List.cons_append, List.nil_append]
  after_results
  rfl

theorem V_call0_v0 : V m c main_call0_v0
    = concatenate S128x256 1 [⟨S128x128, m (c.tc.loc main_arg9)⟩, ⟨S128x128, m (c.tc.loc main_arg11)⟩] concatenates_S128x128_S128x128_S128x256_d1 := by
  show StableHlo.after _ _ (Proc.devRef .tc main_call0_v0) = _
  simp only [hostOps0, hostOps0_1, List.flatten_cons, List.flatten_nil, List.append_nil, List.cons_append, List.nil_append]
  after_results
  rfl

theorem V_call0_v2 : V m c main_call0_v2
    = shapeCast S1x128 (addf (F := Ideal) (φ := .f32) (m (c.tc.loc main_arg10)) (m (c.tc.loc main_arg12))) shapeCasts_S128_S1x128 := by
  show StableHlo.after _ _ (Proc.devRef .tc main_call0_v2) = _
  simp only [hostOps0, hostOps0_1, List.flatten_cons, List.flatten_nil, List.append_nil, List.cons_append, List.nil_append]
  after_results
  rfl

theorem V_call0_v3 : V m c main_call0_v3 = shapeCast S1x128 (m (c.tc.loc main_arg5)) shapeCasts_S128_S1x128 := by
  show StableHlo.after _ _ (Proc.devRef .tc main_call0_v3) = _
  simp only [hostOps0, hostOps0_1, List.flatten_cons, List.flatten_nil, List.append_nil, List.cons_append, List.nil_append]
  after_results
  rfl

theorem V_call0_v4 : V m c main_call0_v4 = shapeCast S1x128 (m (c.tc.loc main_arg6)) shapeCasts_S128_S1x128 := by
  show StableHlo.after _ _ (Proc.devRef .tc main_call0_v4) = _
  simp only [hostOps0, hostOps0_1, List.flatten_cons, List.flatten_nil, List.append_nil, List.cons_append, List.nil_append]
  after_results
  rfl

theorem V_call0_v5 : V m c main_call0_v5 = shapeCast S1x128 (m (c.tc.loc main_arg8)) shapeCasts_S128_S1x128 := by
  show StableHlo.after _ _ (Proc.devRef .tc main_call0_v5) = _
  simp only [hostOps0, hostOps0_1, List.flatten_cons, List.flatten_nil, List.append_nil, List.cons_append, List.nil_append]
  after_results
  rfl

/-! ## The windows' blocks -/

theorem points_lt (t : Fin cfg0.N) : t.val < 125 := lt_of_lt_of_eq t.isLt N_0

theorem at0 : ∀ t : Fin cfg0.N, win0_0.index t 0 = t.val ∧ win0_0.index t 1 = 0 := by decide +kernel
theorem at1 : ∀ t : Fin cfg0.N, win0_1.index t 0 = t.val ∧ win0_1.index t 1 = 0 := by decide +kernel
theorem at2 : ∀ t : Fin cfg0.N, win0_2.index t 0 = t.val ∧ win0_2.index t 1 = 0 := by decide +kernel
theorem at3 : ∀ t : Fin cfg0.N, win0_3.index t 0 = t.val ∧ win0_3.index t 1 = 0 := by decide +kernel
theorem at4 : ∀ t : Fin cfg0.N, win0_4.index t 0 = t.val ∧ win0_4.index t 1 = 0 := by decide +kernel
theorem at13 : ∀ t : Fin cfg0.N, win0_13.index t 0 = t.val ∧ win0_13.index t 1 = 0 := by decide +kernel
theorem at14 : ∀ t : Fin cfg0.N, win0_14.index t 0 = t.val ∧ win0_14.index t 1 = 0 := by decide +kernel
theorem at5 : ∀ t : Fin cfg0.N, win0_5.index t 0 = 0 ∧ win0_5.index t 1 = 0 := by decide +kernel
theorem at6 : ∀ t : Fin cfg0.N, win0_6.index t 0 = 0 ∧ win0_6.index t 1 = 0 := by decide +kernel
theorem at7 : ∀ t : Fin cfg0.N, win0_7.index t 0 = 0 ∧ win0_7.index t 1 = 0 := by decide +kernel
theorem at8 : ∀ t : Fin cfg0.N, win0_8.index t 0 = 0 ∧ win0_8.index t 1 = 0 := by decide +kernel
theorem at9 : ∀ t : Fin cfg0.N, win0_9.index t 0 = 0 ∧ win0_9.index t 1 = 0 := by decide +kernel
theorem at10 : ∀ t : Fin cfg0.N, win0_10.index t 0 = 0 ∧ win0_10.index t 1 = 0 := by decide +kernel
theorem at11 : ∀ t : Fin cfg0.N, win0_11.index t 0 = 0 ∧ win0_11.index t 1 = 0 := by decide +kernel
theorem at12 : ∀ t : Fin cfg0.N, win0_12.index t 0 = 0 ∧ win0_12.index t 1 = 0 := by decide +kernel

theorem blk0 (t : Fin cfg0.N) (r : Fin 1280) (k : Fin 128) :
    iblk m c 0 t (ix2 r k) = V m c main_v0 (ix2 (⟨1280 * t.val + r.val, by have := points_lt t; omega⟩ : Fin 160000) k) := by
  unfold iblk
  rw [View.read_apply]
  show V m c main_v0 _ = V m c main_v0 _
  refine congrArg (V m c main_v0) ?_
  funext a
  apply Fin.ext
  match a with
  | ⟨0, _⟩ => show win0_0.index t 0 * 1280 + 1 * r.val = 1280 * t.val + r.val; rw [(at0 t).1]; omega
  | ⟨1, _⟩ => show win0_0.index t 1 * 128 + 1 * k.val = k.val; rw [(at0 t).2]; omega

theorem blk1 (t : Fin cfg0.N) (r : Fin 1280) (k : Fin 128) :
    iblk m c 1 t (ix2 r k) = V m c main_v1 (ix2 (⟨1280 * t.val + r.val, by have := points_lt t; omega⟩ : Fin 160000) k) := by
  unfold iblk
  rw [View.read_apply]
  show V m c main_v1 _ = V m c main_v1 _
  refine congrArg (V m c main_v1) ?_
  funext a
  apply Fin.ext
  match a with
  | ⟨0, _⟩ => show win0_1.index t 0 * 1280 + 1 * r.val = 1280 * t.val + r.val; rw [(at1 t).1]; omega
  | ⟨1, _⟩ => show win0_1.index t 1 * 128 + 1 * k.val = k.val; rw [(at1 t).2]; omega

theorem blk2 (t : Fin cfg0.N) (r : Fin 80) (k : Fin 16) :
    iblk m c 2 t (ix2 r k) = V m c main_arg2 (ix2 (⟨80 * t.val + r.val, by have := points_lt t; omega⟩ : Fin 10000) k) := by
  unfold iblk
  rw [View.read_apply]
  show V m c main_arg2 _ = V m c main_arg2 _
  refine congrArg (V m c main_arg2) ?_
  funext a
  apply Fin.ext
  match a with
  | ⟨0, _⟩ => show win0_2.index t 0 * 80 + 1 * r.val = 80 * t.val + r.val; rw [(at2 t).1]; omega
  | ⟨1, _⟩ => show win0_2.index t 1 * 16 + 1 * k.val = k.val; rw [(at2 t).2]; omega

theorem blk3 (t : Fin cfg0.N) (r : Fin 80) (k : Fin 16) :
    iblk m c 3 t (ix2 r k) = V m c main_v2 (ix2 (⟨80 * t.val + r.val, by have := points_lt t; omega⟩ : Fin 10000) k) := by
  unfold iblk
  rw [View.read_apply]
  show V m c main_v2 _ = V m c main_v2 _
  refine congrArg (V m c main_v2) ?_
  funext a
  apply Fin.ext
  match a with
  | ⟨0, _⟩ => show win0_3.index t 0 * 80 + 1 * r.val = 80 * t.val + r.val; rw [(at3 t).1]; omega
  | ⟨1, _⟩ => show win0_3.index t 1 * 16 + 1 * k.val = k.val; rw [(at3 t).2]; omega

theorem blk4 (t : Fin cfg0.N) (r : Fin 80) (k : Fin 16) :
    iblk m c 4 t (ix2 r k) = V m c main_v3 (ix2 (⟨80 * t.val + r.val, by have := points_lt t; omega⟩ : Fin 10000) k) := by
  unfold iblk
  rw [View.read_apply]
  show V m c main_v3 _ = V m c main_v3 _
  refine congrArg (V m c main_v3) ?_
  funext a
  apply Fin.ext
  match a with
  | ⟨0, _⟩ => show win0_4.index t 0 * 80 + 1 * r.val = 80 * t.val + r.val; rw [(at4 t).1]; omega
  | ⟨1, _⟩ => show win0_4.index t 1 * 16 + 1 * k.val = k.val; rw [(at4 t).2]; omega

theorem blk5 (t : Fin cfg0.N) (r : Fin 1280) (k : Fin 80) :
    iblk m c 5 t (ix2 r k) = V m c main_call0_cst (ix2 r k) := by
  unfold iblk
  rw [View.read_apply]
  show V m c main_call0_cst _ = V m c main_call0_cst _
  refine congrArg (V m c main_call0_cst) ?_
  funext a
  apply Fin.ext
  match a with
  | ⟨0, _⟩ => show win0_5.index t 0 * 1280 + 1 * r.val = r.val; rw [(at5 t).1]; omega
  | ⟨1, _⟩ => show win0_5.index t 1 * 80 + 1 * k.val = k.val; rw [(at5 t).2]; omega

theorem blk6 (t : Fin cfg0.N) (r : Fin 1280) (k : Fin 80) :
    iblk m c 6 t (ix2 r k) = V m c main_call0_cst_0 (ix2 r k) := by
  unfold iblk
  rw [View.read_apply]
  show V m c main_call0_cst_0 _ = V m c main_call0_cst_0 _
  refine congrArg (V m c main_call0_cst_0) ?_
  funext a
  apply Fin.ext
  match a with
  | ⟨0, _⟩ => show win0_6.index t 0 * 1280 + 1 * r.val = r.val; rw [(at6 t).1]; omega
  | ⟨1, _⟩ => show win0_6.index t 1 * 80 + 1 * k.val = k.val; rw [(at6 t).2]; omega

theorem blk7 (t : Fin cfg0.N) (r : Fin 1) (k : Fin 128) :
    iblk m c 7 t (ix2 r k) = V m c main_call0_v3 (ix2 r k) := by
  unfold iblk
  rw [View.read_apply]
  show V m c main_call0_v3 _ = V m c main_call0_v3 _
  refine congrArg (V m c main_call0_v3) ?_
  funext a
  apply Fin.ext
  match a with
  | ⟨0, _⟩ => show win0_7.index t 0 * 1 + 1 * r.val = r.val; rw [(at7 t).1]; omega
  | ⟨1, _⟩ => show win0_7.index t 1 * 128 + 1 * k.val = k.val; rw [(at7 t).2]; omega

theorem blk8 (t : Fin cfg0.N) (r : Fin 1) (k : Fin 128) :
    iblk m c 8 t (ix2 r k) = V m c main_call0_v4 (ix2 r k) := by
  unfold iblk
  rw [View.read_apply]
  show V m c main_call0_v4 _ = V m c main_call0_v4 _
  refine congrArg (V m c main_call0_v4) ?_
  funext a
  apply Fin.ext
  match a with
  | ⟨0, _⟩ => show win0_8.index t 0 * 1 + 1 * r.val = r.val; rw [(at8 t).1]; omega
  | ⟨1, _⟩ => show win0_8.index t 1 * 128 + 1 * k.val = k.val; rw [(at8 t).2]; omega

theorem blk9 (t : Fin cfg0.N) (r : Fin 256) (k : Fin 128) :
    iblk m c 9 t (ix2 r k) = V m c main_arg7 (ix2 r k) := by
  unfold iblk
  rw [View.read_apply]
  show V m c main_arg7 _ = V m c main_arg7 _
  refine congrArg (V m c main_arg7) ?_
  funext a
  apply Fin.ext
  match a with
  | ⟨0, _⟩ => show win0_9.index t 0 * 256 + 1 * r.val = r.val; rw [(at9 t).1]; omega
  | ⟨1, _⟩ => show win0_9.index t 1 * 128 + 1 * k.val = k.val; rw [(at9 t).2]; omega

theorem blk10 (t : Fin cfg0.N) (r : Fin 1) (k : Fin 128) :
    iblk m c 10 t (ix2 r k) = V m c main_call0_v5 (ix2 r k) := by
  unfold iblk
  rw [View.read_apply]
  show V m c main_call0_v5 _ = V m c main_call0_v5 _
  refine congrArg (V m c main_call0_v5) ?_
  funext a
  apply Fin.ext
  match a with
  | ⟨0, _⟩ => show win0_10.index t 0 * 1 + 1 * r.val = r.val; rw [(at10 t).1]; omega
  | ⟨1, _⟩ => show win0_10.index t 1 * 128 + 1 * k.val = k.val; rw [(at10 t).2]; omega

theorem blk11 (t : Fin cfg0.N) (r : Fin 128) (k : Fin 256) :
    iblk m c 11 t (ix2 r k) = V m c main_call0_v0 (ix2 r k) := by
  unfold iblk
  rw [View.read_apply]
  show V m c main_call0_v0 _ = V m c main_call0_v0 _
  refine congrArg (V m c main_call0_v0) ?_
  funext a
  apply Fin.ext
  match a with
  | ⟨0, _⟩ => show win0_11.index t 0 * 128 + 1 * r.val = r.val; rw [(at11 t).1]; omega
  | ⟨1, _⟩ => show win0_11.index t 1 * 256 + 1 * k.val = k.val; rw [(at11 t).2]; omega

theorem blk12 (t : Fin cfg0.N) (r : Fin 1) (k : Fin 128) :
    iblk m c 12 t (ix2 r k) = V m c main_call0_v2 (ix2 r k) := by
  unfold iblk
  rw [View.read_apply]
  show V m c main_call0_v2 _ = V m c main_call0_v2 _
  refine congrArg (V m c main_call0_v2) ?_
  funext a
  apply Fin.ext
  match a with
  | ⟨0, _⟩ => show win0_12.index t 0 * 1 + 1 * r.val = r.val; rw [(at12 t).1]; omega
  | ⟨1, _⟩ => show win0_12.index t 1 * 128 + 1 * k.val = k.val; rw [(at12 t).2]; omega

/-! ## Their entries in the arguments -/

/-- The bucket a row of a block lies in. -/
def gbucket (t : Fin cfg0.N) (b : Fin 80) : Fin 10000 := ⟨80 * t.val + b.val, by have := points_lt t; omega⟩

theorem rows_apply (x : FVec Ideal S10000x16x128 .f32) (R : Fin 160000) (k : Fin 128) :
    shapeCast S160000x128 x shapeCasts_S10000x16x128_S160000x128 (ix2 R k)
      = x (ix3 (⟨R.val / 16, by omega⟩ : Fin 10000) (⟨R.val % 16, by omega⟩ : Fin 16) k) := by
  pointwise

theorem feat0 (t : Fin cfg0.N) (r : Fin 1280) (k : Fin 128) :
    iblk m c 0 t (ix2 r k) = m (c.tc.loc main_arg0) (ValueIdx.ix3 (gbucket t (bucket r)) (place r) k) := by
  have h0 : (⟨(1280 * t.val + r.val) / 16, by have := points_lt t; omega⟩ : Fin 10000) = gbucket t (bucket r) :=
    Fin.ext (show (1280 * t.val + r.val) / 16 = 80 * t.val + r.val / 16 by omega)
  have h1 : (⟨(1280 * t.val + r.val) % 16, by omega⟩ : Fin 16) = place r :=
    Fin.ext (show (1280 * t.val + r.val) % 16 = r.val % 16 by omega)
  rw [blk0, V_v0, ← ix3_eq_valueIdx, ← h0, ← h1]
  exact rows_apply _ _ _

theorem feat1 (t : Fin cfg0.N) (r : Fin 1280) (k : Fin 128) :
    iblk m c 1 t (ix2 r k) = m (c.tc.loc main_arg1) (ValueIdx.ix3 (gbucket t (bucket r)) (place r) k) := by
  have h0 : (⟨(1280 * t.val + r.val) / 16, by have := points_lt t; omega⟩ : Fin 10000) = gbucket t (bucket r) :=
    Fin.ext (show (1280 * t.val + r.val) / 16 = 80 * t.val + r.val / 16 by omega)
  have h1 : (⟨(1280 * t.val + r.val) % 16, by omega⟩ : Fin 16) = place r :=
    Fin.ext (show (1280 * t.val + r.val) % 16 = r.val % 16 by omega)
  rw [blk1, V_v1, ← ix3_eq_valueIdx, ← h0, ← h1]
  exact rows_apply _ _ _

theorem time2 (t : Fin cfg0.N) (b : Fin 80) (q : Fin 16) :
    iblk m c 2 t (ix2 b q) = m (c.tc.loc main_arg2) (ValueIdx.ix2 (gbucket t b) q) := by
  rw [blk2, V_main_arg2, ← ix2_eq_valueIdx]
  rfl

theorem word3 (t : Fin cfg0.N) (b : Fin 80) (q : Fin 16) :
    iblk m c 3 t (ix2 b q) = m (c.tc.loc main_arg3) (ValueIdx.ix3 (gbucket t b) q (0 : Fin 1)) := by
  rw [blk3, V_v2, ← ix3_eq_valueIdx]
  pointwise
  rfl

theorem word4 (t : Fin cfg0.N) (b : Fin 80) (q : Fin 16) :
    iblk m c 4 t (ix2 b q) = m (c.tc.loc main_arg4) (ValueIdx.ix3 (gbucket t b) q (0 : Fin 1)) := by
  rw [blk4, V_v3, ← ix3_eq_valueIdx]
  pointwise
  rfl

theorem vec7 (t : Fin cfg0.N) (k : Fin 128) :
    iblk m c 7 t (ix2 (0 : Fin 1) k) = m (c.tc.loc main_arg5) (ValueIdx.ix1 k) := by
  rw [blk7, V_call0_v3, ← ix1_eq_valueIdx]
  pointwise

theorem vec8 (t : Fin cfg0.N) (k : Fin 128) :
    iblk m c 8 t (ix2 (0 : Fin 1) k) = m (c.tc.loc main_arg6) (ValueIdx.ix1 k) := by
  rw [blk8, V_call0_v4, ← ix1_eq_valueIdx]
  pointwise

theorem vec10 (t : Fin cfg0.N) (k : Fin 128) :
    iblk m c 10 t (ix2 (0 : Fin 1) k) = m (c.tc.loc main_arg8) (ValueIdx.ix1 k) := by
  rw [blk10, V_call0_v5, ← ix1_eq_valueIdx]
  pointwise

theorem vec12 (t : Fin cfg0.N) (k : Fin 128) : iblk m c 12 t (ix2 (0 : Fin 1) k)
    = HAdd.hAdd (α := EReal) (m (c.tc.loc main_arg10) (ValueIdx.ix1 k)) (m (c.tc.loc main_arg12) (ValueIdx.ix1 k)) := by
  rw [blk12, V_call0_v2, ← ix1_eq_valueIdx]
  pointwise

theorem w9 (t : Fin cfg0.N) (k : Fin 256) (d : Fin 128) :
    iblk m c 9 t (ix2 k d) = m (c.tc.loc main_arg7) (ValueIdx.ix2 k d) := by
  rw [blk9, V_main_arg7, ← ix2_eq_valueIdx]

theorem wc_lo (t : Fin cfg0.N) (d o : Fin 128) :
    iblk m c 11 t (ix2 d (⟨o.val, by omega⟩ : Fin 256)) = m (c.tc.loc main_arg9) (ValueIdx.ix2 d o) := by
  rw [blk11, V_call0_v0, ← ix2_eq_valueIdx]
  pointwise

theorem wc_hi (t : Fin cfg0.N) (d o : Fin 128) :
    iblk m c 11 t (ix2 d (⟨128 + o.val, by omega⟩ : Fin 256)) = m (c.tc.loc main_arg11) (ValueIdx.ix2 d o) := by
  rw [blk11, V_call0_v0, ← ix2_eq_valueIdx]
  pointwise

theorem flat_apply (r : Fin 1280) (b : Fin 80) :
    (S1280x80.rowMajor (ix2 r b) : Nat) = r.val * 80 + b.val := by
  rw [rowMajor_val2 _ 80 rfl]
  rfl

/-- A table, one word per entry of a block's selector, that holds one at a row's own bucket and zero elsewhere. -/
theorem selects_of_table {φ : FTy} (l : Fin 102400 → BitVec φ.bits) (one zero : BitVec φ.bits)
    (hl : ∀ (r : Fin 1280) (b : Fin 80) (h : r.val * 80 + b.val < 102400),
      l ⟨r.val * 80 + b.val, h⟩ = if b.val = r.val / 16 then one else zero)
    (h1 : Ideal.ofBits φ one = 1) (h0 : Ideal.ofBits φ zero = 0) (r : Fin 1280) (b : Fin 80) :
    (FloatOps.ofBits (F := Ideal) φ (l (S1280x80.rowMajor (ix2 r b))) : EReal) = if b = bucket r then (1 : EReal) else 0 := by
  have hi : r.val * 80 + b.val < 102400 := by omega
  have e : S1280x80.rowMajor (ix2 r b) = (⟨r.val * 80 + b.val, hi⟩ : Fin 102400) := Fin.ext (flat_apply r b)
  rw [e, hl r b hi]
  by_cases hb : b = bucket r
  · have hv : b.val = r.val / 16 := by rw [hb]; rfl
    rw [if_pos hb, if_pos hv]
    exact h1
  · have hv : ¬ b.val = r.val / 16 := fun h => hb (Fin.ext h)
    rw [if_neg hb, if_neg hv]
    exact h0

theorem sel5 (t : Fin cfg0.N) : Selects (φ := .f32) (iblk m c 5 t) := by
  intro r b
  rw [blk5, V_cst]
  exact selects_of_table (φ := .f32) lit0 _ _
    (fun r b h => (lit0_entry _ h).trans (sel32_apply _ _ b.isLt)) Ideal.ofBits_one_f32 Ideal.ofBits_zero_f32 r b

theorem sel6 (t : Fin cfg0.N) : Selects (φ := .bf16) (iblk m c 6 t) := by
  intro r b
  rw [blk6, V_cst_0]
  exact selects_of_table (φ := .bf16) lit1 _ _
    (fun r b h => (lit1_entry _ h).trans (sel16_apply _ _ b.isLt)) Ideal.ofBits_one_bf16 Ideal.ofBits_zero_bf16 r b

end Cert.Conv

end
-- ==== Proof.Sides.lean ====
/- A block's stored entries are the problem's results for its rows. -/
module

public import proofs.«01_k».proof.Proof.BlockResult
public import proofs.«01_k».proof.Proof.Entry

@[expose] public section

set_option maxRecDepth 16384

noncomputable section

namespace Cert.Conv

open Idealize.ShloMosaic Idealize.ShloMosaic.TcCoe Idealize.ShloMosaic.Pointwise
open Cert.KernelIdeal Cert.KernelIdeal.Gen
open scoped BigOperators

section
variable (x y : FVec Ideal S1280x128 .f32) (ts : FVec Ideal S80x16 .f32) (idx : IVec S80x16 32) (bf ph : FVec Ideal S1x128 .f32)
  (w1 : FVec Ideal S256x128 .f32) (b1 : FVec Ideal S1x128 .f32) (wc : FVec Ideal S128x256 .f32) (bo : FVec Ideal S1x128 .f32)
  (u v : S10000x16x128.Idx → EReal) (T : S10000x16.Idx → EReal) (I : S10000x16x1.Idx → BitVec 32) (BF PH : S128.Idx → EReal)
  (W1 : S256x128.Idx → EReal) (B1 : S128.Idx → EReal) (Ws : S128x128.Idx → EReal) (bs : S128.Idx → EReal)
  (Wn : S128x128.Idx → EReal) (bn : S128.Idx → EReal) (g : Fin 80 → Fin 10000)

/-- A block's encoded row is the array's, once its pieces are the arrays'. -/
theorem brow_eq_row (hx : ∀ r k, x (ix2 r k) = u (ValueIdx.ix3 (g (bucket r)) (place r) k))
    (ht : ∀ b q, ts (ix2 b q) = T (ValueIdx.ix2 (g b) q)) (hbf : ∀ k, bf (ix2 (0 : Fin 1) k) = BF (ValueIdx.ix1 k))
    (hph : ∀ k, ph (ix2 (0 : Fin 1) k) = PH (ValueIdx.ix1 k)) (hw : ∀ k d, w1 (ix2 k d) = W1 (ValueIdx.ix2 k d))
    (hb : ∀ k, b1 (ix2 (0 : Fin 1) k) = B1 (ValueIdx.ix1 k)) (r : Fin 1280) (d : Fin 128) :
    brow x ts bf ph w1 b1 r d = row u T BF PH W1 B1 (g (bucket r)) (place r) d := by
  unfold brow row
  simp only [hx, ht, hbf, hph, hw, hb]

theorem row_nonneg (p : Fin 10000) (j : Fin 16) (d : Fin 128) : 0 ≤ row v T BF PH W1 B1 p j d := enc_nonneg _ _ _ _ _ _ _

theorem pointed_eq (hi : ∀ b q, idx (ix2 b q) = I (ValueIdx.ix3 (g b) q (0 : Fin 1))) (b : Fin 80) (q : Fin 16) :
    pointed idx b q = I (ValueIdx.ix3 (g b) (pos I (g b) q) (0 : Fin 1)) := by
  have hp : (⟨min (idx (ix2 b q)).toNat 15, by omega⟩ : Fin 16) = pos I (g b) q :=
    Fin.ext (by show min _ _ = min _ _; rw [hi])
  unfold pointed
  rw [hp, hi]

theorem bout_eq_result (hI : InRange I)
    (hx : ∀ r k, x (ix2 r k) = u (ValueIdx.ix3 (g (bucket r)) (place r) k))
    (hy : ∀ r k, y (ix2 r k) = v (ValueIdx.ix3 (g (bucket r)) (place r) k))
    (ht : ∀ b q, ts (ix2 b q) = T (ValueIdx.ix2 (g b) q))
    (hi : ∀ b q, idx (ix2 b q) = I (ValueIdx.ix3 (g b) q (0 : Fin 1)))
    (hbf : ∀ k, bf (ix2 (0 : Fin 1) k) = BF (ValueIdx.ix1 k)) (hph : ∀ k, ph (ix2 (0 : Fin 1) k) = PH (ValueIdx.ix1 k))
    (hw : ∀ k d, w1 (ix2 k d) = W1 (ValueIdx.ix2 k d)) (hb : ∀ k, b1 (ix2 (0 : Fin 1) k) = B1 (ValueIdx.ix1 k))
    (hlo : ∀ d o : Fin 128, wc (ix2 d (⟨o.val, by omega⟩ : Fin 256)) = Ws (ValueIdx.ix2 d o))
    (hhi : ∀ d o : Fin 128, wc (ix2 d (⟨128 + o.val, by omega⟩ : Fin 256)) = Wn (ValueIdx.ix2 d o))
    (hbo : ∀ o : Fin 128, bo (ix2 (0 : Fin 1) o) = bs (ValueIdx.ix1 o) + bn (ValueIdx.ix1 o)) (r : Fin 1280) (o : Fin 128) :
    bout x y ts idx bf ph w1 b1 wc bo r o
      = result u v T I BF PH W1 B1 Ws bs Wn bn (g (bucket r)) (place r) o := by
  have hlt := hI (ValueIdx.ix3 (g (bucket r)) (place r) (0 : Fin 1))
  have hle : (idx (ix2 (bucket r) (place r))).toNat = (pos I (g (bucket r)) (place r)).val := by
    rw [hi]; show _ = min _ _; omega
  have hdiv : Ideal.div 1 ((((pointed idx (bucket r) (place r)).toInt : ℝ) : EReal) + 1)
      = (((divisor I (g (bucket r)) (pos I (g (bucket r)) (place r)))⁻¹ : ℝ) : EReal) := by
    rw [pointed_eq idx I g hi, word_real (hI _)]
    have e : (((I (ValueIdx.ix3 (g (bucket r)) (pos I (g (bucket r)) (place r)) (0 : Fin 1))).toNat : ℝ) : EReal) + 1
        = ((divisor I (g (bucket r)) (pos I (g (bucket r)) (place r)) : ℝ) : EReal) := by
      unfold divisor; norm_cast
    rw [e, div_pos_real _ (divisor_pos _ _ _), one_mul]
  have hrow : ∀ j : Fin 16, ∀ d, brow y ts bf ph w1 b1 (⟨16 * (r.val / 16) + j.val, by omega⟩ : Fin 1280) d
      = row v T BF PH W1 B1 (g (bucket r)) j d := by
    intro j d
    have hbk : bucket (⟨16 * (r.val / 16) + j.val, by omega⟩ : Fin 1280) = bucket r :=
      Fin.ext (show (16 * (r.val / 16) + j.val) / 16 = r.val / 16 by omega)
    have hpl : place (⟨16 * (r.val / 16) + j.val, by omega⟩ : Fin 1280) = j :=
      Fin.ext (show (16 * (r.val / 16) + j.val) % 16 = j.val by omega)
    rw [brow_eq_row y ts bf ph w1 b1 v T BF PH W1 B1 g hy ht hbf hph hw hb, hbk, hpl]
  unfold bout result conv
  simp only [hle, hdiv, hrow, brow_eq_row x ts bf ph w1 b1 u T BF PH W1 B1 g hx ht hbf hph hw hb, hlo, hhi, hbo]
  rw [mean_mul (fun j d => row v T BF PH W1 B1 (g (bucket r)) j d) (fun j d => row_nonneg v T BF PH W1 B1 _ j d)
    (fun d => Wn (ValueIdx.ix2 d o)) (pos I (g (bucket r)) (place r)).val (divisor_pos _ _ _)]
  rw [← add_assoc, add_assoc, add_comm (bn _), ← add_assoc]

end

end Cert.Conv

end
-- ==== Proof.Final.lean ====
/- The kernel's two result arrays, whole. -/
module

public import proofs.«01_k».proof.Proof.Sides
public import proofs.«01_k».proof.Proof.Gen.KernelIdeal.Value

@[expose] public section

set_option maxRecDepth 16384

noncomputable section

namespace Cert.Conv

open Idealize.ShloMosaic Idealize.ShloMosaic.TcCoe Idealize.ShloMosaic.Pointwise Idealize.SL.Sem
open Cert.KernelIdeal Cert.KernelIdeal.Gen Cert.KernelIdeal.Value
open scoped BigOperators

/-- One side's results as an array of rows. -/
def rows (u v : S10000x16x128.Idx → EReal) (T : S10000x16.Idx → EReal) (I : S10000x16x1.Idx → BitVec 32) (BF PH : S128.Idx → EReal)
    (W1 : S256x128.Idx → EReal) (B1 : S128.Idx → EReal) (Ws : S128x128.Idx → EReal) (bs : S128.Idx → EReal)
    (Wn : S128x128.Idx → EReal) (bn : S128.Idx → EReal) : FVec Ideal S160000x128 .f32 := fun i =>
  result u v T I BF PH W1 B1 Ws bs Wn bn ⟨(i 0).val / 16, by have h : (i 0).val < 160000 := (i 0).isLt; omega⟩
    ⟨(i 0).val % 16, by omega⟩ (i 1)

variable (m : (ℓ : Loc nD τ sig) → Buf (Elt Ideal) ℓ) (ρ : Dev nD → PrngReg) (c : Dev nD)

/-! ## Result array 1 -/

/-- The array, in the arguments. -/
def side13 : FVec Ideal S160000x128 .f32 := rows (m (c.tc.loc main_arg0)) (m (c.tc.loc main_arg1)) (m (c.tc.loc main_arg2)) (m (c.tc.loc main_arg3)) (m (c.tc.loc main_arg5)) (m (c.tc.loc main_arg6))
    (m (c.tc.loc main_arg7)) (m (c.tc.loc main_arg8)) (m (c.tc.loc main_arg9)) (m (c.tc.loc main_arg10)) (m (c.tc.loc main_arg11)) (m (c.tc.loc main_arg12))

theorem emb13 (t : Fin cfg0.N) (r : Fin 1280) (o : Fin 128) : ((cfg0.win 13).blk t).view.emb (ix2 r o)
    = ix2 (⟨1280 * t.val + r.val, by have := points_lt t; omega⟩ : Fin 160000) o := by
  funext a
  apply Fin.ext
  match a with
  | ⟨0, _⟩ => show win0_13.index t 0 * 1280 + 1 * r.val = 1280 * t.val + r.val; rw [(at13 t).1]; omega
  | ⟨1, _⟩ => show win0_13.index t 1 * 128 + 1 * o.val = o.val; rw [(at13 t).2]; omega

theorem entry_out13 (hI : InRange (m (c.tc.loc main_arg3))) (t : Fin cfg0.N) (r : Fin 1280) (o : Fin 128) :
    out0_13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r o)
      = side13 m c (ix2 (⟨1280 * t.val + r.val, by have := points_lt t; omega⟩ : Fin 160000) o) := by
  rw [out13_apply _ _ _ _ _ _ _ _ _ _ _ _ _ (sel5 m c t) (sel6 m c t) r o (fun b q => by rw [word3]; exact hI _)]
  rw [bout_eq_result _ _ _ _ _ _ _ _ _ _ _ _ _ _ _ _ _ _ _ _ _ _ (gbucket t) hI (feat0 m c t) (feat1 m c t) (time2 m c t) (word3 m c t)
    (vec7 m c t) (vec8 m c t) (w9 m c t) (vec10 m c t) (wc_lo m c t) (wc_hi m c t) (vec12 m c t) r o]
  unfold side13 rows
  have h0 : (⟨(1280 * t.val + r.val) / 16, by have := points_lt t; omega⟩ : Fin 10000) = gbucket t (bucket r) :=
    Fin.ext (show (1280 * t.val + r.val) / 16 = 80 * t.val + r.val / 16 by omega)
  have h1 : (⟨(1280 * t.val + r.val) % 16, by omega⟩ : Fin 16) = place r :=
    Fin.ext (show (1280 * t.val + r.val) % 16 = r.val % 16 by omega)
  rw [← h0, ← h1]
  rfl

theorem flushed_out13 (hI : InRange (m (c.tc.loc main_arg3))) (t : Fin cfg0.N) :
    (dats m 0 c).flushed 13 t = ((cfg0.win 13).blk t).view.read (Elt Ideal) (side13 m c) := by
  rw [flushed13]
  funext j
  obtain ⟨r, o, rfl⟩ : ∃ (r : Fin 1280) (o : Fin 128), j = ix2 r o := ⟨j 0, j 1, by funext a; match a with | ⟨0, _⟩ => rfl | ⟨1, _⟩ => rfl⟩
  show _ = side13 m c (((cfg0.win 13).blk t).view.emb (ix2 r o))
  rw [emb13]
  exact entry_out13 m c hI t r o

theorem covered_out13 (i : S160000x128.Idx) : ∃ t : Fin cfg0.N, (cfg0.win 13).flush t = true ∧ i ∈ ((cfg0.win 13).blk t).view.set := by
  have hi : (i 0).val < 160000 := (i 0).isLt
  have ht : (i 0).val / 1280 < cfg0.N := by rw [show cfg0.N = 125 from N_0]; omega
  refine ⟨⟨(i 0).val / 1280, ht⟩, flush0_13 _, ?_⟩
  have h := ((cfg0.win 13).blk (⟨(i 0).val / 1280, ht⟩ : Fin cfg0.N)).view.emb_mem_set
    (ix2 (⟨(i 0).val % 1280, Nat.mod_lt _ (by decide)⟩ : Fin 1280) (i 1))
  have e : ((cfg0.win 13).blk (⟨(i 0).val / 1280, ht⟩ : Fin cfg0.N)).view.emb
      (ix2 (⟨(i 0).val % 1280, Nat.mod_lt _ (by decide)⟩ : Fin 1280) (i 1)) = i := by
    refine (emb13 _ _ _).trans ?_
    funext a
    match a with
    | ⟨0, _⟩ => exact Fin.ext (Nat.div_add_mod _ _)
    | ⟨1, _⟩ => rfl
  rwa [e] at h

theorem final13 (hI : InRange (m (c.tc.loc main_arg3))) : (dats m 0 c).arrAt 13 cfg0.N = side13 m c :=
  (dats m 0 c).arrAt_eq_of_cover 13 (side13 m c) (fun t _ => flushed_out13 m c hI t) covered_out13

/-! ## Result array 2 -/

/-- The array, in the arguments. -/
def side14 : FVec Ideal S160000x128 .f32 := rows (m (c.tc.loc main_arg1)) (m (c.tc.loc main_arg0)) (m (c.tc.loc main_arg2)) (m (c.tc.loc main_arg4)) (m (c.tc.loc main_arg5)) (m (c.tc.loc main_arg6))
    (m (c.tc.loc main_arg7)) (m (c.tc.loc main_arg8)) (m (c.tc.loc main_arg9)) (m (c.tc.loc main_arg10)) (m (c.tc.loc main_arg11)) (m (c.tc.loc main_arg12))

theorem emb14 (t : Fin cfg0.N) (r : Fin 1280) (o : Fin 128) : ((cfg0.win 14).blk t).view.emb (ix2 r o)
    = ix2 (⟨1280 * t.val + r.val, by have := points_lt t; omega⟩ : Fin 160000) o := by
  funext a
  apply Fin.ext
  match a with
  | ⟨0, _⟩ => show win0_14.index t 0 * 1280 + 1 * r.val = 1280 * t.val + r.val; rw [(at14 t).1]; omega
  | ⟨1, _⟩ => show win0_14.index t 1 * 128 + 1 * o.val = o.val; rw [(at14 t).2]; omega

theorem entry_out14 (hI : InRange (m (c.tc.loc main_arg4))) (t : Fin cfg0.N) (r : Fin 1280) (o : Fin 128) :
    out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r o)
      = side14 m c (ix2 (⟨1280 * t.val + r.val, by have := points_lt t; omega⟩ : Fin 160000) o) := by
  rw [out14_apply _ _ _ _ _ _ _ _ _ _ _ _ _ (sel5 m c t) (sel6 m c t) r o (fun b q => by rw [word4]; exact hI _)]
  rw [bout_eq_result _ _ _ _ _ _ _ _ _ _ _ _ _ _ _ _ _ _ _ _ _ _ (gbucket t) hI (feat1 m c t) (feat0 m c t) (time2 m c t) (word4 m c t)
    (vec7 m c t) (vec8 m c t) (w9 m c t) (vec10 m c t) (wc_lo m c t) (wc_hi m c t) (vec12 m c t) r o]
  unfold side14 rows
  have h0 : (⟨(1280 * t.val + r.val) / 16, by have := points_lt t; omega⟩ : Fin 10000) = gbucket t (bucket r) :=
    Fin.ext (show (1280 * t.val + r.val) / 16 = 80 * t.val + r.val / 16 by omega)
  have h1 : (⟨(1280 * t.val + r.val) % 16, by omega⟩ : Fin 16) = place r :=
    Fin.ext (show (1280 * t.val + r.val) % 16 = r.val % 16 by omega)
  rw [← h0, ← h1]
  rfl

theorem flushed_out14 (hI : InRange (m (c.tc.loc main_arg4))) (t : Fin cfg0.N) :
    (dats m 0 c).flushed 14 t = ((cfg0.win 14).blk t).view.read (Elt Ideal) (side14 m c) := by
  rw [flushed14]
  funext j
  obtain ⟨r, o, rfl⟩ : ∃ (r : Fin 1280) (o : Fin 128), j = ix2 r o := ⟨j 0, j 1, by funext a; match a with | ⟨0, _⟩ => rfl | ⟨1, _⟩ => rfl⟩
  show _ = side14 m c (((cfg0.win 14).blk t).view.emb (ix2 r o))
  rw [emb14]
  exact entry_out14 m c hI t r o

theorem covered_out14 (i : S160000x128.Idx) : ∃ t : Fin cfg0.N, (cfg0.win 14).flush t = true ∧ i ∈ ((cfg0.win 14).blk t).view.set := by
  have hi : (i 0).val < 160000 := (i 0).isLt
  have ht : (i 0).val / 1280 < cfg0.N := by rw [show cfg0.N = 125 from N_0]; omega
  refine ⟨⟨(i 0).val / 1280, ht⟩, flush0_14 _, ?_⟩
  have h := ((cfg0.win 14).blk (⟨(i 0).val / 1280, ht⟩ : Fin cfg0.N)).view.emb_mem_set
    (ix2 (⟨(i 0).val % 1280, Nat.mod_lt _ (by decide)⟩ : Fin 1280) (i 1))
  have e : ((cfg0.win 14).blk (⟨(i 0).val / 1280, ht⟩ : Fin cfg0.N)).view.emb
      (ix2 (⟨(i 0).val % 1280, Nat.mod_lt _ (by decide)⟩ : Fin 1280) (i 1)) = i := by
    refine (emb14 _ _ _).trans ?_
    funext a
    match a with
    | ⟨0, _⟩ => exact Fin.ext (Nat.div_add_mod _ _)
    | ⟨1, _⟩ => rfl
  rwa [e] at h

theorem final14 (hI : InRange (m (c.tc.loc main_arg4))) : (dats m 0 c).arrAt 14 cfg0.N = side14 m c :=
  (dats m 0 c).arrAt_eq_of_cover 14 (side14 m c) (fun t _ => flushed_out14 m c hI t) covered_out14

end Cert.Conv

end
-- ==== Proof.HostOps.lean ====
/- Three host operations of the reference read at an index: the running sum along the middle axis, the gather
   along the middle axis, and the check of the gather's indices. -/
module

public import proofs.«01_k».proof.Proof.Algebra
public import proofs.«01_k».proof.Proof.Gen.ReferenceIdeal.Read
public import Idealize.ShloMosaic.Lib.ReduceAll

@[expose] public section

noncomputable section

namespace Cert.Conv

open Idealize.ShloMosaic Idealize.ShloMosaic.ValueIdx
open Cert.ReferenceIdeal Cert.ReferenceIdeal.Gen
open scoped BigOperators

/-! ## The running sum -/

theorem foldl_add_eq_sum {n : ℕ} (g : Fin n → EReal) :
    (List.finRange n).foldl (fun r k => r + g k) 0 = ∑ k, g k := by
  have aux : ∀ (l : List (Fin n)) (z : EReal), l.foldl (fun r k => r + g k) z = z + (l.map g).sum := by
    intro l
    induction l with
    | nil => intro z; simp
    | cons a l ih => intro z; rw [List.foldl_cons, ih, List.map_cons, List.sum_cons, add_assoc]
  rw [aux, zero_add, Fin.sum_univ_def]

theorem sum_prefix (f : ℕ → EReal) (j : ℕ) (hj : j < 16) :
    (∑ w ∈ Finset.range 16, if 15 ≤ j + w then f (j + w - 15) else 0)
      = ∑ w ∈ Finset.range 16, if w ≤ j then f w else 0 := by
  interval_cases j <;> simp [Finset.sum_range_succ]

theorem numel_col : (⟨3, ![1, 16, 1]⟩ : Shape).numel = 16 := by
  show ∏ a : Fin 3, (![1, 16, 1] : Fin 3 → ℕ) a = 16
  rw [Fin.prod_univ_three]
  rfl

theorem symm_col (n : Fin (⟨3, ![1, 16, 1]⟩ : Shape).numel) :
    (⟨3, ![1, 16, 1]⟩ : Shape).rowMajor.symm n = ix3 (0 : Fin 1) (n.cast numel_col) (0 : Fin 1) :=
  ((⟨3, ![1, 16, 1]⟩ : Shape).rowMajor.symm_apply_eq).2 (Fin.ext (by
    rw [Shape.rowMajor_val_three]
    show n.val = (0 * 16 + n.val) * 1 + 0
    omega))

/-- The running sum along the middle axis at `(b, j, d)` is the sum of the entries `(b, 0, d)` to `(b, j, d)`. -/
theorem cumsum_apply (x : FVec Ideal S10000x16x128 .f32) (init : FVec Ideal S_ .f32) (hinit : ∀ i, init i = (0 : EReal))
    (b : Fin 10000) (j : Fin 16) (d : Fin 128) :
    Host.reduceWindowAdd (F := Ideal) ![1, 16, 1] ![1, 1, 1] ![0, 15, 0] ![0, 0, 0] x init
        reduceWindows_S10000x16x128_S10000x16x128_w1s1p0_0_w16s1p15_0_w1s1p0_0 h_S_ (ix3 b j d)
      = ∑ k : Fin 16, if k.val ≤ j.val then x (ix3 b k d) else (0 : EReal) := by
  unfold Host.reduceWindowAdd
  rw [Ideal.hostReduceWindowAdd_def]
  unfold Ideal.hostReduceWindowAdd Host.reduceWindow
  rw [hinit]
  dsimp only
  rw [foldl_add_eq_sum]
  let f : ℕ → EReal := fun k => if h : k < 16 then x (ix3 b ⟨k, h⟩ d) else 0
  have hj := j.isLt
  trans ∑ w : Fin 16, if 15 ≤ j.val + w.val then f (j.val + w.val - 15) else 0
  · refine Fintype.sum_equiv (finCongr numel_col) _ _ fun n => ?_
    have hw0 : ((⟨3, ![1, 16, 1]⟩ : Shape).rowMajor.symm n 0).val = 0 := by rw [symm_col]; rfl
    have hw1 : ((⟨3, ![1, 16, 1]⟩ : Shape).rowMajor.symm n 1).val = n.val := by rw [symm_col]; rfl
    have hw2 : ((⟨3, ![1, 16, 1]⟩ : Shape).rowMajor.symm n 2).val = 0 := by rw [symm_col]; rfl
    have hn : n.val < 16 := (n.cast numel_col).isLt
    have hb := b.isLt
    have hd := d.isLt
    show _ = if 15 ≤ j.val + n.val then f (j.val + n.val - 15) else 0
    split
    · next hin =>
      have h1 := hin 1
      change 15 ≤ j.val * 1 + ((⟨3, ![1, 16, 1]⟩ : Shape).rowMajor.symm n 1).val
        ∧ j.val * 1 + ((⟨3, ![1, 16, 1]⟩ : Shape).rowMajor.symm n 1).val - 15 < 16 at h1
      rw [hw1] at h1
      rw [if_pos (by omega)]
      show _ = if h : j.val + n.val - 15 < 16 then x (ix3 b ⟨j.val + n.val - 15, h⟩ d) else 0
      rw [dif_pos (by omega)]
      refine congrArg x (funext fun a => Fin.ext ?_)
      match a with
      | ⟨0, _⟩ =>
        show b.val * 1 + ((⟨3, ![1, 16, 1]⟩ : Shape).rowMajor.symm n 0).val - 0 = b.val
        rw [hw0]; omega
      | ⟨1, _⟩ =>
        show j.val * 1 + ((⟨3, ![1, 16, 1]⟩ : Shape).rowMajor.symm n 1).val - 15 = j.val + n.val - 15
        rw [hw1]; omega
      | ⟨2, _⟩ =>
        show d.val * 1 + ((⟨3, ![1, 16, 1]⟩ : Shape).rowMajor.symm n 2).val - 0 = d.val
        rw [hw2]; omega
    · next hin =>
      rw [if_neg]
      intro hle
      refine hin fun a => ?_
      match a with
      | ⟨0, _⟩ =>
        show 0 ≤ b.val * 1 + ((⟨3, ![1, 16, 1]⟩ : Shape).rowMajor.symm n 0).val
          ∧ b.val * 1 + ((⟨3, ![1, 16, 1]⟩ : Shape).rowMajor.symm n 0).val - 0 < 10000
        rw [hw0]; omega
      | ⟨1, _⟩ =>
        show 15 ≤ j.val * 1 + ((⟨3, ![1, 16, 1]⟩ : Shape).rowMajor.symm n 1).val
          ∧ j.val * 1 + ((⟨3, ![1, 16, 1]⟩ : Shape).rowMajor.symm n 1).val - 15 < 16
        rw [hw1]; omega
      | ⟨2, _⟩ =>
        show 0 ≤ d.val * 1 + ((⟨3, ![1, 16, 1]⟩ : Shape).rowMajor.symm n 2).val
          ∧ d.val * 1 + ((⟨3, ![1, 16, 1]⟩ : Shape).rowMajor.symm n 2).val - 0 < 128
        rw [hw2]; omega
  · rw [Fin.sum_univ_eq_sum_range (fun w => if 15 ≤ j.val + w then f (j.val + w - 15) else 0) 16, sum_prefix f j.val hj,
      ← Fin.sum_univ_eq_sum_range (fun w => if w ≤ j.val then f w else 0) 16]
    refine Finset.sum_congr rfl fun k _ => ?_
    have hk := k.isLt
    by_cases h : k.val ≤ j.val
    · rw [if_pos h, if_pos h]
      show (if h : k.val < 16 then x (ix3 b ⟨k.val, h⟩ d) else 0) = _
      rw [dif_pos hk]
    · rw [if_neg h, if_neg h]

/-! ## The gather -/

/-- The gather along the middle axis at `(b, s, d)` reads the operand's entry `(b, i, d)`, `i` the index word there, read signed
    and clamped into `0 … 15`. -/
theorem gather_apply {α : Type} (x : S10000x16x128.Idx → α) (idx : IVec S10000x16x128x1 32) (b : Fin 10000) (s : Fin 16) (d : Fin 128) :
    Host.gather gather_S10000x16x128_S10000x16x128x1_S10000x16x128_n_1_02_02_1_3_111 x idx (ix3 b s d)
      = x (ix3 b ⟨min (idx (ix4 b s d (0 : Fin 1))).toInt.toNat 15, by omega⟩ d) := by
  unfold Host.gather
  refine congrArg x (funext fun a => Fin.ext ?_)
  let D := gather_S10000x16x128_S10000x16x128x1_S10000x16x128_n_1_02_02_1_3_111
  show D.start (ix3 b s d) idx a + D.batchCoord (ix3 b s d) a + D.offCoord (ix3 b s d) a = _
  have hk : ∀ a, a ∉ D.sKept := by
    intro a h
    have h' := (GatherDims.mem_sKept D a).mp h
    match a, h' with
    | ⟨0, _⟩, h' => exact h'.2 (show (0 : Fin S10000x16x128.rank) ∈ D.operandBatchingDims by decide)
    | ⟨1, _⟩, h' => exact h'.1 (show (1 : Fin S10000x16x128.rank) ∈ D.collapsedSliceDims by decide)
    | ⟨2, _⟩, h' => exact h'.2 (show (2 : Fin S10000x16x128.rank) ∈ D.operandBatchingDims by decide)
  rw [GatherDims.offCoord_eq_zero _ _ _ (hk a), Nat.add_zero]
  match a with
  | ⟨0, _⟩ =>
    have h0 : (⟨0, by decide⟩ : Fin S10000x16x128.rank) ∈ D.operandBatchingDims := by decide
    rw [GatherDims.start_batching _ _ _ _ h0, Nat.zero_add]
    unfold GatherDims.batchCoord
    rw [dif_pos h0]
    rfl
  | ⟨1, _⟩ =>
    rw [GatherDims.batchCoord_eq_zero _ _ _ (show (⟨1, by decide⟩ : Fin S10000x16x128.rank) ∉ D.operandBatchingDims by decide),
      Nat.add_zero]
    have h1 : (⟨1, by decide⟩ : Fin S10000x16x128.rank) ∈ D.startIndexMap := by decide
    unfold GatherDims.start
    rw [dif_pos h1]
    have hsi : D.siIdx (ix3 b s d) ⟨List.idxOf (⟨1, by decide⟩ : Fin S10000x16x128.rank) D.startIndexMap, List.idxOf_lt_length_iff.2 h1⟩
        = ix4 b s d (0 : Fin 1) := by
      funext e
      refine Fin.ext ?_
      match e with
      | ⟨0, _⟩ => rfl
      | ⟨1, _⟩ => rfl
      | ⟨2, _⟩ => rfl
      | ⟨3, _⟩ => rfl
    rw [hsi]
    rfl
  | ⟨2, _⟩ =>
    have h2 : (⟨2, by decide⟩ : Fin S10000x16x128.rank) ∈ D.operandBatchingDims := by decide
    rw [GatherDims.start_batching _ _ _ _ h2, Nat.zero_add]
    unfold GatherDims.batchCoord
    rw [dif_pos h2]
    rfl

end Cert.Conv

end
-- ==== Proof.RefRead.lean ====
/- The reference program's results, read at an index. -/
module

public import proofs.«01_k».proof.Proof.Spec
public import proofs.«01_k».proof.Proof.HostOps

@[expose] public section

noncomputable section

namespace Cert.Conv

open Idealize.ShloMosaic Idealize.ShloMosaic.ValueIdx
open Cert.ReferenceIdeal Cert.ReferenceIdeal.Gen Cert.ReferenceIdeal.Read
open scoped BigOperators

section
variable (x0 x1 : FVec Ideal S10000x16x128 .f32) (x2 : FVec Ideal S10000x16 .f32) (x3 x4 : IVec S10000x16x1 32)
  (x5 x6 : FVec Ideal S128 .f32) (x7 : FVec Ideal S256x128 .f32) (x8 : FVec Ideal S128 .f32)
  (x9 : FVec Ideal S128x128 .f32) (x10 : FVec Ideal S128 .f32) (x11 : FVec Ideal S128x128 .f32) (x12 : FVec Ideal S128 .f32)

/-- The time encoding. -/
theorem v23_apply (b : Fin 10000) (s : Fin 16) (k : Fin 128) :
    val_main_v23 (F := Ideal) x2 x5 x6 (ix3 b s k) = cosT (x2 (ix2 b s) * x5 (ix1 k) + x6 (ix1 k)) := by
  have e0 : idx_main_v0 (idx_main_v2 (ix3 b s k)) = ix2 b s := by
    funext a; match a with | ⟨0, _⟩ => rfl | ⟨1, _⟩ => rfl
  have e1 : idx_main_v1 (idx_main_v3 (ix3 b s k)) = ix1 k := by funext a; match a with | ⟨0, _⟩ => rfl
  have e2 : idx_main_v5 (idx_main_v6 (ix3 b s k)) = ix1 k := by funext a; match a with | ⟨0, _⟩ => rfl
  have e7 : val_main_v7 (F := Ideal) x2 x5 x6 (ix3 b s k) = x2 (ix2 b s) * x5 (ix1 k) + x6 (ix1 k) := by
    rw [val_main_v7_apply, val_main_v4_apply, val_main_v2_apply, val_main_v0_apply, val_main_v3_apply, val_main_v1_apply,
      val_main_v6_apply, val_main_v5_apply, e0, e1, e2]
    rfl
  simp only [val_main_v23_apply, val_main_v22_apply, val_main_v21_apply, val_main_v20_apply, val_main_v19_apply, val_main_v18_apply,
    val_main_v17_apply, val_main_v16_apply, val_main_v15_apply, val_main_v14_apply, val_main_v13_apply, val_main_v12_apply,
    val_main_v11_apply, val_main_v10_apply, val_main_v9_apply, val_main_v8_apply, val_main_cst_apply, val_main_cst_0_apply,
    val_main_cst_1_apply, val_main_cst_2_apply, e7]
  generalize x2 (ix2 b s) * x5 (ix1 k) + x6 (ix1 k) = y
  unfold cosT
  rw [← ofBits_two, ← ofBits_24, ← ofBits_720, ← Ideal.ofBits_one_f32]
  rfl

theorem v53_apply (b : Fin 10000) (s : Fin 16) (k : Fin 128) :
    val_main_v53 (F := Ideal) x2 x5 x6 (ix3 b s k) = cosT (x2 (ix2 b s) * x5 (ix1 k) + x6 (ix1 k)) :=
  v23_apply x2 x5 x6 b s k

/-- The encoding of a row, first side. -/
theorem v29_apply (b : Fin 10000) (s : Fin 16) (d : Fin 128) :
    val_main_v29 (F := Ideal) x0 x2 x5 x6 x7 x8 (ix3 b s d) = row x0 x2 x5 x6 x7 x8 b s d := by
  have e8 : idx_main_v26 (idx_main_v27 (ix3 b s d)) = ix1 d := by funext a; match a with | ⟨0, _⟩ => rfl
  rw [val_main_v29_apply, val_main_v28_apply, val_main_v27_apply, val_main_v26_apply, val_main_call0_v0_apply, val_main_call0_cst_apply,
    val_main_v25_apply, e8]
  unfold row enc
  show max ((∑ k : Fin (128 + 128), _) + x8 (ix1 d)) (Ideal.ofBits .f32 0x00000000#32) = _
  rw [Ideal.ofBits_zero_f32, Fin.sum_univ_add]
  congr 3
  · refine Finset.sum_congr rfl fun k _ => ?_
    congr 1
    · unfold val_main_v24
      rw [concatenate_pair_apply_left (s₁ := S10000x16x128) (s₂ := S10000x16x128) (t := S10000x16x256) 2 x0 _ _ _ rfl (ix3 b s k)
        (fun a => by match a with | ⟨0, _⟩ => rfl | ⟨1, _⟩ => rfl | ⟨2, _⟩ => rfl)]
    · refine congrArg x7 (funext fun a => ?_)
      match a with | ⟨0, _⟩ => rfl | ⟨1, _⟩ => rfl
  · refine Finset.sum_congr rfl fun k _ => ?_
    congr 1
    · rw [← v23_apply]
      unfold val_main_v24
      exact concatenate_pair_apply_right (s₁ := S10000x16x128) (s₂ := S10000x16x128) (t := S10000x16x256) 2 x0
        (val_main_v23 (F := Ideal) x2 x5 x6) _ (lidx_main_v25 (ix3 b s d) (Fin.natAdd 128 k)) rfl rfl (ix3 b s k)
        (fun a ha => by match a, ha with | ⟨0, _⟩, _ => rfl | ⟨1, _⟩, _ => rfl | ⟨2, _⟩, ha => exact absurd rfl ha)
        (show k.val + 128 = 128 + k.val by omega)
    · refine congrArg x7 (funext fun a => ?_)
      match a with | ⟨0, _⟩ => rfl | ⟨1, _⟩ => rfl

/-- The encoding of a row, second side. -/
theorem v59_apply (b : Fin 10000) (s : Fin 16) (d : Fin 128) :
    val_main_v59 (F := Ideal) x1 x2 x5 x6 x7 x8 (ix3 b s d) = row x1 x2 x5 x6 x7 x8 b s d :=
  v29_apply x1 x2 x5 x6 x7 x8 b s d

/-- The running mean. -/
theorem v65_apply (h3 : InRange x3) (b : Fin 10000) (j : Fin 16) (d : Fin 128) :
    val_main_v65 (F := Ideal) x1 x2 x3 x5 x6 x7 x8 (ix3 b j d)
      = Ideal.div (∑ k : Fin 16, if k.val ≤ j.val then row x1 x2 x5 x6 x7 x8 b k d else 0) ((divisor x3 b j : ℝ) : EReal) := by
  have e : idx_main_v64 (ix3 b j d) = ix3 b j (0 : Fin 1) := by
    funext a; match a with | ⟨0, _⟩ => rfl | ⟨1, _⟩ => rfl | ⟨2, _⟩ => rfl
  rw [val_main_v65_apply, val_main_v64_apply, val_main_v62_apply, val_main_v61_apply, val_main_v60_apply, val_main_c_apply, e]
  have hs : val_main_v63 (F := Ideal) x1 x2 x5 x6 x7 x8 (ix3 b j d)
      = ∑ k : Fin 16, if k.val ≤ j.val then row x1 x2 x5 x6 x7 x8 b k d else 0 := by
    unfold val_main_v63
    rw [cumsum_apply _ _ (fun i => by
      rw [val_main_call2_call0_v0_apply, val_main_call2_call0_cst_apply]
      exact Ideal.ofBits_zero_f32)]
    refine Finset.sum_congr rfl fun k _ => ?_
    rw [v59_apply]
  rw [hs]
  show Ideal.div _ ((((x3 (ix3 b j (0 : Fin 1)) + 1#32).toInt : ℤ) : ℝ) : EReal) = _
  rw [word_succ_toInt (h3 _)]
  unfold divisor
  push_cast
  rfl

/-- The running mean at the named position: every index is in range, so nothing is masked. -/
theorem v67_apply (h3 : InRange x3) (b : Fin 10000) (j : Fin 16) (d : Fin 128) :
    val_main_v67 (F := Ideal) x1 x2 x3 x5 x6 x7 x8 (ix3 b j d)
      = Ideal.div (∑ k : Fin 16, if k.val ≤ (pos x3 b j).val then row x1 x2 x5 x6 x7 x8 b k d else 0)
          ((divisor x3 b (pos x3 b j) : ℝ) : EReal) := by
  have hw : ∀ i, ∃ i', val_main_call3_v5 (F := Ideal) x3 i = x3 i' := by
    intro i
    rw [val_main_call3_v5_apply, val_main_call3_v4_apply, val_main_call3_v1_apply, val_main_call3_v0_apply, val_main_call3_c_apply,
      val_main_v66_apply]
    refine ⟨idx_main_v66 (idx_main_call3_v5 i), ?_⟩
    have hn : ¬ (x3 (idx_main_v66 (idx_main_call3_v5 i))).toInt < (0#32 : BitVec 32).toInt := by
      rw [word_toInt (h3 _)]
      simp
    have hc : IntOp.cmpi .slt (x3 (idx_main_v66 (idx_main_call3_v5 i))) 0#32 = 0#1 := by
      show BitVec.ofBool (BitVec.slt _ _) = _
      rw [BitVec.slt, decide_eq_false hn]
      rfl
    rw [hc]
    rfl
  have hmask : val_main_call3_v12 (F := Ideal) x3 (ix3 b j d) = 1#1 := by
    unfold val_main_call3_v12
    refine Host.reduce_andi_one _ _ _ _ _ rfl fun i => ?_
    obtain ⟨i', hi'⟩ := hw i
    rw [val_main_call3_v11_apply, val_main_call3_v7_apply, val_main_call3_v10_apply, hi', val_main_call3_v6_apply,
      val_main_call3_v9_apply, val_main_call3_v8_apply, val_main_call3_c_1_apply, val_main_call3_c_2_apply]
    have hlt := h3 i'
    have e1 : IntOp.cmpi .sge (x3 i') 0#32 = 1#1 := by
      show BitVec.ofBool (BitVec.sle _ _) = _
      rw [BitVec.sle, decide_eq_true (by rw [word_toInt hlt]; simp)]
      rfl
    have e2 : IntOp.cmpi .sle (x3 i') 15#32 = 1#1 := by
      show BitVec.ofBool (BitVec.sle _ _) = _
      rw [BitVec.sle, decide_eq_true (by rw [word_toInt hlt]; show ((x3 i').toNat : ℤ) ≤ 15; omega)]
      rfl
    rw [e1, e2]
    rfl
  have hw5 : val_main_call3_v5 (F := Ideal) x3 (ix4 b j d (0 : Fin 1)) = x3 (ix3 b j (0 : Fin 1)) := by
    rw [val_main_call3_v5_apply, val_main_call3_v4_apply, val_main_call3_v1_apply, val_main_call3_v0_apply, val_main_call3_c_apply,
      val_main_v66_apply]
    have e : idx_main_v66 (idx_main_call3_v5 (ix4 b j d (0 : Fin 1))) = ix3 b j (0 : Fin 1) := by
      funext a
      have hb := b.isLt
      have hj := j.isLt
      have hd := d.isLt
      refine Fin.ext ?_
      match a with
      | ⟨0, _⟩ => show (((b.val * 16 + j.val) * 128 + d.val) * 1 + 0) / 2048 = b.val; omega
      | ⟨1, _⟩ => show (((b.val * 16 + j.val) * 128 + d.val) * 1 + 0) / 128 % 16 = j.val; omega
      | ⟨2, _⟩ => rfl
    rw [e]
    have hn : ¬ (x3 (ix3 b j (0 : Fin 1))).toInt < (0#32 : BitVec 32).toInt := by
      rw [word_toInt (h3 _)]
      simp
    have hc : IntOp.cmpi .slt (x3 (ix3 b j (0 : Fin 1))) 0#32 = 0#1 := by
      show BitVec.ofBool (BitVec.slt _ _) = _
      rw [BitVec.slt, decide_eq_false hn]
      rfl
    rw [hc]
    rfl
  rw [val_main_v67_apply, hmask]
  show val_main_call3_v13 (F := Ideal) x1 x2 x3 x5 x6 x7 x8 (ix3 b j d) = _
  unfold val_main_call3_v13
  rw [gather_apply]
  have hp : (⟨min (val_main_call3_v5 (F := Ideal) x3 (ix4 b j d (0 : Fin 1))).toInt.toNat 15, by omega⟩ : Fin 16) = pos x3 b j := by
    refine Fin.ext ?_
    show min (val_main_call3_v5 (F := Ideal) x3 (ix4 b j d (0 : Fin 1))).toInt.toNat 15 = min (x3 (ix3 b j (0 : Fin 1))).toNat 15
    rw [hw5, word_toInt (h3 _), Int.toNat_natCast]
  rw [hp, v65_apply x1 x2 x3 x5 x6 x7 x8 h3]

/-- The first side's result before its reshape. -/
theorem v76_apply (h3 : InRange x3) (b : Fin 10000) (j : Fin 16) (o : Fin 128) :
    val_main_v76 (F := Ideal) x0 x1 x2 x3 x5 x6 x7 x8 x9 x10 x11 x12 (ix3 b j o)
      = result x0 x1 x2 x3 x5 x6 x7 x8 x9 x10 x11 x12 b j o := by
  have e10 : idx_main_v69 (idx_main_v70 (ix3 b j o)) = ix1 o := by funext a; match a with | ⟨0, _⟩ => rfl
  have e12 : idx_main_v73 (idx_main_v74 (ix3 b j o)) = ix1 o := by funext a; match a with | ⟨0, _⟩ => rfl
  rw [val_main_v76_apply, val_main_v75_apply, val_main_v74_apply, val_main_v73_apply, val_main_v72_apply, val_main_v71_apply,
    val_main_v70_apply, val_main_v69_apply, val_main_v68_apply, e10, e12]
  unfold result conv
  show ((∑ k : Fin 128, _) + x10 (ix1 o)) + ((∑ k : Fin 128, _) + x12 (ix1 o)) = _
  refine congrArg₂ (· + ·) (congrArg (· + x10 (ix1 o)) ?_) (congrArg (· + x12 (ix1 o)) ?_)
  · refine Finset.sum_congr rfl fun k _ => ?_
    rw [← v29_apply]
    refine congrArg₂ (· * ·) (congrArg _ (funext fun a => ?_)) (congrArg x9 (funext fun a => ?_))
    · match a with | ⟨0, _⟩ => rfl | ⟨1, _⟩ => rfl | ⟨2, _⟩ => rfl
    · match a with | ⟨0, _⟩ => rfl | ⟨1, _⟩ => rfl
  · refine Finset.sum_congr rfl fun k _ => ?_
    rw [← v67_apply x1 x2 x3 x5 x6 x7 x8 h3]
    refine congrArg₂ (· * ·) (congrArg _ (funext fun a => ?_)) (congrArg x11 (funext fun a => ?_))
    · match a with | ⟨0, _⟩ => rfl | ⟨1, _⟩ => rfl | ⟨2, _⟩ => rfl
    · match a with | ⟨0, _⟩ => rfl | ⟨1, _⟩ => rfl

/-- The second side's result before its reshape: the first side's with the two feature arrays exchanged. -/
theorem v93_apply (h4 : InRange x4) (b : Fin 10000) (j : Fin 16) (o : Fin 128) :
    val_main_v93 (F := Ideal) x0 x1 x2 x4 x5 x6 x7 x8 x9 x10 x11 x12 (ix3 b j o)
      = result x1 x0 x2 x4 x5 x6 x7 x8 x9 x10 x11 x12 b j o :=
  v76_apply x1 x0 x2 x4 x5 x6 x7 x8 x9 x10 x11 x12 h4 b j o

/-- Row `r` of the flat result is bucket `r / 16`, position `r % 16`. -/
theorem v94_apply (h3 : InRange x3) (r : Fin 160000) (o : Fin 128) :
    val_main_v94 (F := Ideal) x0 x1 x2 x3 x5 x6 x7 x8 x9 x10 x11 x12 (ix2 r o)
      = result x0 x1 x2 x3 x5 x6 x7 x8 x9 x10 x11 x12 ⟨r.val / 16, by omega⟩ ⟨r.val % 16, by omega⟩ o := by
  have e : idx_main_v94 (ix2 r o) = ix3 ⟨r.val / 16, by omega⟩ ⟨r.val % 16, by omega⟩ o := by
    have ho := o.isLt
    funext a
    refine Fin.ext ?_
    match a with
    | ⟨0, _⟩ => show (r.val * 128 + o.val) / 2048 = r.val / 16; omega
    | ⟨1, _⟩ => show (r.val * 128 + o.val) / 128 % 16 = r.val % 16; omega
    | ⟨2, _⟩ => show (r.val * 128 + o.val) % 128 = o.val; omega
  rw [val_main_v94_apply, e, v76_apply x0 x1 x2 x3 x5 x6 x7 x8 x9 x10 x11 x12 h3]

theorem v95_apply (h4 : InRange x4) (r : Fin 160000) (o : Fin 128) :
    val_main_v95 (F := Ideal) x0 x1 x2 x4 x5 x6 x7 x8 x9 x10 x11 x12 (ix2 r o)
      = result x1 x0 x2 x4 x5 x6 x7 x8 x9 x10 x11 x12 ⟨r.val / 16, by omega⟩ ⟨r.val % 16, by omega⟩ o :=
  v94_apply x1 x0 x2 x4 x5 x6 x7 x8 x9 x10 x11 x12 h4 r o

end

end Cert.Conv

end
-- ==== Proof.Claims.lean ====
/- The claims: the frames, the named constants and the two results' equality. -/
module

public import proofs.«01_k».proof.Defs
public import proofs.«01_k».proof.Proof.Final
public import proofs.«01_k».proof.Proof.RefRead
public import proofs.«01_k».proof.Proof.Gen.Kernel.Frame
public import proofs.«01_k».proof.Proof.Gen.ReferenceIdeal.Run
public import proofs.«01_k».proof.Proof.Gen.ReferenceIdeal.Read
public import Idealize.ShloMosaic.Lib.Affine

@[expose] public section

set_option maxRecDepth 16384

noncomputable section

namespace Cert.Conv

open Idealize.ShloMosaic Idealize.ShloMosaic.TcCoe Idealize.SL.Sem

/-! ## The precondition -/

theorem pre_facts : Cert.Pre_indices_in_range.Facts := ⟨by decide⟩

/-- A word that is at least zero and below sixteen, read signed, is below sixteen read unsigned. -/
theorem word_in_range (w : BitVec 32) (h0 : IntOp.cmpi .sge w 0#32 = 1#1) (h1 : IntOp.cmpi .slt w 16#32 = 1#1) : w.toNat < 16 := by
  have a := IntOp.cmpi_sge.1 h0
  have b := IntOp.cmpi_slt.1 h1
  have e0 : (0#32 : BitVec 32).toInt = 0 := rfl
  have e1 : (16#32 : BitVec 32).toInt = 16 := rfl
  rw [e0] at a
  rw [e1] at b
  rw [BitVec.toInt_eq_toNat_cond] at a b
  split at a <;> omega

theorem in_range_of_pre [Cert.Pre_indices_in_range.Facts] (m : (ℓ : Loc Cert.KernelIdeal.nD Cert.KernelIdeal.τ Cert.KernelIdeal.sig) → Buf (Elt Ideal) ℓ)
    (h : Cert.Pre_KernelIdeal_indices_in_range m) (c : Dev Cert.KernelIdeal.nD) :
    InRange (m (c.tc.loc Cert.KernelIdeal.main_arg3)) ∧ InRange (m (c.tc.loc Cert.KernelIdeal.main_arg4)) := by
  have hc := h c
  dsimp only [Cert.Pre_indices_in_range.fn] at hc
  have hi : ∀ i, _ := fun i => congrFun hc i
  constructor
  · intro i
    obtain ⟨h1, -⟩ := IntOp.andi_eq_one.1 (hi i)
    obtain ⟨h2, -⟩ := IntOp.andi_eq_one.1 h1
    obtain ⟨h3, h4⟩ := IntOp.andi_eq_one.1 h2
    exact word_in_range _ h3 h4
  · intro i
    obtain ⟨h1, h4⟩ := IntOp.andi_eq_one.1 (hi i)
    obtain ⟨-, h3⟩ := IntOp.andi_eq_one.1 h1
    exact word_in_range _ h3 h4

/-! ## The frames -/

theorem frame_kernel : Cert.quiescent_Kernel := fun m ρ _ => Cert.Kernel.Gen.frame m ρ

theorem frame_ideal : Cert.quiescent_KernelIdeal := fun m ρ _ => Cert.KernelIdeal.Gen.frame m ρ

theorem frame_ideal_pre (h : Cert.Pre_indices_in_range.Facts) : Cert.quiescent_KernelIdeal_pre_indices_in_range :=
  fun m ρ _ => Cert.KernelIdeal.Gen.frame m ρ

theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

theorem frame_reference_pre (h : Cert.Pre_indices_in_range.Facts) : Cert.quiescent_ReferenceIdeal_pre_indices_in_range :=
  fun m ρ _ => frame_reference m ρ trivial

/-! ## The named constants -/

theorem names : Cert.preserves_Kernel_KernelIdeal :=
  ⟨IdealRules.named_const.statement Cert.KernelIdeal.κ "inv_720" .f32 0xBAB60B61#32 ((-1 / 720 : ℝ) : EReal) rfl,
    IdealRules.named_const.statement Cert.KernelIdeal.κ "inv_24" .f32 0x3D2AAAAB#32 ((1 / 24 : ℝ) : EReal) rfl⟩

/-! ## The results -/

section
open Cert.ReferenceIdeal Cert.ReferenceIdeal.Read
variable (x0 x1 : S10000x16x128.Idx → EReal) (x2 : S10000x16.Idx → EReal) (x3 x4 : S10000x16x1.Idx → BitVec 32) (x5 x6 : S128.Idx → EReal)
  (x7 : S256x128.Idx → EReal) (x8 : S128.Idx → EReal) (x9 : S128x128.Idx → EReal) (x10 : S128.Idx → EReal)
  (x11 : S128x128.Idx → EReal) (x12 : S128.Idx → EReal)

theorem reference_source (h3 : InRange x3) :
    val_main_v94 (F := Ideal) x0 x1 x2 x3 x5 x6 x7 x8 x9 x10 x11 x12 = rows x0 x1 x2 x3 x5 x6 x7 x8 x9 x10 x11 x12 := by
  funext i
  obtain ⟨r, o, rfl⟩ : ∃ (r : Fin 160000) (o : Fin 128), i = ValueIdx.ix2 r o :=
    ⟨i 0, i 1, by funext a; match a with | ⟨0, _⟩ => rfl | ⟨1, _⟩ => rfl⟩
  exact v94_apply x0 x1 x2 x3 x5 x6 x7 x8 x9 x10 x11 x12 h3 r o

theorem reference_destination (h4 : InRange x4) :
    val_main_v95 (F := Ideal) x0 x1 x2 x4 x5 x6 x7 x8 x9 x10 x11 x12 = rows x1 x0 x2 x4 x5 x6 x7 x8 x9 x10 x11 x12 := by
  funext i
  obtain ⟨r, o, rfl⟩ : ∃ (r : Fin 160000) (o : Fin 128), i = ValueIdx.ix2 r o :=
    ⟨i 0, i 1, by funext a; match a with | ⟨0, _⟩ => rfl | ⟨1, _⟩ => rfl⟩
  exact v95_apply x0 x1 x2 x4 x5 x6 x7 x8 x9 x10 x11 x12 h4 r o

end

theorem same_results (hp : Cert.Pre_indices_in_range.Facts) : Cert.algebraic_KernelIdeal_ReferenceIdeal_pre_indices_in_range := by
  intro m ρ m' ρ' hpre hagree
  refine ⟨fun c => side13 m c, fun c => side14 m c, ?_, ?_⟩
  · refine (θ_run Cert.KernelIdeal.defs _ _).mono (fun _ h c => ?_) (Cert.KernelIdeal.Value.run_blocks (F := Ideal) m ρ)
    obtain ⟨h3, h4⟩ := in_range_of_pre m hpre c
    exact ⟨(h c).1.trans (final13 m c h3), (h c).2.1.trans (final14 m c h4), (h c).2.2⟩
  · refine (θ_run Cert.ReferenceIdeal.defs _ _).mono (fun _ h c => ?_) (Cert.ReferenceIdeal.Value.run (F := Ideal) m' ρ')
    obtain ⟨h3, h4⟩ := in_range_of_pre m hpre c
    obtain ⟨a0, a1, a2, a3, a4, a5, a6, a7, a8, a9, a10, a11, a12⟩ := hagree c
    refine ⟨(h c).1.trans ?_, (h c).2.1.trans ?_, (h c).2.2⟩
    · rw [Cert.ReferenceIdeal.Read.val_main_v94_eq, a0, a1, a2, a3, a5, a6, a7, a8, a9, a10, a11, a12]
      exact reference_source _ _ _ _ _ _ _ _ _ _ _ _ h3
    · rw [Cert.ReferenceIdeal.Read.val_main_v95_eq, a0, a1, a2, a4, a5, a6, a7, a8, a9, a10, a11, a12]
      exact reference_destination _ _ _ _ _ _ _ _ _ _ _ _ h4

end Cert.Conv

end
-- ==== Proof.lean ====
/- Everything claimed of the kernel, assembled: the two programs' frames, the reference's, the two named constants, and
   the equality of both results with the reference's over the extended reals, for index words in range. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Claims
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Conv.pre_facts,
    Cert.Conv.frame_kernel, Cert.Conv.frame_ideal, Cert.Conv.frame_ideal_pre Cert.Conv.pre_facts,
    Cert.Conv.frame_reference, Cert.Conv.frame_reference_pre Cert.Conv.pre_facts,
    Cert.Conv.names, Cert.Conv.same_results Cert.Conv.pre_facts⟩

end Cert.Proof

end
